-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_OutDy (m : (ℓ : Loc Cert.OutDy.nD Cert.OutDy.τ Cert.OutDy.sig) → Buf (Elt Bits) ℓ) : Prop :=
  True

def Pre_OutDyIdeal (m : (ℓ : Loc Cert.OutDyIdeal.nD Cert.OutDyIdeal.τ Cert.OutDyIdeal.sig) → Buf (Elt Ideal) ℓ) : Prop :=
  True

def Pre_OutDyRefIdeal (m : (ℓ : Loc Cert.OutDyRefIdeal.nD Cert.OutDyRefIdeal.τ Cert.OutDyRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_OutDy [hOutDy : Cert.OutDy.Facts] : Prop :=
  ∀ (m : (ℓ : Loc Cert.OutDy.nD Cert.OutDy.τ Cert.OutDy.sig) → Buf (Elt Bits) ℓ) (g : Dev Cert.OutDy.nD → PrngReg), Pre_OutDy m →
    θ_run (Cert.OutDy.defs (F := Bits)) (onTc (τ := Cert.OutDy.τ) (Cert.OutDy.main (F := Bits))) ⟨m, fun _ => 0, g⟩ (fun r => (∀ c : Dev Cert.OutDy.nD,
      r.2.mem ((c.tc : Thread Cert.OutDy.nD Cert.OutDy.τ).loc Cert.OutDy.main_arg0) = m ((c.tc : Thread Cert.OutDy.nD Cert.OutDy.τ).loc Cert.OutDy.main_arg0)
      ∧ r.2.mem ((c.tc : Thread Cert.OutDy.nD Cert.OutDy.τ).loc Cert.OutDy.main_arg1) = m ((c.tc : Thread Cert.OutDy.nD Cert.OutDy.τ).loc Cert.OutDy.main_arg1))
      ∧ r.2.sem = fun _ => 0)

def quiescent_OutDyIdeal [hOutDyIdeal : Cert.OutDyIdeal.Facts] : Prop :=
  ∀ (m : (ℓ : Loc Cert.OutDyIdeal.nD Cert.OutDyIdeal.τ Cert.OutDyIdeal.sig) → Buf (Elt Ideal) ℓ) (g : Dev Cert.OutDyIdeal.nD → PrngReg), Pre_OutDyIdeal m →
    θ_run (Cert.OutDyIdeal.defs (F := Ideal)) (onTc (τ := Cert.OutDyIdeal.τ) (Cert.OutDyIdeal.main (F := Ideal))) ⟨m, fun _ => 0, g⟩ (fun r => (∀ c : Dev Cert.OutDyIdeal.nD,
      r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
      ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ r.2.sem = fun _ => 0)

def quiescent_OutDyRefIdeal [hOutDyRefIdeal : Cert.OutDyRefIdeal.Facts] : Prop :=
  ∀ (m : (ℓ : Loc Cert.OutDyRefIdeal.nD Cert.OutDyRefIdeal.τ Cert.OutDyRefIdeal.sig) → Buf (Elt Ideal) ℓ) (g : Dev Cert.OutDyRefIdeal.nD → PrngReg), Pre_OutDyRefIdeal m →
    θ_run (Cert.OutDyRefIdeal.defs (F := Ideal)) (onTc (τ := Cert.OutDyRefIdeal.τ) (Cert.OutDyRefIdeal.main (F := Ideal))) ⟨m, fun _ => 0, g⟩ (fun r => (∀ c : Dev Cert.OutDyRefIdeal.nD,
      r.2.mem ((c.tc : Thread Cert.OutDyRefIdeal.nD Cert.OutDyRefIdeal.τ).loc Cert.OutDyRefIdeal.main_arg0) = m ((c.tc : Thread Cert.OutDyRefIdeal.nD Cert.OutDyRefIdeal.τ).loc Cert.OutDyRefIdeal.main_arg0)
      ∧ r.2.mem ((c.tc : Thread Cert.OutDyRefIdeal.nD Cert.OutDyRefIdeal.τ).loc Cert.OutDyRefIdeal.main_arg1) = m ((c.tc : Thread Cert.OutDyRefIdeal.nD Cert.OutDyRefIdeal.τ).loc Cert.OutDyRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1)
      ∧ r.2.mem ((c.tc : Thread Cert.ProjDw.nD Cert.ProjDw.τ).loc Cert.ProjDw.main_arg2) = m ((c.tc : Thread Cert.ProjDw.nD Cert.ProjDw.τ).loc Cert.ProjDw.main_arg2))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
      ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1)
      ∧ r.2.mem ((c.tc : Thread Cert.ProjDwRefIdeal.nD Cert.ProjDwRefIdeal.τ).loc Cert.ProjDwRefIdeal.main_arg2) = m ((c.tc : Thread Cert.ProjDwRefIdeal.nD Cert.ProjDwRefIdeal.τ).loc Cert.ProjDwRefIdeal.main_arg2))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2)
      ∧ r.2.mem ((c.tc : Thread Cert.ProjDx.nD Cert.ProjDx.τ).loc Cert.ProjDx.main_arg3) = m ((c.tc : Thread Cert.ProjDx.nD Cert.ProjDx.τ).loc Cert.ProjDx.main_arg3)
      ∧ r.2.mem ((c.tc : Thread Cert.ProjDx.nD Cert.ProjDx.τ).loc Cert.ProjDx.main_arg4) = m ((c.tc : Thread Cert.ProjDx.nD Cert.ProjDx.τ).loc Cert.ProjDx.main_arg4))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
      ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
      ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2)
      ∧ r.2.mem ((c.tc : Thread Cert.ProjDxRefIdeal.nD Cert.ProjDxRefIdeal.τ).loc Cert.ProjDxRefIdeal.main_arg3) = m ((c.tc : Thread Cert.ProjDxRefIdeal.nD Cert.ProjDxRefIdeal.τ).loc Cert.ProjDxRefIdeal.main_arg3)
      ∧ r.2.mem ((c.tc : Thread Cert.ProjDxRefIdeal.nD Cert.ProjDxRefIdeal.τ).loc Cert.ProjDxRefIdeal.main_arg4) = m ((c.tc : Thread Cert.ProjDxRefIdeal.nD Cert.ProjDxRefIdeal.τ).loc Cert.ProjDxRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v91_0)) (v1 : (c : Dev Cert.KernelIdeal.nD) → Buf (Elt Ideal) ((c.tc : Thread Cert.KernelIdeal.nD Cert.KernelIdeal.τ).loc Cert.KernelIdeal.main_v91_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91_0) = v0 c
          ∧ r.2.mem ((c.tc : Thread Cert.KernelIdeal.nD Cert.KernelIdeal.τ).loc Cert.KernelIdeal.main_v91_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_OutDy_OutDyIdeal : Prop :=
  True

def algebraic_OutDyIdeal_OutDyRefIdeal [hOutDyIdeal : Cert.OutDyIdeal.Facts] [hOutDyRefIdeal : Cert.OutDyRefIdeal.Facts] : Prop :=
  ∀ (m : (ℓ : Loc Cert.OutDyIdeal.nD Cert.OutDyIdeal.τ Cert.OutDyIdeal.sig) → Buf (Elt Ideal) ℓ) (g : Dev Cert.OutDyIdeal.nD → PrngReg)
    (m' : (ℓ : Loc Cert.OutDyRefIdeal.nD Cert.OutDyRefIdeal.τ Cert.OutDyRefIdeal.sig) → Buf (Elt Ideal) ℓ) (g' : Dev Cert.OutDyRefIdeal.nD → PrngReg), Pre_OutDyIdeal m →
    (∀ c : Dev Cert.OutDyIdeal.nD,
      m' ((c.tc : Thread Cert.OutDyRefIdeal.nD Cert.OutDyRefIdeal.τ).loc Cert.OutDyRefIdeal.main_arg0) = m ((c.tc : Thread Cert.OutDyIdeal.nD Cert.OutDyIdeal.τ).loc Cert.OutDyIdeal.main_arg0)
      ∧ m' ((c.tc : Thread Cert.OutDyRefIdeal.nD Cert.OutDyRefIdeal.τ).loc Cert.OutDyRefIdeal.main_arg1) = m ((c.tc : Thread Cert.OutDyIdeal.nD Cert.OutDyIdeal.τ).loc Cert.OutDyIdeal.main_arg1)) →
    ∃ (v0 : (c : Dev Cert.OutDyIdeal.nD) → Buf (Elt Ideal) ((c.tc : Thread Cert.OutDyIdeal.nD Cert.OutDyIdeal.τ).loc Cert.OutDyIdeal.main_v0)),
      θ_run (Cert.OutDyIdeal.defs (F := Ideal)) (onTc (τ := Cert.OutDyIdeal.τ) (Cert.OutDyIdeal.main (F := Ideal))) ⟨m, fun _ => 0, g⟩ (fun r => ∀ c : Dev Cert.OutDyIdeal.nD,
          r.2.mem ((c.tc : Thread Cert.OutDyIdeal.nD Cert.OutDyIdeal.τ).loc Cert.OutDyIdeal.main_v0) = v0 c
          ∧ r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
          ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ θ_run (Cert.OutDyRefIdeal.defs (F := Ideal)) (onTc (τ := Cert.OutDyRefIdeal.τ) (Cert.OutDyRefIdeal.main (F := Ideal))) ⟨m', fun _ => 0, g'⟩ (fun r => ∀ c : Dev Cert.OutDyRefIdeal.nD,
          r.2.mem ((c.tc : Thread Cert.OutDyRefIdeal.nD Cert.OutDyRefIdeal.τ).loc Cert.OutDyRefIdeal.main_v3) = v0 c
          ∧ r.2.mem ((c.tc : Thread Cert.OutDyRefIdeal.nD Cert.OutDyRefIdeal.τ).loc Cert.OutDyRefIdeal.main_arg0) = m' ((c.tc : Thread Cert.OutDyRefIdeal.nD Cert.OutDyRefIdeal.τ).loc Cert.OutDyRefIdeal.main_arg0)
          ∧ r.2.mem ((c.tc : Thread Cert.OutDyRefIdeal.nD Cert.OutDyRefIdeal.τ).loc Cert.OutDyRefIdeal.main_arg1) = m' ((c.tc : Thread Cert.OutDyRefIdeal.nD Cert.OutDyRefIdeal.τ).loc Cert.OutDyRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)
      ∧ m' ((c.tc : Thread Cert.ProjDwRefIdeal.nD Cert.ProjDwRefIdeal.τ).loc Cert.ProjDwRefIdeal.main_arg2) = m ((c.tc : Thread Cert.ProjDwIdeal.nD Cert.ProjDwIdeal.τ).loc Cert.ProjDwIdeal.main_arg2)) →
    ∃ (v0 : (c : Dev Cert.ProjDwIdeal.nD) → Buf (Elt Ideal) ((c.tc : Thread Cert.ProjDwIdeal.nD Cert.ProjDwIdeal.τ).loc Cert.ProjDwIdeal.main_v14)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v14) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
          ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v16) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1)
          ∧ r.2.mem ((c.tc : Thread Cert.ProjDwRefIdeal.nD Cert.ProjDwRefIdeal.τ).loc Cert.ProjDwRefIdeal.main_arg2) = m' ((c.tc : Thread Cert.ProjDwRefIdeal.nD Cert.ProjDwRefIdeal.τ).loc Cert.ProjDwRefIdeal.main_arg2))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)
      ∧ m' ((c.tc : Thread Cert.ProjDxRefIdeal.nD Cert.ProjDxRefIdeal.τ).loc Cert.ProjDxRefIdeal.main_arg3) = m ((c.tc : Thread Cert.ProjDxIdeal.nD Cert.ProjDxIdeal.τ).loc Cert.ProjDxIdeal.main_arg3)
      ∧ m' ((c.tc : Thread Cert.ProjDxRefIdeal.nD Cert.ProjDxRefIdeal.τ).loc Cert.ProjDxRefIdeal.main_arg4) = m ((c.tc : Thread Cert.ProjDxIdeal.nD Cert.ProjDxIdeal.τ).loc Cert.ProjDxIdeal.main_arg4)) →
    ∃ (v0 : (c : Dev Cert.ProjDxIdeal.nD) → Buf (Elt Ideal) ((c.tc : Thread Cert.ProjDxIdeal.nD Cert.ProjDxIdeal.τ).loc Cert.ProjDxIdeal.main_v0_0)) (v1 : (c : Dev Cert.ProjDxIdeal.nD) → Buf (Elt Ideal) ((c.tc : Thread Cert.ProjDxIdeal.nD Cert.ProjDxIdeal.τ).loc Cert.ProjDxIdeal.main_v0_1)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0_0) = v0 c
          ∧ r.2.mem ((c.tc : Thread Cert.ProjDxIdeal.nD Cert.ProjDxIdeal.τ).loc Cert.ProjDxIdeal.main_v0_1) = v1 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
          ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
          ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v38) = v0 c
          ∧ r.2.mem ((c.tc : Thread Cert.ProjDxRefIdeal.nD Cert.ProjDxRefIdeal.τ).loc Cert.ProjDxRefIdeal.main_v21) = v1 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2)
          ∧ r.2.mem ((c.tc : Thread Cert.ProjDxRefIdeal.nD Cert.ProjDxRefIdeal.τ).loc Cert.ProjDxRefIdeal.main_arg3) = m' ((c.tc : Thread Cert.ProjDxRefIdeal.nD Cert.ProjDxRefIdeal.τ).loc Cert.ProjDxRefIdeal.main_arg3)
          ∧ r.2.mem ((c.tc : Thread Cert.ProjDxRefIdeal.nD Cert.ProjDxRefIdeal.τ).loc Cert.ProjDxRefIdeal.main_arg4) = m' ((c.tc : Thread Cert.ProjDxRefIdeal.nD Cert.ProjDxRefIdeal.τ).loc Cert.ProjDxRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def Claim : Prop :=
  ∃ (hKernel : Cert.Kernel.Facts) (hKernelIdeal : Cert.KernelIdeal.Facts) (hReferenceIdeal : Cert.ReferenceIdeal.Facts) (hOutDy : Cert.OutDy.Facts) (hOutDyIdeal : Cert.OutDyIdeal.Facts) (hOutDyRefIdeal : Cert.OutDyRefIdeal.Facts) (hOut : Cert.Out.Facts) (hOutIdeal : Cert.OutIdeal.Facts) (hOutRefIdeal : Cert.OutRefIdeal.Facts) (hOutDw : Cert.OutDw.Facts) (hOutDwIdeal : Cert.OutDwIdeal.Facts) (hOutDwRefIdeal : Cert.OutDwRefIdeal.Facts) (hProjDw : Cert.ProjDw.Facts) (hProjDwIdeal : Cert.ProjDwIdeal.Facts) (hProjDwRefIdeal : Cert.ProjDwRefIdeal.Facts) (hProjDx : Cert.ProjDx.Facts) (hProjDxIdeal : Cert.ProjDxIdeal.Facts) (hProjDxRefIdeal : Cert.ProjDxRefIdeal.Facts) (hProj : Cert.Proj.Facts) (hProjIdeal : Cert.ProjIdeal.Facts) (hProjRefIdeal : Cert.ProjRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutDy (hOutDy := hOutDy)
    ∧ quiescent_OutDyIdeal (hOutDyIdeal := hOutDyIdeal)
    ∧ quiescent_OutDyRefIdeal (hOutDyRefIdeal := hOutDyRefIdeal)
    ∧ quiescent_Out (hOut := hOut)
    ∧ quiescent_OutIdeal (hOutIdeal := hOutIdeal)
    ∧ quiescent_OutRefIdeal (hOutRefIdeal := hOutRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutDy_OutDyIdeal
    ∧ algebraic_OutDyIdeal_OutDyRefIdeal (hOutDyIdeal := hOutDyIdeal) (hOutDyRefIdeal := hOutDyRefIdeal)
    ∧ preserves_Out_OutIdeal
    ∧ algebraic_OutIdeal_OutRefIdeal (hOutIdeal := hOutIdeal) (hOutRefIdeal := hOutRefIdeal)
    ∧ preserves_OutDw_OutDwIdeal
    ∧ algebraic_OutDwIdeal_OutDwRefIdeal (hOutDwIdeal := hOutDwIdeal) (hOutDwRefIdeal := hOutDwRefIdeal)
    ∧ preserves_ProjDw_ProjDwIdeal
    ∧ algebraic_ProjDwIdeal_ProjDwRefIdeal (hProjDwIdeal := hProjDwIdeal) (hProjDwRefIdeal := hProjDwRefIdeal)
    ∧ preserves_ProjDx_ProjDxIdeal
    ∧ algebraic_ProjDxIdeal_ProjDxRefIdeal (hProjDxIdeal := hProjDxIdeal) (hProjDxRefIdeal := hProjDxRefIdeal)
    ∧ preserves_Proj_ProjIdeal
    ∧ algebraic_ProjIdeal_ProjRefIdeal (hProjIdeal := hProjIdeal) (hProjRefIdeal := hProjRefIdeal)
-- ==== Pre_finite.lean ====
abbrev S4096x2048 : Shape := ⟨2, ![4096, 2048]⟩
abbrev S4096x5632 : Shape := ⟨2, ![4096, 5632]⟩
abbrev S8 : Shape := ⟨1, ![8]⟩
abbrev S4096x128 : Shape := ⟨2, ![4096, 128]⟩
abbrev S4096x512 : Shape := ⟨2, ![4096, 512]⟩
abbrev S_ : Shape := ⟨0, ![]⟩
abbrev S4096x1280 : Shape := ⟨2, ![4096, 1280]⟩

class Facts : Prop where
  slices_S4096x2048_S4096x512_0_1024 : S4096x2048.Slices ![0, 1024] S4096x512
  bcast_S_S4096x512 : S_.BroadcastsInDim S4096x512 (![] : Fin 0 → Fin S4096x512.rank)
  slices_S4096x5632_S4096x1280_0_0 : S4096x5632.Slices ![0, 0] S4096x1280
  bcast_S_S4096x1280 : S_.BroadcastsInDim S4096x1280 (![] : Fin 0 → Fin S4096x1280.rank)
  bcast_S_S8 : S_.BroadcastsInDim S8 (![] : Fin 0 → Fin S8.rank)

variable [Facts]

def fn {F : FTy → Type} [FloatOps F] (main_arg0 : FVec F S4096x2048 .f32) (main_arg1 : FVec F S4096x5632 .f32) (main_arg2 : FVec F S8 .f32) (main_arg3 : FVec F S4096x128 .f32) (main_arg4 : FVec F S4096x5632 .bf16) : IVec S4096x512 1 × IVec S4096x1280 1 × IVec S8 1 :=
  let main_v0 : FVec F S4096x512 .f32 := (extractStridedSlice S4096x512 ![0, 1024] · slices_S4096x2048_S4096x512_0_1024) main_arg0
  let main_cst : FVec F S_ .f32 := constant S_ .f32 0xFF800000#32
  let main_v1 : FVec F S4096x512 .f32 := broadcastInDim S4096x512 ![] bcast_S_S4096x512 main_cst
  let main_v2 : IVec S4096x512 1 := cmpf .ogt main_v0 main_v1
  let main_cst_0 : FVec F S_ .f32 := constant S_ .f32 0x7F800000#32
  let main_v3 : FVec F S4096x512 .f32 := broadcastInDim S4096x512 ![] bcast_S_S4096x512 main_cst_0
  let main_v4 : IVec S4096x512 1 := cmpf .olt main_v0 main_v3
  let main_v5 : IVec S4096x512 1 := andi main_v2 main_v4
  let main_v6 : FVec F S4096x1280 .f32 := (extractStridedSlice S4096x1280 ![0, 0] · slices_S4096x5632_S4096x1280_0_0) main_arg1
  let main_cst_1 : FVec F S_ .f32 := constant S_ .f32 0xFF800000#32
  let main_v7 : FVec F S4096x1280 .f32 := broadcastInDim S4096x1280 ![] bcast_S_S4096x1280 main_cst_1
  let main_v8 : IVec S4096x1280 1 := cmpf .ogt main_v6 main_v7
  let main_cst_2 : FVec F S_ .f32 := constant S_ .f32 0x7F800000#32
  let main_v9 : FVec F S4096x1280 .f32 := broadcastInDim S4096x1280 ![] bcast_S_S4096x1280 main_cst_2
  let main_v10 : IVec S4096x1280 1 := cmpf .olt main_v6 main_v9
  let main_v11 : IVec S4096x1280 1 := andi main_v8 main_v10
  let main_cst_3 : FVec F S_ .f32 := constant S_ .f32 0xFF800000#32
  let main_v12 : FVec F S8 .f32 := broadcastInDim S8 ![] bcast_S_S8 main_cst_3
  let main_v13 : IVec S8 1 := cmpf .ogt main_arg2 main_v12
  let main_cst_4 : FVec F S_ .f32 := constant S_ .f32 0x7F800000#32
  let main_v14 : FVec F S8 .f32 := broadcastInDim S8 ![] bcast_S_S8 main_cst_4
  let main_v15 : IVec S8 1 := cmpf .olt main_arg2 main_v14
  let main_v16 : IVec S8 1 := andi main_v13 main_v15
  (main_v5, main_v11, main_v16)
-- ==== Kernel.lean ====
abbrev S4096x2048 : Shape := ⟨2, ![4096, 2048]⟩
abbrev S4096x5632 : Shape := ⟨2, ![4096, 5632]⟩
abbrev S8 : Shape := ⟨1, ![8]⟩
abbrev S4096x128 : Shape := ⟨2, ![4096, 128]⟩
abbrev S4096x512 : Shape := ⟨2, ![4096, 512]⟩
abbrev S2x2048x512 : Shape := ⟨3, ![2, 2048, 512]⟩
abbrev S2x2048x2x4x64 : Shape := ⟨5, ![2, 2048, 2, 4, 64]⟩
abbrev S2x2048x2x64 : Shape := ⟨4, ![2, 2048, 2, 64]⟩
abbrev S2x16x128x2x4x64 : Shape := ⟨6, ![2, 16, 128, 2, 4, 64]⟩
abbrev S2x16x128x2x64 : Shape := ⟨5, ![2, 16, 128, 2, 64]⟩
abbrev S_ : Shape := ⟨0, ![]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x16x128x2x4 : Shape := ⟨5, ![2, 16, 128, 2, 4]⟩
abbrev S4096x8 : Shape := ⟨2, ![4096, 8]⟩
abbrev S4096x120 : Shape := ⟨2, ![4096, 120]⟩
abbrev S120 : Shape := ⟨1, ![120]⟩
abbrev S1x128 : Shape := ⟨2, ![1, 128]⟩
abbrev S128x512 : Shape := ⟨2, ![128, 512]⟩
abbrev S128x128 : Shape := ⟨2, ![128, 128]⟩
abbrev S128x1536 : Shape := ⟨2, ![128, 1536]⟩
abbrev S256x128 : Shape := ⟨2, ![256, 128]⟩
abbrev S256x256 : Shape := ⟨2, ![256, 256]⟩
abbrev S256x1 : Shape := ⟨2, ![256, 1]⟩
abbrev S1 : Shape := ⟨1, ![1]⟩
abbrev S1x1 : Shape := ⟨2, ![1, 1]⟩
abbrev S1x128x1 : Shape := ⟨3, ![1, 128, 1]⟩
abbrev S1x1x1 : Shape := ⟨3, ![1, 1, 1]⟩

abbrev nBuf : Space → Nat
  | .hbm => 113
  | .vmem => 27
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S8, .f32⟩
  | .hbm, ⟨3, _⟩ => ⟨S4096x128, .f32⟩
  | .hbm, ⟨4, _⟩ => ⟨S4096x5632, .bf16⟩
  | .hbm, ⟨5, _⟩ => ⟨S4096x512, .f32⟩
  | .hbm, ⟨6, _⟩ => ⟨S2x2048x512, .f32⟩
  | .hbm, ⟨7, _⟩ => ⟨S4096x512, .f32⟩
  | .hbm, ⟨8, _⟩ => ⟨S2x2048x2x4x64, .f32⟩
  | .hbm, ⟨9, _⟩ => ⟨S4096x128, .f32⟩
  | .hbm, ⟨10, _⟩ => ⟨S2x2048x2x64, .f32⟩
  | .hbm, ⟨11, _⟩ => ⟨S4096x128, .f32⟩
  | .hbm, ⟨12, _⟩ => ⟨S2x2048x2x64, .f32⟩
  | .hbm, ⟨13, _⟩ => ⟨S2x16x128x2x4x64, .f32⟩
  | .hbm, ⟨14, _⟩ => ⟨S2x16x128x2x64, .f32⟩
  | .hbm, ⟨15, _⟩ => ⟨S2x16x128x2x64, .f32⟩
  | .hbm, ⟨16, _⟩ => ⟨S_, .f32⟩
  | .hbm, ⟨17, _⟩ => ⟨S2x1x128x2x64, .f32⟩
  | .hbm, ⟨18, _⟩ => ⟨S2x15x128x2x64, .f32⟩
  | .hbm, ⟨19, _⟩ => ⟨S2x16x128x2x64, .f32⟩
  | .hbm, ⟨20, _⟩ => ⟨S2x16x256x2x64, .f32⟩
  | .hbm, ⟨21, _⟩ => ⟨S2x15x128x2x64, .f32⟩
  | .hbm, ⟨22, _⟩ => ⟨S2x16x128x2x64, .f32⟩
  | .hbm, ⟨23, _⟩ => ⟨S2x16x256x2x64, .f32⟩
  | .hbm, ⟨24, _⟩ => ⟨S2x16x2x256x128x4, .f32⟩
  | .hbm, ⟨25, _⟩ => ⟨S2x16x2x4x128x256, .f32⟩
  | .hbm, ⟨26, _⟩ => ⟨S_, .f32⟩
  | .hbm, ⟨27, _⟩ => ⟨S2x16x2x4x128x256, .f32⟩
  | .hbm, ⟨28, _⟩ => ⟨S2x16x2x4x128x256, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S1x256, .i32⟩
  | .hbm, ⟨35, _⟩ => ⟨S1x256, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S128x256, .i1⟩
  | .hbm, ⟨46, _⟩ => ⟨S1x128x256, .i1⟩
  | .hbm, ⟨47, _⟩ => ⟨S16, .i32⟩
  | .hbm, ⟨48, _⟩ => ⟨S16x1x1, .i32⟩
  | .hbm, ⟨49, _⟩ => ⟨S_, .i32⟩
  | .hbm, ⟨50, _⟩ => ⟨S16x1x1, .i32⟩
  | .hbm, ⟨51, _⟩ => ⟨S16x1x1, .i1⟩
  | .hbm, ⟨52, _⟩ => ⟨S1x1x256, .i32⟩
  | .hbm, ⟨53, _⟩ => ⟨S_, .i32⟩
  | .hbm, ⟨54, _⟩ => ⟨S1x1x256, .i32⟩
  | .hbm, ⟨55, _⟩ => ⟨S1x1x256, .i1⟩
  | .hbm, ⟨56, _⟩ => ⟨S16x1x256, .i1⟩
  | .hbm, ⟨57, _⟩ => ⟨S16x1x256, .i1⟩
  | .hbm, ⟨58, _⟩ => ⟨S16x1x256, .i1⟩
  | .hbm, ⟨59, _⟩ => ⟨S16x128x256, .i1⟩
  | .hbm, ⟨60, _⟩ => ⟨S16x128x256, .i1⟩
  | .hbm, ⟨61, _⟩ => ⟨S16x128x256, .i1⟩
  | .hbm, ⟨62, _⟩ => ⟨S1x16x1x1x128x256, .i1⟩
  | .hbm, ⟨63, _⟩ => ⟨S_, .f32⟩
  | .hbm, ⟨64, _⟩ => ⟨S_, .f32⟩
  | .hbm, ⟨65, _⟩ => ⟨S2x16x2x4x128x256, .i1⟩
  | .hbm, ⟨66, _⟩ => ⟨S2x16x2x4x128x256, .f32⟩
  | .hbm, ⟨67, _⟩ => ⟨S2x16x2x4x128x256, .f32⟩
  | .hbm, ⟨68, _⟩ => ⟨S2x4, .f32⟩
  | .hbm, ⟨69, _⟩ => ⟨S1x1x2x4x1x1, .f32⟩
  | .hbm, ⟨70, _⟩ => ⟨S_, .f32⟩
  | .hbm, ⟨71, _⟩ => ⟨S2x16x2x4x128, .f32⟩
  | .hbm, ⟨72, _⟩ => ⟨S2x16x2x4x128x1, .f32⟩
  | .hbm, ⟨73, _⟩ => ⟨S2x16x2x4x128x256, .f32⟩
  | .hbm, ⟨74, _⟩ => ⟨S2x16x2x4x128x256, .f32⟩
  | .hbm, ⟨75, _⟩ => ⟨S2x16x2x4x128x256, .f32⟩
  | .hbm, ⟨76, _⟩ => ⟨S_, .f32⟩
  | .hbm, ⟨77, _⟩ => ⟨S2x16x2x4x128, .f32⟩
  | .hbm, ⟨78, _⟩ => ⟨S2x16x2x4x128x1, .f32⟩
  | .hbm, ⟨79, _⟩ => ⟨S2x16x2x4x128x1, .f32⟩
  | .hbm, ⟨80, _⟩ => ⟨S2x16x2x4x128x1, .f32⟩
  | .hbm, ⟨81, _⟩ => ⟨S2x16x2x4x128x1, .f32⟩
  | .hbm, ⟨82, _⟩ => ⟨S2x16x2x4x128x1, .f32⟩
  | .hbm, ⟨83, _⟩ => ⟨S2x16x2x4x128x1, .f32⟩
  | .hbm, ⟨84, _⟩ => ⟨S2x16x2x4x128x1, .f32⟩
  | .hbm, ⟨85, _⟩ => ⟨S2x16x2x4x128x1, .i1⟩
  | .hbm, ⟨86, _⟩ => ⟨S2x16x2x4x128x1, .f32⟩
  | .hbm, ⟨87, _⟩ => ⟨S2x16x2x4x128x1, .f32⟩
  | .hbm, ⟨88, _⟩ => ⟨S2x16x2x4x128x1, .f32⟩
  | .hbm, ⟨89, _⟩ => ⟨S2x16x2x4x128x1, .f32⟩
  | .hbm, ⟨90, _⟩ => ⟨S2x16x2x4x128x1, .f32⟩
  | .hbm, ⟨91, _⟩ => ⟨S2x16x2x4x128x1, .f32⟩
  | .hbm, ⟨92, _⟩ => ⟨S2x16x2x4x128x1, .f32⟩
  | .hbm, ⟨93, _⟩ => ⟨S2x16x2x4x128x1, .f32⟩
  | .hbm, ⟨94, _⟩ => ⟨S2x16x2x4x128x256, .f32⟩
  | .hbm, ⟨95, _⟩ => ⟨S2x16x2x4x128x256, .f32⟩
  | .hbm, ⟨96, _⟩ => ⟨S2x16x2x4x128x256, .f32⟩
  | .hbm, ⟨97, _⟩ => ⟨S2x16x2x64x4x128, .f32⟩
  | .hbm, ⟨98, _⟩ => ⟨S2x16x128x2x4x64, .f32⟩
  | .hbm, ⟨99, _⟩ => ⟨S2x2048x512, .f32⟩
  | .hbm, ⟨100, _⟩ => ⟨S4096x512, .f32⟩
  | .hbm, ⟨101, _⟩ => ⟨S2x16x2x4x128, .f32⟩
  | .hbm, ⟨102, _⟩ => ⟨S2x16x128x2x4, .f32⟩
  | .hbm, ⟨103, _⟩ => ⟨S4096x8, .f32⟩
  | .hbm, ⟨104, _⟩ => ⟨S_, .f32⟩
  | .hbm, ⟨105, _⟩ => ⟨S4096x120, .f32⟩
  | .hbm, ⟨106, _⟩ => ⟨S4096x128, .f32⟩
  | .hbm, ⟨107, _⟩ => ⟨S_, .f32⟩
  | .hbm, ⟨108, _⟩ => ⟨S120, .f32⟩
  | .hbm, ⟨109, _⟩ => ⟨S128, .f32⟩
  | .hbm, ⟨110, _⟩ => ⟨S1x128, .f32⟩
  | .hbm, ⟨111, _⟩ => ⟨S4096x5632, .bf16⟩
  | .hbm, ⟨112, _⟩ => ⟨S1x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S128x128, .f32⟩
  | .local _ .vmem, ⟨21, _⟩ => ⟨S128x1536, .bf16⟩
  | .local _ .vmem, ⟨22, _⟩ => ⟨S128x1536, .bf16⟩
  | .local _ .vmem, ⟨23, _⟩ => ⟨S1x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_8 : Ref sig .tc := ⟨.hbm, 104, rfl⟩
abbrev main_v86 : Ref sig .tc := ⟨.hbm, 105, rfl⟩
abbrev main_v87 : Ref sig .tc := ⟨.hbm, 106, rfl⟩
abbrev main_cst_9 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91_0 : Ref sig .tc := ⟨.hbm, 111, rfl⟩
abbrev main_v91_1 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg0 : BitVec 32 := BitVec.ofNat 32 (i 0).val
  let c1_i32_272 : BitVec 32 := 1#32
  let v818 : BitVec 1 := Scalar.cmpi .eq arg0 c1_i32_272
  let arg1 : BitVec 32 := BitVec.ofNat 32 (i 1).val
  let c15_i32_273 : BitVec 32 := 15#32
  let v819 : BitVec 1 := Scalar.cmpi .eq arg1 c15_i32_273
  let v820 : BitVec 1 := Scalar.andi v818 v819
  let v821 : BitVec 32 := Scalar.extui v820
  let c0_i32_274 : BitVec 32 := 0#32
  let v822 : BitVec 1 := Scalar.cmpi .ne v821 c0_i32_274
  v822

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c2_i32 : BitVec 32 := 2#32
  let c0_i32 : BitVec 32 := 0#32
  ![v2.toNat, c2_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c1_i32 : BitVec 32 := 1#32
  let c0_i32 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c8_i32 : BitVec 32 := 8#32
  let c0_i32 : BitVec 32 := 0#32
  ![v2.toNat, c8_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c8_i32 : BitVec 32 := 8#32
  let c0_i32_0 : BitVec 32 := 0#32
  ![v4.toNat, c8_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c9_i32 : BitVec 32 := 9#32
  let c0_i32 : BitVec 32 := 0#32
  ![v2.toNat, c9_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c9_i32 : BitVec 32 := 9#32
  let c0_i32_0 : BitVec 32 := 0#32
  ![v4.toNat, c9_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.subi c15_i32 arg1
  let v2 : BitVec 32 := Scalar.addi v0 v1
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S4096x5632 : Shape := ⟨2, ![4096, 5632]⟩
abbrev S8 : Shape := ⟨1, ![8]⟩
abbrev S4096x128 : Shape := ⟨2, ![4096, 128]⟩
abbrev S4096x512 : Shape := ⟨2, ![4096, 512]⟩
abbrev S2x2048x512 : Shape := ⟨3, ![2, 2048, 512]⟩
abbrev S2x2048x2x4x64 : Shape := ⟨5, ![2, 2048, 2, 4, 64]⟩
abbrev S2x2048x2x64 : Shape := ⟨4, ![2, 2048, 2, 64]⟩
abbrev S2x16x128x2x4x64 : Shape := ⟨6, ![2, 16, 128, 2, 4, 64]⟩
abbrev S2x16x128x2x64 : Shape := ⟨5, ![2, 16, 128, 2, 64]⟩
abbrev S_ : Shape := ⟨0, ![]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x16x2x64x256 : Shape := ⟨5, ![2, 16, 2, 64, 256]⟩
abbrev S2x4x1 : Shape := ⟨3, ![2, 4, 1]⟩
abbrev S2x16x2x128x4x64 : Shape := ⟨6, ![2, 16, 2, 128, 4, 64]⟩
abbrev S2x16x2x256x64 : Shape := ⟨5, ![2, 16, 2, 256, 64]⟩
abbrev S4096x1536 : Shape := ⟨2, ![4096, 1536]⟩
abbrev S4096x4096 : Shape := ⟨2, ![4096, 4096]⟩
abbrev S120 : Shape := ⟨1, ![120]⟩
abbrev S1x128 : Shape := ⟨2, ![1, 128]⟩

abbrev nBuf : Space → Nat
  | .hbm => 229
  | .vmem => 0
  | .smem => 0
  | _ => 0

abbrev hbmTy0_0 (i : Nat) : BufTy := match i % 128 with
  | 0 => ⟨S4096x2048, .f32⟩
  | 1 => ⟨S4096x5632, .f32⟩
  | 2 => ⟨S8, .f32⟩
  | 3 => ⟨S4096x128, .f32⟩
  | 4 => ⟨S4096x5632, .bf16⟩
  | 5 => ⟨S4096x512, .f32⟩
  | 6 => ⟨S2x2048x512, .f32⟩
  | 7 => ⟨S4096x512, .f32⟩
  | 8 => ⟨S2x2048x2x4x64, .f32⟩
  | 9 => ⟨S4096x128, .f32⟩
  | 10 => ⟨S2x2048x2x64, .f32⟩
  | 11 => ⟨S4096x128, .f32⟩
  | 12 => ⟨S2x2048x2x64, .f32⟩
  | 13 => ⟨S4096x512, .f32⟩
  | 14 => ⟨S2x2048x512, .f32⟩
  | 15 => ⟨S2x16x128x2x4x64, .f32⟩
  | 16 => ⟨S2x16x128x2x64, .f32⟩
  | 17 => ⟨S2x16x128x2x64, .f32⟩
  | 18 => ⟨S_, .f32⟩
  | 19 => ⟨S2x1x128x2x64, .f32⟩
  | 20 => ⟨S2x15x128x2x64, .f32⟩
  | 21 => ⟨S2x16x128x2x64, .f32⟩
  | 22 => ⟨S_, .f32⟩
  | 23 => ⟨S2x1x128x2x64, .f32⟩
  | 24 => ⟨S2x16x256x2x64, .f32⟩
  | 25 => ⟨S2x15x128x2x64, .f32⟩
  | 26 => ⟨S2x16x128x2x64, .f32⟩
  | 27 => ⟨S_, .f32⟩
  | 28 => ⟨S2x1x128x2x64, .f32⟩
  | 29 => ⟨S2x16x256x2x64, .f32⟩
  | 30 => ⟨S2x16x2x256x128x4, .f32⟩
  | 31 => ⟨S2x16x2x4x128x256, .f32⟩
  | 32 => ⟨S_, .f32⟩
  | 33 => ⟨S2x16x2x4x128x256, .f32⟩
  | 34 => ⟨S2x16x2x4x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S1x256, .i32⟩
  | 41 => ⟨S1x256, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S1x128x256, .i1⟩
  | 53 => ⟨S16, .i32⟩
  | 54 => ⟨S16x1x1, .i32⟩
  | 55 => ⟨S_, .i32⟩
  | 56 => ⟨S16x1x1, .i32⟩
  | 57 => ⟨S16x1x1, .i1⟩
  | 58 => ⟨S1x1x256, .i32⟩
  | 59 => ⟨S_, .i32⟩
  | 60 => ⟨S1x1x256, .i32⟩
  | 61 => ⟨S1x1x256, .i1⟩
  | 62 => ⟨S16x1x256, .i1⟩
  | 63 => ⟨S16x1x256, .i1⟩
  | 64 => ⟨S16x1x256, .i1⟩
  | 65 => ⟨S16x128x256, .i1⟩
  | 66 => ⟨S16x128x256, .i1⟩
  | 67 => ⟨S16x128x256, .i1⟩
  | 68 => ⟨S1x16x1x1x128x256, .i1⟩
  | 69 => ⟨S_, .f32⟩
  | 70 => ⟨S_, .f32⟩
  | 71 => ⟨S2x16x2x4x128x256, .i1⟩
  | 72 => ⟨S2x16x2x4x128x256, .f32⟩
  | 73 => ⟨S2x16x2x4x128x256, .f32⟩
  | 74 => ⟨S_, .f32⟩
  | 75 => ⟨S2x16x2x4x128x256, .f32⟩
  | 76 => ⟨S2x4, .f32⟩
  | 77 => ⟨S1x1x2x4x1x1, .f32⟩
  | 78 => ⟨S_, .f32⟩
  | 79 => ⟨S2x16x2x4x128, .f32⟩
  | 80 => ⟨S2x16x2x4x128x1, .f32⟩
  | 81 => ⟨S2x16x2x4x128x256, .f32⟩
  | 82 => ⟨S2x16x2x4x128x256, .i1⟩
  | 83 => ⟨S2x16x2x4x128x256, .f32⟩
  | 84 => ⟨S_, .f32⟩
  | 85 => ⟨S2x16x2x4x128, .f32⟩
  | 86 => ⟨S2x16x2x4x128x1, .f32⟩
  | 87 => ⟨S2x16x2x4x128x256, .f32⟩
  | 88 => ⟨S2x16x2x4x128x256, .f32⟩
  | 89 => ⟨S2x16x2x4x128x256, .f32⟩
  | 90 => ⟨S_, .f32⟩
  | 91 => ⟨S2x16x2x4x128, .f32⟩
  | 92 => ⟨S2x16x2x4x128x1, .f32⟩
  | 93 => ⟨S2x16x2x4x128x1, .f32⟩
  | 94 => ⟨S2x16x2x4x128x1, .f32⟩
  | 95 => ⟨S2x16x2x4x128x1, .f32⟩
  | 96 => ⟨S2x16x2x4x128x1, .f32⟩
  | 97 => ⟨S2x16x2x4x128x1, .f32⟩
  | 98 => ⟨S2x16x2x4x128x1, .f32⟩
  | 99 => ⟨S2x16x2x4x128x1, .i1⟩
  | 100 => ⟨S2x16x2x4x128x1, .f32⟩
  | 101 => ⟨S2x16x2x4x128x1, .f32⟩
  | 102 => ⟨S2x16x2x4x128x1, .f32⟩
  | 103 => ⟨S2x16x2x4x128x1, .f32⟩
  | 104 => ⟨S2x16x2x4x128x1, .f32⟩
  | 105 => ⟨S2x16x2x4x128x1, .f32⟩
  | 106 => ⟨S2x16x2x4x128x1, .f32⟩
  | 107 => ⟨S2x16x2x4x128x1, .f32⟩
  | 108 => ⟨S_, .f32⟩
  | 109 => ⟨S2x16x2x4x128x1, .f32⟩
  | 110 => ⟨S2x16x2x4x128x1, .i1⟩
  | 111 => ⟨S_, .f32⟩
  | 112 => ⟨S2x16x2x4x128x1, .f32⟩
  | 113 => ⟨S2x16x2x4x128x1, .f32⟩
  | 114 => ⟨S_, .f32⟩
  | 115 => ⟨S2x16x2x4x128x1, .f32⟩
  | 116 => ⟨S2x16x2x4x128x1, .i1⟩
  | 117 => ⟨S_, .f32⟩
  | 118 => ⟨S2x16x2x4x128x1, .f32⟩
  | 119 => ⟨S2x16x2x4x128x1, .f32⟩
  | 120 => ⟨S2x16x2x4x128x1, .f32⟩
  | 121 => ⟨S2x16x2x4x128x1, .f32⟩
  | 122 => ⟨S_, .f32⟩
  | 123 => ⟨S1x1x2x4x1x1, .f32⟩
  | 124 => ⟨S1x1x2x4x1x1, .i1⟩
  | 125 => ⟨S_, .f32⟩
  | 126 => ⟨S1x1x2x4x1x1, .f32⟩
  | 127 => ⟨S1x1x2x4x1x1, .f32⟩
  | _ => ⟨S4096x2048, .f32⟩

abbrev hbmTy0_1 (i : Nat) : BufTy := match i % 128 with
  | 0 => ⟨S_, .f32⟩
  | 1 => ⟨S2x16x2x4x128x1, .f32⟩
  | 2 => ⟨S2x16x2x4x128x1, .i1⟩
  | 3 => ⟨S_, .f32⟩
  | 4 => ⟨S2x16x2x4x128x1, .f32⟩
  | 5 => ⟨S2x16x2x4x128x1, .f32⟩
  | 6 => ⟨S2x16x2x4x128x1, .f32⟩
  | 7 => ⟨S2x16x2x4x128x1, .f32⟩
  | 8 => ⟨S2x16x2x4x128x1, .f32⟩
  | 9 => ⟨S2x16x2x4x128x256, .f32⟩
  | 10 => ⟨S2x16x2x4x128x256, .f32⟩
  | 11 => ⟨S2x16x2x4x128x256, .f32⟩
  | 12 => ⟨S2x16x2x64x4x128, .f32⟩
  | 13 => ⟨S2x16x128x2x4x64, .f32⟩
  | 14 => ⟨S2x2048x512, .f32⟩
  | 15 => ⟨S2x2048x512, .f32⟩
  | 16 => ⟨S2x2048x512, .f32⟩
  | 17 => ⟨S_, .f32⟩
  | 18 => ⟨S2x2048x512, .f32⟩
  | 19 => ⟨S2x2048x512, .f32⟩
  | 20 => ⟨S_, .f32⟩
  | 21 => ⟨S2x2048x512, .f32⟩
  | 22 => ⟨S2x2048x512, .f32⟩
  | 23 => ⟨S_, .f32⟩
  | 24 => ⟨S2x2048x512, .f32⟩
  | 25 => ⟨S2x2048x512, .f32⟩
  | 26 => ⟨S2x2048x512, .f32⟩
  | 27 => ⟨S2x2048x512, .f32⟩
  | 28 => ⟨S2x2048x512, .f32⟩
  | 29 => ⟨S2x2048x512, .f32⟩
  | 30 => ⟨S2x2048x512, .f32⟩
  | 31 => ⟨S2x2048x512, .f32⟩
  | 32 => ⟨S2x2048x512, .f32⟩
  | 33 => ⟨S2x2048x512, .f32⟩
  | 34 => ⟨S2x2048x512, .f32⟩
  | 35 => ⟨S2x16x128x2x4x64, .f32⟩
  | 36 => ⟨S2x16x2x64x4x128, .f32⟩
  | 37 => ⟨S2x16x2x4x128x256, .f32⟩
  | 38 => ⟨S2x16x2x64x256, .f32⟩
  | 39 => ⟨S2x16x256x2x64, .f32⟩
  | 40 => ⟨S2x16x2x4x128x256, .f32⟩
  | 41 => ⟨S2x16x2x4x128x256, .f32⟩
  | 42 => ⟨S_, .f32⟩
  | 43 => ⟨S2x16x2x4x128, .f32⟩
  | 44 => ⟨S2x16x2x4x128x1, .f32⟩
  | 45 => ⟨S2x16x2x4x128x1, .f32⟩
  | 46 => ⟨S_, .f32⟩
  | 47 => ⟨S2x4x1, .f32⟩
  | 48 => ⟨S1x1x2x4x1x1, .f32⟩
  | 49 => ⟨S2x16x2x4x128x1, .f32⟩
  | 50 => ⟨S2x16x2x4x128x1, .f32⟩
  | 51 => ⟨S_, .f32⟩
  | 52 => ⟨S2x16x2x4x128, .f32⟩
  | 53 => ⟨S2x16x2x4x128x256, .f32⟩
  | 54 => ⟨S2x16x2x4x128x256, .f32⟩
  | 55 => ⟨S2x16x2x4x128x256, .f32⟩
  | 56 => ⟨S_, .f32⟩
  | 57 => ⟨S2x4, .f32⟩
  | 58 => ⟨S8, .f32⟩
  | 59 => ⟨S_, .f32⟩
  | 60 => ⟨S2x16x2x4x128x256, .f32⟩
  | 61 => ⟨S2x16x2x4x128x256, .f32⟩
  | 62 => ⟨S_, .f32⟩
  | 63 => ⟨S2x16x2x4x128x256, .f32⟩
  | 64 => ⟨S2x16x2x4x128x256, .f32⟩
  | 65 => ⟨S2x16x2x256x128x4, .f32⟩
  | 66 => ⟨S2x16x2x128x4x64, .f32⟩
  | 67 => ⟨S2x16x128x2x4x64, .f32⟩
  | 68 => ⟨S2x16x2x256x64, .f32⟩
  | 69 => ⟨S2x16x256x2x64, .f32⟩
  | 70 => ⟨S2x16x128x2x64, .f32⟩
  | 71 => ⟨S2x16x128x2x64, .f32⟩
  | 72 => ⟨S2x1x128x2x64, .f32⟩
  | 73 => ⟨S2x15x128x2x64, .f32⟩
  | 74 => ⟨S_, .f32⟩
  | 75 => ⟨S2x16x128x2x64, .f32⟩
  | 76 => ⟨S2x16x128x2x64, .f32⟩
  | 77 => ⟨S2x16x128x2x64, .f32⟩
  | 78 => ⟨S2x16x128x2x64, .f32⟩
  | 79 => ⟨S2x1x128x2x64, .f32⟩
  | 80 => ⟨S2x15x128x2x64, .f32⟩
  | 81 => ⟨S_, .f32⟩
  | 82 => ⟨S2x16x128x2x64, .f32⟩
  | 83 => ⟨S2x16x128x2x64, .f32⟩
  | 84 => ⟨S2x2048x2x64, .f32⟩
  | 85 => ⟨S2x2048x2x64, .f32⟩
  | 86 => ⟨S2x2048x2x4x64, .f32⟩
  | 87 => ⟨S4096x512, .f32⟩
  | 88 => ⟨S4096x512, .f32⟩
  | 89 => ⟨S4096x128, .f32⟩
  | 90 => ⟨S4096x128, .f32⟩
  | 91 => ⟨S_, .f32⟩
  | 92 => ⟨S4096x128, .f32⟩
  | 93 => ⟨S4096x1536, .f32⟩
  | 94 => ⟨S4096x1536, .bf16⟩
  | 95 => ⟨S4096x4096, .bf16⟩
  | 96 => ⟨S4096x5632, .bf16⟩
  | 97 => ⟨S_, .f32⟩
  | 98 => ⟨S120, .f32⟩
  | 99 => ⟨S128, .f32⟩
  | 100 => ⟨S1x128, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_call0_v0 : Ref sig .tc := ⟨.hbm, 70, rfl⟩
abbrev main_v55_1 : Ref sig .tc := ⟨.hbm, 71, rfl⟩
abbrev main_call0_v2 : Ref sig .tc := ⟨.hbm, 72, rfl⟩
abbrev main_v55_0 : Ref sig .tc := ⟨.hbm, 73, rfl⟩
abbrev main_call0_cst : Ref sig .tc := ⟨.hbm, 74, rfl⟩
abbrev main_v55_2 : Ref sig .tc := ⟨.hbm, 75, rfl⟩
abbrev main_v56 : Ref sig .tc := ⟨.hbm, 76, rfl⟩
abbrev main_v57 : Ref sig .tc := ⟨.hbm, 77, rfl⟩
abbrev main_cst_8 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_11 : Ref sig .tc := ⟨.hbm, 108, rfl⟩
abbrev main_v85 : Ref sig .tc := ⟨.hbm, 109, rfl⟩
abbrev main_v86 : Ref sig .tc := ⟨.hbm, 110, rfl⟩
abbrev main_cst_12 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_15 : Ref sig .tc := ⟨.hbm, 122, rfl⟩
abbrev main_v95 : Ref sig .tc := ⟨.hbm, 123, rfl⟩
abbrev main_v96 : Ref sig .tc := ⟨.hbm, 124, rfl⟩
abbrev main_cst_16 : Ref sig .tc := ⟨.hbm, 125, rfl⟩
abbrev main_v97 : Ref sig .tc := ⟨.hbm, 126, rfl⟩
abbrev main_v98 : Ref sig .tc := ⟨.hbm, 127, rfl⟩
abbrev main_cst_17 : Ref sig .tc := ⟨.hbm, 128, rfl⟩
abbrev main_v99 : Ref sig .tc := ⟨.hbm, 129, rfl⟩
abbrev main_v100 : Ref sig .tc := ⟨.hbm, 130, rfl⟩
abbrev main_cst_18 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_call1_v0 : Ref sig .tc := ⟨.hbm, 143, rfl⟩
abbrev main_call1_v1 : Ref sig .tc := ⟨.hbm, 144, rfl⟩
abbrev main_call1_cst : Ref sig .tc := ⟨.hbm, 145, rfl⟩
abbrev main_call1_v2 : Ref sig .tc := ⟨.hbm, 146, rfl⟩
abbrev main_call1_v3 : Ref sig .tc := ⟨.hbm, 147, rfl⟩
abbrev main_call1_cst_0 : Ref sig .tc := ⟨.hbm, 148, rfl⟩
abbrev main_call1_v4 : Ref sig .tc := ⟨.hbm, 149, rfl⟩
abbrev main_v112_2 : Ref sig .tc := ⟨.hbm, 150, rfl⟩
abbrev main_call1_cst_1 : Ref sig .tc := ⟨.hbm, 151, rfl⟩
abbrev main_call1_v6 : Ref sig .tc := ⟨.hbm, 152, rfl⟩
abbrev main_call1_v7 : Ref sig .tc := ⟨.hbm, 153, rfl⟩
abbrev main_v112_1 : Ref sig .tc := ⟨.hbm, 154, rfl⟩
abbrev main_v112_0 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_19 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_20 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_21 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_22 : Ref sig .tc := ⟨.hbm, 184, rfl⟩
abbrev main_v135 : Ref sig .tc := ⟨.hbm, 185, rfl⟩
abbrev main_v136 : Ref sig .tc := ⟨.hbm, 186, rfl⟩
abbrev main_call3_cst : Ref sig .tc := ⟨.hbm, 187, rfl⟩
abbrev main_call3_v0 : Ref sig .tc := ⟨.hbm, 188, rfl⟩
abbrev main_v137 : Ref sig .tc := ⟨.hbm, 189, rfl⟩
abbrev main_cst_23 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_24 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_25 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_26 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_cst_27 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩

abbrev nD : Nat := 1
abbrev τ : Topo := Topo.v7x

variable {F : FTy → Type} [FloatOps F]
-- ==== OutDy.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDyRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S4096x2048 : Shape := ⟨2, ![4096, 2048]⟩
abbrev S2048x1024 : Shape := ⟨2, ![2048, 1024]⟩
abbrev S4096x1024 : Shape := ⟨2, ![4096, 1024]⟩
abbrev S2048x2048 : Shape := ⟨2, ![2048, 2048]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDw.lean ====
abbrev S4096x1024 : Shape := ⟨2, ![4096, 1024]⟩
abbrev S1x1024 : Shape := ⟨2, ![1, 1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1024x5632 : Shape := ⟨2, ![1024, 5632]⟩
abbrev S4096x512 : Shape := ⟨2, ![4096, 512]⟩
abbrev S1024x512 : Shape := ⟨2, ![1024, 512]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x5632, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x4096, .f32⟩
  | .hbm, ⟨19, _⟩ => ⟨S1024x4096, .bf16⟩
  | .hbm, ⟨20, _⟩ => ⟨S1024x5632, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4096x1024 : Shape := ⟨2, ![4096, 1024]⟩
abbrev S1x1024 : Shape := ⟨2, ![1, 1024]⟩
abbrev S4096x5632 : Shape := ⟨2, ![4096, 5632]⟩
abbrev S_ : Shape := ⟨0, ![]⟩
abbrev S1024x5632 : Shape := ⟨2, ![1024, 5632]⟩
abbrev S4096 : Shape := ⟨1, ![4096]⟩
abbrev S4096x1 : Shape := ⟨2, ![4096, 1]⟩
abbrev S5632x1024 : Shape := ⟨2, ![5632, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x5632, .bf16⟩
  | .hbm, ⟨3, _⟩ => ⟨S_, .f32⟩
  | .hbm, ⟨4, _⟩ => ⟨S1024x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x5632, .f32⟩
  | .hbm, ⟨22, _⟩ => ⟨S5632x1024, .f32⟩
  | .hbm, ⟨23, _⟩ => ⟨S1024x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== ProjDx.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S1024x1408 : Shape := ⟨2, ![1024, 1408]⟩
abbrev S1024x1024 : Shape := ⟨2, ![1024, 1024]⟩
abbrev S8x1024 : Shape := ⟨2, ![8, 1024]⟩
abbrev S1024 : Shape := ⟨1, ![1024]⟩
abbrev S1024x1 : Shape := ⟨2, ![1024, 1]⟩
abbrev S128x8x1024 : Shape := ⟨3, ![128, 8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S8x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

def k0_cond4 (i : grid0.Coords) : BitVec 1 :=
  let arg0 : BitVec 32 := BitVec.ofNat 32 (i 0).val
  let c3_i32_12 : BitVec 32 := 3#32
  let v19 : BitVec 1 := Scalar.cmpi .eq arg0 c3_i32_12
  let arg1 : BitVec 32 := BitVec.ofNat 32 (i 1).val
  let c3_i32_13 : BitVec 32 := 3#32
  let v20 : BitVec 1 := Scalar.cmpi .eq arg1 c3_i32_13
  let v21 : BitVec 1 := Scalar.andi v19 v20
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ProjDxRefIdeal.lean ====
abbrev S4096x5632 : Shape := ⟨2, ![4096, 5632]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x5632, .f32⟩
  | .hbm, ⟨25, _⟩ => ⟨S4096x5632, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proj.lean ====
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S1024x4096 : Shape := ⟨2, ![1024, 4096]⟩
abbrev S2048x1024 : Shape := ⟨2, ![2048, 1024]⟩
abbrev S1024x512 : Shape := ⟨2, ![1024, 512]⟩
abbrev S2048x512 : Shape := ⟨2, ![2048, 512]⟩
abbrev S1024x2048 : Shape := ⟨2, ![1024, 2048]⟩
abbrev S2048 : Shape := ⟨1, ![2048]⟩
abbrev S2048x1 : Shape := ⟨2, ![2048, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x5632, .f32⟩
  | .hbm, ⟨4, _⟩ => ⟨S1024x4096, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S2048x512, .f32⟩
  | .local _ .vmem, ⟨6, _⟩ => ⟨S2048x512, .f32⟩
  | .local _ .vmem, ⟨7, _⟩ => ⟨S1024x2048, .bf16⟩
  | .local _ .vmem, ⟨8, _⟩ => ⟨S1024x2048, .bf16⟩
  | .local _ .vmem, ⟨9, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ProjRefIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024x4096 : Shape := ⟨2, ![1024, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x5632, .f32⟩
  | .hbm, ⟨19, _⟩ => ⟨S4096x5632, .f32⟩
  | .hbm, ⟨20, _⟩ => ⟨S1024x4096, .f32⟩
  | .hbm, ⟨21, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.ProjDx.lean ====
module

public import proofs.«01_k».proof.Proof.Gen.ProjDxIdeal.Value
public import proofs.«01_k».proof.Proof.Gen.ProjDxRefIdeal.Read
public import Idealize.ShloMosaic.Lib.Pointwise
public import Idealize.ShloMosaic.Lib.Tactic
public import Idealize.ShloMosaic.Lib.Pipeline.ValueKit.Acc

/-! # The gradient of the input projection's input, through the normalization

Four points in turn add their products of blocks in a scratch array, the gradient of the normalized rows. The fourth takes it through the
normalization's derivative, adds the gradient that passes the layer by, and adds its rows' part of the gradient of the norm's weight to a
second scratch array of eight rows; the last point adds these up. -/

@[expose] public section
noncomputable section
namespace Cert.ProjDxIdeal.Math
open Idealize.ShloMosaic Idealize.ShloMosaic.TcCoe Cert.ProjDxIdeal Cert.ProjDxIdeal.Gen Idealize.SL.Sem

theorem bits_width : Ideal.ofBits .f32 0x44800000#32 = ((1024 : ℝ) : EReal) := by
  simp [Ideal.ofBits, Ideal.ieee, -EReal.coe_mul]; norm_num

theorem bits_half : Ideal.ofBits .f32 0xBF000000#32 = ((-(1 / 2) : ℝ) : EReal) := by
  simp [Ideal.ofBits, Ideal.ieee, -EReal.coe_mul, -EReal.coe_neg]; norm_num

theorem bits_eps : ∃ e : ℝ, 0 < e ∧ Ideal.ofBits .f32 0x3727C5AC#32 = (e : EReal) := by
  refine ⟨_, ?_, by simp [Ideal.ofBits, Ideal.ieee, -EReal.coe_mul]; rfl⟩
  positivity

/-- A nonnegative real factor goes into a sum. -/
theorem scale {n : ℕ} (q : ℝ) (hq : 0 ≤ q) (f : Fin n → EReal) : (q : EReal) * ∑ k, f k = ∑ k, (q : EReal) * f k := by
  induction n with
  | zero => simp
  | succ n ih =>
    rw [Fin.sum_univ_succ, Fin.sum_univ_succ, ← ih, EReal.left_distrib_of_nonneg_of_ne_top (by exact_mod_cast hq) (EReal.coe_ne_top q)]

theorem sums {n : ℕ} (r : Fin n → ℝ) : ∑ k, (r k : EReal) = ((∑ k, r k : ℝ) : EReal) := by
  induction n with
  | zero => simp
  | succ n ih => rw [Fin.sum_univ_succ, Fin.sum_univ_succ, ih, EReal.coe_add]

theorem twice (z : EReal) : z + z = ((2 : ℝ) : EReal) * z := by
  have h := EReal.right_distrib_of_nonneg (a := 1) (b := 1) (c := z) zero_le_one zero_le_one
  rw [one_mul] at h
  rw [← h, ← EReal.coe_one, ← EReal.coe_add]
  norm_num

theorem square_nonneg (x : EReal) : 0 ≤ x * x := by
  induction x with
  | bot => simp
  | top => simp
  | coe r => exact_mod_cast mul_self_nonneg r

theorem square_top {x : EReal} (h : x = ⊤ ∨ x = ⊥) : x * x = ⊤ := by
  rcases h with rfl | rfl <;> simp

theorem div_width (x : EReal) : Ideal.div x ((1024 : ℝ) : EReal) = x * ((1 / 1024 : ℝ) : EReal) :=
  Ideal.div_coe (y := 1024) (by norm_num) x

/-- A row through the normalization's derivative: the kernel's form and the reference's agree, whatever the entries. -/
theorem row (e : ℝ) (he : 0 < e) (x g : Fin 1024 → EReal) (d : EReal) (j : Fin 1024) (A s : EReal)
    (hA : A = Ideal.div (∑ k, x k * x k) ((1024 : ℝ) : EReal) + (e : EReal)) (hs : s = Ideal.rsqrt A) (u v : EReal) (hu : x j = u) (hv : g j = v) :
    d + s * (v - u * s * Ideal.div (∑ k, g k * (x k * s)) ((1024 : ℝ) : EReal))
      = d + v * s + u * Ideal.div ((∑ k, x k * g k) * (((-(1 / 2) : ℝ) : EReal) * Ideal.div s A)) ((1024 : ℝ) : EReal)
        + Ideal.div ((∑ k, x k * g k) * (((-(1 / 2) : ℝ) : EReal) * Ideal.div s A)) ((1024 : ℝ) : EReal) * u := by
  subst hu hv
  by_cases hx : ∃ k, x k = ⊤ ∨ x k = ⊥
  · obtain ⟨k, hk⟩ := hx
    have h1 : ∑ k, x k * x k = ⊤ := by
      refine top_le_iff.mp ?_
      rw [← square_top hk]
      exact Finset.single_le_sum (f := fun k => x k * x k) (fun i _ => square_nonneg (x i)) (Finset.mem_univ k)
    have h2 : A = ⊤ := by
      rw [hA, h1, div_width, EReal.top_mul_coe_of_pos (by norm_num), EReal.top_add_coe]
    have h3 : s = 0 := by rw [hs, h2]; rfl
    have h4 : Ideal.div (0 : EReal) ⊤ = 0 := by
      unfold Ideal.div
      rw [if_neg (by simp), zero_mul]
    rw [h3, h2, h4]
    simp only [mul_zero, zero_mul, div_width, add_zero]
  · have hr : ∀ k, x k = ((x k).toReal : EReal) := fun k =>
      (EReal.coe_toReal (fun h => hx ⟨k, .inl h⟩) (fun h => hx ⟨k, .inr h⟩)).symm
    generalize (fun k => (x k).toReal) = r at hr
    obtain ⟨r, hr⟩ : ∃ r : Fin 1024 → ℝ, ∀ k, x k = (r k : EReal) := ⟨_, hr⟩
    obtain ⟨a, ha, hAa⟩ : ∃ a : ℝ, 0 < a ∧ A = (a : EReal) := by
      refine ⟨(∑ k, r k * r k) * (1 / 1024) + e, ?_, ?_⟩
      · have := Finset.sum_nonneg (s := Finset.univ) (fun k _ => mul_self_nonneg (r k))
        positivity
      · rw [hA, div_width, EReal.coe_add, EReal.coe_mul, ← sums]
        simp only [hr, EReal.coe_mul]
    obtain ⟨q, hq, hqa, hsq⟩ : ∃ q : ℝ, 0 < q ∧ q * q = 1 / a ∧ s = (q : EReal) := by
      refine ⟨(Real.sqrt a)⁻¹, inv_pos.mpr (Real.sqrt_pos.mpr ha), ?_, ?_⟩
      · rw [← mul_inv, Real.mul_self_sqrt ha.le, one_div]
      · rw [hs, hAa, Ideal.rsqrt_coe, if_neg (not_lt.mpr ha.le), if_neg ha.ne']
    have hT : ∑ k, g k * (x k * s) = (q : EReal) * ∑ k, x k * g k := by
      rw [scale q hq.le, hsq]
      exact Finset.sum_congr rfl fun k _ => by rw [mul_comm (g k), mul_comm (x k), mul_assoc]
    rw [hT]
    generalize ∑ k, x k * g k = T
    rw [hsq, hAa, hr j, Ideal.div_coe ha.ne', div_width, div_width, mul_comm _ (r j : EReal), add_assoc (d + g j * q), twice,
      sub_eq_add_neg, EReal.left_distrib_of_nonneg_of_ne_top (by exact_mod_cast hq.le) (EReal.coe_ne_top q), mul_comm (g j), add_assoc]
    congr 2
    have hl : (q : EReal) * -((r j : EReal) * q * ((q : EReal) * T * ((1 / 1024 : ℝ) : EReal))) = ((-(q * r j * q * q * (1 / 1024)) : ℝ) : EReal) * T := by
      rw [mul_neg, EReal.coe_neg, neg_mul]
      simp only [EReal.coe_mul]
      congr 1
      ac_rfl
    have hh : ((2 : ℝ) : EReal) * ((r j : EReal) * (T * (((-(1 / 2) : ℝ) : EReal) * ((q : EReal) * ((1 / a : ℝ) : EReal))) * ((1 / 1024 : ℝ) : EReal)))
        = ((2 * r j * (-(1 / 2)) * q * (1 / a) * (1 / 1024) : ℝ) : EReal) * T := by
      simp only [EReal.coe_mul]
      ac_rfl
    rw [hl, hh, ← hqa]
    congr 2
    ring

theorem split (a b N : ℕ) (hN : a * b = N) (f : ℕ → EReal) : ∑ i : Fin a, ∑ j : Fin b, f (i.val * b + j.val) = ∑ n : Fin N, f n.val := by
  subst hN
  exact Fin.sum_univ_univ_mul_add a b f

/-- The sums over the 128 groups of eight rows of each block, added up over the blocks and then over the eight, are the sum over all the rows. -/
theorem rows (f : ℕ → EReal) : ∑ r : Fin 8, ((((0 + ∑ a : Fin 128, f (0 * 1024 + (a.val * 8 + r.val))) + ∑ a : Fin 128, f (1 * 1024 + (a.val * 8 + r.val)))
    + ∑ a : Fin 128, f (2 * 1024 + (a.val * 8 + r.val))) + ∑ a : Fin 128, f (3 * 1024 + (a.val * 8 + r.val))) = ∑ n : Fin 4096, f n.val := by
  have h (q : ℕ) : ∑ r : Fin 8, ∑ a : Fin 128, f (q * 1024 + (a.val * 8 + r.val)) = ∑ n : Fin 1024, f (q * 1024 + n.val) := by
    rw [Finset.sum_comm]
    exact split 128 8 1024 (by norm_num) (fun n => f (q * 1024 + n))
  rw [← split 4 1024 4096 (by norm_num) f, Fin.sum_univ_four]
  simp only [zero_add, Finset.sum_add_distrib]
  rw [h 0, h 1, h 2, h 3]
  rfl
theorem zeros : (![0, 0] : Fin 2 → ℕ) = fun _ => 0 := by funext a; fin_cases a <;> rfl

section Cases
variable (c : Dev nD) (i : grid0.Coords) (a2 : Memref sig .tc .vmem S1024x1408 .bf16) (h2 : a2.IsWhole) (a3 : Memref sig .tc .vmem S1024x1408 .bf16) (h3 : a3.IsWhole) (a4 : Memref sig .tc .vmem S1024x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (a8 : Memref sig .tc .vmem S1x1024 .f32) (h8 : a8.IsWhole) (a9 : Memref sig .tc .vmem S1024x1024 .f32) (h9 : a9.IsWhole) (a10 : Memref sig .tc .vmem S8x1024 .f32) (h10 : a10.IsWhole)
variable (x0 x1 : Vec Ideal S1024x1408 .bf16) (x2 : Vec Ideal S1024x1024 .f32) (x3 : Vec Ideal S1x1024 .f32) (x4 s0 : Vec Ideal S1024x1024 .f32) (s1 : Vec Ideal S8x1024 .f32)

theorem soutA0 (c0 : cond0_0 i) (c1 : cond0_1 i) (c2 : ¬cond0_2 i) (c3 : ¬cond0_3 i) :
    sout0_A_0 c i a2 h2 a3 h3 a4 h4 a5 h5 a6 h6 a7 h7 a8 h8 a9 h9 a10 h10 c0 c1 c2 c3 x0 x1 x2 x3 x4 = k0_pay3 (k0_pay2 (F := Ideal)) x0 x1 := by
  unfold sout0_A_0
  rw [View.read_writes_eq_canon _ _ _ (scover0_A_0 c i a2 h2 a3 h3 a4 h4 a5 h5 a6 h6 a7 h7 a8 h8 a9 h9 a10 h10 c0 c1 c2 c3 x0 x1 x2 x3 x4)]
  unfold kernelRun0_A
  dsimp only
  sl_unfold_words
  rw [View.canon_cons_unit_zero (S := S1024x1024) zeros, View.readCov_unit_zero (S := S1024x1024) _ zeros]
  simp only [View.readAt_eq_ld, h2.read_unread, h3.read_unread, h4.read_unread, h5.read_unread, h6.read_unread, h9.read_unread, h10.read_unread, View.ld_unit_zero (S := S1024x1024) zeros, View.ld_unit_zero (S := S1024x1408) zeros, View.ld_unit_zero (S := S1x1024) zeros, View.ld_unit_zero (S := S8x1024) zeros]

theorem soutA1 (c0 : cond0_0 i) (c1 : cond0_1 i) (c2 : ¬cond0_2 i) (c3 : ¬cond0_3 i) :
    sout0_A_1 c i a2 h2 a3 h3 a4 h4 a5 h5 a6 h6 a7 h7 a8 h8 a9 h9 a10 h10 c0 c1 c2 c3 x0 x1 x2 x3 x4 = k0_pay1 (F := Ideal) := by
  unfold sout0_A_1
  rw [View.read_writes_eq_canon _ _ _ (scover0_A_1 c i a2 h2 a3 h3 a4 h4 a5 h5 a6 h6 a7 h7 a8 h8 a9 h9 a10 h10 c0 c1 c2 c3 x0 x1 x2 x3 x4)]
  unfold kernelRun0_A
  dsimp only
  sl_unfold_words
  rw [View.canon_unit_zero (S := S8x1024) zeros]

theorem soutB0 (c0 : ¬cond0_0 i) (c1 : ¬cond0_1 i) (c2 : ¬cond0_2 i) (c3 : ¬cond0_3 i) :
    sout0_B_0 c i a2 h2 a3 h3 a4 h4 a5 h5 a6 h6 a7 h7 a8 h8 a9 h9 a10 h10 c0 c1 c2 c3 x0 x1 x2 x3 x4 s0 s1 = k0_pay3 s0 x0 x1 := by
  unfold sout0_B_0
  rw [View.read_writes_eq_canon _ _ _ (scover0_B_0 c i a2 h2 a3 h3 a4 h4 a5 h5 a6 h6 a7 h7 a8 h8 a9 h9 a10 h10 c0 c1 c2 c3 x0 x1 x2 x3 x4 s0 s1)]
  unfold kernelRun0_B
  dsimp only
  sl_unfold_words
  rw [View.canon_unit_zero (S := S1024x1024) zeros]
  simp only [View.readAt_eq_ld, h2.read_unread, h3.read_unread, h4.read_unread, h5.read_unread, h6.read_unread, h9.read_unread, h10.read_unread, View.ld_unit_zero (S := S1024x1024) zeros, View.ld_unit_zero (S := S1024x1408) zeros, View.ld_unit_zero (S := S1x1024) zeros, View.ld_unit_zero (S := S8x1024) zeros]

theorem soutD0 (c0 : ¬cond0_0 i) (c1 : cond0_1 i) (c2 : ¬cond0_2 i) (c3 : ¬cond0_3 i) :
    sout0_D_0 c i a2 h2 a3 h3 a4 h4 a5 h5 a6 h6 a7 h7 a8 h8 a9 h9 a10 h10 c0 c1 c2 c3 x0 x1 x2 x3 x4 s1 = k0_pay3 (k0_pay2 (F := Ideal)) x0 x1 := by
  unfold sout0_D_0
  rw [View.read_writes_eq_canon _ _ _ (scover0_D_0 c i a2 h2 a3 h3 a4 h4 a5 h5 a6 h6 a7 h7 a8 h8 a9 h9 a10 h10 c0 c1 c2 c3 x0 x1 x2 x3 x4 s1)]
  unfold kernelRun0_D
  dsimp only
  sl_unfold_words
  rw [View.canon_cons_unit_zero (S := S1024x1024) zeros, View.readCov_unit_zero (S := S1024x1024) _ zeros]
  simp only [View.readAt_eq_ld, h2.read_unread, h3.read_unread, h4.read_unread, h5.read_unread, h6.read_unread, h9.read_unread, h10.read_unread, View.ld_unit_zero (S := S1024x1024) zeros, View.ld_unit_zero (S := S1024x1408) zeros, View.ld_unit_zero (S := S1x1024) zeros, View.ld_unit_zero (S := S8x1024) zeros]

theorem soutC1 (c0 : ¬cond0_0 i) (c1 : ¬cond0_1 i) (c2 : cond0_2 i) (c3 : ¬cond0_3 i) :
    sout0_C_1 c i a2 h2 a3 h3 a4 h4 a5 h5 a6 h6 a7 h7 a8 h8 a9 h9 a10 h10 c0 c1 c2 c3 x0 x1 x2 x3 x4 s0 s1 = k0_pay7 x2 (k0_pay3 s0 x0 x1) s1 := by
  unfold sout0_C_1
  rw [View.read_writes_eq_canon _ _ _ (scover0_C_1 c i a2 h2 a3 h3 a4 h4 a5 h5 a6 h6 a7 h7 a8 h8 a9 h9 a10 h10 c0 c1 c2 c3 x0 x1 x2 x3 x4 s0 s1)]
  unfold kernelRun0_C
  dsimp only
  sl_unfold_words
  rw [View.canon_unit_zero (S := S8x1024) zeros]
  simp only [View.readCov_unit_zero (S := S1024x1024) _ zeros, View.readCov_unit_zero (S := S8x1024) _ zeros]
  simp only [View.readAt_eq_ld, h2.read_unread, h3.read_unread, h4.read_unread, h5.read_unread, h6.read_unread, h9.read_unread, h10.read_unread, View.ld_unit_zero (S := S1024x1024) zeros, View.ld_unit_zero (S := S1024x1408) zeros, View.ld_unit_zero (S := S1x1024) zeros, View.ld_unit_zero (S := S8x1024) zeros]

theorem outC5 (c0 : ¬cond0_0 i) (c1 : ¬cond0_1 i) (c2 : cond0_2 i) (c3 : ¬cond0_3 i) :
    out0_C_5 c i a2 h2 a3 h3 a4 h4 a5 h5 a6 h6 a7 h7 a8 h8 a9 h9 a10 h10 c0 c1 c2 c3 x0 x1 x2 x3 x4 s0 s1 = k0_pay6 x2 (k0_pay3 s0 x0 x1) x3 x4 := by
  unfold out0_C_5
  rw [View.read_writes_eq_canon _ _ _ (cover0_C_5 c i a2 h2 a3 h3 a4 h4 a5 h5 a6 h6 a7 h7 a8 h8 a9 h9 a10 h10 c0 c1 c2 c3 x0 x1 x2 x3 x4 s0 s1)]
  unfold kernelRun0_C
  dsimp only
  sl_unfold_words
  rw [View.canon_unit_zero (S := S1024x1024) zeros]
  simp only [View.readCov_unit_zero (S := S1024x1024) _ zeros, View.readCov_unit_zero (S := S8x1024) _ zeros]
  simp only [View.readAt_eq_ld, h2.read_unread, h3.read_unread, h4.read_unread, h5.read_unread, h6.read_unread, h9.read_unread, h10.read_unread, View.ld_unit_zero (S := S1024x1024) zeros, View.ld_unit_zero (S := S1024x1408) zeros, View.ld_unit_zero (S := S1x1024) zeros, View.ld_unit_zero (S := S8x1024) zeros]

theorem outE5 (c0 : ¬cond0_0 i) (c1 : ¬cond0_1 i) (c2 : cond0_2 i) (c3 : cond0_3 i) :
    out0_E_5 c i a2 h2 a3 h3 a4 h4 a5 h5 a6 h6 a7 h7 a8 h8 a9 h9 a10 h10 c0 c1 c2 c3 x0 x1 x2 x3 x4 s0 s1 = k0_pay6 x2 (k0_pay3 s0 x0 x1) x3 x4 := by
  unfold out0_E_5
  rw [View.read_writes_eq_canon _ _ _ (cover0_E_5 c i a2 h2 a3 h3 a4 h4 a5 h5 a6 h6 a7 h7 a8 h8 a9 h9 a10 h10 c0 c1 c2 c3 x0 x1 x2 x3 x4 s0 s1)]
  unfold kernelRun0_E
  dsimp only
  sl_unfold_words
  rw [View.canon_unit_zero (S := S1024x1024) zeros]
  simp only [View.readCov_unit_zero (S := S1024x1024) _ zeros, View.readCov_unit_zero (S := S8x1024) _ zeros]
  simp only [View.readAt_eq_ld, h2.read_unread, h3.read_unread, h4.read_unread, h5.read_unread, h6.read_unread, h9.read_unread, h10.read_unread, View.ld_unit_zero (S := S1024x1024) zeros, View.ld_unit_zero (S := S1024x1408) zeros, View.ld_unit_zero (S := S1x1024) zeros, View.ld_unit_zero (S := S8x1024) zeros]

theorem outE6 (c0 : ¬cond0_0 i) (c1 : ¬cond0_1 i) (c2 : cond0_2 i) (c3 : cond0_3 i) :
    out0_E_6 c i a2 h2 a3 h3 a4 h4 a5 h5 a6 h6 a7 h7 a8 h8 a9 h9 a10 h10 c0 c1 c2 c3 x0 x1 x2 x3 x4 s0 s1 = k0_pay8 (k0_pay7 x2 (k0_pay3 s0 x0 x1) s1) := by
  unfold out0_E_6
  rw [View.read_writes_eq_canon _ _ _ (cover0_E_6 c i a2 h2 a3 h3 a4 h4 a5 h5 a6 h6 a7 h7 a8 h8 a9 h9 a10 h10 c0 c1 c2 c3 x0 x1 x2 x3 x4 s0 s1)]
  unfold kernelRun0_E
  dsimp only
  sl_unfold_words
  rw [View.canon_unit_zero (S := S1x1024) zeros]
  simp only [View.readCov_unit_zero (S := S1024x1024) _ zeros, View.readCov_unit_zero (S := S8x1024) _ zeros]
  simp only [View.readAt_eq_ld, h2.read_unread, h3.read_unread, h4.read_unread, h5.read_unread, h6.read_unread, h9.read_unread, h10.read_unread, View.ld_unit_zero (S := S1024x1024) zeros, View.ld_unit_zero (S := S1024x1408) zeros, View.ld_unit_zero (S := S1x1024) zeros, View.ld_unit_zero (S := S8x1024) zeros]

end Cases

/-- The reciprocal root mean square of a row of a block. -/
def root (x : Vec Ideal S1024x1024 .f32) (r : Fin 1024) : EReal :=
  Ideal.rsqrt (Ideal.div (∑ k : Fin 1024, x (ix2 r k) * x (ix2 r k)) (Ideal.ofBits .f32 0x44800000#32) + Ideal.ofBits .f32 0x3727C5AC#32)

theorem pay2 (y : S1024x1024.Idx) : k0_pay2 (F := Ideal) y = (0 : EReal) := by
  unfold k0_pay2
  rw [shapeCast_self]
  pointwise!

theorem pay1 (y : S8x1024.Idx) : k0_pay1 (F := Ideal) y = (0 : EReal) := by
  unfold k0_pay1
  rw [shapeCast_self]
  pointwise!

theorem pay3 (x : Vec Ideal S1024x1024 .f32) (x0 x1 : Vec Ideal S1024x1408 .bf16) (y : S1024x1024.Idx) :
    k0_pay3 (F := Ideal) x x0 x1 y = (x y + ∑ k : Fin 1408, x0 (ix2 (y 0) k) * x1 (ix2 (y 1) k) : EReal) := by
  unfold k0_pay3
  rw [shapeCast_self]
  pointwise!

theorem pay4 (x : Vec Ideal S1024x1024 .f32) (y : S1024x1.Idx) : k0_pay4 (F := Ideal) x y = root x (y 0) := by
  unfold k0_pay4 root
  pointwise!

theorem pay5 (x : Vec Ideal S1024x1024 .f32) (y : S1024x1024.Idx) : k0_pay5 (F := Ideal) x y = (x y * root x (y 0) : EReal) := by
  unfold k0_pay5
  generalize hr : k0_pay4 (F := Ideal) x = z
  have h : z (ix2 (y 0) 0) = root x (y 0) := by rw [← hr, pay4]; rfl
  rw [← h]
  pointwise!

theorem pay6 (x g : Vec Ideal S1024x1024 .f32) (w : Vec Ideal S1x1024 .f32) (d : Vec Ideal S1024x1024 .f32) (y : S1024x1024.Idx) :
    k0_pay6 (F := Ideal) x g w d y = (d y + root x (y 0) * (g y * w (ix2 0 (y 1)) - x y * root x (y 0)
      * Ideal.div (∑ k : Fin 1024, g (ix2 (y 0) k) * w (ix2 0 k) * (x (ix2 (y 0) k) * root x (y 0))) (Ideal.ofBits .f32 0x44800000#32)) : EReal) := by
  unfold k0_pay6
  have h5 := pay5 x
  have h4 := pay4 x
  generalize k0_pay5 (F := Ideal) x = z5 at h5 ⊢
  generalize k0_pay4 (F := Ideal) x = z4 at h4 ⊢
  have e4 : z4 (ix2 (y 0) 0) = root x (y 0) := h4 _
  have e5 (k : Fin 1024) : z5 (ix2 (y 0) k) = (x (ix2 (y 0) k) * root x (y 0) : EReal) := h5 _
  rw [← h5 y]
  pointwise!
  simp only [e5, e4]

theorem pay7 (x g : Vec Ideal S1024x1024 .f32) (w : Vec Ideal S8x1024 .f32) (y : S8x1024.Idx) :
    k0_pay7 (F := Ideal) x g w y = (w y + ∑ a : Fin 128, g (ix2 (⟨a.val * 8 + (y 0).val, by have := (y 0).isLt; show _ < 1024; have h : (y 0).val < 8 := this; omega⟩ : Fin 1024) (y 1))
      * k0_pay5 (F := Ideal) x (ix2 (⟨a.val * 8 + (y 0).val, by have := (y 0).isLt; show _ < 1024; have h : (y 0).val < 8 := this; omega⟩ : Fin 1024) (y 1)) : EReal) := by
  unfold k0_pay7
  generalize k0_pay5 (F := Ideal) x = z5
  rw [shapeCast_self]
  pointwise!

theorem pay8 (w : Vec Ideal S8x1024 .f32) (y : S1x1024.Idx) : k0_pay8 (F := Ideal) w y = (∑ r : Fin 8, w (ix2 r (y 1)) : EReal) := by
  unfold k0_pay8
  pointwise!

variable (m : (ℓ : Loc nD τ sig) → Buf (Elt Ideal) ℓ)

abbrev A0 (c : Dev nD) : Vec Ideal S4096x5632 .bf16 := V m c main_arg0
abbrev A1 (c : Dev nD) : Vec Ideal S1024x5632 .bf16 := V m c main_arg1
abbrev A2 (c : Dev nD) : Vec Ideal S4096x1024 .f32 := V m c main_arg2
abbrev A3 (c : Dev nD) : Vec Ideal S1x1024 .f32 := V m c main_arg3
abbrev A4 (c : Dev nD) : Vec Ideal S4096x1024 .f32 := V m c main_arg4

/-- The gradient of the normalized input. -/
def grad (c : Dev nD) : Vec Ideal S4096x1024 .f32 := fun i =>
  (∑ k : Fin 5632, A0 m c (ix2 (i 0) k) * A1 m c (ix2 (i 1) k) : EReal)

/-- The reciprocal root mean square of a row of the input. -/
def rootOf (c : Dev nD) (r : Fin 4096) : EReal :=
  Ideal.rsqrt (Ideal.div (∑ k : Fin 1024, A2 m c (ix2 r k) * A2 m c (ix2 r k)) (Ideal.ofBits .f32 0x44800000#32) + Ideal.ofBits .f32 0x3727C5AC#32)

/-- The first result. -/
def first (c : Dev nD) : Vec Ideal S4096x1024 .f32 := fun i =>
  (A4 m c i + rootOf m c (i 0) * (grad m c i * A3 m c (ix2 0 (i 1)) - A2 m c i * rootOf m c (i 0)
    * Ideal.div (∑ k : Fin 1024, grad m c (ix2 (i 0) k) * A3 m c (ix2 0 k) * (A2 m c (ix2 (i 0) k) * rootOf m c (i 0))) (Ideal.ofBits .f32 0x44800000#32)) : EReal)

/-- One row's part of the second result. -/
def share (c : Dev nD) (b : Fin 1024) (n : ℕ) : EReal :=
  if h : n < 4096 then grad m c (ix2 (⟨n, h⟩ : Fin 4096) b) * (A2 m c (ix2 (⟨n, h⟩ : Fin 4096) b) * rootOf m c ⟨n, h⟩) else 0

/-- The second result. -/
def second (c : Dev nD) : Vec Ideal S1x1024 .f32 := fun i => (∑ n : Fin 4096, share m c (i 1) n.val : EReal)

/-- A sum over the 5632 columns, by the four blocks of 1408. -/
theorem four (f : Fin 5632 → EReal) : ∑ k, f k = (0 : EReal) + (∑ k : Fin 1408, f ⟨0 * 1408 + k.val, by omega⟩) + (∑ k : Fin 1408, f ⟨1 * 1408 + k.val, by omega⟩)
    + (∑ k : Fin 1408, f ⟨2 * 1408 + k.val, by omega⟩) + ∑ k : Fin 1408, f ⟨3 * 1408 + k.val, by omega⟩ := by
  have e := split 4 1408 5632 (by norm_num) (fun n => if h : n < 5632 then f ⟨n, h⟩ else 0)
  rw [Fin.sum_univ_four] at e
  rw [zero_add]
  refine (Finset.sum_congr rfl fun k _ => ?_).trans (e.symm.trans ?_)
  · rw [dif_pos k.isLt]
  · refine congrArg₂ (fun a b : EReal => a + b) (congrArg₂ (fun a b : EReal => a + b) (congrArg₂ (fun a b : EReal => a + b) ?_ ?_) ?_) ?_ <;>
    · refine Finset.sum_congr rfl fun k _ => ?_
      rw [dif_pos]
      rfl

abbrev Places (t : Fin cfg0.N) : Prop :=
  (win0_0.index t 0 = t.val / 4 ∧ win0_0.index t 1 = t.val % 4) ∧ (win0_1.index t 0 = 0 ∧ win0_1.index t 1 = t.val % 4) ∧ (win0_2.index t 0 = t.val / 4 ∧ win0_2.index t 1 = 0)
    ∧ (win0_3.index t 0 = 0 ∧ win0_3.index t 1 = 0) ∧ (win0_4.index t 0 = t.val / 4 ∧ win0_4.index t 1 = 0) ∧ (win0_5.index t 0 = t.val / 4 ∧ win0_5.index t 1 = 0)
    ∧ (win0_6.index t 0 = 0 ∧ win0_6.index t 1 = 0)

theorem idx : ∀ t : Fin cfg0.N, Places t := (by decide +kernel : ∀ t : Fin grid0.N, Places t)

theorem read0 (c : Dev nD) (t : Fin cfg0.N) (a : Fin 1024) (b : Fin 1408) (i : S4096x5632.Idx)
    (h0 : (i 0).val = t.val / 4 * 1024 + a.val) (h1 : (i 1).val = t.val % 4 * 1408 + b.val) :
    (iblk m c 0 t : Vec Ideal S1024x1408 .bf16) (ix2 a b) = A0 m c i := by
  unfold iblk
  rw [View.read_apply]
  show A0 m c _ = _
  congr 1; funext d; apply Fin.ext
  match d with
  | ⟨0, _⟩ => show win0_0.index t 0 * 1024 + 1 * a.val = (i 0).val; rw [(idx t).1.1, h0]; omega
  | ⟨1, _⟩ => show win0_0.index t 1 * 1408 + 1 * b.val = (i 1).val; rw [(idx t).1.2, h1]; omega

theorem read1 (c : Dev nD) (t : Fin cfg0.N) (a : Fin 1024) (b : Fin 1408) (i : S1024x5632.Idx)
    (h0 : (i 0).val = 0 * 1024 + a.val) (h1 : (i 1).val = t.val % 4 * 1408 + b.val) :
    (iblk m c 1 t : Vec Ideal S1024x1408 .bf16) (ix2 a b) = A1 m c i := by
  unfold iblk
  rw [View.read_apply]
  show A1 m c _ = _
  congr 1; funext d; apply Fin.ext
  match d with
  | ⟨0, _⟩ => show win0_1.index t 0 * 1024 + 1 * a.val = (i 0).val; rw [(idx t).2.1.1, h0]; omega
  | ⟨1, _⟩ => show win0_1.index t 1 * 1408 + 1 * b.val = (i 1).val; rw [(idx t).2.1.2, h1]; omega

theorem read2 (c : Dev nD) (t : Fin cfg0.N) (y : S1024x1024.Idx) (i : S4096x1024.Idx)
    (h0 : (i 0).val = t.val / 4 * 1024 + (y 0).val) (h1 : (i 1).val = (y 1).val) :
    (iblk m c 2 t : Vec Ideal S1024x1024 .f32) y = A2 m c i := by
  unfold iblk
  rw [View.read_apply]
  show A2 m c _ = _
  congr 1; funext d; apply Fin.ext
  match d with
  | ⟨0, _⟩ => show win0_2.index t 0 * 1024 + 1 * (y 0).val = (i 0).val; rw [(idx t).2.2.1.1, h0]; omega
  | ⟨1, _⟩ => show win0_2.index t 1 * 1024 + 1 * (y 1).val = (i 1).val; rw [(idx t).2.2.1.2, h1]; omega

theorem read3 (c : Dev nD) (t : Fin cfg0.N) (y i : S1x1024.Idx) (h1 : (i 1).val = (y 1).val) :
    (iblk m c 3 t : Vec Ideal S1x1024 .f32) y = A3 m c i := by
  have h0 : (i 0).val < 1 := (i 0).isLt
  have h2 : (y 0).val < 1 := (y 0).isLt
  unfold iblk
  rw [View.read_apply]
  show A3 m c _ = _
  congr 1; funext d; apply Fin.ext
  match d with
  | ⟨0, _⟩ => show win0_3.index t 0 * 1 + 1 * (y 0).val = (i 0).val; rw [(idx t).2.2.2.1.1]; omega
  | ⟨1, _⟩ => show win0_3.index t 1 * 1024 + 1 * (y 1).val = (i 1).val; rw [(idx t).2.2.2.1.2, h1]; omega

theorem read4 (c : Dev nD) (t : Fin cfg0.N) (y : S1024x1024.Idx) (i : S4096x1024.Idx)
    (h0 : (i 0).val = t.val / 4 * 1024 + (y 0).val) (h1 : (i 1).val = (y 1).val) :
    (iblk m c 4 t : Vec Ideal S1024x1024 .f32) y = A4 m c i := by
  unfold iblk
  rw [View.read_apply]
  show A4 m c _ = _
  congr 1; funext d; apply Fin.ext
  match d with
  | ⟨0, _⟩ => show win0_4.index t 0 * 1024 + 1 * (y 0).val = (i 0).val; rw [(idx t).2.2.2.2.1.1, h0]; omega
  | ⟨1, _⟩ => show win0_4.index t 1 * 1024 + 1 * (y 1).val = (i 1).val; rw [(idx t).2.2.2.2.1.2, h1]; omega

abbrev B0 (c : Dev nD) (t : Fin cfg0.N) : Vec Ideal S1024x1408 .bf16 := iblk m c 0 t
abbrev B1 (c : Dev nD) (t : Fin cfg0.N) : Vec Ideal S1024x1408 .bf16 := iblk m c 1 t
abbrev B2 (c : Dev nD) (t : Fin cfg0.N) : Vec Ideal S1024x1024 .f32 := iblk m c 2 t
abbrev B3 (c : Dev nD) (t : Fin cfg0.N) : Vec Ideal S1x1024 .f32 := iblk m c 3 t
abbrev B4 (c : Dev nD) (t : Fin cfg0.N) : Vec Ideal S1024x1024 .f32 := iblk m c 4 t

/-- What the scratch arrays hold after a point. -/
def acc (c : Dev nD) (n : ℕ) (h : n < cfg0.N) : Vec Ideal S1024x1024 .f32 := (outsAt0 m c n h).2.2.1
def wac (c : Dev nD) (n : ℕ) (h : n < cfg0.N) : Vec Ideal S8x1024 .f32 := (outsAt0 m c n h).2.2.2

theorem accA (c : Dev nD) (n : ℕ) (h : n < cfg0.N) (h1 : n % 4 = 0) :
    acc m c n h = k0_pay3 (k0_pay2 (F := Ideal)) (B0 m c ⟨n, h⟩) (B1 m c ⟨n, h⟩) := by
  by_cases h0 : n % 16 = 0
  · have e := congrArg (fun p => p.2.2.1) (outsAt0_A m c ⟨n, h⟩ h0 h1 (by dsimp only; omega) (by dsimp only; omega))
    dsimp only at e
    rw [soutA0] at e
    exact e
  · have e := congrArg (fun p => p.2.2.1) (outsAt0_D m c ⟨n, h⟩ h0 h1 (by dsimp only; omega) (by dsimp only; omega))
    dsimp only at e
    rw [soutD0] at e
    exact e

theorem accB (c : Dev nD) (n : ℕ) (h : n + 1 < cfg0.N) (h1 : ¬(n + 1) % 4 = 0) (h2 : ¬(n + 1) % 4 = 3) :
    acc m c (n + 1) h = k0_pay3 (acc m c n (Nat.lt_of_succ_lt h)) (B0 m c ⟨n + 1, h⟩) (B1 m c ⟨n + 1, h⟩) := by
  have e := congrArg (fun p => p.2.2.1) (outsAt0_B m c ⟨n + 1, h⟩ (by dsimp only; omega) h1 h2 (by dsimp only; omega))
  dsimp only at e
  rw [soutB0] at e
  exact e

/-- The gradient's block, complete at the fourth point. -/
def done (c : Dev nD) (n : ℕ) (h : n + 1 < cfg0.N) : Vec Ideal S1024x1024 .f32 :=
  k0_pay3 (acc m c n (Nat.lt_of_succ_lt h)) (B0 m c ⟨n + 1, h⟩) (B1 m c ⟨n + 1, h⟩)

theorem out5 (c : Dev nD) (n : ℕ) (h : n + 1 < cfg0.N) (h2 : (n + 1) % 4 = 3) :
    (outsAt0 m c (n + 1) h).1 = k0_pay6 (B2 m c ⟨n + 1, h⟩) (done m c n h) (B3 m c ⟨n + 1, h⟩) (B4 m c ⟨n + 1, h⟩) := by
  by_cases h3 : (n + 1) % 16 = 15
  · have e := congrArg Prod.fst (outsAt0_E m c ⟨n + 1, h⟩ (by dsimp only; omega) (by dsimp only; omega) h2 h3)
    dsimp only at e
    rw [outE5] at e
    exact e
  · have e := congrArg Prod.fst (outsAt0_C m c ⟨n + 1, h⟩ (by dsimp only; omega) (by dsimp only; omega) h2 h3)
    dsimp only at e
    rw [outC5] at e
    exact e

theorem out6 (c : Dev nD) (n : ℕ) (h : n + 1 < cfg0.N) (h3 : (n + 1) % 16 = 15) :
    (outsAt0 m c (n + 1) h).2.1 = k0_pay8 (k0_pay7 (B2 m c ⟨n + 1, h⟩) (done m c n h) (wac m c n (Nat.lt_of_succ_lt h))) := by
  have e := congrArg (fun p => p.2.1) (outsAt0_E m c ⟨n + 1, h⟩ (by dsimp only; omega) (by dsimp only; omega) (by dsimp only; omega) h3)
  dsimp only at e
  rw [outE6] at e
  exact e

theorem wacA (c : Dev nD) (n : ℕ) (h : n < cfg0.N) (h0 : n % 16 = 0) : wac m c n h = k0_pay1 (F := Ideal) := by
  have e := congrArg (fun p => p.2.2.2) (outsAt0_A m c ⟨n, h⟩ h0 (by dsimp only; omega) (by dsimp only; omega) (by dsimp only; omega))
  dsimp only at e
  rw [soutA1] at e
  exact e

theorem wacB (c : Dev nD) (n : ℕ) (h : n + 1 < cfg0.N) (h0 : ¬(n + 1) % 16 = 0) (h2 : ¬(n + 1) % 4 = 3) :
    wac m c (n + 1) h = wac m c n (Nat.lt_of_succ_lt h) := by
  by_cases h1 : (n + 1) % 4 = 0
  · exact congrArg (fun p => p.2.2.2) (outsAt0_D m c ⟨n + 1, h⟩ h0 h1 h2 (by dsimp only; omega))
  · exact congrArg (fun p => p.2.2.2) (outsAt0_B m c ⟨n + 1, h⟩ h0 h1 h2 (by dsimp only; omega))

theorem wacC (c : Dev nD) (n : ℕ) (h : n + 1 < cfg0.N) (h2 : (n + 1) % 4 = 3) (h3 : ¬(n + 1) % 16 = 15) :
    wac m c (n + 1) h = k0_pay7 (B2 m c ⟨n + 1, h⟩) (done m c n h) (wac m c n (Nat.lt_of_succ_lt h)) := by
  have e := congrArg (fun p => p.2.2.2) (outsAt0_C m c ⟨n + 1, h⟩ (by dsimp only; omega) (by dsimp only; omega) h2 h3)
  dsimp only at e
  rw [soutC1] at e
  exact e

/-- One point's product. -/
theorem part (c : Dev nD) (t : Fin cfg0.N) (q s : ℕ) (hq : t.val / 4 = q) (hs : t.val % 4 = s) (y : S1024x1024.Idx) (i : S4096x1024.Idx)
    (h0 : (i 0).val = q * 1024 + (y 0).val) (h1 : (i 1).val = (y 1).val) (hb : s < 4) :
    (∑ k : Fin 1408, B0 m c t (ix2 (y 0) k) * B1 m c t (ix2 (y 1) k) : EReal)
      = ∑ k : Fin 1408, A0 m c (ix2 (i 0) (⟨s * 1408 + k.val, by omega⟩ : Fin 5632)) * A1 m c (ix2 (i 1) (⟨s * 1408 + k.val, by omega⟩ : Fin 5632)) := by
  subst hq hs
  refine Finset.sum_congr rfl fun k _ => ?_
  exact congrArg₂ (fun a b : EReal => a * b) (read0 m c t (y 0) k (ix2 (i 0) (⟨t.val % 4 * 1408 + k.val, by omega⟩ : Fin 5632)) h0 rfl)
    (read1 m c t (y 1) k (ix2 (i 1) (⟨t.val % 4 * 1408 + k.val, by omega⟩ : Fin 5632)) (by show (i 1).val = _; omega) rfl)

theorem full (c : Dev nD) (q : ℕ) (h : 4 * q + 2 + 1 < cfg0.N) (y : S1024x1024.Idx) (i : S4096x1024.Idx)
    (h0 : (i 0).val = q * 1024 + (y 0).val) (h1 : (i 1).val = (y 1).val) : done m c (4 * q + 2) h y = grad m c i := by
  unfold done grad
  rw [pay3, accB m c (4 * q + 1) (Nat.lt_of_succ_lt h) (by omega) (by omega), pay3,
    accB m c (4 * q) (Nat.lt_of_succ_lt (Nat.lt_of_succ_lt h)) (by omega) (by omega), pay3,
    accA m c (4 * q) (Nat.lt_of_succ_lt (Nat.lt_of_succ_lt (Nat.lt_of_succ_lt h))) (by omega), pay3, pay2]
  refine Eq.trans ?_ (four fun k => (A0 m c (ix2 (i 0) k) * A1 m c (ix2 (i 1) k) : EReal)).symm
  rw [part m c ⟨4 * q, Nat.lt_of_succ_lt (Nat.lt_of_succ_lt (Nat.lt_of_succ_lt h))⟩ q 0 (by dsimp only; omega) (by dsimp only; omega) y i h0 h1 (by decide),
    part m c ⟨4 * q + 1, Nat.lt_of_succ_lt (Nat.lt_of_succ_lt h)⟩ q 1 (by dsimp only; omega) (by dsimp only; omega) y i h0 h1 (by decide),
    part m c ⟨4 * q + 1 + 1, Nat.lt_of_succ_lt h⟩ q 2 (by dsimp only; omega) (by dsimp only; omega) y i h0 h1 (by decide),
    part m c ⟨4 * q + 2 + 1, h⟩ q 3 (by dsimp only; omega) (by dsimp only; omega) y i h0 h1 (by decide)]

theorem rootAt (c : Dev nD) (t : Fin cfg0.N) (q : ℕ) (hq : t.val / 4 = q) (a : Fin 1024) (r : Fin 4096) (h0 : r.val = q * 1024 + a.val) :
    root (B2 m c t) a = rootOf m c r := by
  subst hq
  unfold root rootOf
  have h (k : Fin 1024) : B2 m c t (ix2 a k) = A2 m c (ix2 r k) := read2 m c t (ix2 a k) (ix2 r k) h0 rfl
  simp only [h]

/-- The eight sums take up one block of rows. -/
theorem turn (c : Dev nD) (q : ℕ) (h : 4 * q + 2 + 1 < cfg0.N) (hq : q < 4) (w : Vec Ideal S8x1024 .f32) (y : S8x1024.Idx) :
    k0_pay7 (F := Ideal) (B2 m c ⟨4 * q + 2 + 1, h⟩) (done m c (4 * q + 2) h) w y
      = (w y + ∑ a : Fin 128, share m c (y 1) (q * 1024 + (a.val * 8 + (y 0).val)) : EReal) := by
  have hy : (y 0).val < 8 := (y 0).isLt
  rw [pay7]
  refine congrArg (fun z : EReal => w y + z) (Finset.sum_congr rfl fun a _ => ?_)
  have ha := a.isLt
  unfold share
  rw [dif_pos (by omega : q * 1024 + (a.val * 8 + (y 0).val) < 4096), pay5]
  have hd : (4 * q + 2 + 1) / 4 = q := by omega
  refine congrArg₂ (fun u v : EReal => u * v) (full m c q h _ _ rfl rfl) (congrArg₂ (fun u v : EReal => u * v) (read2 m c _ _ _ ?_ rfl) (rootAt m c _ q hd _ _ rfl))
  dsimp only
  rw [hd]
  rfl

theorem cut5 (t : Fin cfg0.N) (f : Vec Ideal S1024x1024 .f32) (y : ((cfg0.win 5).xblock (grid0.coords t)).Idx) (h0 : (y 0).val < 1024) (h1 : (y 1).val < 1024) :
    (cfg0.win 5).cut (grid0.coords t) f y = f (ix2 ⟨(y 0).val, h0⟩ ⟨(y 1).val, h1⟩) := by
  show f _ = f _
  congr 1; funext a; apply Fin.ext
  match a with
  | ⟨0, _⟩ => rfl
  | ⟨1, _⟩ => rfl

theorem placed5 (t : Fin cfg0.N) (y : ((cfg0.win 5).xblock (grid0.coords t)).Idx) (i : S4096x1024.Idx) (hi : i = ((cfg0.win 5).blk t).view.emb y) :
    (i 0).val = t.val / 4 * 1024 + (y 0).val ∧ (i 1).val = (y 1).val := by
  subst hi
  constructor
  · show win0_5.index t 0 * 1024 + 1 * (y 0).val = _; rw [(idx t).2.2.2.2.2.1.1]; omega
  · show win0_5.index t 1 * 1024 + 1 * (y 1).val = _; rw [(idx t).2.2.2.2.2.1.2]; omega

theorem written5 (c : Dev nD) (t : Fin cfg0.N) (hf : (cfg0.win 5).flush t = true) :
    (dats m 0 c).flushed 5 t = ((cfg0.win 5).blk t).view.read (Elt Ideal) (first m c) := by
  have hm : t.val % 4 = 3 := (flush0_5 t).mp hf
  rw [Value.flushed5]
  funext y
  have y0 : (y 0).val < 1024 := (y 0).isLt
  have y1 : (y 1).val < 1024 := (y 1).isLt
  obtain ⟨i, hi⟩ : ∃ i : S4096x1024.Idx, i = ((cfg0.win 5).blk t).view.emb y := ⟨_, rfl⟩
  have hp := placed5 t y i hi
  rw [View.read_apply, cut5 t _ y y0 y1]
  refine Eq.trans ?_ (congrArg (first m c) hi)
  generalize hz : (ix2 ⟨(y 0).val, y0⟩ ⟨(y 1).val, y1⟩ : S1024x1024.Idx) = z
  have z0 : (z 0).val = (y 0).val := by rw [← hz]; rfl
  have z1 : (z 1).val = (y 1).val := by rw [← hz]; rfl
  obtain ⟨t, ht⟩ := t
  obtain ⟨q, rfl⟩ : ∃ q, t = 4 * q + 2 + 1 := ⟨t / 4, by dsimp only at hm; omega⟩
  dsimp only at hp hm ⊢
  have hd : (4 * q + 2 + 1) / 4 = q := by omega
  have i0 : (i 0).val = q * 1024 + (z 0).val := by rw [hp.1, hd, z0]
  have i0' : (i 0).val = (4 * q + 2 + 1) / 4 * 1024 + (z 0).val := by rw [hd]; exact i0
  have i1 : (i 1).val = (z 1).val := by rw [hp.2, z1]
  rw [out5 m c (4 * q + 2) ht hm, pay6, rootAt m c ⟨4 * q + 2 + 1, ht⟩ q hd (z 0) (i 0) i0, full m c q ht z i i0 i1]
  unfold first
  have e2 : B2 m c ⟨4 * q + 2 + 1, ht⟩ z = A2 m c i := read2 m c _ z i i0' i1
  have e3 : B3 m c ⟨4 * q + 2 + 1, ht⟩ (ix2 0 (z 1)) = A3 m c (ix2 0 (i 1)) := read3 m c _ (ix2 0 (z 1)) (ix2 0 (i 1)) i1
  have e4 : B4 m c ⟨4 * q + 2 + 1, ht⟩ z = A4 m c i := read4 m c _ z i i0' i1
  have f2 (k : Fin 1024) : B2 m c ⟨4 * q + 2 + 1, ht⟩ (ix2 (z 0) k) = A2 m c (ix2 (i 0) k) := read2 m c _ (ix2 (z 0) k) (ix2 (i 0) k) i0' rfl
  have f3 (k : Fin 1024) : B3 m c ⟨4 * q + 2 + 1, ht⟩ (ix2 0 k) = A3 m c (ix2 0 k) := read3 m c _ (ix2 0 k) (ix2 0 k) rfl
  have fd (k : Fin 1024) : done m c (4 * q + 2) ht (ix2 (z 0) k) = grad m c (ix2 (i 0) k) := full m c q ht (ix2 (z 0) k) (ix2 (i 0) k) i0 rfl
  simp only [e2, e3, e4, f2, f3, fd]

theorem final5 (c : Dev nD) : (dats m 0 c).arrAt 5 cfg0.N = first m c :=
  (dats m 0 c).arrAt_eq_of_cover 5 (first m c) (fun t hf => written5 m c t hf) fun i => (Value.covered_iff5 i).2 (by
    have h0 : (i 0).val < 4096 := (i 0).isLt
    have h1 : (i 1).val < 1024 := (i 1).isLt
    omega)

/-- Three points that leave the eight sums as they were. -/
theorem kept (c : Dev nD) (n : ℕ) (h : n + 1 + 1 + 1 < cfg0.N) (h0 : n % 4 = 3) (h1 : ¬n % 16 = 15) :
    wac m c (n + 1 + 1 + 1) h = wac m c n (Nat.lt_of_succ_lt (Nat.lt_of_succ_lt (Nat.lt_of_succ_lt h))) := by
  rw [wacB m c (n + 1 + 1) h (by omega) (by omega), wacB m c (n + 1) _ (by omega) (by omega), wacB m c n _ (by omega) (by omega)]

theorem sums8 (c : Dev nD) (h : 15 < cfg0.N) (y : S1x1024.Idx) : (outsAt0 m c 15 h).2.1 y = second m c y := by
  have e0 (z : S8x1024.Idx) : wac m c 2 (by omega) z = (0 : EReal) := by
    rw [wacB m c 1 (by omega) (by omega) (by omega), wacB m c 0 (by omega) (by omega) (by omega), wacA m c 0 (by omega) (by omega), pay1]
  have e1 (z : S8x1024.Idx) := (congrFun (wacC m c 2 (by omega) (by omega) (by omega)) z).trans (turn m c 0 (by omega) (by omega) (wac m c 2 (by omega)) z)
  have e2 (z : S8x1024.Idx) := (congrFun (wacC m c 6 (by omega) (by omega) (by omega)) z).trans (turn m c 1 (by omega) (by omega) (wac m c 6 (by omega)) z)
  have e3 (z : S8x1024.Idx) := (congrFun (wacC m c 10 (by omega) (by omega) (by omega)) z).trans (turn m c 2 (by omega) (by omega) (wac m c 10 (by omega)) z)
  have e4 (z : S8x1024.Idx) := turn m c 3 h (by omega) (wac m c 14 (by omega)) z
  have k2 : wac m c 6 (by omega) = wac m c 3 (by omega) := kept m c 3 (by omega) (by omega) (by omega)
  have k3 : wac m c 10 (by omega) = wac m c 7 (by omega) := kept m c 7 (by omega) (by omega) (by omega)
  have k4 : wac m c 14 (by omega) = wac m c 11 (by omega) := kept m c 11 (by omega) (by omega) (by omega)
  rw [out6 m c 14 h (by omega), pay8]
  unfold second
  rw [← rows (share m c (y 1))]
  refine Finset.sum_congr rfl fun r _ => ?_
  refine (e4 (ix2 r (y 1))).trans ?_
  rw [k4, e3, k3, e2, k2, e1, e0]
  rfl

theorem cut6 (t : Fin cfg0.N) (f : Vec Ideal S1x1024 .f32) (y : ((cfg0.win 6).xblock (grid0.coords t)).Idx) (h0 : (y 0).val < 1) (h1 : (y 1).val < 1024) :
    (cfg0.win 6).cut (grid0.coords t) f y = f (ix2 ⟨(y 0).val, h0⟩ ⟨(y 1).val, h1⟩) := by
  show f _ = f _
  congr 1; funext a; apply Fin.ext
  match a with
  | ⟨0, _⟩ => rfl
  | ⟨1, _⟩ => rfl

theorem placed6 (t : Fin cfg0.N) (y : ((cfg0.win 6).xblock (grid0.coords t)).Idx) (i : S1x1024.Idx) (hi : i = ((cfg0.win 6).blk t).view.emb y) :
    (i 1).val = (y 1).val := by
  subst hi
  show win0_6.index t 1 * 1024 + 1 * (y 1).val = _; rw [(idx t).2.2.2.2.2.2.2]; omega

theorem written6 (c : Dev nD) (t : Fin cfg0.N) (hf : (cfg0.win 6).flush t = true) :
    (dats m 0 c).flushed 6 t = ((cfg0.win 6).blk t).view.read (Elt Ideal) (second m c) := by
  have hm : t.val % 16 = 15 := (flush0_6 t).mp hf
  have hN : t.val < 16 := lt_of_lt_of_eq t.isLt N_0
  rw [Value.flushed6]
  funext y
  have y0 : (y 0).val < 1 := (y 0).isLt
  have y1 : (y 1).val < 1024 := (y 1).isLt
  obtain ⟨i, hi⟩ : ∃ i : S1x1024.Idx, i = ((cfg0.win 6).blk t).view.emb y := ⟨_, rfl⟩
  have hp := placed6 t y i hi
  rw [View.read_apply, cut6 t _ y y0 y1]
  refine Eq.trans ?_ (congrArg (second m c) hi)
  obtain ⟨t, ht⟩ := t
  obtain rfl : t = 15 := by dsimp only at hm hN; omega
  dsimp only
  rw [sums8]
  unfold second
  have e : (ix2 ⟨(y 0).val, y0⟩ ⟨(y 1).val, y1⟩ : S1x1024.Idx) 1 = i 1 := Fin.ext hp.symm
  rw [e]

theorem final6 (c : Dev nD) : (dats m 0 c).arrAt 6 cfg0.N = second m c :=
  (dats m 0 c).arrAt_eq_of_cover 6 (second m c) (fun t hf => written6 m c t hf) fun i => (Value.covered_iff6 i).2 (by
    have h0 : (i 0).val < 1 := (i 0).isLt
    have h1 : (i 1).val < 1024 := (i 1).isLt
    omega)

/-! ## The reference's two results -/

section Reference
open Cert.ProjDxRefIdeal.Read
variable (x0 : Vec Ideal S4096x5632 .bf16) (x1 : Vec Ideal S1024x5632 .bf16) (x2 : Vec Ideal S4096x1024 .f32) (x3 : Vec Ideal S1x1024 .f32) (x4 : Vec Ideal S4096x1024 .f32)

/-- The reference's mean square of a row, with the small constant. -/
def mean (r : Fin 4096) : EReal :=
  Ideal.div (∑ k : Fin 1024, x2 (ix2 r k) * x2 (ix2 r k)) (Ideal.ofBits .f32 0x44800000#32) + Ideal.ofBits .f32 0x3727C5AC#32

theorem ref6 (i : Cert.ProjDxRefIdeal.S4096x1.Idx) : (val_main_v6 (F := Ideal) x2 i : EReal) = mean x2 (i 0) := by
  rw [val_main_v6_apply, val_main_v4_apply, val_main_v5_apply, val_main_v2_apply, val_main_v3_apply, val_main_v1_apply]
  simp only [val_main_v0_apply]
  unfold mean
  show Ideal.div (Ideal.ofBits .f32 0x00000000#32 + _) _ + _ = _
  rw [Ideal.ofBits_zero_f32, zero_add]
  refine congrArg₂ (fun a b : EReal => a + b) (congrArg₂ Ideal.div (Finset.sum_congr rfl fun k _ => ?_) rfl) rfl
  have e : idx_main_v1 (idx_main_v2 i) k = ix2 (i 0) k := by
    funext a
    match a with
    | ⟨0, _⟩ => rfl
    | ⟨1, _⟩ => rfl
  rw [e]
  rfl

theorem ref7 (i : Cert.ProjDxRefIdeal.S4096x1.Idx) : (val_main_v7 (F := Ideal) x2 i : EReal) = Ideal.rsqrt (mean x2 (i 0)) := by
  rw [val_main_v7_apply, ref6]
  rfl

theorem ref18 (i : S4096x1024.Idx) : (val_main_v18 (F := Ideal) x0 x1 i : EReal) = ∑ k : Fin 5632, x0 (ix2 (i 0) k) * x1 (ix2 (i 1) k) := by
  rw [val_main_v18_apply]
  refine Finset.sum_congr rfl fun k _ => ?_
  rw [val_main_v17_apply, val_main_v15_apply]
  refine congrArg₂ (fun a b : EReal => a * b) (congrArg x0 ?_) (congrArg x1 ?_)
  · funext a
    match a with
    | ⟨0, _⟩ => rfl
    | ⟨1, _⟩ => rfl
  · funext a
    match a with
    | ⟨0, _⟩ => rfl
    | ⟨1, _⟩ => rfl

theorem ref23 (i : S4096x1024.Idx) : (val_main_v23 (F := Ideal) x0 x1 x3 i : EReal) = (val_main_v18 (F := Ideal) x0 x1 i : EReal) * x3 (ix2 0 (i 1)) := by
  rw [val_main_v23_apply, val_main_v22_apply]
  refine congrArg (fun z : EReal => (val_main_v18 (F := Ideal) x0 x1 i : EReal) * z) (congrArg x3 ?_)
  funext a
  match a with
  | ⟨0, _⟩ => rfl
  | ⟨1, _⟩ => rfl

theorem ref34 (i : S4096x1024.Idx) : (val_main_v34 (F := Ideal) x0 x1 x2 x3 i : EReal)
    = Ideal.div ((∑ k : Fin 1024, x2 (ix2 (i 0) k) * (val_main_v23 (F := Ideal) x0 x1 x3 (ix2 (i 0) k) : EReal)) * (Ideal.ofBits .f32 0xBF000000#32 * Ideal.div (Ideal.rsqrt (mean x2 (i 0))) (mean x2 (i 0))))
      (Ideal.ofBits .f32 0x44800000#32) := by
  rw [val_main_v34_apply, val_main_v33_apply, Fin.sum_univ_one, val_main_v32_apply, val_main_v31_apply, val_main_v30_apply, val_main_v26_apply, val_main_v25_apply,
    val_main_v10_apply, val_main_v9_apply, val_main_v8_apply, ref6, ref7]
  show Ideal.ofBits .f32 0x00000000#32 + Ideal.div ((Ideal.ofBits .f32 0x00000000#32 + _) * (Ideal.ofBits .f32 0xBF000000#32 * Ideal.div _ _)) (Ideal.ofBits .f32 0x44800000#32) = _
  rw [Ideal.ofBits_zero_f32, zero_add, zero_add]
  refine congrArg₂ Ideal.div (congrArg₂ (fun a b : EReal => a * b) (Finset.sum_congr rfl fun k _ => ?_) rfl) rfl
  rw [val_main_v24_apply]
  have e : idx_main_v25 (idx_main_v26 (idx_main_v33 (idx_main_v34 i) 0)) k = ix2 (i 0) k := by
    funext a; apply Fin.ext
    match a with
    | ⟨0, _⟩ => show (i 0).val * 1 + 0 = (i 0).val; omega
    | ⟨1, _⟩ => rfl
  rw [e]
  rfl

theorem ref38 (i : S4096x1024.Idx) : (val_main_v38 (F := Ideal) x0 x1 x2 x3 x4 i : EReal)
    = x4 i + (val_main_v23 (F := Ideal) x0 x1 x3 i : EReal) * Ideal.rsqrt (mean x2 (i 0)) + x2 i * (val_main_v34 (F := Ideal) x0 x1 x2 x3 i : EReal)
      + (val_main_v34 (F := Ideal) x0 x1 x2 x3 i : EReal) * x2 i := by
  rw [val_main_v38_apply, val_main_v36_apply, val_main_v29_apply, val_main_v28_apply, val_main_v27_apply, val_main_v35_apply, val_main_v37_apply, ref7]
  rfl

theorem ref21 (i : S1x1024.Idx) : (val_main_v21 (F := Ideal) x0 x1 x2 i : EReal)
    = ∑ n : Fin 4096, (val_main_v18 (F := Ideal) x0 x1 (ix2 n (i 1)) : EReal) * (x2 (ix2 n (i 1)) * Ideal.rsqrt (mean x2 n)) := by
  have h0 : (i 0).val < 1 := (i 0).isLt
  rw [val_main_v21_apply, val_main_v20_apply]
  show Ideal.ofBits .f32 0x00000000#32 + _ = _
  rw [Ideal.ofBits_zero_f32, zero_add]
  refine Finset.sum_congr rfl fun n _ => ?_
  have e : idx_main_v20 (idx_main_v21 i) n = ix2 n (i 1) := by
    funext a; apply Fin.ext
    match a with
    | ⟨0, _⟩ => rfl
    | ⟨1, _⟩ => show (i 0).val * 1024 + (i 1).val = (i 1).val; omega
  rw [val_main_v19_apply, val_main_v12_apply, val_main_v11_apply, ref7]
  refine Eq.trans (mul_comm (G := EReal) _ _) ?_
  exact congrArg₂ (fun a b : EReal => a * b) (congrArg (val_main_v18 (F := Ideal) x0 x1) e) (congrArg₂ (fun a b : EReal => a * b) (congrArg x2 e) rfl)
end Reference

/-- The first result is the reference's. -/
theorem result0 (c : Dev nD) (x0 : Vec Ideal S4096x5632 .bf16) (x1 : Vec Ideal S1024x5632 .bf16) (x2 : Vec Ideal S4096x1024 .f32) (x3 : Vec Ideal S1x1024 .f32) (x4 : Vec Ideal S4096x1024 .f32)
    (h0 : A0 m c = x0) (h1 : A1 m c = x1) (h2 : A2 m c = x2) (h3 : A3 m c = x3) (h4 : A4 m c = x4) :
    (Cert.ProjDxRefIdeal.Read.val_main_v38 (F := Ideal) x0 x1 x2 x3 x4 : Vec Ideal S4096x1024 .f32) = (dats m 0 c).arrAt 5 cfg0.N := by
  rw [final5]
  funext i
  refine (ref38 x0 x1 x2 x3 x4 i).trans ?_
  obtain ⟨e, he, hb⟩ := bits_eps
  have hA : mean x2 (i 0) = Ideal.div (∑ k : Fin 1024, x2 (ix2 (i 0) k) * x2 (ix2 (i 0) k)) ((1024 : ℝ) : EReal) + (e : EReal) := by
    unfold mean
    rw [hb, bits_width]
  have hg (k : Fin 1024) : (Cert.ProjDxRefIdeal.Read.val_main_v23 (F := Ideal) x0 x1 x3 (ix2 (i 0) k) : EReal) = grad m c (ix2 (i 0) k) * x3 (ix2 0 k) := by
    rw [ref23, ref18]
    unfold grad
    rw [h0, h1]
    rfl
  have hi : i = ix2 (i 0) (i 1) := by
    funext a
    match a with
    | ⟨0, _⟩ => rfl
    | ⟨1, _⟩ => rfl
  have h := row e he (fun k => x2 (ix2 (i 0) k)) (fun k => (Cert.ProjDxRefIdeal.Read.val_main_v23 (F := Ideal) x0 x1 x3 (ix2 (i 0) k) : EReal)) (x4 i) (i 1) _ _ hA rfl
    (x2 i) (Cert.ProjDxRefIdeal.Read.val_main_v23 (F := Ideal) x0 x1 x3 i : EReal) (congrArg x2 hi.symm) (congrArg (Cert.ProjDxRefIdeal.Read.val_main_v23 (F := Ideal) x0 x1 x3) hi.symm)
  rw [ref34, bits_half, bits_width]
  refine Eq.trans h.symm ?_
  unfold first
  have hr : rootOf m c (i 0) = Ideal.rsqrt (mean x2 (i 0)) := by unfold rootOf mean; rw [h2]
  have hgi : (Cert.ProjDxRefIdeal.Read.val_main_v23 (F := Ideal) x0 x1 x3 i : EReal) = grad m c i * x3 (ix2 0 (i 1)) :=
    ((congrArg (Cert.ProjDxRefIdeal.Read.val_main_v23 (F := Ideal) x0 x1 x3) hi).trans (hg (i 1))).trans (congrArg (fun z : EReal => z * x3 (ix2 0 (i 1))) (congrArg (grad m c) hi.symm))
  rw [hr, h2, h3, h4, bits_width, hgi]
  simp only [hg]

/-- The second result is the reference's. -/
theorem result1 (c : Dev nD) (x0 : Vec Ideal S4096x5632 .bf16) (x1 : Vec Ideal S1024x5632 .bf16) (x2 : Vec Ideal S4096x1024 .f32)
    (h0 : A0 m c = x0) (h1 : A1 m c = x1) (h2 : A2 m c = x2) :
    (Cert.ProjDxRefIdeal.Read.val_main_v21 (F := Ideal) x0 x1 x2 : Vec Ideal S1x1024 .f32) = (dats m 0 c).arrAt 6 cfg0.N := by
  rw [final6]
  funext i
  refine (ref21 x0 x1 x2 i).trans ?_
  unfold second
  refine Finset.sum_congr rfl fun n _ => ?_
  unfold share
  rw [dif_pos n.isLt, ref18]
  unfold grad rootOf mean
  rw [h0, h1, h2]

end Cert.ProjDxIdeal.Math
end
-- ==== Proof.Own.ProjFrame.lean ====
module

public import proofs.«01_k».proof.Proof.Gen.ProjIdeal.Frame
public import proofs.«01_k».proof.Proof.Gen.ProjIdeal.Skeleton
public import Idealize.ShloMosaic.Lib.Pipeline.TableIdle
public import Idealize.ShloMosaic.Lib.Pipeline.Value
public import Idealize.ShloMosaic.Lib.Claim

/-! # The run of the forward projection

The first of the eleven points of a block of rows stores the normalized rows, in the scratch array, and their transpose, in the
second result's buffer; each point stores one block of the product. The other ten points leave the second result's buffer alone,
and the last of them writes it back: what it holds then is what the first point stored. -/

@[expose] public section
set_option maxRecDepth 16384
noncomputable section
namespace Cert.ProjIdeal.Own
open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev First (i : grid0.Coords) : Prop := k0_cond1 i = 1#1

theorem first_iff : ∀ t : Fin cfg0.N, First (grid0.coords t) ↔ t.val % 11 = 0 :=
  (fun t => by
    have ht : t.val < 22 := Nat.lt_of_lt_of_eq t.isLt N_0
    have e0 : (grid0.coords t 0).val = t.val / 11 % 2 := Pipeline.Grid.coords_val t 0 (by decide) rfl
    have e1 : (grid0.coords t 1).val = t.val / 1 % 11 := Pipeline.Grid.coords_val t 1 (by decide) rfl
    simp only [First, k0_cond1, e0, e1]
    word_cmp
   : ∀ t : Fin grid0.N, First (grid0.coords t) ↔ t.val % 11 = 0)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, First (grid0.coords t) → cfg0.idle 4 (grid0.coords t) = false := by decide +kernel
theorem idle4 : ∀ t : Fin cfg0.N, ¬First (grid0.coords t) → cfg0.idle 4 (grid0.coords t) = true := by decide +kernel

/-- The positions at which the second result's buffer holds nothing the body stored: where a block of rows starts. -/
def freshAt (n : ℕ) : Bool := n % 11 == 0
theorem freshAt_step : ∀ t : Fin cfg0.N,
    freshAt (t.val + 1) = ((cfg0.win 4).flush t || (cfg0.idle 4 (cfg0.grid.coords t) && freshAt t.val)) := by decide +kernel
theorem fresh_eq (t : Fin cfg0.N) : cfg0.fresh 4 t.val = freshAt t.val :=
  Pipeline.Cfg.fresh_tab cfg0 4 freshAt rfl freshAt_step t.val (Nat.le_of_lt t.isLt)

/-! ## The body -/

abbrev ms0 (t : Fin cfg0.N) : Memref sig .tc .vmem S2048x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1024x512 .bf16 := win0_2.stage (cfg0.slots t 2)
abbrev ms3 (t : Fin cfg0.N) : Memref sig .tc .vmem S2048x512 .f32 := win0_3.stage (cfg0.slots t 3)
abbrev ms4 (t : Fin cfg0.N) : Memref sig .tc .vmem S1024x2048 .bf16 := win0_4.stage (cfg0.slots t 4)
abbrev sc : Memref sig .tc .vmem S2048x1024 .bf16 := Memref.whole cc0_scratch0

theorem inv_eq (c : Dev nD) :
    (Pipeline.ΦA spec0 c : sProp 𝕄) = iprop(iprop((∃ d, owns (c : Thread nD τ) sc fullShare d)) ∗ (∃ r, prngReg c r)) := by
  unfold Pipeline.ΦA; rw [scopedRest0_eq]; simp only [sc, owns_whole]; try rfl

section
variable (c : Dev nD) (i : grid0.Coords) (arg2 : Memref sig .tc .vmem S2048x1024 .f32) (harg2 : arg2.IsWhole) (arg3 : Memref sig .tc .vmem S1x1024 .f32) (harg3 : arg3.IsWhole)
  (arg4 : Memref sig .tc .vmem S1024x512 .bf16) (harg4 : arg4.IsWhole) (arg5 : Memref sig .tc .vmem S2048x512 .f32) (harg5 : arg5.IsWhole)
  (arg6 : Memref sig .tc .vmem S1024x2048 .bf16) (harg6 : arg6.IsWhole) (arg7 : Memref sig .tc .vmem S2048x1024 .bf16) (harg7 : arg7.IsWhole)
  (x0 : Vec F S2048x1024 .f32) (x1 : Vec F S1x1024 .f32) (x2 : Vec F S1024x512 .bf16) (xs : Vec F S2048x1024 .bf16)

set_option maxHeartbeats 1000000 in
/-- What the first point of a block of rows stores, as pieces, with the body's triple. -/
def runA (hc : First i) :
    Σ' (L3 : List (View.Piece (Elt F) S2048x512 .f32)), Σ' (L4 : List (View.Piece (Elt F) S1024x2048 .bf16)), { LS : List (View.Piece (Elt F) S2048x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0_proj_fwd_l0 i arg2 harg2 arg3 harg3 arg4 harg4 arg5 harg5 arg6 harg6 arg7 harg7) K } := by
  refine ⟨?_, ?_, ?_, fun E K => ?run⟩
  case run =>
    simp only [cc0_proj_fwd_l0_eq_skeleton]; unfold cc0_proj_fwd_l0_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

set_option maxHeartbeats 1000000 in
/-- The same at the other points, which read the scratch array and leave the second result's buffer alone. -/
def runB (hc : ¬First i) :
    { L3 : List (View.Piece (Elt F) S2048x512 .f32) //
      ∀ (E : Set ℕ) (K : PUnit → sProp 𝕄),
        iprop(owns (c : Thread nD τ) arg4 fullShare x2 ∗ (∃ d, owns (c : Thread nD τ) arg5 fullShare d) ∗ owns (c : Thread nD τ) arg7 fullShare xs
            ∗ (iprop(owns (c : Thread nD τ) arg4 fullShare x2 ∗ (∃ f, arg5.view.loc (c : Thread nD τ) ↦[arg5.view.set]{fullShare} arg5.view.writes (Elt F) f L3) ∗ owns (c : Thread nD τ) arg7 fullShare xs) -∗ K ⟨⟩))
          ⊢ wp frame (wpE (defs₀ (F := F)) Variants.none c none) E (cc0_proj_fwd_l0 i arg2 harg2 arg3 harg3 arg4 harg4 arg5 harg5 arg6 harg6 arg7 harg7) K } := by
  refine ⟨?_, fun E K => ?run⟩
  case run =>
    simp only [cc0_proj_fwd_l0_eq_skeleton]; unfold cc0_proj_fwd_l0_skel
    unfold owns
    iintro ⟨⟨%f2, %hf2, H2⟩, ⟨%d3, %f3, -, H3⟩, ⟨%fs0, %hfs0, HS0⟩, Hk⟩
    obtain rfl := harg4.eq_unread hf2; obtain rfl := harg7.eq_unread hfs0
    sl_exec (disch := sl_exact hc)
    sl_step
    iapply Hk
    isplitl [H2]
    · iexists _; isplitr; · ipureintro; exact harg4.read_unread _
      iexact H2
    isplitl [H3]; · iexists _; iexact H3
    iexists _; isplitr; · ipureintro; exact harg7.read_unread _
    iexact HS0

theorem zeros : (![0, 0] : Fin 2 → ℕ) = fun _ => 0 := by funext a; fin_cases a <;> rfl

theorem storedA3 (hc : First i) (v : View sig .tc .vmem S2048x512 .f32) (f : v.ty.Contents (Elt F)) :
    v.read (Elt F) (v.writes (Elt F) f (runA c i arg2 harg2 arg3 harg3 arg4 harg4 arg5 harg5 arg6 harg6 arg7 harg7 x0 x1 x2 hc).1) = k0_pay4 (k0_pay2 x0 x1) x2 := by
  rw [View.read_writes_eq_canon _ _ _ (View.cover_of_tiledL (runA c i arg2 harg2 arg3 harg3 arg4 harg4 arg5 harg5 arg6 harg6 arg7 harg7 x0 x1 x2 hc).1 S2048x512.size (by sl_kernel_rfl))]
  unfold runA
  dsimp only
  sl_unfold_words
  rw [View.canon_unit_zero (S := S2048x512) zeros, View.readCov_unit_zero (S := S2048x1024) _ zeros]
  simp only [View.readAt_eq_ld, harg2.read_unread, harg3.read_unread, harg4.read_unread, View.ld_unit_zero (S := S2048x1024) zeros, View.ld_unit_zero (S := S1x1024) zeros, View.ld_unit_zero (S := S1024x512) zeros]

theorem storedA4 (hc : First i) (v : View sig .tc .vmem S1024x2048 .bf16) (f : v.ty.Contents (Elt F)) :
    v.read (Elt F) (v.writes (Elt F) f (runA c i arg2 harg2 arg3 harg3 arg4 harg4 arg5 harg5 arg6 harg6 arg7 harg7 x0 x1 x2 hc).2.1) = k0_pay3 x0 x1 := by
  rw [View.read_writes_eq_canon _ _ _ (View.cover_of_tiledL (runA c i arg2 harg2 arg3 harg3 arg4 harg4 arg5 harg5 arg6 harg6 arg7 harg7 x0 x1 x2 hc).2.1 S1024x2048.size (by sl_kernel_rfl))]
  unfold runA
  dsimp only
  sl_unfold_words
  rw [View.canon_unit_zero (S := S1024x2048) zeros]
  simp only [View.readAt_eq_ld, harg2.read_unread, harg3.read_unread, View.ld_unit_zero (S := S2048x1024) zeros, View.ld_unit_zero (S := S1x1024) zeros]

theorem storedAS (hc : First i) (v : View sig .tc .vmem S2048x1024 .bf16) (f : v.ty.Contents (Elt F)) :
    v.read (Elt F) (v.writes (Elt F) f (runA c i arg2 harg2 arg3 harg3 arg4 harg4 arg5 harg5 arg6 harg6 arg7 harg7 x0 x1 x2 hc).2.2.1) = k0_pay2 x0 x1 := by
  rw [View.read_writes_eq_canon _ _ _ (View.cover_of_tiledL (runA c i arg2 harg2 arg3 harg3 arg4 harg4 arg5 harg5 arg6 harg6 arg7 harg7 x0 x1 x2 hc).2.2.1 S2048x1024.size (by sl_kernel_rfl))]
  unfold runA
  dsimp only
  sl_unfold_words
  rw [View.canon_unit_zero (S := S2048x1024) zeros]
  simp only [View.readAt_eq_ld, harg2.read_unread, harg3.read_unread, View.ld_unit_zero (S := S2048x1024) zeros, View.ld_unit_zero (S := S1x1024) zeros]

theorem storedB3 (hc : ¬First i) (v : View sig .tc .vmem S2048x512 .f32) (f : v.ty.Contents (Elt F)) :
    v.read (Elt F) (v.writes (Elt F) f (runB c i arg2 harg2 arg3 harg3 arg4 harg4 arg5 harg5 arg6 harg6 arg7 harg7 x2 xs hc).1) = k0_pay4 xs x2 := by
  rw [View.read_writes_eq_canon _ _ _ (View.cover_of_tiledL (runB c i arg2 harg2 arg3 harg3 arg4 harg4 arg5 harg5 arg6 harg6 arg7 harg7 x2 xs hc).1 S2048x512.size (by sl_kernel_rfl))]
  unfold runB
  dsimp only
  sl_unfold_words
  rw [View.canon_unit_zero (S := S2048x512) zeros]
  simp only [View.readAt_eq_ld, harg4.read_unread, harg7.read_unread, View.ld_unit_zero (S := S2048x1024) zeros, View.ld_unit_zero (S := S1024x512) zeros]
end

variable (m : (ℓ : Loc nD τ sig) → Buf (Elt F) ℓ) (ρ : Dev nD → PrngReg)

/-! ## What the buffers hold after each point -/

/-- The first point of a point's block of rows. -/
def start (t : Fin cfg0.N) : Fin cfg0.N := ⟨t.val / 11 * 11, lt_of_le_of_lt (Nat.div_mul_le_self _ _) t.isLt⟩

theorem start_first (t : Fin cfg0.N) (h : t.val % 11 = 0) : start t = t := Fin.ext (by show t.val / 11 * 11 = t.val; omega)
theorem start_pred (t : Fin cfg0.N) (h : ¬t.val % 11 = 0) (h' : t.val - 1 < cfg0.N) : start ⟨t.val - 1, h'⟩ = start t :=
  Fin.ext (by show (t.val - 1) / 11 * 11 = t.val / 11 * 11; omega)

def normed (c : Dev nD) (t : Fin cfg0.N) : Vec F S2048x1024 .bf16 := k0_pay2 (iblk m c 0 (start t)) (iblk m c 1 (start t))
def turned (c : Dev nD) (t : Fin cfg0.N) : Vec F S1024x2048 .bf16 := k0_pay3 (iblk m c 0 (start t)) (iblk m c 1 (start t))
def product (c : Dev nD) (t : Fin cfg0.N) : Vec F S2048x512 .f32 := k0_pay4 (normed m c t) (iblk m c 2 t)

/-- Before the first point the scratch array holds anything, afterwards what the point before left. -/
def inv (c : Dev nD) : (n : ℕ) → n ≤ cfg0.N → sProp 𝕄
  | 0, _ => Pipeline.ΦA spec0 c
  | n + 1, hn => iprop(iprop(owns (c : Thread nD τ) sc fullShare (normed m c ⟨n, hn⟩)) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(iprop(owns (c : Thread nD τ) sc fullShare (normed m c ⟨n - 1, by omega⟩)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product m c t
    | ⟨4, _⟩ => turned m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem inv_castSucc (c : Dev nD) (t : Fin cfg0.N) : (dats m 0 c).Φ t.castSucc = inv m c t.val (Nat.le_of_lt t.isLt) := by
  dsimp only [dats]; exact Pipeline.Dat.Φ_castSucc (inv m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = product m c t := by dsimp only [dats]
theorem after4 (c : Dev nD) (t : Fin cfg0.N) : (dats m 0 c).after 4 t = turned m c t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d

theorem turned_pred (c : Dev nD) (t : Fin cfg0.N) (h : ¬t.val % 11 = 0) (h' : t.val - 1 < cfg0.N) : turned m c ⟨t.val - 1, h'⟩ = turned m c t := by
  unfold turned; rw [start_pred t h h']
theorem normed_pred (c : Dev nD) (t : Fin cfg0.N) (h : ¬t.val % 11 = 0) (h' : t.val - 1 < cfg0.N) : normed m c ⟨t.val - 1, h'⟩ = normed m c t := by
  unfold normed; rw [start_pred t h h']

/-- The second result's buffer keeps its contents through the points that leave it alone. -/
theorem carry (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after4, after4]
  by_cases h0 : t.val % 11 = 0
  · rw [live4 t ((first_iff t).mpr h0)] at hi
    exact absurd hi Bool.false_ne_true
  · exact (turned_pred m c t h0 _).symm

theorem before4 (c : Dev nD) (t : Fin cfg0.N) (h0 : ¬t.val % 11 = 0) (d) : (dats m 0 c).before 4 t d = turned m c t := by
  rw [Dat.before_out_traj _ 4 rfl (fun _ _ => rfl) (carry m c) t.val t rfl d,
    if_neg (by rw [fresh_eq]; unfold freshAt; simpa using h0), after4]
  exact turned_pred m c t h0 _

theorem leaves4 (c : Dev nD) (t : Fin cfg0.N) (h0 : ¬t.val % 11 = 0) :
    iprop(∃ d, owns (c : Thread nD τ) (ms4 t) fullShare ((dats m 0 c).before 4 t d)) ⊢ (dats m 0 c).leavesExact 4 t := by
  have hi := idle4 t (fun h => h0 ((first_iff t).mp h))
  cases hf : (cfg0.win 4).flush t with
  | false => rw [Dat.leavesExact_idle _ _ _ hi hf]
  | true =>
    rw [show (dats m 0 c).leavesExact 4 t = owns (c : Thread nD τ) (ms4 t) fullShare ((dats m 0 c).after 4 t) from by
      unfold Dat.leavesExact; rw [hi, hf], after4]
    iintro ⟨%d, H⟩
    rw [before4 m c t h0 d]
    iexact H

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- Before any point the scratch array holds something. -/
theorem inv_some (c : Dev nD) (n : ℕ) (h : n ≤ cfg0.N) :
    inv m c n h ⊢ iprop(iprop((∃ d, owns (c : Thread nD τ) sc fullShare d)) ∗ (∃ r, prngReg c r)) := by
  cases n with
  | zero => rw [inv_zero m c 0 _ rfl, inv_eq]
  | succ n =>
    rw [inv_pos m c _ _ (Nat.succ_ne_zero n)]
    iintro ⟨HS, Hg⟩
    isplitl [HS]
    · iexists _; iexact HS
    iexact Hg

set_option maxHeartbeats 3200000 in
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = iprop(iprop(owns (c : Thread nD τ) sc fullShare (normed m c t)) ∗ (∃ r, prngReg c r)) from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [show (dats m 0 c).leavesExact 3 t = owns (c : Thread nD τ) (ms3 t) fullShare ((dats m 0 c).after 3 t) from by
      unfold Dat.leavesExact; rw [live3 t], after3]
  rw [inv_castSucc m c t]
  by_cases h0 : t.val % 11 = 0
  · have hc := (first_iff t).mpr h0
    rw [show (dats m 0 c).leavesExact 4 t = owns (c : Thread nD τ) (ms4 t) fullShare ((dats m 0 c).after 4 t) from by
      unfold Dat.leavesExact; rw [live4 t hc], after4]
    unfold product normed turned
    rw [start_first t h0]
    refine (sep_mono_left (inv_some m c t.val _)).trans ?_
    iintro ⟨⟨HS, Hg⟩, Ho, ⟨%d0, H0⟩, ⟨%d1, H1⟩, ⟨%d2, H2⟩, ⟨%d3, H3⟩, ⟨%d4, H4⟩⟩
    iapply ((runA c (grid0.coords t) _ _ _ _ _ _ _ _ _ _ _ _ (iblk m c 0 t) (iblk m c 1 t) (iblk m c 2 t) hc).2.2.2 Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, ⟨%e3, H3⟩, ⟨%e4, H4⟩, ⟨%es, HS⟩⟩
    isplitl [HS Hg]
    · isplitl [HS]
      · unfold owns; iexists _; isplitr
        swap; · iexact HS
        ipureintro; exact storedAS c _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact storedA3 c _ _ _ _ _ _ _ _ _ _ _ _ _ _ _ _ _ _ _
    unfold owns; iexists _; isplitr
    swap; · iexact H4
    ipureintro; exact storedA4 c _ _ _ _ _ _ _ _ _ _ _ _ _ _ _ _ _ _ _
  · have hc : ¬First (grid0.coords t) := fun h => h0 ((first_iff t).mp h)
    rw [inv_pos m c _ _ (fun h => h0 (by rw [h])), normed_pred m c t h0 _]
    unfold product
    iintro ⟨⟨HS, Hg⟩, Ho, ⟨%d0, H0⟩, ⟨%d1, H1⟩, ⟨%d2, H2⟩, ⟨%d3, H3⟩, H4⟩
    iapply ((runB c (grid0.coords t) _ _ _ _ _ _ _ _ _ _ _ _ (iblk m c 2 t) (normed m c t) hc).2 Set.univ _)
    isplitl [H2]; · iexact H2
    isplitl [H3]; · iexists _; iexact H3
    isplitl [HS]; · iexact HS
    iintro ⟨H2, ⟨%e3, H3⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact storedB3 c _ _ _ _ _ _ _ _ _ _ _ _ _ _ _ _ _ _
    iapply (leaves4 m c t h0)
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [inv_eq]
  exact inv_some m c cfg0.N le_rfl

/-! ## The run -/

set_option backward.isDefEq.respectTransparency.types false in
theorem run_both : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_both m ρ)

/-- The arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_both m ρ))

/-- The results end at what the points wrote back. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ProjIdeal.Own
end
-- ==== Proof.Proj.lean ====
module

public import proofs.«01_k».proof.Proof.Own.ProjFrame
public import proofs.«01_k».proof.Proof.Gen.ProjRefIdeal.Read
public import Idealize.ShloMosaic.Lib.Pointwise
public import Idealize.ShloMosaic.Lib.Tactic
public import Idealize.ShloMosaic.Lib.Pipeline.Value

/-! # The forward projection of the normalized rows, and their transpose -/

@[expose] public section
noncomputable section
namespace Cert.ProjIdeal.Math
open Idealize.ShloMosaic Idealize.ShloMosaic.TcCoe Cert.ProjIdeal Cert.ProjIdeal.Gen Cert.ProjIdeal.Own Idealize.SL.Sem

/-- The reciprocal root of a row's mean square, with the small constant. -/
def root {n : ℕ} (x : Vec Ideal ⟨2, ![n, 1024]⟩ .f32) (r : Fin n) : EReal :=
  Ideal.rsqrt (Ideal.div (∑ k : Fin 1024, x (ix2 r k) * x (ix2 r k)) (Ideal.ofBits .f32 0x44800000#32) + Ideal.ofBits .f32 0x3727C5AC#32)

theorem pay1 (x : Vec Ideal S2048x1024 .f32) (w : Vec Ideal S1x1024 .f32) (y : S2048x1024.Idx) :
    k0_pay1 (F := Ideal) x w y = (x y * root x (y 0) * w (ix2 0 (y 1)) : EReal) := by
  unfold k0_pay1 root
  pointwise!

theorem pay2 (x : Vec Ideal S2048x1024 .f32) (w : Vec Ideal S1x1024 .f32) (y : S2048x1024.Idx) :
    k0_pay2 (F := Ideal) x w y = (x y * root x (y 0) * w (ix2 0 (y 1)) : EReal) := by
  unfold k0_pay2
  rw [shapeCast_self]
  exact pay1 x w y

theorem pay3 (x : Vec Ideal S2048x1024 .f32) (w : Vec Ideal S1x1024 .f32) (y : S1024x2048.Idx) :
    k0_pay3 (F := Ideal) x w y = k0_pay2 (F := Ideal) x w (ix2 (y 1) (y 0)) := by
  unfold k0_pay3 k0_pay2
  rw [shapeCast_self]
  generalize k0_pay1 (F := Ideal) x w = z
  pointwise!

theorem pay4 (x : Vec Ideal S2048x1024 .bf16) (w : Vec Ideal S1024x512 .bf16) (y : S2048x512.Idx) :
    k0_pay4 (F := Ideal) x w y = (∑ k : Fin 1024, x (ix2 (y 0) k) * w (ix2 k (y 1)) : EReal) := by
  unfold k0_pay4
  pointwise!

variable (m : (ℓ : Loc nD τ sig) → Buf (Elt Ideal) ℓ)

abbrev A0 (c : Dev nD) : Vec Ideal S4096x1024 .f32 := V m c main_arg0
abbrev A1 (c : Dev nD) : Vec Ideal S1x1024 .f32 := V m c main_arg1
abbrev A2 (c : Dev nD) : Vec Ideal S1024x5632 .bf16 := V m c main_arg2

/-- The normalized rows, -/
def rows (c : Dev nD) : Vec Ideal S4096x1024 .bf16 := fun i => (A0 m c i * root (A0 m c) (i 0) * A1 m c (ix2 0 (i 1)) : EReal)
/-- the first result, -/
def first (c : Dev nD) : Vec Ideal S4096x5632 .f32 := fun i => (∑ k : Fin 1024, rows m c (ix2 (i 0) k) * A2 m c (ix2 k (i 1)) : EReal)
/-- and the second. -/
def second (c : Dev nD) : Vec Ideal S1024x4096 .bf16 := fun i => rows m c (ix2 (i 1) (i 0))

abbrev Places (t : Fin grid0.N) : Prop := win0_0.index t 0 = t.val / 11 ∧ win0_0.index t 1 = 0 ∧ win0_1.index t 0 = 0 ∧ win0_1.index t 1 = 0
  ∧ win0_2.index t 0 = 0 ∧ win0_2.index t 1 = t.val % 11 ∧ win0_3.index t 0 = t.val / 11 ∧ win0_3.index t 1 = t.val % 11 ∧ win0_4.index t 0 = 0 ∧ win0_4.index t 1 = t.val / 11

theorem idx : ∀ t : Fin cfg0.N, Places t := (by decide +kernel : ∀ t : Fin grid0.N, Places t)

theorem read0 (c : Dev nD) (t : Fin cfg0.N) (y : S2048x1024.Idx) (i : S4096x1024.Idx)
    (h0 : (i 0).val = t.val / 11 * 2048 + (y 0).val) (h1 : (i 1).val = (y 1).val) :
    (iblk m c 0 t : Vec Ideal S2048x1024 .f32) y = A0 m c i := by
  unfold iblk
  rw [View.read_apply]
  show A0 m c _ = _
  congr 1; funext d; apply Fin.ext
  match d with
  | ⟨0, _⟩ => show win0_0.index t 0 * 2048 + 1 * (y 0).val = (i 0).val; rw [(idx t).1, h0]; omega
  | ⟨1, _⟩ => show win0_0.index t 1 * 1024 + 1 * (y 1).val = (i 1).val; rw [(idx t).2.1, h1]; omega

theorem read1 (c : Dev nD) (t : Fin cfg0.N) (y i : S1x1024.Idx) (h1 : (i 1).val = (y 1).val) :
    (iblk m c 1 t : Vec Ideal S1x1024 .f32) y = A1 m c i := by
  unfold iblk
  rw [View.read_apply]
  show A1 m c _ = _
  have y0 : (y 0).val < 1 := (y 0).isLt
  have i0 : (i 0).val < 1 := (i 0).isLt
  congr 1; funext d; apply Fin.ext
  match d with
  | ⟨0, _⟩ => show win0_1.index t 0 * 1 + 1 * (y 0).val = (i 0).val; rw [(idx t).2.2.1]; omega
  | ⟨1, _⟩ => show win0_1.index t 1 * 1024 + 1 * (y 1).val = (i 1).val; rw [(idx t).2.2.2.1, h1]; omega

theorem read2 (c : Dev nD) (t : Fin cfg0.N) (y : S1024x512.Idx) (i : S1024x5632.Idx)
    (h0 : (i 0).val = (y 0).val) (h1 : (i 1).val = t.val % 11 * 512 + (y 1).val) :
    (iblk m c 2 t : Vec Ideal S1024x512 .bf16) y = A2 m c i := by
  unfold iblk
  rw [View.read_apply]
  show A2 m c _ = _
  congr 1; funext d; apply Fin.ext
  match d with
  | ⟨0, _⟩ => show win0_2.index t 0 * 1024 + 1 * (y 0).val = (i 0).val; rw [(idx t).2.2.2.2.1, h0]; omega
  | ⟨1, _⟩ => show win0_2.index t 1 * 512 + 1 * (y 1).val = (i 1).val; rw [(idx t).2.2.2.2.2.1, h1]; omega

abbrev B0 (c : Dev nD) (t : Fin cfg0.N) : Vec Ideal S2048x1024 .f32 := iblk m c 0 t
abbrev B1 (c : Dev nD) (t : Fin cfg0.N) : Vec Ideal S1x1024 .f32 := iblk m c 1 t
abbrev B2 (c : Dev nD) (t : Fin cfg0.N) : Vec Ideal S1024x512 .bf16 := iblk m c 2 t

theorem rootAt (c : Dev nD) (t : Fin cfg0.N) (a : Fin 2048) (r : Fin 4096) (h0 : r.val = t.val / 11 * 2048 + a.val) :
    root (B0 m c t) a = root (A0 m c) r := by
  unfold root
  have e (k : Fin 1024) : B0 m c t (ix2 a k) = A0 m c (ix2 r k) := read0 m c t (ix2 a k) (ix2 r k) h0 rfl
  simp only [e]

/-- The scratch array holds its block of the normalized rows. -/
theorem normedAt (c : Dev nD) (t : Fin cfg0.N) (y : S2048x1024.Idx) (i : S4096x1024.Idx)
    (h0 : (i 0).val = t.val / 11 * 2048 + (y 0).val) (h1 : (i 1).val = (y 1).val) : normed m c t y = rows m c i := by
  unfold normed rows
  have hs : (start t).val / 11 = t.val / 11 := by show t.val / 11 * 11 / 11 = _; omega
  refine (pay2 (B0 m c (start t)) (B1 m c (start t)) y).trans ?_
  exact congrArg₂ (fun a b : EReal => a * b) (congrArg₂ (fun a b : EReal => a * b) (read0 m c (start t) y i (by rw [hs, h0]) h1)
    (rootAt m c (start t) (y 0) (i 0) (by rw [hs, h0]))) (read1 m c (start t) (ix2 0 (y 1)) (ix2 0 (i 1)) h1)

theorem cut3 (t : Fin cfg0.N) (f : Vec Ideal S2048x512 .f32) (y : ((cfg0.win 3).xblock (grid0.coords t)).Idx) (h0 : (y 0).val < 2048) (h1 : (y 1).val < 512) :
    (cfg0.win 3).cut (grid0.coords t) f y = f (ix2 ⟨(y 0).val, h0⟩ ⟨(y 1).val, h1⟩) := by
  show f _ = f _
  congr 1; funext a; apply Fin.ext
  match a with
  | ⟨0, _⟩ => rfl
  | ⟨1, _⟩ => rfl

theorem cut4 (t : Fin cfg0.N) (f : Vec Ideal S1024x2048 .bf16) (y : ((cfg0.win 4).xblock (grid0.coords t)).Idx) (h0 : (y 0).val < 1024) (h1 : (y 1).val < 2048) :
    (cfg0.win 4).cut (grid0.coords t) f y = f (ix2 ⟨(y 0).val, h0⟩ ⟨(y 1).val, h1⟩) := by
  show f _ = f _
  congr 1; funext a; apply Fin.ext
  match a with
  | ⟨0, _⟩ => rfl
  | ⟨1, _⟩ => rfl

theorem placed3 (t : Fin cfg0.N) (y : ((cfg0.win 3).xblock (grid0.coords t)).Idx) (i : S4096x5632.Idx) (hi : i = ((cfg0.win 3).blk t).view.emb y) :
    (i 0).val = t.val / 11 * 2048 + (y 0).val ∧ (i 1).val = t.val % 11 * 512 + (y 1).val := by
  subst hi
  constructor
  · show win0_3.index t 0 * 2048 + 1 * (y 0).val = _; rw [(idx t).2.2.2.2.2.2.1]; omega
  · show win0_3.index t 1 * 512 + 1 * (y 1).val = _; rw [(idx t).2.2.2.2.2.2.2.1]; omega

theorem placed4 (t : Fin cfg0.N) (y : ((cfg0.win 4).xblock (grid0.coords t)).Idx) (i : S1024x4096.Idx) (hi : i = ((cfg0.win 4).blk t).view.emb y) :
    (i 0).val = (y 0).val ∧ (i 1).val = t.val / 11 * 2048 + (y 1).val := by
  subst hi
  constructor
  · show win0_4.index t 0 * 1024 + 1 * (y 0).val = _; rw [(idx t).2.2.2.2.2.2.2.2.1]; omega
  · show win0_4.index t 1 * 2048 + 1 * (y 1).val = _; rw [(idx t).2.2.2.2.2.2.2.2.2]; omega

theorem written3 (c : Dev nD) (t : Fin cfg0.N) (hf : (cfg0.win 3).flush t = true) :
    (dats m 0 c).flushed 3 t = ((cfg0.win 3).blk t).view.read (Elt Ideal) (first m c) := by
  show (cfg0.win 3).cut (grid0.coords t) ((dats m 0 c).after 3 t) = _
  rw [after3]
  funext y
  have y0 : (y 0).val < 2048 := (y 0).isLt
  have y1 : (y 1).val < 512 := (y 1).isLt
  obtain ⟨i, hi⟩ : ∃ i : S4096x5632.Idx, i = ((cfg0.win 3).blk t).view.emb y := ⟨_, rfl⟩
  have hp := placed3 t y i hi
  rw [View.read_apply, cut3 t _ y y0 y1]
  refine Eq.trans ?_ (congrArg (first m c) hi)
  unfold product first
  refine (pay4 (normed m c t) (B2 m c t) _).trans ?_
  refine Finset.sum_congr rfl fun k _ => ?_
  exact congrArg₂ (fun a b : EReal => a * b) (normedAt m c t _ (ix2 (i 0) k) hp.1 rfl) (read2 m c t _ (ix2 k (i 1)) rfl hp.2)

theorem written4 (c : Dev nD) (t : Fin cfg0.N) (hf : (cfg0.win 4).flush t = true) :
    (dats m 0 c).flushed 4 t = ((cfg0.win 4).blk t).view.read (Elt Ideal) (second m c) := by
  show (cfg0.win 4).cut (grid0.coords t) ((dats m 0 c).after 4 t) = _
  rw [after4]
  funext y
  have y0 : (y 0).val < 1024 := (y 0).isLt
  have y1 : (y 1).val < 2048 := (y 1).isLt
  obtain ⟨i, hi⟩ : ∃ i : S1024x4096.Idx, i = ((cfg0.win 4).blk t).view.emb y := ⟨_, rfl⟩
  have hp := placed4 t y i hi
  rw [View.read_apply, cut4 t _ y y0 y1]
  refine Eq.trans ?_ (congrArg (second m c) hi)
  unfold turned second
  refine (pay3 (B0 m c (start t)) (B1 m c (start t)) _).trans ?_
  exact normedAt m c t _ (ix2 (i 1) (i 0)) hp.2 hp.1

theorem final3 (c : Dev nD) : (dats m 0 c).arrAt 3 cfg0.N = first m c :=
  (dats m 0 c).arrAt_eq_of_cover 3 (first m c) (fun t hf => written3 m c t hf) fun i => by
    have h0 : (i 0).val < 4096 := (i 0).isLt
    have h1 : (i 1).val < 5632 := (i 1).isLt
    have hN : cfg0.N = 22 := N_0
    obtain ⟨t, ht⟩ : ∃ t : Fin cfg0.N, t.val = (i 0).val / 2048 * 11 + (i 1).val / 512 := ⟨⟨_, by omega⟩, rfl⟩
    refine ⟨t, flush0_3 t, ?_⟩
    show i ∈ ((View.whole main_v0_0).slice (win0_3.rect t)).set
    rw [View.set_slice_whole, Rect.mem_set_unit]
    have e0 : win0_3.index t 0 = t.val / 11 := (idx t).2.2.2.2.2.2.1
    have e1 : win0_3.index t 1 = t.val % 11 := (idx t).2.2.2.2.2.2.2.1
    intro a
    match a with
    | ⟨0, _⟩ => show win0_3.index t 0 * 2048 ≤ (i 0).val ∧ (i 0).val < win0_3.index t 0 * 2048 + 2048; omega
    | ⟨1, _⟩ => show win0_3.index t 1 * 512 ≤ (i 1).val ∧ (i 1).val < win0_3.index t 1 * 512 + 512; omega

theorem final4 (c : Dev nD) : (dats m 0 c).arrAt 4 cfg0.N = second m c :=
  (dats m 0 c).arrAt_eq_of_cover 4 (second m c) (fun t hf => written4 m c t hf) fun i => by
    have h0 : (i 0).val < 1024 := (i 0).isLt
    have h1 : (i 1).val < 4096 := (i 1).isLt
    have hN : cfg0.N = 22 := N_0
    obtain ⟨t, ht⟩ : ∃ t : Fin cfg0.N, t.val = (i 1).val / 2048 * 11 + 10 := ⟨⟨_, by omega⟩, rfl⟩
    refine ⟨t, (flush0_4 t).mpr (by omega), ?_⟩
    show i ∈ ((View.whole main_v0_1).slice (win0_4.rect t)).set
    rw [View.set_slice_whole, Rect.mem_set_unit]
    have e0 : win0_4.index t 0 = 0 := (idx t).2.2.2.2.2.2.2.2.1
    have e1 : win0_4.index t 1 = t.val / 11 := (idx t).2.2.2.2.2.2.2.2.2
    intro a
    match a with
    | ⟨0, _⟩ => show win0_4.index t 0 * 1024 ≤ (i 0).val ∧ (i 0).val < win0_4.index t 0 * 1024 + 1024; omega
    | ⟨1, _⟩ => show win0_4.index t 1 * 2048 ≤ (i 1).val ∧ (i 1).val < win0_4.index t 1 * 2048 + 2048; omega

section Reference
open Cert.ProjRefIdeal.Read
variable (x0 : Vec Ideal S4096x1024 .f32) (x1 : Vec Ideal S1x1024 .f32) (x2 : Vec Ideal S1024x5632 .bf16)

theorem ref7 (i : Cert.ProjRefIdeal.S4096x1.Idx) : (val_main_v7 (F := Ideal) x0 i : EReal) = root x0 (i 0) := by
  rw [val_main_v7_apply, val_main_v6_apply, val_main_v4_apply, val_main_v5_apply, val_main_v2_apply, val_main_v3_apply, val_main_v1_apply]
  simp only [val_main_v0_apply]
  unfold root
  show Ideal.rsqrt (Ideal.div (Ideal.ofBits .f32 0x00000000#32 + _) _ + _) = _
  rw [Ideal.ofBits_zero_f32, zero_add]
  refine congrArg Ideal.rsqrt (congrArg₂ (fun a b : EReal => a + b) (congrArg₂ Ideal.div (Finset.sum_congr rfl fun k _ => ?_) rfl) rfl)
  have e : idx_main_v1 (idx_main_v2 i) k = ix2 (i 0) k := by
    funext a
    match a with
    | ⟨0, _⟩ => rfl
    | ⟨1, _⟩ => rfl
  rw [e]
  rfl

theorem ref11 (i : S4096x1024.Idx) : (val_main_v11 (F := Ideal) x0 x1 i : EReal) = x0 i * root x0 (i 0) * x1 (ix2 0 (i 1)) := by
  rw [val_main_v11_apply, val_main_v9_apply, val_main_v8_apply, val_main_v10_apply]
  show (x0 i * (val_main_v7 (F := Ideal) x0 (idx_main_v8 i) : EReal) * x1 (idx_main_v10 i) : EReal) = _
  rw [ref7]
  refine congrArg (fun z : EReal => x0 i * root x0 (i 0) * z) (congrArg x1 ?_)
  funext a
  match a with
  | ⟨0, _⟩ => rfl
  | ⟨1, _⟩ => rfl

theorem result0 (c : Dev nD) (h0 : A0 m c = x0) (h1 : A1 m c = x1) (h2 : A2 m c = x2) :
    (val_main_v13 (F := Ideal) x0 x1 x2 : Vec Ideal S4096x5632 .f32) = (dats m 0 c).arrAt 3 cfg0.N := by
  rw [final3]
  funext i
  rw [val_main_v13_apply]
  unfold first rows
  rw [h0, h1, h2]
  refine Finset.sum_congr rfl fun k _ => ?_
  rw [val_main_v12_apply]
  refine congrArg₂ (fun a b : EReal => a * b) ?_ (congrArg x2 ?_)
  · rw [ref11]
    have e : lidx_main_v13 i k = ix2 (i 0) k := by
      funext a
      match a with
      | ⟨0, _⟩ => rfl
      | ⟨1, _⟩ => rfl
    rw [e]
    rfl
  · funext a
    match a with
    | ⟨0, _⟩ => rfl
    | ⟨1, _⟩ => rfl

theorem result1 (c : Dev nD) (h0 : A0 m c = x0) (h1 : A1 m c = x1) :
    (val_main_v15 (F := Ideal) x0 x1 : Vec Ideal S1024x4096 .bf16) = (dats m 0 c).arrAt 4 cfg0.N := by
  rw [final4]
  funext i
  rw [val_main_v15_apply, val_main_v14_apply]
  unfold second rows
  rw [h0, h1]
  refine (ref11 x0 x1 (idx_main_v14 i)).trans ?_
  have e : idx_main_v14 i = ix2 (i 1) (i 0) := by
    funext a
    match a with
    | ⟨0, _⟩ => rfl
    | ⟨1, _⟩ => rfl
  rw [e]
  rfl
end Reference
end Cert.ProjIdeal.Math
end
-- ==== Proof.OutDy.lean ====
module

public import proofs.«01_k».proof.Proof.Gen.OutDyIdeal.Value
public import proofs.«01_k».proof.Proof.Gen.OutDyRefIdeal.Read
public import Idealize.ShloMosaic.Lib.Pointwise

/-! # The gradient of the gathered heads, `dx · w_outᵀ`

Each block of the result is one product of two blocks, so an entry is a row of `dx` against a row of `w_out`. -/

@[expose] public section
noncomputable section
namespace Cert.OutDyIdeal.Math
open Idealize.ShloMosaic Cert.OutDyIdeal Cert.OutDyIdeal.Gen Idealize.SL.Sem

variable (m : (ℓ : Loc nD τ sig) → Buf (Elt Ideal) ℓ)

theorem zeros : (![0, 0] : Fin 2 → ℕ) = fun _ => 0 := by funext a; fin_cases a <;> rfl

/-- A block of the result. -/
theorem block (x0 : Vec Ideal S1024x1024 .f32) (x1 : Vec Ideal S1024x1024 .bf16) (y : S1024x1024.Idx) :
    out0_2 x0 x1 y = ∑ k : Fin 1024, x0 (ix2 (y 0) k) * x1 (ix2 (y 1) k) := by
  unfold out0_2
  rw [View.canon_unit_zero (S := S1024x1024) zeros, View.ld_unit_zero (S := S1024x1024) zeros, View.ld_unit_zero (S := S1024x1024) zeros]
  pointwise! [k0_pay1]

abbrev A0 (c : Dev nD) : Vec Ideal S4096x1024 .f32 := V m c main_arg0
abbrev A1 (c : Dev nD) : Vec Ideal S2048x1024 .bf16 := V m c main_arg1

/-- The result. -/
def prod (c : Dev nD) : Vec Ideal S4096x2048 .f32 := fun i =>
  ∑ k : Fin 1024, A0 m c (ix2 (i 0) k) * A1 m c (ix2 (i 1) k)

theorem idx : ∀ t : Fin cfg0.N, win0_0.index t 0 = t.val / 2 ∧ win0_0.index t 1 = 0 ∧ win0_1.index t 0 = t.val % 2 ∧ win0_1.index t 1 = 0
    ∧ win0_2.index t 0 = t.val / 2 ∧ win0_2.index t 1 = t.val % 2 :=
  (by decide +kernel : ∀ t : Fin grid0.N, win0_0.index t 0 = t.val / 2 ∧ win0_0.index t 1 = 0 ∧ win0_1.index t 0 = t.val % 2 ∧ win0_1.index t 1 = 0
    ∧ win0_2.index t 0 = t.val / 2 ∧ win0_2.index t 1 = t.val % 2)

theorem read0 (c : Dev nD) (t : Fin cfg0.N) (a b : Fin 1024) (i : S4096x1024.Idx)
    (h0 : (i 0).val = t.val / 2 * 1024 + a.val) (h1 : (i 1).val = b.val) :
    (iblk m c 0 t : Vec Ideal S1024x1024 .f32) (ix2 a b) = A0 m c i := by
  unfold iblk
  rw [View.read_apply]
  show A0 m c _ = _
  congr 1; funext d; apply Fin.ext
  match d with
  | ⟨0, _⟩ => show win0_0.index t 0 * 1024 + 1 * a.val = (i 0).val; rw [(idx t).1, h0]; omega
  | ⟨1, _⟩ => show win0_0.index t 1 * 1024 + 1 * b.val = (i 1).val; rw [(idx t).2.1, h1]; omega

theorem read1 (c : Dev nD) (t : Fin cfg0.N) (a b : Fin 1024) (i : S2048x1024.Idx)
    (h0 : (i 0).val = t.val % 2 * 1024 + a.val) (h1 : (i 1).val = b.val) :
    (iblk m c 1 t : Vec Ideal S1024x1024 .bf16) (ix2 a b) = A1 m c i := by
  unfold iblk
  rw [View.read_apply]
  show A1 m c _ = _
  congr 1; funext d; apply Fin.ext
  match d with
  | ⟨0, _⟩ => show win0_1.index t 0 * 1024 + 1 * a.val = (i 0).val; rw [(idx t).2.2.1, h0]; omega
  | ⟨1, _⟩ => show win0_1.index t 1 * 1024 + 1 * b.val = (i 1).val; rw [(idx t).2.2.2.1, h1]; omega

theorem cut (t : Fin cfg0.N) (f : Vec Ideal S1024x1024 .f32) (y : ((cfg0.win 2).xblock (grid0.coords t)).Idx) (h0 : (y 0).val < 1024) (h1 : (y 1).val < 1024) :
    (cfg0.win 2).cut (grid0.coords t) f y = f (ix2 ⟨(y 0).val, h0⟩ ⟨(y 1).val, h1⟩) := by
  show f _ = f _
  congr 1; funext a; apply Fin.ext
  match a with
  | ⟨0, _⟩ => rfl
  | ⟨1, _⟩ => rfl

theorem placed (t : Fin cfg0.N) (y : ((cfg0.win 2).xblock (grid0.coords t)).Idx) (i : S4096x2048.Idx) (hi : i = ((cfg0.win 2).blk t).view.emb y) :
    (i 0).val = t.val / 2 * 1024 + (y 0).val ∧ (i 1).val = t.val % 2 * 1024 + (y 1).val := by
  subst hi
  constructor
  · show win0_2.index t 0 * 1024 + 1 * (y 0).val = _; rw [(idx t).2.2.2.2.1]; omega
  · show win0_2.index t 1 * 1024 + 1 * (y 1).val = _; rw [(idx t).2.2.2.2.2]; omega

theorem written (c : Dev nD) (t : Fin cfg0.N) :
    (dats m 0 c).flushed 2 t = ((cfg0.win 2).blk t).view.read (Elt Ideal) (prod m c) := by
  rw [Value.flushed2]
  funext y
  have y0 : (y 0).val < 1024 := (y 0).isLt
  have y1 : (y 1).val < 1024 := (y 1).isLt
  rw [View.read_apply, cut t _ y y0 y1, block]
  obtain ⟨i, hi⟩ : ∃ i : S4096x2048.Idx, i = ((cfg0.win 2).blk t).view.emb y := ⟨_, rfl⟩
  have hp := placed t y i hi
  refine Eq.trans ?_ (congrArg (prod m c) hi)
  unfold prod
  refine Finset.sum_congr rfl fun k _ => ?_
  exact congrArg₂ _ (read0 m c t ⟨(y 0).val, y0⟩ k (ix2 (i 0) k) hp.1 rfl) (read1 m c t ⟨(y 1).val, y1⟩ k (ix2 (i 1) k) hp.2 rfl)

theorem final (c : Dev nD) : (dats m 0 c).arrAt 2 cfg0.N = prod m c :=
  (dats m 0 c).arrAt_eq_of_cover 2 (prod m c) (fun t _ => written m c t) fun i => by
    have h0 : (i 0).val < 4096 := (i 0).isLt
    have h1 : (i 1).val < 2048 := (i 1).isLt
    have hN : cfg0.N = 8 := N_0
    refine ⟨⟨(i 0).val / 1024 * 2 + (i 1).val / 1024, by omega⟩, ?_, ?_⟩
    · exact (by decide +kernel : ∀ t : Fin cfg0.N, (cfg0.win 2).flush t = true) _
    · set t : Fin cfg0.N := ⟨(i 0).val / 1024 * 2 + (i 1).val / 1024, by omega⟩ with ht
      show i ∈ ((View.whole main_v0).slice (win0_2.rect t)).set
      rw [View.set_slice_whole, Rect.mem_set_unit]
      have e0 : win0_2.index t 0 = (i 0).val / 1024 := by rw [(idx t).2.2.2.2.1, ht]; dsimp only; omega
      have e1 : win0_2.index t 1 = (i 1).val / 1024 := by rw [(idx t).2.2.2.2.2, ht]; dsimp only; omega
      intro a
      match a with
      | ⟨0, _⟩ => show win0_2.index t 0 * 1024 ≤ (i 0).val ∧ (i 0).val < win0_2.index t 0 * 1024 + 1024; rw [e0]; omega
      | ⟨1, _⟩ => show win0_2.index t 1 * 1024 ≤ (i 1).val ∧ (i 1).val < win0_2.index t 1 * 1024 + 1024; rw [e1]; omega

/-- The result is the reference's. -/
theorem result (c : Dev nD) (x0 : Vec Ideal S4096x1024 .f32) (x1 : Vec Ideal S2048x1024 .bf16)
    (h0 : A0 m c = x0) (h1 : A1 m c = x1) :
    (Cert.OutDyRefIdeal.Read.val_main_v3 (F := Ideal) x0 x1 : Vec Ideal S4096x2048 .f32) = (dats m 0 c).arrAt 2 cfg0.N := by
  rw [final]
  funext i
  rw [Cert.OutDyRefIdeal.Read.val_main_v3_apply]
  unfold prod
  rw [h0, h1]
  refine Finset.sum_congr rfl fun k _ => ?_
  rw [Cert.OutDyRefIdeal.Read.val_main_v1_apply]
  refine congrArg₂ (fun a b : EReal => a * b) (congrArg x0 ?_) (congrArg x1 ?_)
  · funext a
    match a with
    | ⟨0, _⟩ => rfl
    | ⟨1, _⟩ => rfl
  · funext a
    match a with
    | ⟨0, _⟩ => rfl
    | ⟨1, _⟩ => rfl
end Cert.OutDyIdeal.Math
end
-- ==== Proof.Out.lean ====
module

public import proofs.«01_k».proof.Proof.Gen.OutIdeal.Value
public import proofs.«01_k».proof.Proof.Gen.OutRefIdeal.Read
public import Idealize.ShloMosaic.Lib.Pointwise

/-! # The output projection with the residual, `x + y · w_out`

Each block of the result is one product of two blocks and the residual's block. -/

@[expose] public section
noncomputable section
namespace Cert.OutIdeal.Math
open Idealize.ShloMosaic Idealize.ShloMosaic.TcCoe Cert.OutIdeal Cert.OutIdeal.Gen Idealize.SL.Sem

variable (m : (ℓ : Loc nD τ sig) → Buf (Elt Ideal) ℓ)

theorem zeros : (![0, 0] : Fin 2 → ℕ) = fun _ => 0 := by funext a; fin_cases a <;> rfl

/-- A block of the result. -/
theorem block (x0 : Vec Ideal S2048x2048 .bf16) (x1 : Vec Ideal S2048x512 .bf16) (x2 : Vec Ideal S2048x512 .f32) (y : S2048x512.Idx) :
    out0_3 x0 x1 x2 y = (∑ k : Fin 2048, x0 (ix2 (y 0) k) * x1 (ix2 k (y 1)) : EReal) + x2 (ix2 (y 0) (y 1)) := by
  unfold out0_3
  rw [View.canon_unit_zero (S := S2048x512) zeros, View.ld_unit_zero (S := S2048x2048) zeros, View.ld_unit_zero (S := S2048x512) zeros, View.ld_unit_zero (S := S2048x512) zeros]
  pointwise! [k0_pay1]

abbrev A0 (c : Dev nD) : Vec Ideal S4096x2048 .bf16 := V m c main_arg0
abbrev A1 (c : Dev nD) : Vec Ideal S2048x1024 .bf16 := V m c main_arg1
abbrev A2 (c : Dev nD) : Vec Ideal S4096x1024 .f32 := V m c main_arg2

/-- The result. -/
def prod (c : Dev nD) : Vec Ideal S4096x1024 .f32 := fun i =>
  ((∑ k : Fin 2048, A0 m c (ix2 (i 0) k) * A1 m c (ix2 k (i 1)) : EReal) + A2 m c (ix2 (i 0) (i 1)) : EReal)

theorem idx : ∀ t : Fin cfg0.N, win0_0.index t 0 = t.val / 2 ∧ win0_0.index t 1 = 0 ∧ win0_1.index t 0 = 0 ∧ win0_1.index t 1 = t.val % 2 ∧ win0_2.index t 0 = t.val / 2 ∧ win0_2.index t 1 = t.val % 2 ∧ win0_3.index t 0 = t.val / 2 ∧ win0_3.index t 1 = t.val % 2 :=
  (by decide +kernel : ∀ t : Fin grid0.N, win0_0.index t 0 = t.val / 2 ∧ win0_0.index t 1 = 0 ∧ win0_1.index t 0 = 0 ∧ win0_1.index t 1 = t.val % 2 ∧ win0_2.index t 0 = t.val / 2 ∧ win0_2.index t 1 = t.val % 2 ∧ win0_3.index t 0 = t.val / 2 ∧ win0_3.index t 1 = t.val % 2)

theorem read0 (c : Dev nD) (t : Fin cfg0.N) (a : Fin 2048) (b : Fin 2048) (i : S4096x2048.Idx)
    (h0 : (i 0).val = t.val / 2 * 2048 + a.val) (h1 : (i 1).val = 0 * 2048 + b.val) :
    (iblk m c 0 t : Vec Ideal S2048x2048 .bf16) (ix2 a b) = A0 m c i := by
  unfold iblk
  rw [View.read_apply]
  show A0 m c _ = _
  congr 1; funext d; apply Fin.ext
  match d with
  | ⟨0, _⟩ => show win0_0.index t 0 * 2048 + 1 * a.val = (i 0).val; rw [(idx t).1, h0]; omega
  | ⟨1, _⟩ => show win0_0.index t 1 * 2048 + 1 * b.val = (i 1).val; rw [(idx t).2.1, h1]; omega

theorem read1 (c : Dev nD) (t : Fin cfg0.N) (a : Fin 2048) (b : Fin 512) (i : S2048x1024.Idx)
    (h0 : (i 0).val = 0 * 2048 + a.val) (h1 : (i 1).val = t.val % 2 * 512 + b.val) :
    (iblk m c 1 t : Vec Ideal S2048x512 .bf16) (ix2 a b) = A1 m c i := by
  unfold iblk
  rw [View.read_apply]
  show A1 m c _ = _
  congr 1; funext d; apply Fin.ext
  match d with
  | ⟨0, _⟩ => show win0_1.index t 0 * 2048 + 1 * a.val = (i 0).val; rw [(idx t).2.2.1, h0]; omega
  | ⟨1, _⟩ => show win0_1.index t 1 * 512 + 1 * b.val = (i 1).val; rw [(idx t).2.2.2.1, h1]; omega

theorem read2 (c : Dev nD) (t : Fin cfg0.N) (a : Fin 2048) (b : Fin 512) (i : S4096x1024.Idx)
    (h0 : (i 0).val = t.val / 2 * 2048 + a.val) (h1 : (i 1).val = t.val % 2 * 512 + b.val) :
    (iblk m c 2 t : Vec Ideal S2048x512 .f32) (ix2 a b) = A2 m c i := by
  unfold iblk
  rw [View.read_apply]
  show A2 m c _ = _
  congr 1; funext d; apply Fin.ext
  match d with
  | ⟨0, _⟩ => show win0_2.index t 0 * 2048 + 1 * a.val = (i 0).val; rw [(idx t).2.2.2.2.1, h0]; omega
  | ⟨1, _⟩ => show win0_2.index t 1 * 512 + 1 * b.val = (i 1).val; rw [(idx t).2.2.2.2.2.1, h1]; omega

theorem cut (t : Fin cfg0.N) (f : Vec Ideal S2048x512 .f32) (y : ((cfg0.win 3).xblock (grid0.coords t)).Idx) (h0 : (y 0).val < 2048) (h1 : (y 1).val < 512) :
    (cfg0.win 3).cut (grid0.coords t) f y = f (ix2 ⟨(y 0).val, h0⟩ ⟨(y 1).val, h1⟩) := by
  show f _ = f _
  congr 1; funext a; apply Fin.ext
  match a with
  | ⟨0, _⟩ => rfl
  | ⟨1, _⟩ => rfl

theorem placed (t : Fin cfg0.N) (y : ((cfg0.win 3).xblock (grid0.coords t)).Idx) (i : S4096x1024.Idx) (hi : i = ((cfg0.win 3).blk t).view.emb y) :
    (i 0).val = t.val / 2 * 2048 + (y 0).val ∧ (i 1).val = t.val % 2 * 512 + (y 1).val := by
  subst hi
  constructor
  · show win0_3.index t 0 * 2048 + 1 * (y 0).val = _; rw [(idx t).2.2.2.2.2.2.1]; omega
  · show win0_3.index t 1 * 512 + 1 * (y 1).val = _; rw [(idx t).2.2.2.2.2.2.2]; omega

theorem written (c : Dev nD) (t : Fin cfg0.N) :
    (dats m 0 c).flushed 3 t = ((cfg0.win 3).blk t).view.read (Elt Ideal) (prod m c) := by
  rw [Value.flushed3]
  funext y
  have y0 : (y 0).val < 2048 := (y 0).isLt
  have y1 : (y 1).val < 512 := (y 1).isLt
  rw [View.read_apply, cut t _ y y0 y1, block]
  obtain ⟨i, hi⟩ : ∃ i : S4096x1024.Idx, i = ((cfg0.win 3).blk t).view.emb y := ⟨_, rfl⟩
  have hp := placed t y i hi
  refine Eq.trans ?_ (congrArg (prod m c) hi)
  unfold prod
  refine congrArg₂ (fun a b : EReal => a + b) (Finset.sum_congr rfl fun k _ => ?_) (read2 m c t ⟨(y 0).val, y0⟩ ⟨(y 1).val, y1⟩ (ix2 (i 0) (i 1)) hp.1 hp.2)
  exact congrArg₂ (fun a b : EReal => a * b) (read0 m c t ⟨(y 0).val, y0⟩ k (ix2 (i 0) k) hp.1 (by show k.val = _; omega))
    (read1 m c t k ⟨(y 1).val, y1⟩ (ix2 k (i 1)) (by show k.val = _; omega) hp.2)

theorem final (c : Dev nD) : (dats m 0 c).arrAt 3 cfg0.N = prod m c :=
  (dats m 0 c).arrAt_eq_of_cover 3 (prod m c) (fun t _ => written m c t) fun i => by
    have h0 : (i 0).val < 4096 := (i 0).isLt
    have h1 : (i 1).val < 1024 := (i 1).isLt
    have hN : cfg0.N = 4 := N_0
    refine ⟨⟨(i 0).val / 2048 * 2 + (i 1).val / 512, by omega⟩, ?_, ?_⟩
    · exact (by decide +kernel : ∀ t : Fin cfg0.N, (cfg0.win 3).flush t = true) _
    · set t : Fin cfg0.N := ⟨(i 0).val / 2048 * 2 + (i 1).val / 512, by omega⟩ with ht
      show i ∈ ((View.whole main_v0).slice (win0_3.rect t)).set
      rw [View.set_slice_whole, Rect.mem_set_unit]
      have e0 : win0_3.index t 0 = (i 0).val / 2048 := by rw [(idx t).2.2.2.2.2.2.1, ht]; dsimp only; omega
      have e1 : win0_3.index t 1 = (i 1).val / 512 := by rw [(idx t).2.2.2.2.2.2.2, ht]; dsimp only; omega
      intro a
      match a with
      | ⟨0, _⟩ => show win0_3.index t 0 * 2048 ≤ (i 0).val ∧ (i 0).val < win0_3.index t 0 * 2048 + 2048; rw [e0]; omega
      | ⟨1, _⟩ => show win0_3.index t 1 * 512 ≤ (i 1).val ∧ (i 1).val < win0_3.index t 1 * 512 + 512; rw [e1]; omega

/-- The result is the reference's. -/
theorem result (c : Dev nD) (x0 : Vec Ideal S4096x2048 .bf16) (x1 : Vec Ideal S2048x1024 .bf16) (x2 : Vec Ideal S4096x1024 .f32)
    (h0 : A0 m c = x0) (h1 : A1 m c = x1) (h2 : A2 m c = x2) :
    (Cert.OutRefIdeal.Read.val_main_v3 (F := Ideal) x0 x1 x2 : Vec Ideal S4096x1024 .f32) = (dats m 0 c).arrAt 3 cfg0.N := by
  rw [final]
  funext i
  rw [Cert.OutRefIdeal.Read.val_main_v3_apply, Cert.OutRefIdeal.Read.val_main_v2_apply]
  unfold prod
  rw [h0, h1, h2]
  refine Eq.trans (add_comm (G := EReal) _ _) ?_
  refine congrArg₂ (fun a b : EReal => a + b) (Finset.sum_congr rfl fun k _ => ?_) (congrArg x2 (eq_ix2 i))
  rw [Cert.OutRefIdeal.Read.val_main_v0_apply, Cert.OutRefIdeal.Read.val_main_v1_apply]
  refine congrArg₂ (fun a b : EReal => a * b) (congrArg x0 ?_) (congrArg x1 ?_)
  · funext a
    match a with
    | ⟨0, _⟩ => rfl
    | ⟨1, _⟩ => rfl
  · funext a
    match a with
    | ⟨0, _⟩ => rfl
    | ⟨1, _⟩ => rfl
end Cert.OutIdeal.Math
end
-- ==== Proof.OutDw.lean ====
module

public import proofs.«01_k».proof.Proof.Gen.OutDwIdeal.Value
public import proofs.«01_k».proof.Proof.Gen.OutDwRefIdeal.Read
public import Idealize.ShloMosaic.Lib.Pointwise
public import Idealize.ShloMosaic.Lib.Tactic
public import Idealize.ShloMosaic.Lib.Pipeline.ValueKit.Acc

/-! # The gradient of the output projection's weight, `yᵀ · dx`

Four points in turn add their products of blocks in a scratch array; the fourth copies it out. -/

@[expose] public section
noncomputable section
namespace Cert.OutDwIdeal.Math
open Idealize.ShloMosaic Idealize.ShloMosaic.TcCoe Cert.OutDwIdeal Cert.OutDwIdeal.Gen Idealize.SL.Sem

variable (m : (ℓ : Loc nD τ sig) → Buf (Elt Ideal) ℓ)

theorem zeros : (![0, 0] : Fin 2 → ℕ) = fun _ => 0 := by funext a; fin_cases a <;> rfl

theorem caseA (c : Dev nD) (i : grid0.Coords) (a3 : Memref sig .tc .vmem S1024x1024 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole)
    (c0 : cond0_0 i) (c1 : ¬cond0_1 i) (x0 : Vec Ideal S1024x1024 .bf16) (x1 : Vec Ideal S1024x1024 .f32) :
    sout0_A_0 c i a3 h3 a4 h4 a5 h5 a6 h6 c0 c1 x0 x1 = k0_pay2 (k0_pay1 (F := Ideal)) x0 x1 := by
  unfold sout0_A_0
  rw [View.read_writes_eq_canon _ _ _ (scover0_A_0 c i a3 h3 a4 h4 a5 h5 a6 h6 c0 c1 x0 x1)]
  unfold kernelRun0_A
  dsimp only
  sl_unfold_words
  rw [View.canon_cons_unit_zero (S := S1024x1024) zeros, View.readCov_unit_zero (S := S1024x1024) _ zeros]
  simp only [View.readAt_eq_ld, h3.read_unread, h4.read_unread, View.ld_unit_zero (S := S1024x1024) zeros]

theorem caseB (c : Dev nD) (i : grid0.Coords) (a3 : Memref sig .tc .vmem S1024x1024 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole)
    (c0 : ¬cond0_0 i) (c1 : ¬cond0_1 i) (x0 : Vec Ideal S1024x1024 .bf16) (x1 xs : Vec Ideal S1024x1024 .f32) :
    sout0_B_0 c i a3 h3 a4 h4 a5 h5 a6 h6 c0 c1 x0 x1 xs = k0_pay2 xs x0 x1 := by
  unfold sout0_B_0
  rw [View.read_writes_eq_canon _ _ _ (scover0_B_0 c i a3 h3 a4 h4 a5 h5 a6 h6 c0 c1 x0 x1 xs)]
  unfold kernelRun0_B
  dsimp only
  sl_unfold_words
  rw [View.canon_unit_zero (S := S1024x1024) zeros]
  simp only [View.readAt_eq_ld, h3.read_unread, h4.read_unread, h6.read_unread, View.ld_unit_zero (S := S1024x1024) zeros]

theorem caseC (c : Dev nD) (i : grid0.Coords) (a3 : Memref sig .tc .vmem S1024x1024 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole)
    (c0 : ¬cond0_0 i) (c1 : cond0_1 i) (x0 : Vec Ideal S1024x1024 .bf16) (x1 xs : Vec Ideal S1024x1024 .f32) :
    out0_C_2 c i a3 h3 a4 h4 a5 h5 a6 h6 c0 c1 x0 x1 xs = k0_pay2 xs x0 x1 := by
  unfold out0_C_2
  rw [View.read_writes_eq_canon _ _ _ (cover0_C_2 c i a3 h3 a4 h4 a5 h5 a6 h6 c0 c1 x0 x1 xs)]
  unfold kernelRun0_C
  dsimp only
  sl_unfold_words
  rw [View.canon_unit_zero (S := S1024x1024) zeros, View.readCov_unit_zero (S := S1024x1024) _ zeros]
  simp only [View.readAt_eq_ld, h3.read_unread, h4.read_unread, h6.read_unread, View.ld_unit_zero (S := S1024x1024) zeros]

/-- One step adds one product. -/
theorem step (x : Vec Ideal S1024x1024 .f32) (x0 : Vec Ideal S1024x1024 .bf16) (x1 : Vec Ideal S1024x1024 .f32) (y : S1024x1024.Idx) :
    k0_pay2 (F := Ideal) x x0 x1 y = (x y + ∑ k : Fin 1024, x0 (ix2 k (y 0)) * x1 (ix2 k (y 1)) : EReal) := by
  unfold k0_pay2
  rw [shapeCast_self]
  pointwise!

theorem start (y : S1024x1024.Idx) : k0_pay1 (F := Ideal) y = (0 : EReal) := by
  unfold k0_pay1
  rw [shapeCast_self]
  pointwise!

abbrev A0 (c : Dev nD) : Vec Ideal S4096x2048 .bf16 := V m c main_arg0
abbrev A1 (c : Dev nD) : Vec Ideal S4096x1024 .f32 := V m c main_arg1

/-- The result. -/
def prod (c : Dev nD) : Vec Ideal S2048x1024 .f32 := fun i =>
  (∑ k : Fin 4096, A0 m c (ix2 k (i 0)) * A1 m c (ix2 k (i 1)) : EReal)

/-- A sum over the 4096 rows, by the four blocks of 1024. -/
theorem four {N : ℕ} (hN : 4 * 1024 = N) (f : Fin N → EReal) : ∑ k, f k = (0 : EReal) + (∑ k : Fin 1024, f ⟨0 * 1024 + k.val, by omega⟩) + (∑ k : Fin 1024, f ⟨1 * 1024 + k.val, by omega⟩)
    + (∑ k : Fin 1024, f ⟨2 * 1024 + k.val, by omega⟩) + ∑ k : Fin 1024, f ⟨3 * 1024 + k.val, by omega⟩ := by
  subst hN
  have e := Fin.sum_univ_univ_mul_add 4 1024 (fun n => if h : n < 4 * 1024 then f ⟨n, h⟩ else 0)
  rw [Fin.sum_univ_four] at e
  rw [zero_add]
  refine (Finset.sum_congr rfl fun k _ => ?_).trans (e.symm.trans ?_)
  · rw [dif_pos k.isLt]
  · refine congrArg₂ (fun a b : EReal => a + b) (congrArg₂ (fun a b : EReal => a + b) (congrArg₂ (fun a b : EReal => a + b) ?_ ?_) ?_) ?_ <;>
    · refine Finset.sum_congr rfl fun k _ => ?_
      rw [dif_pos]
      rfl

theorem idx : ∀ t : Fin cfg0.N, win0_0.index t 0 = t.val % 4 ∧ win0_0.index t 1 = t.val / 4 ∧ win0_1.index t 0 = t.val % 4 ∧ win0_1.index t 1 = 0 ∧ win0_2.index t 0 = t.val / 4 ∧ win0_2.index t 1 = 0 :=
  (by decide +kernel : ∀ t : Fin grid0.N, win0_0.index t 0 = t.val % 4 ∧ win0_0.index t 1 = t.val / 4 ∧ win0_1.index t 0 = t.val % 4 ∧ win0_1.index t 1 = 0 ∧ win0_2.index t 0 = t.val / 4 ∧ win0_2.index t 1 = 0)

theorem read0 (c : Dev nD) (t : Fin cfg0.N) (a : Fin 1024) (b : Fin 1024) (i : S4096x2048.Idx)
    (h0 : (i 0).val = t.val % 4 * 1024 + a.val) (h1 : (i 1).val = t.val / 4 * 1024 + b.val) :
    (iblk m c 0 t : Vec Ideal S1024x1024 .bf16) (ix2 a b) = A0 m c i := by
  unfold iblk
  rw [View.read_apply]
  show A0 m c _ = _
  congr 1; funext d; apply Fin.ext
  match d with
  | ⟨0, _⟩ => show win0_0.index t 0 * 1024 + 1 * a.val = (i 0).val; rw [(idx t).1, h0]; omega
  | ⟨1, _⟩ => show win0_0.index t 1 * 1024 + 1 * b.val = (i 1).val; rw [(idx t).2.1, h1]; omega

theorem read1 (c : Dev nD) (t : Fin cfg0.N) (a : Fin 1024) (b : Fin 1024) (i : S4096x1024.Idx)
    (h0 : (i 0).val = t.val % 4 * 1024 + a.val) (h1 : (i 1).val = 0 * 1024 + b.val) :
    (iblk m c 1 t : Vec Ideal S1024x1024 .f32) (ix2 a b) = A1 m c i := by
  unfold iblk
  rw [View.read_apply]
  show A1 m c _ = _
  congr 1; funext d; apply Fin.ext
  match d with
  | ⟨0, _⟩ => show win0_1.index t 0 * 1024 + 1 * a.val = (i 0).val; rw [(idx t).2.2.1, h0]; omega
  | ⟨1, _⟩ => show win0_1.index t 1 * 1024 + 1 * b.val = (i 1).val; rw [(idx t).2.2.2.1, h1]; omega

theorem cut (t : Fin cfg0.N) (f : Vec Ideal S1024x1024 .f32) (y : ((cfg0.win 2).xblock (grid0.coords t)).Idx) (h0 : (y 0).val < 1024) (h1 : (y 1).val < 1024) :
    (cfg0.win 2).cut (grid0.coords t) f y = f (ix2 ⟨(y 0).val, h0⟩ ⟨(y 1).val, h1⟩) := by
  show f _ = f _
  congr 1; funext a; apply Fin.ext
  match a with
  | ⟨0, _⟩ => rfl
  | ⟨1, _⟩ => rfl

theorem placed (t : Fin cfg0.N) (y : ((cfg0.win 2).xblock (grid0.coords t)).Idx) (i : S2048x1024.Idx) (hi : i = ((cfg0.win 2).blk t).view.emb y) :
    (i 0).val = t.val / 4 * 1024 + (y 0).val ∧ (i 1).val = 0 * 1024 + (y 1).val := by
  subst hi
  constructor
  · show win0_2.index t 0 * 1024 + 1 * (y 0).val = _; rw [(idx t).2.2.2.2.1]; omega
  · show win0_2.index t 1 * 1024 + 1 * (y 1).val = _; rw [(idx t).2.2.2.2.2]; omega

abbrev B0 (c : Dev nD) (t : Fin cfg0.N) : Vec Ideal S1024x1024 .bf16 := iblk m c 0 t
abbrev B1 (c : Dev nD) (t : Fin cfg0.N) : Vec Ideal S1024x1024 .f32 := iblk m c 1 t

/-- What the scratch array holds after a point. -/
def acc (c : Dev nD) (n : ℕ) (h : n < cfg0.N) : Vec Ideal S1024x1024 .f32 := (outsAt0 m c n h).2

theorem accA (c : Dev nD) (n : ℕ) (h : n < cfg0.N) (h0 : n % 4 = 0) :
    acc m c n h = k0_pay2 (k0_pay1 (F := Ideal)) (B0 m c ⟨n, h⟩) (B1 m c ⟨n, h⟩) := by
  have e := congrArg Prod.snd (outsAt0_A m c ⟨n, h⟩ h0 (by dsimp only; omega))
  dsimp only at e
  rw [caseA] at e
  exact e

theorem accB (c : Dev nD) (n : ℕ) (h : n + 1 < cfg0.N) (h0 : ¬(n + 1) % 4 = 0) (h1 : ¬(n + 1) % 4 = 3) :
    acc m c (n + 1) h = k0_pay2 (acc m c n (Nat.lt_of_succ_lt h)) (B0 m c ⟨n + 1, h⟩) (B1 m c ⟨n + 1, h⟩) := by
  have e := congrArg Prod.snd (outsAt0_B m c ⟨n + 1, h⟩ h0 h1)
  dsimp only at e
  rw [caseB] at e
  exact e

theorem outC (c : Dev nD) (n : ℕ) (h : n + 1 < cfg0.N) (h0 : ¬(n + 1) % 4 = 0) (h1 : (n + 1) % 4 = 3) :
    (outsAt0 m c (n + 1) h).1 = k0_pay2 (acc m c n (Nat.lt_of_succ_lt h)) (B0 m c ⟨n + 1, h⟩) (B1 m c ⟨n + 1, h⟩) := by
  have e := congrArg Prod.fst (outsAt0_C m c ⟨n + 1, h⟩ h0 h1)
  dsimp only at e
  rw [caseC] at e
  exact e

/-- One point's product. -/
theorem part (c : Dev nD) (t : Fin cfg0.N) (q s : ℕ) (hq : t.val / 4 = q) (hs : t.val % 4 = s) (y : S1024x1024.Idx) (i : S2048x1024.Idx)
    (hi : (i 0).val = q * 1024 + (y 0).val ∧ (i 1).val = (y 1).val) (hb : s < 4) :
    (∑ k : Fin 1024, B0 m c t (ix2 k (y 0)) * B1 m c t (ix2 k (y 1)) : EReal)
      = ∑ k : Fin 1024, A0 m c (ix2 (⟨s * 1024 + k.val, by omega⟩ : Fin 4096) (i 0)) * A1 m c (ix2 (⟨s * 1024 + k.val, by omega⟩ : Fin 4096) (i 1)) := by
  subst hq hs
  refine Finset.sum_congr rfl fun k _ => ?_
  exact congrArg₂ (fun a b : EReal => a * b) (read0 m c t k (y 0) (ix2 (⟨t.val % 4 * 1024 + k.val, by omega⟩ : Fin 4096) (i 0)) rfl hi.1) (read1 m c t k (y 1) (ix2 (⟨t.val % 4 * 1024 + k.val, by omega⟩ : Fin 4096) (i 1)) rfl (by show (i 1).val = _; omega))

theorem written (c : Dev nD) (t : Fin cfg0.N) (hf : (cfg0.win 2).flush t = true) :
    (dats m 0 c).flushed 2 t = ((cfg0.win 2).blk t).view.read (Elt Ideal) (prod m c) := by
  have hm : t.val % 4 = 3 := (flush0_2 t).mp hf
  rw [Value.flushed2]
  funext y
  have y0 : (y 0).val < 1024 := (y 0).isLt
  have y1 : (y 1).val < 1024 := (y 1).isLt
  obtain ⟨i, hi⟩ : ∃ i : S2048x1024.Idx, i = ((cfg0.win 2).blk t).view.emb y := ⟨_, rfl⟩
  have hp := placed t y i hi
  rw [View.read_apply, cut t _ y y0 y1]
  refine Eq.trans ?_ (congrArg (prod m c) hi)
  generalize hz : (ix2 ⟨(y 0).val, y0⟩ ⟨(y 1).val, y1⟩ : S1024x1024.Idx) = z
  have z0 : (z 0).val = (y 0).val := by rw [← hz]; rfl
  have z1 : (z 1).val = (y 1).val := by rw [← hz]; rfl
  obtain ⟨t, ht⟩ := t
  obtain ⟨q, rfl⟩ : ∃ q, t = 4 * q + 2 + 1 := ⟨t / 4, by dsimp only at hm; omega⟩
  dsimp only at hp hm ⊢
  have hd : (4 * q + 2 + 1) / 4 = q := by omega
  have hi' : (i 0).val = q * 1024 + (z 0).val ∧ (i 1).val = (z 1).val := by
    refine ⟨hp.1.trans ?_, hp.2.trans ?_⟩
    · rw [hd, z0]
    · rw [z1, Nat.zero_mul, Nat.zero_add]
  rw [outC m c (4 * q + 2) ht (by omega) (by omega), step, accB m c (4 * q + 1) (Nat.lt_of_succ_lt ht) (by omega) (by omega), step,
    accB m c (4 * q) (Nat.lt_of_succ_lt (Nat.lt_of_succ_lt ht)) (by omega) (by omega), step,
    accA m c (4 * q) (Nat.lt_of_succ_lt (Nat.lt_of_succ_lt (Nat.lt_of_succ_lt ht))) (by omega), step, start]
  unfold prod
  refine Eq.trans ?_ (four (N := 4096) (by decide) fun k => (A0 m c (ix2 k (i 0)) * A1 m c (ix2 k (i 1)) : EReal)).symm
  rw [part m c ⟨4 * q, Nat.lt_of_succ_lt (Nat.lt_of_succ_lt (Nat.lt_of_succ_lt ht))⟩ q 0 (by dsimp only; omega) (by dsimp only; omega) z i hi' (by decide),
    part m c ⟨4 * q + 1, Nat.lt_of_succ_lt (Nat.lt_of_succ_lt ht)⟩ q 1 (by dsimp only; omega) (by dsimp only; omega) z i hi' (by decide),
    part m c ⟨4 * q + 1 + 1, Nat.lt_of_succ_lt ht⟩ q 2 (by dsimp only; omega) (by dsimp only; omega) z i hi' (by decide),
    part m c ⟨4 * q + 2 + 1, ht⟩ q 3 (by dsimp only; omega) (by dsimp only; omega) z i hi' (by decide)]

theorem final (c : Dev nD) : (dats m 0 c).arrAt 2 cfg0.N = prod m c :=
  (dats m 0 c).arrAt_eq_of_cover 2 (prod m c) (fun t hf => written m c t hf) fun i => (Value.covered_iff2 i).2 (by
    have h0 : (i 0).val < 2048 := (i 0).isLt
    have h1 : (i 1).val < 1024 := (i 1).isLt
    omega)

/-- The result is the reference's. -/
theorem result (c : Dev nD) (x0 : Vec Ideal S4096x2048 .bf16) (x1 : Vec Ideal S4096x1024 .f32) (h0 : A0 m c = x0) (h1 : A1 m c = x1) :
    (Cert.OutDwRefIdeal.Read.val_main_v4 (F := Ideal) x0 x1 : Vec Ideal S2048x1024 .f32) = (dats m 0 c).arrAt 2 cfg0.N := by
  rw [final]
  funext i
  rw [Cert.OutDwRefIdeal.Read.val_main_v4_apply, Cert.OutDwRefIdeal.Read.val_main_v3_apply]
  unfold prod
  rw [h0, h1]
  refine Finset.sum_congr rfl fun k _ => ?_
  rw [Cert.OutDwRefIdeal.Read.val_main_v1_apply]
  refine Eq.trans (mul_comm (G := EReal) _ _) ?_
  refine congrArg₂ (fun a b : EReal => a * b) (congrArg x0 ?_) (congrArg x1 ?_)
  · funext a
    match a with
    | ⟨0, _⟩ => rfl
    | ⟨1, _⟩ => rfl
  · funext a
    match a with
    | ⟨0, _⟩ => rfl
    | ⟨1, _⟩ => rfl
end Cert.OutDwIdeal.Math
end
-- ==== Proof.ProjDw.lean ====
module

public import proofs.«01_k».proof.Proof.Gen.ProjDwIdeal.Value
public import proofs.«01_k».proof.Proof.Gen.ProjDwRefIdeal.Read
public import Idealize.ShloMosaic.Lib.Pointwise
public import Idealize.ShloMosaic.Lib.StableHlo.RunRead

/-! # The gradient of the input projection's weight, `hᵀ · dproj`

The host lines make `hᵀ`; each block of the result is one product of `hᵀ` and a block of columns. -/

@[expose] public section
noncomputable section
namespace Cert.ProjDwIdeal.Math
open Idealize.ShloMosaic Idealize.ShloMosaic.TcCoe Cert.ProjDwIdeal Cert.ProjDwIdeal.Gen Idealize.SL.Sem

variable (m : (ℓ : Loc nD τ sig) → Buf (Elt Ideal) ℓ)

theorem zeros : (![0, 0] : Fin 2 → ℕ) = fun _ => 0 := by funext a; fin_cases a <;> rfl

/-- A block of the result. -/
theorem block (x0 : Vec Ideal S1024x4096 .bf16) (x1 : Vec Ideal S4096x512 .bf16) (y : S1024x512.Idx) :
    out0_2 x0 x1 y = (∑ k : Fin 4096, x0 (ix2 (y 0) k) * x1 (ix2 k (y 1)) : EReal) := by
  unfold out0_2
  rw [View.canon_unit_zero (S := S1024x512) zeros, View.ld_unit_zero (S := S1024x4096) zeros, View.ld_unit_zero (S := S4096x512) zeros]
  unfold k0_pay1
  rw [shapeCast_self]
  pointwise!

abbrev A0 (c : Dev nD) : Vec Ideal S1024x4096 .bf16 := V m c main_v13
abbrev A1 (c : Dev nD) : Vec Ideal S4096x5632 .bf16 := V m c main_arg2

/-- The result. -/
def prod (c : Dev nD) : Vec Ideal S1024x5632 .f32 := fun i =>
  (∑ k : Fin 4096, A0 m c (ix2 (i 0) k) * A1 m c (ix2 k (i 1)) : EReal)

theorem idx : ∀ t : Fin cfg0.N, win0_0.index t 0 = 0 ∧ win0_0.index t 1 = 0 ∧ win0_1.index t 0 = 0 ∧ win0_1.index t 1 = t.val ∧ win0_2.index t 0 = 0 ∧ win0_2.index t 1 = t.val :=
  (by decide +kernel : ∀ t : Fin grid0.N, win0_0.index t 0 = 0 ∧ win0_0.index t 1 = 0 ∧ win0_1.index t 0 = 0 ∧ win0_1.index t 1 = t.val ∧ win0_2.index t 0 = 0 ∧ win0_2.index t 1 = t.val)

theorem read0 (c : Dev nD) (t : Fin cfg0.N) (a : Fin 1024) (b : Fin 4096) (i : S1024x4096.Idx)
    (h0 : (i 0).val = 0 * 1024 + a.val) (h1 : (i 1).val = 0 * 4096 + b.val) :
    (iblk m c 0 t : Vec Ideal S1024x4096 .bf16) (ix2 a b) = A0 m c i := by
  unfold iblk
  rw [View.read_apply]
  show A0 m c _ = _
  congr 1; funext d; apply Fin.ext
  match d with
  | ⟨0, _⟩ => show win0_0.index t 0 * 1024 + 1 * a.val = (i 0).val; rw [(idx t).1, h0]; omega
  | ⟨1, _⟩ => show win0_0.index t 1 * 4096 + 1 * b.val = (i 1).val; rw [(idx t).2.1, h1]; omega

theorem read1 (c : Dev nD) (t : Fin cfg0.N) (a : Fin 4096) (b : Fin 512) (i : S4096x5632.Idx)
    (h0 : (i 0).val = 0 * 4096 + a.val) (h1 : (i 1).val = t.val * 512 + b.val) :
    (iblk m c 1 t : Vec Ideal S4096x512 .bf16) (ix2 a b) = A1 m c i := by
  unfold iblk
  rw [View.read_apply]
  show A1 m c _ = _
  congr 1; funext d; apply Fin.ext
  match d with
  | ⟨0, _⟩ => show win0_1.index t 0 * 4096 + 1 * a.val = (i 0).val; rw [(idx t).2.2.1, h0]; omega
  | ⟨1, _⟩ => show win0_1.index t 1 * 512 + 1 * b.val = (i 1).val; rw [(idx t).2.2.2.1, h1]; omega

theorem cut (t : Fin cfg0.N) (f : Vec Ideal S1024x512 .f32) (y : ((cfg0.win 2).xblock (grid0.coords t)).Idx) (h0 : (y 0).val < 1024) (h1 : (y 1).val < 512) :
    (cfg0.win 2).cut (grid0.coords t) f y = f (ix2 ⟨(y 0).val, h0⟩ ⟨(y 1).val, h1⟩) := by
  show f _ = f _
  congr 1; funext a; apply Fin.ext
  match a with
  | ⟨0, _⟩ => rfl
  | ⟨1, _⟩ => rfl

theorem placed (t : Fin cfg0.N) (y : ((cfg0.win 2).xblock (grid0.coords t)).Idx) (i : S1024x5632.Idx) (hi : i = ((cfg0.win 2).blk t).view.emb y) :
    (i 0).val = 0 * 1024 + (y 0).val ∧ (i 1).val = t.val * 512 + (y 1).val := by
  subst hi
  constructor
  · show win0_2.index t 0 * 1024 + 1 * (y 0).val = _; rw [(idx t).2.2.2.2.1]; omega
  · show win0_2.index t 1 * 512 + 1 * (y 1).val = _; rw [(idx t).2.2.2.2.2]; omega

theorem written (c : Dev nD) (t : Fin cfg0.N) :
    (dats m 0 c).flushed 2 t = ((cfg0.win 2).blk t).view.read (Elt Ideal) (prod m c) := by
  rw [Value.flushed2]
  funext y
  have y0 : (y 0).val < 1024 := (y 0).isLt
  have y1 : (y 1).val < 512 := (y 1).isLt
  rw [View.read_apply, cut t _ y y0 y1, block]
  obtain ⟨i, hi⟩ : ∃ i : S1024x5632.Idx, i = ((cfg0.win 2).blk t).view.emb y := ⟨_, rfl⟩
  have hp := placed t y i hi
  refine Eq.trans ?_ (congrArg (prod m c) hi)
  unfold prod
  refine Finset.sum_congr rfl fun k _ => ?_
  exact congrArg₂ (fun a b : EReal => a * b) (read0 m c t ⟨(y 0).val, y0⟩ k (ix2 (i 0) k) hp.1 (by show k.val = _; omega))
    (read1 m c t k ⟨(y 1).val, y1⟩ (ix2 k (i 1)) (by show k.val = _; omega) hp.2)

theorem final (c : Dev nD) : (dats m 0 c).arrAt 2 cfg0.N = prod m c :=
  (dats m 0 c).arrAt_eq_of_cover 2 (prod m c) (fun t _ => written m c t) fun i => by
    have h0 : (i 0).val < 1024 := (i 0).isLt
    have h1 : (i 1).val < 5632 := (i 1).isLt
    have hN : cfg0.N = 11 := N_0
    refine ⟨⟨(i 1).val / 512, by omega⟩, ?_, ?_⟩
    · exact (by decide +kernel : ∀ t : Fin cfg0.N, (cfg0.win 2).flush t = true) _
    · set t : Fin cfg0.N := ⟨(i 1).val / 512, by omega⟩ with ht
      show i ∈ ((View.whole main_v14).slice (win0_2.rect t)).set
      rw [View.set_slice_whole, Rect.mem_set_unit]
      have e0 : win0_2.index t 0 = (i 0).val / 1024 := by rw [(idx t).2.2.2.2.1]; omega
      have e1 : win0_2.index t 1 = (i 1).val / 512 := by rw [(idx t).2.2.2.2.2]
      intro a
      match a with
      | ⟨0, _⟩ => show win0_2.index t 0 * 1024 ≤ (i 0).val ∧ (i 0).val < win0_2.index t 0 * 1024 + 1024; rw [e0]; omega
      | ⟨1, _⟩ => show win0_2.index t 1 * 512 ≤ (i 1).val ∧ (i 1).val < win0_2.index t 1 * 512 + 512; rw [e1]; omega

/-- What the host lines make: the reference's normalised rows, transposed. -/
theorem host (c : Dev nD) : V m c main_v13 = transpose S1024x4096 [1, 0]
    (Cert.ProjDwRefIdeal.Read.val_main_v12 (F := Ideal) (m ((c : Thread nD τ).loc main_arg0)) (m ((c : Thread nD τ).loc main_arg1))) transposes_S4096x1024_S1024x4096_1_0 := by
  unfold V
  simp only [hostOps0]
  after_reads_simp
  rfl

/-- The result is the reference's. -/
theorem result (c : Dev nD) (x0 : Vec Ideal S4096x1024 .f32) (x1 : Vec Ideal S1x1024 .f32) (x2 : Vec Ideal S4096x5632 .bf16)
    (h0 : m ((c : Thread nD τ).loc main_arg0) = x0) (h1 : m ((c : Thread nD τ).loc main_arg1) = x1) (h2 : A1 m c = x2) :
    (Cert.ProjDwRefIdeal.Read.val_main_v16 (F := Ideal) x0 x1 x2 : Vec Ideal S1024x5632 .f32) = (dats m 0 c).arrAt 2 cfg0.N := by
  have hh := host m c
  rw [h0, h1] at hh
  rw [final]
  funext i
  rw [Cert.ProjDwRefIdeal.Read.val_main_v16_apply, Cert.ProjDwRefIdeal.Read.val_main_v15_apply]
  unfold prod
  rw [h2, show A0 m c = _ from hh]
  refine Finset.sum_congr rfl fun k _ => ?_
  rw [Cert.ProjDwRefIdeal.Read.val_main_v14_apply]
  refine Eq.trans (mul_comm (G := EReal) _ _) ?_
  refine congrArg₂ (fun a b : EReal => a * b) ?_ (congrArg x2 ?_)
  · refine Eq.symm (transpose_apply [1, 0] _ transposes_S4096x1024_S1024x4096_1_0 (ix2 (i 0) k) (Cert.ProjDwRefIdeal.Read.ridx_main_v15 (Cert.ProjDwRefIdeal.Read.idx_main_v16 i) k) fun b => ?_)
    match b with
    | ⟨0, _⟩ => rfl
    | ⟨1, _⟩ => rfl
  · funext a
    match a with
    | ⟨0, _⟩ => rfl
    | ⟨1, _⟩ => rfl
end Cert.ProjDwIdeal.Math
end
-- ==== Proof.Own.FrameOuts.lean ====
/- What each grid point of the idealized kernel leaves in its outputs and in the scratch that it carries, for each of
   the four cases of its conditionals, and the recursion over the grid.  Taken over from the generated frame module,
   which needs a larger budget than it sets for itself (see FrameRun.lean). -/
module

public import proofs.«01_k».proof.Proof.Gen.KernelIdeal.Frame.RunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section A

variable (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg14 : Memref sig .tc .vmem S128x1536 .bf16) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (hc0 : cond0_0 i) (hc1 : cond0_1 i) (hc2 : ¬cond0_2 i)
    (x0 : Vec F S128x512 .f32) (x1 : Vec F S128x512 .f32) (x2 : Vec F S128x128 .f32) (x3 : Vec F S128x128 .f32) (x4 : Vec F S128x128 .f32) (x5 : Vec F S128x128 .f32) (x6 : Vec F S128x512 .f32) (x7 : Vec F S128x512 .f32) (x8 : Vec F S128x128 .f32) (x9 : Vec F S1x128 .f32) (x10 : Vec F S128x128 .f32)

/-- Case A's pieces for output 11 tile its block (12 stores of `S128x128`, checked by the kernel's evaluation: Lib/Ring.lean `Piece.tiledL`, linear in the pieces, through a loop's `@[irreducible]` trip theorem too), so they cover it. -/
theorem cover0_A_11 (y : S128x1536.Idx) :
    ∃ pc ∈ (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).1 S128x128.size (by sl_kernel_rfl) y

/-- What case A leaves in output 11's staging buffer: its pieces read back over junk. -/
def out0_A_11 : Vec F S128x1536 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).1)

/-- Case A stores nothing into output 12 (the window is idle at its points and not written back there):
    no pieces — a placeholder (junk read back) that nothing consults, since at these points the window is neither
    written back nor read at the next point (Lib/Pipeline.lean "Idle points"). -/
def out0_A_12 : Vec F S1x128 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.1)

/-- Case A's pieces for scratch `arg16`, which the kernel carries between points, cover it: 2 pieces of `S128x128` tiling it (Lib/Ring.lean `Piece.tiledL`). -/
theorem scover0_A_0 (y : S128x128.Idx) :
    ∃ pc ∈ (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.1 S128x128.size (by sl_kernel_rfl) y

/-- What case A leaves in scratch `arg16`: its pieces read back over junk. -/
def sout0_A_0 : Vec F S128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.1)

/-- Case A's pieces for scratch `arg17`, which the kernel carries between points, cover it: 2 pieces of `S128x128` tiling it (Lib/Ring.lean `Piece.tiledL`). -/
theorem scover0_A_1 (y : S128x128.Idx) :
    ∃ pc ∈ (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.2.1 S128x128.size (by sl_kernel_rfl) y

/-- What case A leaves in scratch `arg17`: its pieces read back over junk. -/
def sout0_A_1 : Vec F S128x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.2.1)

/-- Case A's pieces for scratch `arg18`, which the kernel carries between points, cover it: 2 pieces of `S1x128` tiling it (Lib/Ring.lean `Piece.tiledL`). -/
theorem scover0_A_2 (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.2.2.1 S1x128.size (by sl_kernel_rfl) y

/-- What case A leaves in scratch `arg18`: its pieces read back over junk. -/
def sout0_A_2 : Vec F S1x128 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.2.2.1)

end A

section B

variable (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg14 : Memref sig .tc .vmem S128x1536 .bf16) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (hc0 : ¬cond0_0 i) (hc1 : ¬cond0_1 i) (hc2 : ¬cond0_2 i)
    (x0 : Vec F S128x512 .f32) (x1 : Vec F S128x512 .f32) (x2 : Vec F S128x128 .f32) (x3 : Vec F S128x128 .f32) (x4 : Vec F S128x128 .f32) (x5 : Vec F S128x128 .f32) (x6 : Vec F S128x512 .f32) (x7 : Vec F S128x512 .f32) (x8 : Vec F S128x128 .f32) (x9 : Vec F S1x128 .f32) (x10 : Vec F S128x128 .f32) (xs0 : Vec F S128x128 .f32) (xs1 : Vec F S128x128 .f32) (xs2 : Vec F S1x128 .f32)

/-- Case B's pieces for output 11 tile its block (12 stores of `S128x128`, checked by the kernel's evaluation: Lib/Ring.lean `Piece.tiledL`, linear in the pieces, through a loop's `@[irreducible]` trip theorem too), so they cover it. -/
theorem cover0_B_11 (y : S128x1536.Idx) :
    ∃ pc ∈ (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).1 S128x128.size (by sl_kernel_rfl) y

/-- What case B leaves in output 11's staging buffer: its pieces read back over junk. -/
def out0_B_11 : Vec F S128x1536 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).1)

/-- Case B stores nothing into output 12 (the window is idle at its points and not written back there):
    no pieces — a placeholder (junk read back) that nothing consults, since at these points the window is neither
    written back nor read at the next point (Lib/Pipeline.lean "Idle points"). -/
def out0_B_12 : Vec F S1x128 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.1)

/-- Case B's pieces for scratch `arg16`, which the kernel carries between points, cover it: 1 piece of `S128x128` tiling it (Lib/Ring.lean `Piece.tiledL`). -/
theorem scover0_B_0 (y : S128x128.Idx) :
    ∃ pc ∈ (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.1 S128x128.size (by sl_kernel_rfl) y

/-- What case B leaves in scratch `arg16`: its pieces read back over junk. -/
def sout0_B_0 : Vec F S128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.1)

/-- Case B's pieces for scratch `arg17`, which the kernel carries between points, cover it: 1 piece of `S128x128` tiling it (Lib/Ring.lean `Piece.tiledL`). -/
theorem scover0_B_1 (y : S128x128.Idx) :
    ∃ pc ∈ (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.1 S128x128.size (by sl_kernel_rfl) y

/-- What case B leaves in scratch `arg17`: its pieces read back over junk. -/
def sout0_B_1 : Vec F S128x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.1)

/-- Case B's pieces for scratch `arg18`, which the kernel carries between points, cover it: 1 piece of `S1x128` tiling it (Lib/Ring.lean `Piece.tiledL`). -/
theorem scover0_B_2 (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.2.1 S1x128.size (by sl_kernel_rfl) y

/-- What case B leaves in scratch `arg18`: its pieces read back over junk. -/
def sout0_B_2 : Vec F S1x128 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.2.1)

end B

section C

variable (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg14 : Memref sig .tc .vmem S128x1536 .bf16) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (hc0 : ¬cond0_0 i) (hc1 : cond0_1 i) (hc2 : ¬cond0_2 i)
    (x0 : Vec F S128x512 .f32) (x1 : Vec F S128x512 .f32) (x2 : Vec F S128x128 .f32) (x3 : Vec F S128x128 .f32) (x4 : Vec F S128x128 .f32) (x5 : Vec F S128x128 .f32) (x6 : Vec F S128x512 .f32) (x7 : Vec F S128x512 .f32) (x8 : Vec F S128x128 .f32) (x9 : Vec F S1x128 .f32) (x10 : Vec F S128x128 .f32) (xs2 : Vec F S1x128 .f32)

/-- Case C's pieces for output 11 tile its block (12 stores of `S128x128`, checked by the kernel's evaluation: Lib/Ring.lean `Piece.tiledL`, linear in the pieces, through a loop's `@[irreducible]` trip theorem too), so they cover it. -/
theorem cover0_C_11 (y : S128x1536.Idx) :
    ∃ pc ∈ (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).1 S128x128.size (by sl_kernel_rfl) y

/-- What case C leaves in output 11's staging buffer: its pieces read back over junk. -/
def out0_C_11 : Vec F S128x1536 .bf16 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).1)

/-- Case C stores nothing into output 12 (the window is idle at its points and not written back there):
    no pieces — a placeholder (junk read back) that nothing consults, since at these points the window is neither
    written back nor read at the next point (Lib/Pipeline.lean "Idle points"). -/
def out0_C_12 : Vec F S1x128 .f32 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.1)

/-- Case C's pieces for scratch `arg16`, which the kernel carries between points, cover it: 2 pieces of `S128x128` tiling it (Lib/Ring.lean `Piece.tiledL`). -/
theorem scover0_C_0 (y : S128x128.Idx) :
    ∃ pc ∈ (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.1 S128x128.size (by sl_kernel_rfl) y

/-- What case C leaves in scratch `arg16`: its pieces read back over junk. -/
def sout0_C_0 : Vec F S128x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.1)

/-- Case C's pieces for scratch `arg17`, which the kernel carries between points, cover it: 2 pieces of `S128x128` tiling it (Lib/Ring.lean `Piece.tiledL`). -/
theorem scover0_C_1 (y : S128x128.Idx) :
    ∃ pc ∈ (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.2.1 S128x128.size (by sl_kernel_rfl) y

/-- What case C leaves in scratch `arg17`: its pieces read back over junk. -/
def sout0_C_1 : Vec F S128x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.2.1)

/-- Case C's pieces for scratch `arg18`, which the kernel carries between points, cover it: 1 piece of `S1x128` tiling it (Lib/Ring.lean `Piece.tiledL`). -/
theorem scover0_C_2 (y : S1x128.Idx) :
    ∃ pc ∈ (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.2.2.1 S1x128.size (by sl_kernel_rfl) y

/-- What case C leaves in scratch `arg18`: its pieces read back over junk. -/
def sout0_C_2 : Vec F S1x128 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.2.2.1)

end C

section D

variable (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg14 : Memref sig .tc .vmem S128x1536 .bf16) (harg14 : arg14.IsWhole) (arg15 : Memref sig .tc .vmem S1x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S1x128 .f32) (harg18 : arg18.IsWhole) (hc0 : ¬cond0_0 i) (hc1 : ¬cond0_1 i) (hc2 : cond0_2 i)
    (x0 : Vec F S128x512 .f32) (x1 : Vec F S128x512 .f32) (x2 : Vec F S128x128 .f32) (x3 : Vec F S128x128 .f32) (x4 : Vec F S128x128 .f32) (x5 : Vec F S128x128 .f32) (x6 : Vec F S128x512 .f32) (x7 : Vec F S128x512 .f32) (x8 : Vec F S128x128 .f32) (x9 : Vec F S1x128 .f32) (x10 : Vec F S128x128 .f32) (xs0 : Vec F S128x128 .f32) (xs1 : Vec F S128x128 .f32) (xs2 : Vec F S1x128 .f32)

/-- Case D's pieces for output 11 tile its block (12 stores of `S128x128`, checked by the kernel's evaluation: Lib/Ring.lean `Piece.tiledL`, linear in the pieces, through a loop's `@[irreducible]` trip theorem too), so they cover it. -/
theorem cover0_D_11 (y : S128x1536.Idx) :
    ∃ pc ∈ (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).1 S128x128.size (by sl_kernel_rfl) y

/-- What case D leaves in output 11's staging buffer: its pieces read back over junk. -/
def out0_D_11 : Vec F S128x1536 .bf16 :=
  VO0_11.read (Elt F) (VO0_11.writes (Elt F) VO0_11.junk (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).1)

/-- Case D's pieces for output 12 tile its block (1 store of `S1x128`, checked by the kernel's evaluation: Lib/Ring.lean `Piece.tiledL`, linear in the pieces, through a loop's `@[irreducible]` trip theorem too), so they cover it. -/
theorem cover0_D_12 (y : S1x128.Idx) :
    ∃ pc ∈ (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.1 S1x128.size (by sl_kernel_rfl) y

/-- What case D leaves in output 12's staging buffer: its pieces read back over junk. -/
def out0_D_12 : Vec F S1x128 .f32 :=
  VO0_12.read (Elt F) (VO0_12.writes (Elt F) VO0_12.junk (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.1)

/-- Case D's pieces for scratch `arg16`, which the kernel carries between points, cover it: 1 piece of `S128x128` tiling it (Lib/Ring.lean `Piece.tiledL`). -/
theorem scover0_D_0 (y : S128x128.Idx) :
    ∃ pc ∈ (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.1 S128x128.size (by sl_kernel_rfl) y

/-- What case D leaves in scratch `arg16`: its pieces read back over junk. -/
def sout0_D_0 : Vec F S128x128 .f32 :=
  VS0_0.read (Elt F) (VS0_0.writes (Elt F) VS0_0.junk (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.1)

/-- Case D's pieces for scratch `arg17`, which the kernel carries between points, cover it: 1 piece of `S128x128` tiling it (Lib/Ring.lean `Piece.tiledL`). -/
theorem scover0_D_1 (y : S128x128.Idx) :
    ∃ pc ∈ (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.1 S128x128.size (by sl_kernel_rfl) y

/-- What case D leaves in scratch `arg17`: its pieces read back over junk. -/
def sout0_D_1 : Vec F S128x128 .f32 :=
  VS0_1.read (Elt F) (VS0_1.writes (Elt F) VS0_1.junk (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.1)

/-- Case D's pieces for scratch `arg18`, which the kernel carries between points, cover it: 1 piece of `S1x128` tiling it (Lib/Ring.lean `Piece.tiledL`). -/
theorem scover0_D_2 (y : S1x128.Idx) :
    ∃ pc ∈ (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.2.1 S1x128.size (by sl_kernel_rfl) y

/-- What case D leaves in scratch `arg18`: its pieces read back over junk. -/
def sout0_D_2 : Vec F S1x128 .f32 :=
  VS0_2.read (Elt F) (VS0_2.writes (Elt F) VS0_2.junk (kernelRun0_D c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.2.1)

end D

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x1536 .bf16 × Vec F S1x128 .f32 × Vec F S128x128 .f32 × Vec F S128x128 .f32 × Vec F S1x128 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 32 = 0 then
      if h1 : (n + 1) % 16 = 0 then
        if h2 : (n + 1) % 32 = 31 then
          False.elim (by have hN : n + 1 < 32 := lt_of_lt_of_eq hn (show cfg0.N = 32 from N_0); omega)
        else
          (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
      else
        False.elim (by have hN : n + 1 < 32 := lt_of_lt_of_eq hn (show cfg0.N = 32 from N_0); omega)
    else
      if h1 : (n + 1) % 16 = 0 then
        if h2 : (n + 1) % 32 = 31 then
          False.elim (by have hN : n + 1 < 32 := lt_of_lt_of_eq hn (show cfg0.N = 32 from N_0); omega)
        else
          (out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2)
      else
        if h2 : (n + 1) % 32 = 31 then
          (out0_D_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_D_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2)
        else
          (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.1 (outsAt0 c n (Nat.lt_of_succ_lt hn)).2.2.2.1 (outsAt0 c n (Nat.lt_of_succ_lt hn)).2.2.2.2)

end Cert.KernelIdeal.Gen

end

end
-- ==== Proof.Own.FrameRun.lean ====
/- The rest of the frame of the idealized kernel, taken over from the generated frame module: the recursion at a
   point of each case (these four statements need a larger budget), the proof data, the obligation of the body, the
   run and the frame. -/
module

public import proofs.«01_k».proof.Proof.Own.FrameOuts
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
set_option maxHeartbeats 400000 in
/-- `outsAt0` at a point of case A: that case's contents. -/
theorem outsAt0_A (c : Dev nD) (t : Fin cfg0.N) (h0 : t.val % 32 = 0) (h1 : t.val % 16 = 0) (h2 : ¬t.val % 32 = 31) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_pos h1).trans ((dif_neg h2).trans rfl))

set_option maxHeartbeats 400000 in
/-- `outsAt0` at a point of case B: that case's contents, over what the point before left. -/
theorem outsAt0_B (c : Dev nD) (t : Fin cfg0.N) (h0 : ¬t.val % 32 = 0) (h1 : ¬t.val % 16 = 0) (h2 : ¬t.val % 32 = 31) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

set_option maxHeartbeats 400000 in
/-- `outsAt0` at a point of case C: that case's contents, over what the point before left. -/
theorem outsAt0_C (c : Dev nD) (t : Fin cfg0.N) (h0 : ¬t.val % 32 = 0) (h1 : t.val % 16 = 0) (h2 : ¬t.val % 32 = 31) :
    outsAt0 m c t.val t.isLt = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

set_option maxHeartbeats 400000 in
/-- `outsAt0` at a point of case D: that case's contents, over what the point before left. -/
theorem outsAt0_D (c : Dev nD) (t : Fin cfg0.N) (h0 : ¬t.val % 32 = 0) (h1 : ¬t.val % 16 = 0) (h2 : t.val % 32 = 31) :
    outsAt0 m c t.val t.isLt = (out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 25600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 16 = 0
    · by_cases h2 : t.val % 32 = 31
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [Dat.leavesExact_idle (dats m 0 c) 12 t (idleAt0_12_A t ((hcond0_0 t).mpr h0) ((hcond0_1 t).mpr h1) (fun h => h2 ((hcond0_2 t).mp h))) (noFlush0_12_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [outsAt0_A m c t h0 h1 h2]
          unfold out0_A_11 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_A c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexact H12
          isplitl [HS0]; · iexact HS0
          isplitl [HS1]; · iexact HS1
          isplitl [HS2]; · iexact HS2
          iintro ⟨H0, H1, H2, H3, H4, H5, H6, H7, H8, H9, H10, ⟨%e11, H11⟩, H12, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _)
          iexists _; iexact H12
        · exfalso; have hN : t.val < 32 := lt_of_lt_of_eq t.isLt (show cfg0.N = 32 from N_0); omega
    · exfalso; omega
  · by_cases h1 : t.val % 16 = 0
    · by_cases h2 : t.val % 32 = 31
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [Dat.leavesExact_idle (dats m 0 c) 12 t (idleAt0_12_C t (fun h => h0 ((hcond0_0 t).mp h)) ((hcond0_1 t).mpr h1) (fun h => h2 ((hcond0_2 t).mp h))) (noFlush0_12_C t (fun h => h0 ((hcond0_0 t).mp h)) ((hcond0_1 t).mpr h1) (fun h => h2 ((hcond0_2 t).mp h)))]
        by_cases hz : t.val = 0
        · exfalso; have hN : t.val < 32 := lt_of_lt_of_eq t.isLt (show cfg0.N = 32 from N_0); omega
        · rw [PhiS_castSucc m c t, PhiS_pos m c _ _ hz]
          rw [outsAt0_C m c t h0 h1 h2]
          unfold out0_C_11 sout0_C_0 sout0_C_1 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexact H12
          isplitl [HS0]; · iexists _; iexact HS0
          isplitl [HS1]; · iexists _; iexact HS1
          isplitl [HS2]; · iexact HS2
          iintro ⟨H0, H1, H2, H3, H4, H5, H6, H7, H8, H9, H10, ⟨%e11, H11⟩, H12, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _)
          iexists _; iexact H12
    · by_cases h2 : t.val % 32 = 31
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12_D t (fun h => h0 ((hcond0_0 t).mp h)) (fun h => h1 ((hcond0_1 t).mp h)) ((hcond0_2 t).mpr h2)], after0_12]
        by_cases hz : t.val = 0
        · exfalso; have hN : t.val < 32 := lt_of_lt_of_eq t.isLt (show cfg0.N = 32 from N_0); omega
        · rw [PhiS_castSucc m c t, PhiS_pos m c _ _ hz]
          rw [outsAt0_D m c t h0 h1 h2]
          unfold out0_D_11 out0_D_12 sout0_D_0 sout0_D_1 sout0_D_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_D c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [HS0]; · iexact HS0
          isplitl [HS1]; · iexact HS1
          isplitl [HS2]; · iexact HS2
          iintro ⟨H0, H1, H2, H3, H4, H5, H6, H7, H8, H9, H10, ⟨%e11, H11⟩, ⟨%e12, H12⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_D_1 c _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_D_2 c _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H12
          ipureintro; exact View.read_writes_of_cover _ _ _ _ _ (cover0_D_12 c _ _ _ _ _ _ _ _ _ _ _ _ _ _ _ _ _ _ _ _ _ _ _ _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [Dat.leavesExact_idle (dats m 0 c) 12 t (idleAt0_12_B t (fun h => h0 ((hcond0_0 t).mp h)) (fun h => h1 ((hcond0_1 t).mp h)) (fun h => h2 ((hcond0_2 t).mp h))) (noFlush0_12_B t (fun h => h0 ((hcond0_0 t).mp h)) (fun h => h1 ((hcond0_1 t).mp h)) (fun h => h2 ((hcond0_2 t).mp h)))]
        by_cases hz : t.val = 0
        · exfalso; have hN : t.val < 32 := lt_of_lt_of_eq t.isLt (show cfg0.N = 32 from N_0); omega
        · rw [PhiS_castSucc m c t, PhiS_pos m c _ _ hz]
          rw [outsAt0_B m c t h0 h1 h2]
          unfold out0_B_11 sout0_B_0 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _).2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexact H12
          isplitl [HS0]; · iexact HS0
          isplitl [HS1]; · iexact HS1
          isplitl [HS2]; · iexact HS2
          iintro ⟨H0, H1, H2, H3, H4, H5, H6, H7, H8, H9, H10, ⟨%e11, H11⟩, H12, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _)
          iexists _; iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Finite.lean ====
/-
  Arrays of finite extended reals. `Is x X` says that the rank-2 array `x` holds, entry by entry, the real numbers
  `X`; each lemma of this module carries the predicate through one elementwise operation.
-/
module

public import Idealize.ShloMosaic.Lib.ValueIdx
public import Idealize.ShloMosaic.Lib.IdealHost
public import Idealize.ShloMosaic.Lib.Pointwise

@[expose] public section

noncomputable section

namespace Cert.Attn

open Idealize.ShloMosaic
open Idealize.ShloMosaic.ValueIdx (idx2_lt0 idx2_lt1)

/-- The array `x` holds the real numbers `X`. -/
def Is {a b : ℕ} (x : (⟨2, ![a, b]⟩ : Shape).Idx → EReal) (X : ℕ → ℕ → ℝ) : Prop :=
  ∀ i : (⟨2, ![a, b]⟩ : Shape).Idx, x i = ((X (i 0).val (i 1).val : ℝ) : EReal)

/-- A finite sum of real numbers, taken among the extended reals. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The sum over all coordinates of an axis, written over a range of naturals. -/
theorem sum_fin_coe {n : ℕ} (f : ℕ → ℝ) :
    (∑ i : Fin n, ((f i : ℝ) : EReal)) = ((∑ i ∈ Finset.range n, f i : ℝ) : EReal) := by
  rw [sum_coe, Finset.sum_range]

/-- The quotient of two real numbers, the divisor not zero. -/
theorem div_real (x y : ℝ) (h : y ≠ 0) : Ideal.div (x : EReal) (y : EReal) = ((x / y : ℝ) : EReal) := by
  rw [Ideal.div_coe h, ← EReal.coe_mul]; congr 1; ring

/-- The word of one eighth. -/
theorem ofBits_eighth : Ideal.ofBits .f32 0x3E000000#32 = (((1 : ℝ) / 8 : ℝ) : EReal) := by
  simp [Ideal.ofBits, Ideal.ieee, -EReal.coe_mul]; norm_num

section
variable {a b : ℕ} {x y : (⟨2, ![a, b]⟩ : Shape).Idx → EReal} {X Y : ℕ → ℕ → ℝ}

theorem Is.congr (h : Is x X) (e : ∀ i j, i < a → j < b → X i j = Y i j) : Is x Y := fun i => by
  rw [h i, e _ _ (idx2_lt0 i) (idx2_lt1 i)]

theorem Is.mul (hx : Is x X) (hy : Is y Y) : Is (mulf (F := Ideal) (φ := .f32) x y) (fun i j => X i j * Y i j) :=
  fun i => by
    show x i * y i = _
    rw [hx i, hy i, ← EReal.coe_mul]

theorem Is.add (hx : Is x X) (hy : Is y Y) : Is (addf (F := Ideal) (φ := .f32) x y) (fun i j => X i j + Y i j) :=
  fun i => by
    show x i + y i = _
    rw [hx i, hy i, ← EReal.coe_add]

theorem Is.sub (hx : Is x X) (hy : Is y Y) : Is (subf (F := Ideal) (φ := .f32) x y) (fun i j => X i j - Y i j) :=
  fun i => by
    show x i - y i = _
    rw [hx i, hy i, ← EReal.coe_sub]

theorem Is.exp (hx : Is x X) : Is (Idealize.ShloMosaic.exp (F := Ideal) (φ := .f32) x) (fun i j => Real.exp (X i j)) :=
  fun i => by
    show Ideal.exp (x i) = _
    rw [hx i]; rfl

theorem Is.div (hx : Is x X) (hy : Is y Y) (h : ∀ i j, i < a → j < b → Y i j ≠ 0) :
    Is (divf (F := Ideal) (φ := .f32) x y) (fun i j => X i j / Y i j) :=
  fun i => by
    show Ideal.div (x i) (y i) = _
    rw [hx i, hy i, div_real _ _ (h _ _ (idx2_lt0 i) (idx2_lt1 i))]

theorem Is.const {c : EReal} {C : ℝ} (h : c = (C : EReal)) : Is (broadcast (⟨2, ![a, b]⟩ : Shape) c) (fun _ _ => C) :=
  fun _ => h

theorem Is.select {m : IVec (⟨2, ![a, b]⟩ : Shape) 1} {M : ℕ → ℕ → Prop} [∀ i j, Decidable (M i j)]
    (hm : ∀ i : (⟨2, ![a, b]⟩ : Shape).Idx, m i = if M (i 0).val (i 1).val then 1#1 else 0#1) (hx : Is x X) (hy : Is y Y) :
    Is (select m x y) (fun i j => if M i j then X i j else Y i j) := fun i => by
  show Scalar.select (m i) (x i) (y i) = _
  rw [hm i, hx i, hy i]
  by_cases h : M (i 0).val (i 1).val
  · simp only [if_pos h]; rfl
  · simp only [if_neg h]; rfl

end

end Cert.Attn

end

end
-- ==== Proof.Tiles.lean ====
/-
  The kernel's own tile helpers, each as one function of the tiles it is given, and what each of them holds when its
  tiles hold real numbers: two heads stacked into 256 rows, two stacked heads put side by side again, one lane of a
  row picked by a masked sum, the gate's logistic factor and its slope.
-/
module

public import proofs.«01_k».proof.Proof.Gen.KernelIdeal.Skeleton
public import proofs.«01_k».proof.Proof.Finite
public import Idealize.ShloMosaic.Lib.KernelVsHost

@[expose] public section

noncomputable section

namespace Cert.Attn

open Idealize.ShloMosaic Cert.KernelIdeal Cert.KernelIdeal.Gen
open Idealize.ShloMosaic.ValueIdx (idx2_lt0 idx2_lt1)

/-- A tile of extended reals. -/
abbrev Tile (a b : ℕ) : Type := (⟨2, ![a, b]⟩ : Shape).Idx → EReal

/-! ### The two halves of a row of lanes -/

/-- One on the lanes `lo ≤ lane < hi`, zero elsewhere. -/
def half (lo hi : BitVec 32) : Tile 1 128 :=
  sitofp (F := Ideal) .f32 (extui 32 (andi (cmpi .sge (iota .tc S1x128 32 [1] iota_S1x128_d1_w32) (broadcast S1x128 lo))
    (cmpi .slt (iota .tc S1x128 32 [1] iota_S1x128_d1_w32) (broadcast S1x128 hi))) natLt_1_32)

theorem half_bit_lo : ∀ l : Fin 128, IntOp.andi (IntOp.cmpi .sge (BitVec.ofNat 32 l.val) 0#32)
    (IntOp.cmpi .slt (BitVec.ofNat 32 l.val) 64#32) = if l.val < 64 then 1#1 else 0#1 := by decide

theorem half_bit_hi : ∀ l : Fin 128, IntOp.andi (IntOp.cmpi .sge (BitVec.ofNat 32 l.val) 64#32)
    (IntOp.cmpi .slt (BitVec.ofNat 32 l.val) 128#32) = if l.val < 64 then 0#1 else 1#1 := by decide

theorem bit_real (b : BitVec 1) : (Scalar.sitofp (F := Ideal) .f32 (b.setWidth 32) : EReal) = if b = 1#1 then 1 else 0 := by
  rcases BitVec.eq_zero_or_eq_one b with h | h <;> subst h
  · show (((0#32 : BitVec 32).toInt : ℝ) : EReal) = 0
    simp
  · show (((1#32 : BitVec 32).toInt : ℝ) : EReal) = 1
    simp

theorem half_lo : Is (half 0#32 64#32) (fun _ l => if l < 64 then 1 else 0) := fun i => by
  unfold half
  show (Scalar.sitofp (F := Ideal) .f32 ((IntOp.andi (IntOp.cmpi .sge (iota .tc S1x128 32 [1] iota_S1x128_d1_w32 i) 0#32)
    (IntOp.cmpi .slt (iota .tc S1x128 32 [1] iota_S1x128_d1_w32 i) 64#32)).setWidth 32) : EReal) = _
  rw [iota_single_apply, bit_real]
  have e := half_bit_lo (i 1)
  refine Eq.trans (congrArg (fun b : BitVec 1 => if b = 1#1 then (1 : EReal) else 0) e) ?_
  by_cases h : (i 1).val < 64 <;> simp [h]

theorem half_hi : Is (half 64#32 128#32) (fun _ l => if l < 64 then 0 else 1) := fun i => by
  unfold half
  show (Scalar.sitofp (F := Ideal) .f32 ((IntOp.andi (IntOp.cmpi .sge (iota .tc S1x128 32 [1] iota_S1x128_d1_w32 i) 64#32)
    (IntOp.cmpi .slt (iota .tc S1x128 32 [1] iota_S1x128_d1_w32 i) 128#32)).setWidth 32) : EReal) = _
  rw [iota_single_apply, bit_real]
  have e := half_bit_hi (i 1)
  refine Eq.trans (congrArg (fun b : BitVec 1 => if b = 1#1 then (1 : EReal) else 0) e) ?_
  by_cases h : (i 1).val < 64 <;> simp [h]

/-! ### Layout operations -/

/-- The tile turned by 64 lanes. -/
def turn (x : Tile 128 128) : Tile 128 128 := dynamicRotate 1 64#32 none x rotates_S128x128_d1

theorem turn_is {x : Tile 128 128} {X : ℕ → ℕ → ℝ} (h : Is x X) :
    Is (turn x) (fun r l => if l < 64 then X r (l + 64) else X r (l - 64)) := fun i => by
  have h1 := idx2_lt1 i
  have h0 := idx2_lt0 i
  by_cases hl : (i 1).val < 64
  · refine (dynamicRotate_apply (s := S128x128) 1 64#32 x rotates_S128x128_d1 i
      (ix2 ⟨(i 0).val, h0⟩ ⟨(i 1).val + 64, by omega⟩) ?_).trans ((h _).trans ?_)
    · intro b
      match b with
      | ⟨0, _⟩ => rfl
      | ⟨1, _⟩ =>
        show (i 1).val + 64 = ((i 1).val + 128 - 64 % 128) % 128
        omega
    · show ((X (i 0).val ((i 1).val + 64) : ℝ) : EReal) = _
      simp only [if_pos hl]
  · refine (dynamicRotate_apply (s := S128x128) 1 64#32 x rotates_S128x128_d1 i
      (ix2 ⟨(i 0).val, h0⟩ ⟨(i 1).val - 64, by omega⟩) ?_).trans ((h _).trans ?_)
    · intro b
      match b with
      | ⟨0, _⟩ => rfl
      | ⟨1, _⟩ =>
        show (i 1).val - 64 = ((i 1).val + 128 - 64 % 128) % 128
        omega
    · show ((X (i 0).val ((i 1).val - 64) : ℝ) : EReal) = _
      simp only [if_neg hl]

/-- A row repeated down the tile. -/
theorem rows_is {x : Tile 1 128} {X : ℕ → ℕ → ℝ} (h : Is x X) :
    Is (broadcastTo S128x128 x broadcasts_S1x128_S128x128) (fun _ l => X 0 l) := fun i => by
  refine (broadcastTo_apply (s := S1x128) x broadcasts_S1x128_S128x128 i (ix2 ⟨0, by omega⟩ ⟨(i 1).val, idx2_lt1 i⟩) ?_).trans (h _)
  intro b
  match b with
  | ⟨0, _⟩ => rfl
  | ⟨1, _⟩ => rfl

/-- A column repeated across the tile. -/
theorem cols_is {x : Tile 256 1} {X : ℕ → ℕ → ℝ} (h : Is x X) :
    Is (broadcastTo S256x256 x broadcasts_S256x1_S256x256) (fun r _ => X r 0) := fun i => by
  refine (broadcastTo_apply (s := S256x1) x broadcasts_S256x1_S256x256 i (ix2 ⟨(i 0).val, idx2_lt0 i⟩ ⟨0, by omega⟩) ?_).trans (h _)
  intro b
  match b with
  | ⟨0, _⟩ => rfl
  | ⟨1, _⟩ => rfl

/-- Two tiles of 128 rows one above the other. -/
theorem above_is {c : ℕ} {x y : Tile 128 c} {X Y : ℕ → ℕ → ℝ} (hx : Is x X) (hy : Is y Y)
    (hc : Shape.Concatenates [⟨2, ![128, c]⟩, ⟨2, ![128, c]⟩] ⟨2, ![256, c]⟩ 0) :
    Is (concatenate (⟨2, ![256, c]⟩ : Shape) 0 [⟨⟨2, ![128, c]⟩, x⟩, ⟨⟨2, ![128, c]⟩, y⟩] hc)
      (fun r l => if r < 128 then X r l else Y (r - 128) l) := fun i => by
  have h1 := idx2_lt1 i
  have h0 := idx2_lt0 i
  by_cases hr : (i 0).val < 128
  · refine (concatenate_pair_apply_left (t := ⟨2, ![256, c]⟩) 0 x y hc i rfl (ix2 ⟨(i 0).val, hr⟩ ⟨(i 1).val, h1⟩) ?_).trans
      ((hx _).trans ?_)
    · intro b
      match b with
      | ⟨0, _⟩ => rfl
      | ⟨1, _⟩ => rfl
    · show ((X (i 0).val (i 1).val : ℝ) : EReal) = _
      simp only [if_pos hr]
  · refine (concatenate_pair_apply_right (t := ⟨2, ![256, c]⟩) 0 x y hc i rfl rfl (ix2 ⟨(i 0).val - 128, by omega⟩ ⟨(i 1).val, h1⟩) ?_ ?_).trans
      ((hy _).trans ?_)
    · intro b
      match b with
      | ⟨0, _⟩ => intro hb; exact absurd rfl hb
      | ⟨1, _⟩ => intro _; rfl
    · show (i 0).val - 128 + 128 = (i 0).val
      omega
    · show ((Y ((i 0).val - 128) (i 1).val : ℝ) : EReal) = _
      simp only [if_neg hr]

/-- The upper 128 rows of a tile. -/
theorem top_is {c : ℕ} {x : Tile 256 c} {X : ℕ → ℕ → ℝ} (hx : Is x X) (hs : (⟨2, ![256, c]⟩ : Shape).Slices ![0, 0] ⟨2, ![128, c]⟩) :
    Is (extractStridedSlice (⟨2, ![128, c]⟩ : Shape) ![0, 0] x hs) X := fun i => by
  have h0 := idx2_lt0 i
  refine (extractStridedSlice_apply ![0, 0] x hs i (ix2 ⟨(i 0).val, by omega⟩ ⟨(i 1).val, idx2_lt1 i⟩) ?_).trans (hx _)
  intro b
  match b with
  | ⟨0, _⟩ => exact (Nat.zero_add _).symm
  | ⟨1, _⟩ => exact (Nat.zero_add _).symm

/-- The lower 128 rows of a tile. -/
theorem bot_is {c : ℕ} {x : Tile 256 c} {X : ℕ → ℕ → ℝ} (hx : Is x X) (hs : (⟨2, ![256, c]⟩ : Shape).Slices ![128, 0] ⟨2, ![128, c]⟩) :
    Is (extractStridedSlice (⟨2, ![128, c]⟩ : Shape) ![128, 0] x hs) (fun r l => X (128 + r) l) := fun i => by
  have h0 := idx2_lt0 i
  refine (extractStridedSlice_apply ![128, 0] x hs i (ix2 ⟨128 + (i 0).val, by omega⟩ ⟨(i 1).val, idx2_lt1 i⟩) ?_).trans (hx _)
  intro b
  match b with
  | ⟨0, _⟩ => rfl
  | ⟨1, _⟩ => exact (Nat.zero_add _).symm

/-! ### Two heads stacked, and side by side again -/

/-- Heads `2j` and `2j+1` of the first key group, stacked: 64 lanes of values, then zeros. -/
def stack0 (x : Tile 128 128) : Tile 256 128 :=
  concatenate S256x128 0 [⟨S128x128, mulf (F := Ideal) (φ := .f32) x (broadcastTo S128x128 (half 0#32 64#32) broadcasts_S1x128_S128x128)⟩,
    ⟨S128x128, mulf (F := Ideal) (φ := .f32) (turn x) (broadcastTo S128x128 (half 0#32 64#32) broadcasts_S1x128_S128x128)⟩]
    concatenates_S128x128_S128x128_S256x128_d0

/-- Heads `2j` and `2j+1` of the second key group, stacked: zeros, then 64 lanes of values. -/
def stack1 (x : Tile 128 128) : Tile 256 128 :=
  concatenate S256x128 0 [⟨S128x128, mulf (F := Ideal) (φ := .f32) (turn x) (broadcastTo S128x128 (half 64#32 128#32) broadcasts_S1x128_S128x128)⟩,
    ⟨S128x128, mulf (F := Ideal) (φ := .f32) x (broadcastTo S128x128 (half 64#32 128#32) broadcasts_S1x128_S128x128)⟩]
    concatenates_S128x128_S128x128_S256x128_d0

/-- Row `r`, dimension `d` of two heads stacked, the heads being columns 0–63 and 64–127. -/
def two (X : ℕ → ℕ → ℝ) (r d : ℕ) : ℝ := if r < 128 then X r d else X (r - 128) (64 + d)

theorem stack0_is {x : Tile 128 128} {X : ℕ → ℕ → ℝ} (h : Is x X) :
    Is (stack0 x) (fun r l => if l < 64 then two X r l else 0) := by
  refine (above_is (h.mul (rows_is half_lo)) ((turn_is h).mul (rows_is half_lo)) _).congr fun r l _ _ => ?_
  unfold two
  by_cases hl : l < 64 <;> by_cases hr : r < 128 <;> simp [hl, hr, Nat.add_comm]

theorem stack1_is {x : Tile 128 128} {X : ℕ → ℕ → ℝ} (h : Is x X) :
    Is (stack1 x) (fun r l => if l < 64 then 0 else two X r (l - 64)) := by
  refine (above_is ((turn_is h).mul (rows_is half_hi)) (h.mul (rows_is half_hi)) _).congr fun r l _ _ => ?_
  unfold two
  by_cases hl : l < 64 <;> by_cases hr : r < 128 <;> simp [hl, hr]
  congr 1; omega

/-- Two stacked heads of the first key group put side by side. -/
def flat0 (y : Tile 256 128) : Tile 128 128 :=
  addf (F := Ideal) (φ := .f32)
    (mulf (F := Ideal) (φ := .f32) (extractStridedSlice S128x128 ![0, 0] y slices_S256x128_o0_0_S128x128)
      (broadcastTo S128x128 (half 0#32 64#32) broadcasts_S1x128_S128x128))
    (mulf (F := Ideal) (φ := .f32) (turn (extractStridedSlice S128x128 ![128, 0] y slices_S256x128_o128_0_S128x128))
      (broadcastTo S128x128 (half 64#32 128#32) broadcasts_S1x128_S128x128))

/-- Two stacked heads of the second key group put side by side. -/
def flat1 (y : Tile 256 128) : Tile 128 128 :=
  addf (F := Ideal) (φ := .f32)
    (mulf (F := Ideal) (φ := .f32) (turn (extractStridedSlice S128x128 ![0, 0] y slices_S256x128_o0_0_S128x128))
      (broadcastTo S128x128 (half 0#32 64#32) broadcasts_S1x128_S128x128))
    (mulf (F := Ideal) (φ := .f32) (extractStridedSlice S128x128 ![128, 0] y slices_S256x128_o128_0_S128x128)
      (broadcastTo S128x128 (half 64#32 128#32) broadcasts_S1x128_S128x128))

theorem flat0_is {y : Tile 256 128} {Y : ℕ → ℕ → ℝ} (h : Is y Y) :
    Is (flat0 y) (fun r c => if c < 64 then Y r c else Y (128 + r) (c - 64)) := by
  refine (((top_is h slices_S256x128_o0_0_S128x128).mul (rows_is half_lo)).add
    ((turn_is (bot_is h slices_S256x128_o128_0_S128x128)).mul (rows_is half_hi))).congr fun r l _ _ => ?_
  by_cases hl : l < 64 <;> simp [hl]

theorem flat1_is {y : Tile 256 128} {Y : ℕ → ℕ → ℝ} (h : Is y Y) :
    Is (flat1 y) (fun r c => if c < 64 then Y r (64 + c) else Y (128 + r) c) := by
  refine (((turn_is (top_is h slices_S256x128_o0_0_S128x128)).mul (rows_is half_lo)).add
    ((bot_is h slices_S256x128_o128_0_S128x128).mul (rows_is half_hi))).congr fun r l _ _ => ?_
  by_cases hl : l < 64 <;> simp [hl, Nat.add_comm]

end Cert.Attn

end

end
-- ==== Proof.Heads.lean ====
/-
  What the kernel computes for one pair of heads, as functions of tiles: products of tiles, the masked and shifted
  exponential of the scores, the row sums, the sinks' terms. Beside each function stands what it holds when its tiles
  hold real numbers.
-/
module

public import proofs.«01_k».proof.Proof.Tiles

@[expose] public section

noncomputable section

namespace Cert.Attn

open Idealize.ShloMosaic Cert.KernelIdeal Cert.KernelIdeal.Gen
open Idealize.ShloMosaic.ValueIdx (idx2_lt0 idx2_lt1 contrEquiv1 contrEquiv1_symm_val)

/-! ### The gate -/

/-- The constant tiles zero and one. -/
abbrev zeroT : Tile 128 128 := broadcast S128x128 (Scalar.ofBits (F := Ideal) .f32 0x00000000#32)
abbrev oneT : Tile 128 128 := broadcast S128x128 (Scalar.ofBits (F := Ideal) .f32 0x3F800000#32)

theorem zeroW : (Scalar.ofBits (F := Ideal) .f32 0x00000000#32 : EReal) = ((0 : ℝ) : EReal) := by
  show Ideal.ofBits .f32 0x00000000#32 = _
  rw [Ideal.ofBits_zero_f32]; rfl

theorem oneW : (Scalar.ofBits (F := Ideal) .f32 0x3F800000#32 : EReal) = ((1 : ℝ) : EReal) := by
  show Ideal.ofBits .f32 0x3F800000#32 = _
  rw [Ideal.ofBits_one_f32]; rfl

theorem eighthW : (Scalar.ofBits (F := Ideal) .f32 0x3E000000#32 : EReal) = (((1 : ℝ) / 8 : ℝ) : EReal) :=
  ofBits_eighth

/-- The logistic function of a tile. -/
def sigT (z : Tile 128 128) : Tile 128 128 :=
  divf (F := Ideal) (φ := .f32) oneT (addf (F := Ideal) (φ := .f32) oneT (Idealize.ShloMosaic.exp (F := Ideal) (φ := .f32) (subf (F := Ideal) (φ := .f32) zeroT z)))

/-- The logistic function. -/
def logi (z : ℝ) : ℝ := 1 / (1 + Real.exp (0 - z))

theorem sigT_is {z : Tile 128 128} {Z : ℕ → ℕ → ℝ} (h : Is z Z) : Is (sigT z) (fun r c => logi (Z r c)) :=
  (Is.const oneW).div ((Is.const oneW).add ((Is.const zeroW).sub h).exp) fun _ _ _ _ => by positivity

/-- The cotangent with the gate on it: `dy · z · σ(z)`. -/
def gateT (z dy : Tile 128 128) : Tile 128 128 := mulf (F := Ideal) (φ := .f32) dy (mulf (F := Ideal) (φ := .f32) z (sigT z))

theorem gateT_is {z dy : Tile 128 128} {Z D : ℕ → ℕ → ℝ} (hz : Is z Z) (hd : Is dy D) :
    Is (gateT z dy) (fun r c => D r c * (Z r c * logi (Z r c))) := hd.mul (hz.mul (sigT_is hz))

/-- The gate's own gradient: `dy · o · σ(z) · (1 + z · (1 − σ(z)))`. -/
def dgateT (z o dy : Tile 128 128) : Tile 128 128 :=
  mulf (F := Ideal) (φ := .f32) (mulf (F := Ideal) (φ := .f32) dy o) (mulf (F := Ideal) (φ := .f32) (sigT z) (addf (F := Ideal) (φ := .f32) oneT (mulf (F := Ideal) (φ := .f32) z (subf (F := Ideal) (φ := .f32) oneT (sigT z)))))

theorem dgateT_is {z o dy : Tile 128 128} {Z O D : ℕ → ℕ → ℝ} (hz : Is z Z) (ho : Is o O) (hd : Is dy D) :
    Is (dgateT z o dy) (fun r c => D r c * O r c * (logi (Z r c) * (1 + Z r c * (1 - logi (Z r c))))) :=
  (hd.mul ho).mul ((sigT_is hz).mul ((Is.const oneW).add (hz.mul ((Is.const oneW).sub (sigT_is hz)))))

/-! ### Row sums and picked lanes -/

/-- The sum of each row, as a column. -/
def rowSumT (x : Tile 256 128) : Tile 256 1 :=
  shapeCast S256x1 (multiReduction (F := Ideal) (φ := .f32) .add [1] S256 x 0x00000000#32 reduces_S256x128_S256 (.inl rfl) rfl) shapeCasts_S256_S256x1

theorem rowSumT_is {x : Tile 256 128} {X : ℕ → ℕ → ℝ} (h : Is x X) :
    Is (rowSumT x) (fun r _ => ∑ l ∈ Finset.range 128, X r l) := fun i => by
  unfold rowSumT
  refine (shapeCast_apply _ shapeCasts_S256_S256x1 i (ix1 ⟨(i 0).val, idx2_lt0 i⟩) ?_).trans ?_
  · rw [Shape.rowMajor_val_two, Shape.rowMajor_val_one]
    have := idx2_lt1 i
    show (i 0).val = (i 0).val * 1 + (i 1).val
    omega
  · refine (Ideal.reduceAdd_r2_a1 _ _ _).trans ?_
    refine (Finset.sum_congr rfl fun k _ => h _).trans ?_
    exact sum_fin_coe (fun l => X (i 0).val l)

/-- Lane `n` of every row, as a column. -/
def pickT (n : BitVec 32) (x : Tile 128 128) : Tile 128 1 :=
  shapeCast S128x1 (multiReduction (F := Ideal) (φ := .f32) .add [1] S128
    (select (cmpi .eq (iota .tc S128x128 32 [1] iota_S128x128_d1_w32) (broadcast S128x128 n)) x zeroT)
    0x00000000#32 reduces_S128x128_S128 (.inl rfl) rfl) shapeCasts_S128_S128x1

/-- The lane number's word is `n`'s word exactly at the lane `n`. -/
theorem lane_bit (n : ℕ) (hn : n < 128) (l : ℕ) (hl : l < 128) :
    IntOp.cmpi .eq (BitVec.ofNat 32 l) (BitVec.ofNat 32 n) = if l = n then 1#1 else 0#1 := by
  have h : (BitVec.ofNat 32 l = BitVec.ofNat 32 n) ↔ l = n := by
    constructor
    · intro e
      have := congrArg BitVec.toNat e
      rw [BitVec.toNat_ofNat, BitVec.toNat_ofNat, Nat.mod_eq_of_lt (by omega), Nat.mod_eq_of_lt (by omega)] at this
      exact this
    · rintro rfl; rfl
  show BitVec.ofBool (decide _) = _
  by_cases e : l = n
  · rw [if_pos e, decide_eq_true (h.2 e)]; rfl
  · rw [if_neg e, decide_eq_false (fun q => e (h.1 q))]; rfl

theorem pickT_is {x : Tile 128 128} {X : ℕ → ℕ → ℝ} (h : Is x X) (n : ℕ) (hn : n < 128) :
    Is (pickT (BitVec.ofNat 32 n) x) (fun r _ => X r n) := fun i => by
  unfold pickT
  refine (shapeCast_apply _ shapeCasts_S128_S128x1 i (ix1 ⟨(i 0).val, idx2_lt0 i⟩) ?_).trans ?_
  · rw [Shape.rowMajor_val_two, Shape.rowMajor_val_one]
    have := idx2_lt1 i
    show (i 0).val = (i 0).val * 1 + (i 1).val
    omega
  · refine (Ideal.reduceAdd_r2_a1 _ _ _).trans ?_
    have hs : Is (select (cmpi .eq (iota .tc S128x128 32 [1] iota_S128x128_d1_w32) (broadcast S128x128 (BitVec.ofNat 32 n))) x zeroT)
        (fun r l => if l = n then X r l else 0) := by
      refine Is.select (M := fun _ l => l = n) (fun j => ?_) h (Is.const zeroW)
      show IntOp.cmpi .eq (iota .tc S128x128 32 [1] iota_S128x128_d1_w32 j) _ = _
      rw [iota_single_apply]
      exact lane_bit n hn _ (idx2_lt1 j)
    refine (Finset.sum_congr rfl fun k _ => hs _).trans ?_
    refine (sum_fin_coe (n := 128) (fun l => if l = n then X (i 0).val l else 0)).trans ?_
    rw [Finset.sum_ite_eq' (Finset.range 128) n, if_pos (Finset.mem_range.2 hn)]

/-- Lanes `n` and `m` of every row, the two columns one above the other. -/
def pick2T (n m : BitVec 32) (x : Tile 128 128) : Tile 256 1 :=
  concatenate S256x1 0 [⟨S128x1, pickT n x⟩, ⟨S128x1, pickT m x⟩] concatenates_S128x1_S128x1_S256x1_d0

theorem pick2T_is {x : Tile 128 128} {X : ℕ → ℕ → ℝ} (h : Is x X) (n m : ℕ) (hn : n < 128) (hm : m < 128) :
    Is (pick2T (BitVec.ofNat 32 n) (BitVec.ofNat 32 m) x) (fun r _ => if r < 128 then X r n else X (r - 128) m) :=
  above_is (pickT_is h n hn) (pickT_is h m hm) _

/-- Lane `n` of one row, repeated down a column. -/
def spreadT (n : BitVec 32) (x : Tile 1 128) : Tile 128 1 :=
  broadcastTo S128x1 (shapeCast S1x1 (shapeCast S1x1 (multiReduction (F := Ideal) (φ := .f32) .add [1] S1
    (select (cmpi .eq (iota .tc S1x128 32 [1] iota_S1x128_d1_w32) (broadcast S1x128 n)) x
      (broadcast S1x128 (Scalar.ofBits (F := Ideal) .f32 0x00000000#32)))
    0x00000000#32 reduces_S1x128_S1 (.inl rfl) rfl) shapeCasts_S1_S1x1) shapeCasts_S1x1_S1x1) broadcasts_S1x1_S128x1

theorem spreadT_is {x : Tile 1 128} {X : ℕ → ℕ → ℝ} (h : Is x X) (n : ℕ) (hn : n < 128) :
    Is (spreadT (BitVec.ofNat 32 n) x) (fun _ _ => X 0 n) := fun i => by
  unfold spreadT
  rw [shapeCast_self]
  refine (broadcastTo_apply (s := S1x1) _ broadcasts_S1x1_S128x1 i (ix2 ⟨0, by omega⟩ ⟨0, by omega⟩) ?_).trans ?_
  · intro b
    match b with
    | ⟨0, _⟩ => rfl
    | ⟨1, _⟩ => rfl
  refine (shapeCast_apply _ shapeCasts_S1_S1x1 _ (ix1 ⟨0, by omega⟩) (by
    rw [Shape.rowMajor_val_two, Shape.rowMajor_val_one]; rfl)).trans ?_
  refine (Ideal.reduceAdd_r2_a1 _ _ _).trans ?_
  have hs : Is (select (cmpi .eq (iota .tc S1x128 32 [1] iota_S1x128_d1_w32) (broadcast S1x128 (BitVec.ofNat 32 n))) x
      (broadcast S1x128 (Scalar.ofBits (F := Ideal) .f32 0x00000000#32)))
      (fun r l => if l = n then X r l else 0) := by
    refine Is.select (M := fun _ l => l = n) (fun j => ?_) h (Is.const zeroW)
    show IntOp.cmpi .eq (iota .tc S1x128 32 [1] iota_S1x128_d1_w32 j) _ = _
    rw [iota_single_apply]
    exact lane_bit n hn _ (idx2_lt1 j)
  refine (Finset.sum_congr rfl fun k _ => hs _).trans ?_
  refine (sum_fin_coe (n := 128) (fun l => if l = n then X 0 l else 0)).trans ?_
  rw [Finset.sum_ite_eq' (Finset.range 128) n, if_pos (Finset.mem_range.2 hn)]

/-- Lanes `n` and `m` of one row, each repeated down 128 rows, one above the other. -/
def spread2T (n m : BitVec 32) (x : Tile 1 128) : Tile 256 1 :=
  concatenate S256x1 0 [⟨S128x1, spreadT n x⟩, ⟨S128x1, spreadT m x⟩] concatenates_S128x1_S128x1_S256x1_d0

theorem spread2T_is {x : Tile 1 128} {X : ℕ → ℕ → ℝ} (h : Is x X) (n m : ℕ) (hn : n < 128) (hm : m < 128) :
    Is (spread2T (BitVec.ofNat 32 n) (BitVec.ofNat 32 m) x) (fun r _ => if r < 128 then X 0 n else X 0 m) :=
  above_is (spreadT_is h n hn) (spreadT_is h m hm) _

/-- A column's sum taken off lane `n` of a row. -/
def takeT (n : BitVec 32) (acc : Tile 1 128) (y : Tile 128 1) : Tile 1 128 :=
  subf (F := Ideal) (φ := .f32) acc
    (select (cmpi .eq (iota .tc S1x128 32 [1] iota_S1x128_d1_w32) (broadcast S1x128 n))
      (broadcast S1x128 (extractAt ![0, 0, 0] (shapeCast S1x1x1 (multiReduction (F := Ideal) (φ := .f32) .add [1, 2] S1
        (shapeCast S1x128x1 y shapeCasts_S128x1_S1x128x1) 0x00000000#32 reduces_S1x128x1_S1 (.inl rfl) rfl) shapeCasts_S1_S1x1x1) inpos_S1x1x1_p0_0_0))
      (broadcast S1x128 (Scalar.ofBits (F := Ideal) .f32 0x00000000#32)))

theorem takeT_is {acc : Tile 1 128} {A : ℕ → ℕ → ℝ} {y : Tile 128 1} {Y : ℕ → ℕ → ℝ} (ha : Is acc A) (hy : Is y Y) (n : ℕ) (hn : n < 128) :
    Is (takeT (BitVec.ofNat 32 n) acc y) (fun r l => A r l - if l = n then ∑ w ∈ Finset.range 128, Y w 0 else 0) := by
  refine ha.sub (Is.select (M := fun _ l => l = n) (X := fun _ _ => ∑ w ∈ Finset.range 128, Y w 0) (fun j => ?_) (Is.const ?_) (Is.const zeroW))
  · show IntOp.cmpi .eq (iota .tc S1x128 32 [1] iota_S1x128_d1_w32 j) _ = _
    rw [iota_single_apply]
    exact lane_bit n hn _ (idx2_lt1 j)
  · unfold extractAt
    refine (shapeCast_apply _ shapeCasts_S1_S1x1x1 _ (ix1 ⟨0, by omega⟩) (by
      rw [Shape.rowMajor_val_three, Shape.rowMajor_val_one]; rfl)).trans ?_
    refine (Ideal.reduceAdd_r3_a12 _ _ _).trans ?_
    refine (Finset.sum_congr rfl fun k _ => ?_).trans (sum_fin_coe (fun w => Y w 0))
    rw [Fin.sum_univ_one]
    refine (shapeCast_apply (s := S128x1) y shapeCasts_S128x1_S1x128x1 _ (ix2 k 0) ?_).trans (hy _)
    rw [Shape.rowMajor_val_three, Shape.rowMajor_val_two]
    show k.val * 1 + 0 = 0 * (128 * 1) + (k.val * 1 + 0)
    omega

/-! ### Products of tiles -/

/-- `a · bᵀ` -/
def prodNT (a b : Tile 256 128) : Tile 256 256 :=
  matmul (F := Ideal) (φ₁ := .bf16) (φ₂ := .bf16) dot_S256x128_S256x128_S256x256_1_1_0_0_n_n none a b (constant (F := Ideal) S256x256 .f32 0x00000000#32)

theorem prodNT_is {a b : Tile 256 128} {A B : ℕ → ℕ → ℝ} (ha : Is a A) (hb : Is b B) :
    Is (prodNT a b) (fun r c => ∑ l ∈ Finset.range 128, A r l * B c l) := fun i => by
  unfold prodNT
  refine (Ideal.matmul_constant_zero_apply (φ₁ := .bf16) (φ₂ := .bf16) _ none a b i).trans ?_
  rw [← Equiv.sum_comp (contrEquiv1 dot_S256x128_S256x128_S256x256_1_1_0_0_n_n 128 rfl rfl).symm]
  refine (Finset.sum_congr rfl fun k _ => ?_).trans (sum_fin_coe (fun l => A (i 0).val l * B (i 1).val l))
  rw [ha, hb, ← EReal.coe_mul]
  have hk := contrEquiv1_symm_val dot_S256x128_S256x128_S256x256_1_1_0_0_n_n 128 rfl rfl k
  have e1 : ((dot_S256x128_S256x128_S256x256_1_1_0_0_n_n.lhsIdx i ((contrEquiv1 dot_S256x128_S256x128_S256x256_1_1_0_0_n_n 128 rfl rfl).symm k)) 1).val = k.val := hk
  have e2 : ((dot_S256x128_S256x128_S256x256_1_1_0_0_n_n.rhsIdx i ((contrEquiv1 dot_S256x128_S256x128_S256x256_1_1_0_0_n_n 128 rfl rfl).symm k)) 1).val = k.val := hk
  rw [e1, e2]
  rfl

/-- `a · b` -/
def prodNN (a : Tile 256 256) (b : Tile 256 128) : Tile 256 128 :=
  matmul (F := Ideal) (φ₁ := .bf16) (φ₂ := .bf16) dot_S256x256_S256x128_S256x128_1_0_0_1_n_n none a b (constant (F := Ideal) S256x128 .f32 0x00000000#32)

theorem prodNN_is {a : Tile 256 256} {b : Tile 256 128} {A B : ℕ → ℕ → ℝ} (ha : Is a A) (hb : Is b B) :
    Is (prodNN a b) (fun r c => ∑ l ∈ Finset.range 256, A r l * B l c) := fun i => by
  unfold prodNN
  refine (Ideal.matmul_constant_zero_apply (φ₁ := .bf16) (φ₂ := .bf16) _ none a b i).trans ?_
  rw [← Equiv.sum_comp (contrEquiv1 dot_S256x256_S256x128_S256x128_1_0_0_1_n_n 256 rfl rfl).symm]
  refine (Finset.sum_congr rfl fun k _ => ?_).trans (sum_fin_coe (fun l => A (i 0).val l * B l (i 1).val))
  rw [ha, hb, ← EReal.coe_mul]
  have hk := contrEquiv1_symm_val dot_S256x256_S256x128_S256x128_1_0_0_1_n_n 256 rfl rfl k
  have e1 : ((dot_S256x256_S256x128_S256x128_1_0_0_1_n_n.lhsIdx i ((contrEquiv1 dot_S256x256_S256x128_S256x128_1_0_0_1_n_n 256 rfl rfl).symm k)) 1).val = k.val := hk
  have e2 : ((dot_S256x256_S256x128_S256x128_1_0_0_1_n_n.rhsIdx i ((contrEquiv1 dot_S256x256_S256x128_S256x128_1_0_0_1_n_n 256 rfl rfl).symm k)) 0).val = k.val := hk
  rw [e1, e2]
  rfl

/-- `aᵀ · b` -/
def prodTN (a : Tile 256 256) (b : Tile 256 128) : Tile 256 128 :=
  matmul (F := Ideal) (φ₁ := .bf16) (φ₂ := .bf16) dot_S256x256_S256x128_S256x128_0_0_1_1_n_n none a b (constant (F := Ideal) S256x128 .f32 0x00000000#32)

theorem prodTN_is {a : Tile 256 256} {b : Tile 256 128} {A B : ℕ → ℕ → ℝ} (ha : Is a A) (hb : Is b B) :
    Is (prodTN a b) (fun r c => ∑ l ∈ Finset.range 256, A l r * B l c) := fun i => by
  unfold prodTN
  refine (Ideal.matmul_constant_zero_apply (φ₁ := .bf16) (φ₂ := .bf16) _ none a b i).trans ?_
  rw [← Equiv.sum_comp (contrEquiv1 dot_S256x256_S256x128_S256x128_0_0_1_1_n_n 256 rfl rfl).symm]
  refine (Finset.sum_congr rfl fun k _ => ?_).trans (sum_fin_coe (fun l => A l (i 0).val * B l (i 1).val))
  rw [ha, hb, ← EReal.coe_mul]
  have hk := contrEquiv1_symm_val dot_S256x256_S256x128_S256x128_0_0_1_1_n_n 256 rfl rfl k
  have e1 : ((dot_S256x256_S256x128_S256x128_0_0_1_1_n_n.lhsIdx i ((contrEquiv1 dot_S256x256_S256x128_S256x128_0_0_1_1_n_n 256 rfl rfl).symm k)) 0).val = k.val := hk
  have e2 : ((dot_S256x256_S256x128_S256x128_0_0_1_1_n_n.rhsIdx i ((contrEquiv1 dot_S256x256_S256x128_S256x128_0_0_1_1_n_n 256 rfl rfl).symm k)) 0).val = k.val := hk
  rw [e1, e2]
  rfl

/-- A tile times one eighth. -/
def eighthT (x : Tile 256 128) : Tile 256 128 := mulf (F := Ideal) (φ := .f32) x (broadcast S256x128 (Scalar.ofBits (F := Ideal) .f32 0x3E000000#32))

theorem eighthT_is {x : Tile 256 128} {X : ℕ → ℕ → ℝ} (h : Is x X) : Is (eighthT x) (fun r c => X r c * (1 / 8)) :=
  h.mul (Is.const eighthW)

/-! ### The weights -/

/-- The weights of the attention: scores scaled, masked, the row's log-sum taken off, exponentiated. -/
def weightT (m : IVec S256x256 1) (s : Tile 256 256) (l : Tile 256 1) : Tile 256 256 :=
  Idealize.ShloMosaic.exp (F := Ideal) (φ := .f32) (subf (F := Ideal) (φ := .f32)
    (select m (mulf (F := Ideal) (φ := .f32) s (broadcast S256x256 (Scalar.ofBits (F := Ideal) .f32 0x3E000000#32)))
      (broadcast S256x256 (Named.named (F := Ideal) κ "mask" (φ := .f32) 0xF149F2CA#32)))
    (broadcastTo S256x256 l broadcasts_S256x1_S256x256))

theorem weightT_is {m : IVec S256x256 1} {M : ℕ → ℕ → Prop} [∀ i j, Decidable (M i j)]
    (hm : ∀ i : S256x256.Idx, m i = if M (i 0).val (i 1).val then 1#1 else 0#1)
    {s : Tile 256 256} {S : ℕ → ℕ → ℝ} (hs : Is s S) {l : Tile 256 1} {L : ℕ → ℕ → ℝ} (hl : Is l L) :
    Is (weightT m s l) (fun r t => if M r t then Real.exp (S r t * (1 / 8) - L r 0) else 0) := fun i => by
  have h1 := (hs.mul (Is.const (c := Scalar.ofBits (F := Ideal) .f32 0x3E000000#32) eighthW)) i
  have h2 := cols_is hl i
  show Ideal.exp (Scalar.select (m i) (mulf (F := Ideal) (φ := .f32) s (broadcast S256x256 (Scalar.ofBits (F := Ideal) .f32 0x3E000000#32)) i)
      (Named.named (F := Ideal) κ "mask" (φ := .f32) 0xF149F2CA#32) - broadcastTo S256x256 l broadcasts_S256x1_S256x256 i) = _
  rw [h1, h2, hm i]
  by_cases h : M (i 0).val (i 1).val
  · simp only [if_pos h]
    show Ideal.exp (((S (i 0).val (i 1).val * (1 / 8) : ℝ) : EReal) - ((L (i 0).val 0 : ℝ) : EReal)) = _
    rw [← EReal.coe_sub]; rfl
  · simp only [if_neg h]
    show Ideal.exp ((⊥ : EReal) - ((L (i 0).val 0 : ℝ) : EReal)) = ((0 : ℝ) : EReal)
    rw [EReal.bot_sub]; rfl

/-- The scores' cotangent: weights times what the value product leaves after the row's own sum is taken off. -/
def slopeT (p dp : Tile 256 256) (delta : Tile 256 1) : Tile 256 256 :=
  mulf (F := Ideal) (φ := .f32) p (subf (F := Ideal) (φ := .f32) dp (broadcastTo S256x256 delta broadcasts_S256x1_S256x256))

theorem slopeT_is {p dp : Tile 256 256} {delta : Tile 256 1} {P D E : ℕ → ℕ → ℝ} (hp : Is p P) (hd : Is dp D) (he : Is delta E) :
    Is (slopeT p dp delta) (fun r t => P r t * (D r t - E r 0)) := hp.mul (hd.sub (cols_is he))

/-- The sinks' weights times the row's own sum. -/
def sinkT (sk l delta : Tile 256 1) : Tile 256 1 :=
  mulf (F := Ideal) (φ := .f32) (Idealize.ShloMosaic.exp (F := Ideal) (φ := .f32) (subf (F := Ideal) (φ := .f32) sk l)) delta

theorem sinkT_is {sk l delta : Tile 256 1} {S L E : ℕ → ℕ → ℝ} (hs : Is sk S) (hl : Is l L) (he : Is delta E) :
    Is (sinkT sk l delta) (fun r c => Real.exp (S r c - L r c) * E r c) := (hs.sub hl).exp.mul he

/-! ### The band mask -/

/-- The band: key `t` of 256 is seen by query `w` when `w < t ≤ w + 128`, and, in the first block, when it is not before
    the sequence. -/
def Band (n w t : ℕ) : Prop := t ≤ w + 128 ∧ w < t ∧ (n ≠ 0 ∨ 128 ≤ t)

instance (n w t : ℕ) : Decidable (Band n w t) := by unfold Band; infer_instance

/-- Differences of small numbers, as words. -/
theorem sub_word (a b : ℕ) : IntOp.subi (BitVec.ofNat 32 a) (BitVec.ofNat 32 b) = BitVec.ofInt 32 ((a : ℤ) - (b : ℤ)) := by
  show BitVec.ofNat 32 a - BitVec.ofNat 32 b = _
  rw [sub_eq_add_neg, BitVec.ofInt_add, BitVec.ofInt_neg, BitVec.sub_eq_add_neg]
  simp

theorem sub_word' (a : ℕ) (z : ℤ) : IntOp.subi (BitVec.ofNat 32 a) (BitVec.ofInt 32 z) = BitVec.ofInt 32 ((a : ℤ) - z) := by
  show BitVec.ofNat 32 a - BitVec.ofInt 32 z = _
  rw [sub_eq_add_neg, BitVec.ofInt_add, BitVec.ofInt_neg, BitVec.sub_eq_add_neg]
  simp

theorem toInt_word (z : ℤ) (h1 : -4096 ≤ z) (h2 : z ≤ 4096) : (BitVec.ofInt 32 z).toInt = z := by
  rw [BitVec.toInt_ofInt]
  unfold Int.bmod
  norm_num
  omega

/-- Signed comparisons of small numbers' words are the numbers' comparisons. -/
theorem ge_word (z : ℤ) (c : ℕ) (h1 : -4096 ≤ z) (h2 : z ≤ 4096) (h3 : -4096 ≤ (c : ℤ)) (h4 : (c : ℤ) ≤ 4096) :
    IntOp.cmpi .sge (BitVec.ofInt 32 z) (BitVec.ofNat 32 c) = BitVec.ofBool (decide ((c : ℤ) ≤ z)) := by
  show BitVec.ofBool ((BitVec.ofNat 32 c).sle (BitVec.ofInt 32 z)) = _
  have hc : (BitVec.ofNat 32 c) = BitVec.ofInt 32 (c : ℤ) := by simp
  rw [hc, BitVec.sle, toInt_word _ h3 h4, toInt_word _ h1 h2]

theorem lt_word (z : ℤ) (c : ℕ) (h1 : -4096 ≤ z) (h2 : z ≤ 4096) (h3 : -4096 ≤ (c : ℤ)) (h4 : (c : ℤ) ≤ 4096) :
    IntOp.cmpi .slt (BitVec.ofInt 32 z) (BitVec.ofNat 32 c) = BitVec.ofBool (decide (z < (c : ℤ))) := by
  show BitVec.ofBool ((BitVec.ofInt 32 z).slt (BitVec.ofNat 32 c)) = _
  have hc : (BitVec.ofNat 32 c) = BitVec.ofInt 32 (c : ℤ) := by simp
  rw [hc, BitVec.slt, toInt_word _ h3 h4, toInt_word _ h1 h2]

theorem eq_word (a c : ℕ) (h1 : a ≤ 4096) (h2 : c ≤ 4096) :
    IntOp.cmpi .eq (BitVec.ofNat 32 a) (BitVec.ofNat 32 c) = BitVec.ofBool (decide (a = c)) := by
  show BitVec.ofBool (decide (BitVec.ofNat 32 a = BitVec.ofNat 32 c)) = _
  congr 1
  apply decide_eq_decide.2
  constructor
  · intro e
    have := congrArg BitVec.toNat e
    rw [BitVec.toNat_ofNat, BitVec.toNat_ofNat, Nat.mod_eq_of_lt (by omega), Nat.mod_eq_of_lt (by omega)] at this
    exact this
  · rintro rfl; rfl

theorem band_word (i w t : ℕ) (hi : i < 16) (hw : w < 128) (ht : t < 256) :
    IntOp.andi (IntOp.andi (IntOp.cmpi .sge (IntOp.subi (BitVec.ofNat 32 w) (IntOp.subi (BitVec.ofNat 32 t) 128#32)) 0#32)
        (IntOp.cmpi .slt (IntOp.subi (BitVec.ofNat 32 w) (IntOp.subi (BitVec.ofNat 32 t) 128#32)) 128#32))
      (IntOp.ori (IntOp.xori (IntOp.cmpi .eq (BitVec.ofNat 32 i) 15#32) 1#1)
        (IntOp.cmpi .sge (IntOp.subi (BitVec.ofNat 32 t) 128#32) 0#32))
      = if Band (15 - i) w t then 1#1 else 0#1 := by
  have e1 : IntOp.subi (BitVec.ofNat 32 t) 128#32 = BitVec.ofInt 32 ((t : ℤ) - 128) := sub_word t 128
  have e2 : IntOp.subi (BitVec.ofNat 32 w) (IntOp.subi (BitVec.ofNat 32 t) 128#32) = BitVec.ofInt 32 ((w : ℤ) - ((t : ℤ) - 128)) := by
    rw [e1]; exact sub_word' w _
  rw [e2, e1, ge_word _ 0 (by omega) (by omega) (by omega) (by omega), lt_word _ 128 (by omega) (by omega) (by omega) (by omega),
    ge_word _ 0 (by omega) (by omega) (by omega) (by omega), eq_word i 15 (by omega) (by omega)]
  have ho : ∀ p q r s : Bool, IntOp.andi (IntOp.andi (BitVec.ofBool p) (BitVec.ofBool q)) (IntOp.ori (IntOp.xori (BitVec.ofBool r) 1#1) (BitVec.ofBool s))
      = BitVec.ofBool ((p && q) && (!r || s)) := by decide
  rw [ho]
  simp only [Nat.cast_zero, Nat.cast_ofNat]
  by_cases hb : Band (15 - i) w t
  · rw [if_pos hb]
    obtain ⟨b1, b2, b3⟩ := hb
    have : ((decide ((0 : ℤ) ≤ (w : ℤ) - ((t : ℤ) - 128)) && decide ((w : ℤ) - ((t : ℤ) - 128) < 128)) && (!decide (i = 15) || decide ((0 : ℤ) ≤ (t : ℤ) - 128))) = true := by
      simp only [Bool.and_eq_true, Bool.or_eq_true, Bool.not_eq_true', decide_eq_true_eq, decide_eq_false_iff_not]
      omega
    rw [this]; rfl
  · rw [if_neg hb]
    have : ((decide ((0 : ℤ) ≤ (w : ℤ) - ((t : ℤ) - 128)) && decide ((w : ℤ) - ((t : ℤ) - 128) < 128)) && (!decide (i = 15) || decide ((0 : ℤ) ≤ (t : ℤ) - 128))) = false := by
      rw [Bool.eq_false_iff]
      intro h
      simp only [Bool.and_eq_true, Bool.or_eq_true, Bool.not_eq_true', decide_eq_true_eq, decide_eq_false_iff_not] at h
      exact hb ⟨by omega, by omega, by omega⟩
    rw [this]; rfl

theorem mask_bit (i : grid0.Coords) (j : S128x256.Idx) :
    k0_pay4 i j = if Band (15 - (i 1).val) (j 0).val (j 1).val then 1#1 else 0#1 := by
  have hw := idx2_lt0 j
  have ht := idx2_lt1 j
  have hi : (i 1).val < 16 := (i 1).isLt
  refine Eq.trans ?_ (band_word (i 1).val (j 0).val (j 1).val hi hw ht)
  unfold k0_pay4
  show IntOp.andi (IntOp.andi (IntOp.cmpi .sge (IntOp.subi (iota .tc S128x256 32 [0] iota_S128x256_d0_w32 j) (IntOp.subi (iota .tc S128x256 32 [1] iota_S128x256_d1_w32 j) 128#32)) 0#32)
        (IntOp.cmpi .slt (IntOp.subi (iota .tc S128x256 32 [0] iota_S128x256_d0_w32 j) (IntOp.subi (iota .tc S128x256 32 [1] iota_S128x256_d1_w32 j) 128#32)) 128#32))
      (IntOp.ori (IntOp.xori (IntOp.cmpi .eq (BitVec.ofNat 32 (i 1).val) 15#32) 1#1)
        (IntOp.cmpi .sge (IntOp.subi (iota .tc S128x256 32 [1] iota_S128x256_d1_w32 j) 128#32) 0#32)) = _
  rw [iota_single_apply, iota_single_apply]

theorem mask2_bit (i : grid0.Coords) (j : S256x256.Idx) :
    k0_pay9 (k0_pay4 i) j = if Band (15 - (i 1).val) ((j 0).val % 128) (j 1).val then 1#1 else 0#1 := by
  have h0 := idx2_lt0 j
  have h1 := idx2_lt1 j
  unfold k0_pay9
  by_cases hr : (j 0).val < 128
  · refine (concatenate_pair_apply_left (t := S256x256) 0 (k0_pay4 i) (k0_pay4 i) concatenates_S128x256_S128x256_S256x256_d0 j rfl
      (ix2 ⟨(j 0).val, hr⟩ ⟨(j 1).val, h1⟩) ?_).trans ((mask_bit i _).trans ?_)
    · intro b
      match b with
      | ⟨0, _⟩ => rfl
      | ⟨1, _⟩ => rfl
    · show (if Band (15 - (i 1).val) (j 0).val (j 1).val then 1#1 else 0#1) = _
      rw [Nat.mod_eq_of_lt hr]
  · refine (concatenate_pair_apply_right (t := S256x256) 0 (k0_pay4 i) (k0_pay4 i) concatenates_S128x256_S128x256_S256x256_d0 j rfl rfl
      (ix2 ⟨(j 0).val - 128, by omega⟩ ⟨(j 1).val, h1⟩) ?_ ?_).trans ((mask_bit i _).trans ?_)
    · intro b
      match b with
      | ⟨0, _⟩ => intro hb; exact absurd rfl hb
      | ⟨1, _⟩ => intro _; rfl
    · show (j 0).val - 128 + 128 = (j 0).val
      omega
    · show (if Band (15 - (i 1).val) ((j 0).val - 128) (j 1).val then 1#1 else 0#1) = _
      rw [show (j 0).val % 128 = (j 0).val - 128 by omega]

end Cert.Attn

end

end
-- ==== Proof.Block.lean ====
module

public import proofs.«01_k».proof.Proof.Heads

/-! # One block of the backward kernel

A block works on sixteen heads' worth of tiles held two heads to a tile of 128 lanes.  `Ops` collects what it
reads; the definitions after it name what it computes, one pair of heads at a time, and the lemmas at the
end say that the payloads of the program are these. -/

@[expose] public section
noncomputable section
namespace Cert.Attn
open Idealize.ShloMosaic Cert.KernelIdeal Cert.KernelIdeal.Gen Idealize.SL.Sem

/-- What one block of queries works on: four tiles (two heads each) of the queries, the gate, the outputs and
the incoming gradient; 256 rows of keys and of values; the row's logarithms; the sinks; the mask. -/
structure Ops where
  q : Fin 4 → Tile 128 128
  z : Fin 4 → Tile 128 128
  o : Fin 4 → Tile 128 128
  dy : Fin 4 → Tile 128 128
  k : Tile 256 128
  v : Tile 256 128
  l : Tile 128 128
  s : Tile 1 128
  m : IVec S256x256 1

/-- The two heads of a pair one above the other, in the lanes of their group. -/
def stackP (j : Fin 4) (x : Tile 128 128) : Tile 256 128 := if j.val < 2 then stack0 x else stack1 x

/-- The two heads of a pair side by side again. -/
def flatP (j : Fin 4) (y : Tile 256 128) : Tile 128 128 := if j.val < 2 then flat0 y else flat1 y

namespace Ops

def q2 (b : Ops) (j : Fin 4) : Tile 256 128 := stackP j (b.q j)
def do2 (b : Ops) (j : Fin 4) : Tile 256 128 := stackP j (gateT (b.z j) (b.dy j))
def delta (b : Ops) (j : Fin 4) : Tile 256 1 := rowSumT (mulf (F := Ideal) (φ := .f32) (b.do2 j) (stackP j (b.o j)))
def lse (b : Ops) (j : Fin 4) : Tile 256 1 := pick2T (BitVec.ofNat 32 (2 * j.val)) (BitVec.ofNat 32 (2 * j.val + 1)) b.l
def pr (b : Ops) (j : Fin 4) : Tile 256 256 := weightT b.m (prodNT (b.q2 j) b.k) (b.lse j)
def ds (b : Ops) (j : Fin 4) : Tile 256 256 := slopeT (b.pr j) (prodNT (b.do2 j) b.v) (b.delta j)
def snk (b : Ops) (j : Fin 4) : Tile 256 1 :=
  sinkT (spread2T (BitVec.ofNat 32 (2 * j.val)) (BitVec.ofNat 32 (2 * j.val + 1)) b.s) (b.lse j) (b.delta j)
/-- One pair's contribution to the sinks' gradient, taken off `acc`. -/
def take (b : Ops) (j : Fin 4) (acc : Tile 1 128) : Tile 1 128 :=
  takeT (BitVec.ofNat 32 (2 * j.val + 1))
    (takeT (BitVec.ofNat 32 (2 * j.val)) acc (extractStridedSlice S128x1 ![0, 0] (b.snk j) slices_S256x1_o0_0_S128x1))
    (extractStridedSlice S128x1 ![128, 0] (b.snk j) slices_S256x1_o128_0_S128x1)
def dz (b : Ops) (j : Fin 4) : Tile 128 128 := dgateT (b.z j) (b.o j) (b.dy j)
def dq (b : Ops) (j : Fin 4) : Tile 128 128 := flatP j (eighthT (prodNN (b.ds j) b.k))
def dk1 (b : Ops) (j : Fin 4) : Tile 256 128 := eighthT (prodTN (b.ds j) (b.q2 j))
def dv1 (b : Ops) (j : Fin 4) : Tile 256 128 := prodTN (b.pr j) (b.do2 j)

def zero2 : Tile 256 128 := broadcast S256x128 (Scalar.ofBits (F := Ideal) .f32 0x00000000#32)
def zero1 : Tile 1 128 := broadcast S1x128 (Scalar.ofBits (F := Ideal) .f32 0x00000000#32)
def plus (a b : Tile 256 128) : Tile 256 128 := addf (F := Ideal) (φ := .f32) a b

/-- The gradient of the 256 rows of keys, all four pairs. -/
def dkk (b : Ops) : Tile 256 128 := plus (plus (plus (plus zero2 (b.dk1 0)) (b.dk1 1)) (b.dk1 2)) (b.dk1 3)
/-- The gradient of the 256 rows of values, all four pairs. -/
def dvv (b : Ops) : Tile 256 128 := plus (plus (plus (plus zero2 (b.dv1 0)) (b.dv1 1)) (b.dv1 2)) (b.dv1 3)
/-- The gradient of the sinks from this block. -/
def dsk (b : Ops) : Tile 1 128 := b.take 3 (b.take 2 (b.take 1 (b.take 0 zero1)))

end Ops

/-- The lower 128 rows of 256. -/
def topT (y : Tile 256 128) : Tile 128 128 := extractStridedSlice S128x128 ![0, 0] y slices_S256x128_o0_0_S128x128
/-- The upper 128 rows of 256. -/
def botT (y : Tile 256 128) : Tile 128 128 := extractStridedSlice S128x128 ![128, 0] y slices_S256x128_o128_0_S128x128
/-- The keys before the block above the block's own keys. -/
def aboveT (a b : Tile 128 128) : Tile 256 128 :=
  concatenate S256x128 0 [⟨S128x128, a⟩, ⟨S128x128, b⟩] concatenates_S128x128_S128x128_S256x128_d0

def plusT (a b : Tile 128 128) : Tile 128 128 := addf (F := Ideal) (φ := .f32) a b
def plus1 (a b : Tile 1 128) : Tile 1 128 := addf (F := Ideal) (φ := .f32) a b

/-! ### The payloads are these -/

theorem pay1 : (k0_pay1 : FVec Ideal S1x128 .f32) = Ops.zero1 := shapeCast_self _ _
theorem pay2 : (k0_pay2 : FVec Ideal S128x128 .f32) = zeroT := shapeCast_self _ _
theorem pay3 : (k0_pay3 : FVec Ideal S128x128 .f32) = zeroT := shapeCast_self _ _
theorem pay5 (a b : Tile 128 128) : (k0_pay5 (F := Ideal) a b) = aboveT a b := rfl
theorem pay6 (a b : Tile 128 128) : (k0_pay6 (F := Ideal) a b) = aboveT a b := rfl
theorem pay7 (a : Tile 1 128) : (k0_pay7 (F := Ideal) a) = a := shapeCast_self _ _
theorem pay8 (a : Tile 128 128) : (k0_pay8 (F := Ideal) a) = a := shapeCast_self _ _
theorem pay10 (a : Tile 128 128) : (k0_pay10 (F := Ideal) a) = a := shapeCast_self _ _
theorem pay22 (a : Tile 128 128) : (k0_pay22 (F := Ideal) a) = a := shapeCast_self _ _
theorem pay36 (a : Tile 128 128) : (k0_pay36 (F := Ideal) a) = a := shapeCast_self _ _
theorem pay48 (a : Tile 128 128) : (k0_pay48 (F := Ideal) a) = a := shapeCast_self _ _

theorem pay11 (z o d : Tile 128 128) : k0_pay11 (F := Ideal) z o d = dgateT z o d := by
  unfold k0_pay11; rw [pay10]; rfl
theorem pay23 (z o d : Tile 128 128) : k0_pay23 (F := Ideal) z o d = dgateT z o d := by
  unfold k0_pay23; rw [pay22]; rfl
theorem pay40 (z o d : Tile 128 128) : k0_pay40 (F := Ideal) (k0_pay37 o d) (k0_pay38 z) (k0_pay39 z) = dgateT z o d := by
  unfold k0_pay37; rw [pay36]; rfl
theorem pay50 (z o d : Tile 128 128) :
    k0_pay50 (F := Ideal) z (k0_pay49 o d) (Scalar.ofBits .f32 0x00000000#32) = dgateT z o d := by
  unfold k0_pay49; rw [pay48]; rfl

theorem pay12 (z d : Tile 128 128) : k0_pay12 (F := Ideal) z d = gateT z d := rfl
theorem pay51 (z d : Tile 128 128) : k0_pay51 (F := Ideal) z d = gateT z d := rfl

theorem pay14 (q : Tile 128 128) :
    k0_pay14 (F := Ideal) q (iota .tc S1x128 32 [1] iota_S1x128_d1_w32) k0_pay13 = stack0 q := rfl
theorem pay15 (x : Tile 128 128) : k0_pay15 (F := Ideal) x = stack0 x := rfl
theorem pay16 (x : Tile 128 128) : k0_pay16 (F := Ideal) x = stack0 x := rfl
theorem pay25 (x : Tile 128 128) : k0_pay25 (F := Ideal) x = stack0 x := rfl
theorem pay26 (z d : Tile 128 128) : k0_pay26 (F := Ideal) z d (k0_pay24 z) = stack0 (gateT z d) := rfl
theorem pay27 (z d : Tile 128 128) : k0_pay27 (F := Ideal) z d (k0_pay24 z) = stack0 (gateT z d) := rfl
theorem pay41 (x : Tile 128 128) : k0_pay41 (F := Ideal) x = stack1 x := rfl
theorem pay52 (x : Tile 128 128) : k0_pay52 (F := Ideal) x = stack1 x := rfl
theorem pay42 (z d : Tile 128 128) : k0_pay42 (F := Ideal) z d = stack1 (gateT z d) := rfl
theorem pay43 (z d : Tile 128 128) : k0_pay43 (F := Ideal) z d = stack1 (gateT z d) := rfl
theorem pay55 (x : Tile 128 128) : k0_pay55 (F := Ideal) x k0_pay53 k0_pay54 = stack1 x := rfl
theorem pay56 (x : Tile 128 128) : k0_pay56 (F := Ideal) x k0_pay53 k0_pay54 = stack1 x := rfl

theorem pay17 (o x : Tile 128 128) :
    k0_pay17 (F := Ideal) o x = rowSumT (mulf (F := Ideal) (φ := .f32) (stack0 x) (stack0 o)) := rfl
theorem pay32 (o : Tile 128 128) (x : Tile 256 128) :
    k0_pay32 (F := Ideal) x (k0_pay29 o) (k0_pay30 o) k0_pay31 = rowSumT (mulf (F := Ideal) (φ := .f32) x (stack0 o)) := rfl
theorem pay44 (o : Tile 128 128) (x : Tile 256 128) :
    k0_pay44 (F := Ideal) o x (iota .tc S1x128 32 [1] iota_S1x128_d1_w32) 64#32 = rowSumT (mulf (F := Ideal) (φ := .f32) x (stack1 o)) := rfl
theorem pay57 (o x : Tile 128 128) :
    k0_pay57 (F := Ideal) o x k0_pay53 k0_pay54 = rowSumT (mulf (F := Ideal) (φ := .f32) (stack1 x) (stack1 o)) := rfl

theorem pay19 (x : Tile 128 128) : k0_pay19 (F := Ideal) x (k0_pay18 x) = pick2T 0#32 1#32 x := rfl
theorem pay33 (x : Tile 128 128) : k0_pay33 (F := Ideal) x = pick2T 2#32 3#32 x := rfl
theorem pay45 (x : Tile 128 128) : k0_pay45 (F := Ideal) x = pick2T 4#32 5#32 x := rfl
theorem pay58 (x : Tile 128 128) : k0_pay58 (F := Ideal) x = pick2T 6#32 7#32 x := rfl

theorem pay20 (k q : Tile 256 128) : k0_pay20 (F := Ideal) k q = prodNT q k := rfl
theorem pay34 (k q : Tile 256 128) : k0_pay34 (F := Ideal) k q = prodNT q k := rfl
theorem pay46 (k q : Tile 256 128) : k0_pay46 (F := Ideal) k q = prodNT q k := rfl
theorem pay59 (k q : Tile 256 128) : k0_pay59 (F := Ideal) k q = prodNT q k := rfl
theorem pay21 (k q : Tile 256 128) : k0_pay21 (F := Ideal) k q = prodNT q k := rfl
theorem pay35 (k q : Tile 256 128) : k0_pay35 (F := Ideal) k q = prodNT q k := rfl
theorem pay47 (k q : Tile 256 128) : k0_pay47 (F := Ideal) k q = prodNT q k := rfl
theorem pay60 (k : Tile 256 128) (x : Tile 128 128) :
    k0_pay60 (F := Ideal) k x k0_pay53 k0_pay54 = prodNT (stack1 x) k := rfl

section
variable (m : IVec S256x256 1) (l e : Tile 256 1) (s d : Tile 256 256)
theorem pay62 : k0_pay62 (F := Ideal) m l s = weightT m s l := rfl
theorem pay63 : k0_pay63 (F := Ideal) m l s = weightT m s l := rfl
theorem pay70 : k0_pay70 (F := Ideal) m l s = weightT m s l := rfl
theorem pay71 : k0_pay71 (F := Ideal) m l s = weightT m s l := rfl
theorem pay77 : k0_pay77 (F := Ideal) m l s = weightT m s l := rfl
theorem pay78 : k0_pay78 (F := Ideal) m l s = weightT m s l := rfl
theorem pay82 : k0_pay82 (F := Ideal) m l s = weightT m s l := rfl
theorem pay83 : k0_pay83 (F := Ideal) m l s = weightT m s l := rfl
theorem pay64 : k0_pay64 (F := Ideal) m e l s d = slopeT (weightT m s l) d e := rfl
theorem pay72 : k0_pay72 (F := Ideal) m e l s d = slopeT (weightT m s l) d e := rfl
theorem pay79 : k0_pay79 (F := Ideal) m e l s d = slopeT (weightT m s l) d e := rfl
theorem pay84 : k0_pay84 (F := Ideal) m e l s d = slopeT (weightT m s l) d e := rfl
end

section
variable (sk : Tile 1 128) (e l : Tile 256 1) (acc : Tile 1 128)

/-- A pair's two heads taken off the sinks' gradient. -/
def takes (n m : BitVec 32) (acc : Tile 1 128) (y : Tile 256 1) : Tile 1 128 :=
  takeT m (takeT n acc (extractStridedSlice S128x1 ![0, 0] y slices_S256x1_o0_0_S128x1))
    (extractStridedSlice S128x1 ![128, 0] y slices_S256x1_o128_0_S128x1)

theorem pay69 :
    k0_pay69 (F := Ideal) (k0_pay66 sk (iota .tc S1x128 32 [1] iota_S1x128_d1_w32) e l acc)
      (k0_pay67 (iota .tc S1x128 32 [1] iota_S1x128_d1_w32)) (k0_pay68 sk e l)
      = takes 0#32 1#32 acc (sinkT (spread2T 0#32 1#32 sk) l e) := rfl
theorem pay76 :
    k0_pay76 (F := Ideal) (iota .tc S1x128 32 [1] iota_S1x128_d1_w32) acc (k0_pay73 sk e l)
      (k0_pay74 (iota .tc S1x128 32 [1] iota_S1x128_d1_w32)) (k0_pay75 sk e l)
      = takes 2#32 3#32 acc (sinkT (spread2T 2#32 3#32 sk) l e) := rfl
theorem pay81 :
    k0_pay81 (F := Ideal) (iota .tc S1x128 32 [1] iota_S1x128_d1_w32) e acc (k0_pay80 sk l)
      = takes 4#32 5#32 acc (sinkT (spread2T 4#32 5#32 sk) l e) := rfl
theorem pay87 :
    k0_pay87 (F := Ideal) sk (iota .tc S1x128 32 [1] iota_S1x128_d1_w32) e l acc (k0_pay85 sk) k0_pay86
      = takes 6#32 7#32 acc (sinkT (spread2T 6#32 7#32 sk) l e) := rfl
theorem pay61 : (k0_pay61 : FVec Ideal S1x128 .f32) = Ops.zero1 := rfl
end

section
variable (k q q' acc : Tile 256 128) (d d' : Tile 256 256)
theorem pay88 : (k0_pay88 : FVec Ideal S256x128 .f32) = Ops.zero2 := rfl
theorem pay89 : (k0_pay89 : FVec Ideal S256x128 .f32) = Ops.zero2 := rfl
theorem pay94 : k0_pay94 (F := Ideal) (k0_pay91 k d) (k0_pay92 k d) k0_pay93 = flat0 (eighthT (prodNN d k)) := rfl
theorem pay102 : k0_pay102 (F := Ideal) (k0_pay98 k d) (k0_pay99 k d) k0_pay100 k0_pay101 = flat0 (eighthT (prodNN d k)) := rfl
theorem pay105 : k0_pay105 (F := Ideal) k d = flat1 (eighthT (prodNN d k)) := rfl
theorem pay106 : k0_pay106 (F := Ideal) k d = flat1 (eighthT (prodNN d k)) := rfl
theorem pay95 : k0_pay95 (F := Ideal) q d acc = Ops.plus acc (eighthT (prodTN d q)) := rfl
theorem pay103 : k0_pay103 (F := Ideal) q d acc = Ops.plus acc (eighthT (prodTN d q)) := rfl
theorem pay107 : k0_pay107 (F := Ideal) q q' d d' acc (constant (F := Ideal) S256x128 .f32 0x00000000#32)
    = Ops.plus (Ops.plus acc (eighthT (prodTN d q))) (eighthT (prodTN d' q')) := rfl
theorem pay109 : k0_pay109 (F := Ideal) q q' d d' acc (constant (F := Ideal) S256x128 .f32 0x00000000#32)
    = botT (Ops.plus (Ops.plus acc (eighthT (prodTN d q))) (eighthT (prodTN d' q'))) := rfl
theorem pay96 : k0_pay96 (F := Ideal) q d acc = Ops.plus acc (prodTN d q) := rfl
theorem pay104 : k0_pay104 (F := Ideal) q d acc = Ops.plus acc (prodTN d q) := rfl
theorem pay108 : k0_pay108 (F := Ideal) q q' d d' acc = Ops.plus (Ops.plus acc (prodTN d q)) (prodTN d' q') := rfl
theorem pay110 (a b : Tile 128 128) : k0_pay110 (F := Ideal) a b = plusT a b := rfl
theorem pay111 (b : Tile 128 128) : k0_pay111 (F := Ideal) acc b = plusT (botT acc) b := rfl
theorem pay112 (a : Tile 128 128) : k0_pay112 (F := Ideal) a = a := rfl
theorem pay114 : k0_pay114 (F := Ideal) acc = topT acc := shapeCast_self _ _
theorem pay115 : k0_pay115 (F := Ideal) acc = topT acc := shapeCast_self _ _
theorem pay116 (a b : Tile 1 128) : k0_pay116 (F := Ideal) a b = plus1 b a := shapeCast_self _ _
end

end Cert.Attn
end
end
-- ==== Proof.Columns.lean ====
module

public import proofs.«01_k».proof.Proof.Block
public import Idealize.ShloMosaic.Lib.Pipeline.ValueKit.Tiles

/-! # The columns a block writes

A block's output is twelve tiles side by side.  `cols` is the list of the twelve stores, `outT` the window they leave. -/

@[expose] public section
noncomputable section
namespace Cert.Attn
open Idealize.ShloMosaic Cert.KernelIdeal Cert.KernelIdeal.Gen Idealize.SL.Sem

/-- A load of a whole tile. -/
abbrev full (x : Tile 128 128) : Tile 128 128 :=
  View.ld (Val := Elt Ideal) (S := S128x128) (e' := .f32) x (Rect.unit ![0, 0] ![128, 128] inb_S128x128_S128x128_0_0)
abbrev full1 (x : Tile 1 128) : Tile 1 128 :=
  View.ld (Val := Elt Ideal) (S := S1x128) (e' := .f32) x (Rect.unit ![0, 0] ![1, 128] inb_S1x128_S1x128_0_0)

theorem full_eq (x : Tile 128 128) : full x = x := by
  funext y
  refine View.ld_unit_apply_of (Val := Elt Ideal) (e := .f32) x _ _ _ y y fun a => ?_
  fin_cases a <;> simp
theorem full1_eq (x : Tile 1 128) : full1 x = x := by
  funext y
  refine View.ld_unit_apply_of (Val := Elt Ideal) (e := .f32) x _ _ _ y y fun a => ?_
  fin_cases a <;> simp

theorem zeros : (![0, 0] : Fin 2 → ℕ) = fun _ => 0 := by funext a; fin_cases a <;> rfl

/-- A tile stored whole and loaded whole again. -/
theorem again (v : View sig .tc .vmem S128x128 .f32) (w : Tile 128 128) :
    v.readCov (Val := Elt Ideal) [⟨Rect.unit (s := S128x128) ![0, 0] ![128, 128] inb_S128x128_S128x128_0_0, w⟩]
      (Rect.unit (s := S128x128) ![0, 0] ![128, 128] inb_S128x128_S128x128_0_0).toLoadRect = w :=
  View.readCov_unit_zero (Val := Elt Ideal) (S := S128x128) (e := .f32) v (off := ![0, 0]) zeros inb_S128x128_S128x128_0_0 w
theorem again1 (v : View sig .tc .vmem S1x128 .f32) (w : Tile 1 128) :
    v.readCov (Val := Elt Ideal) [⟨Rect.unit (s := S1x128) ![0, 0] ![1, 128] inb_S1x128_S1x128_0_0, w⟩]
      (Rect.unit (s := S1x128) ![0, 0] ![1, 128] inb_S1x128_S1x128_0_0).toLoadRect = w :=
  View.readCov_unit_zero (Val := Elt Ideal) (S := S1x128) (e := .f32) v (off := ![0, 0]) zeros inb_S1x128_S1x128_0_0 w

/-- The four tiles of a block of 512 columns. -/
def quarters (x : Tile 128 512) : Fin 4 → Tile 128 128
  | 0 => View.ld (Val := Elt Ideal) (S := S128x512) (e' := .f32) x (Rect.unit ![0, 0] ![128, 128] inb_S128x512_S128x128_0_0)
  | 1 => View.ld (Val := Elt Ideal) (S := S128x512) (e' := .f32) x (Rect.unit ![0, 128] ![128, 128] inb_S128x512_S128x128_0_128)
  | 2 => View.ld (Val := Elt Ideal) (S := S128x512) (e' := .f32) x (Rect.unit ![0, 256] ![128, 128] inb_S128x512_S128x128_0_256)
  | 3 => View.ld (Val := Elt Ideal) (S := S128x512) (e' := .f32) x (Rect.unit ![0, 384] ![128, 128] inb_S128x512_S128x128_0_384)

/-- What the block at point `i` works on. -/
def blockOps (i : grid0.Coords) (x0 x1 : Tile 128 512) (x2 x3 x4 x5 : Tile 128 128) (x6 x7 : Tile 128 512)
    (x8 : Tile 128 128) (x9 : Tile 1 128) : Ops where
  q := quarters x1
  z := quarters x6
  o := quarters x7
  dy := quarters x0
  k := aboveT (full x3) (full x2)
  v := aboveT (full x5) (full x4)
  l := full x8
  s := full1 x9
  m := k0_pay9 (k0_pay4 i)

/-- The twelve tiles of a block's output. -/
def tiles (b : Ops) (K V X : Tile 128 128) : Fin 12 → Tile 128 128
  | 0 => b.dz 0
  | 1 => b.dz 1
  | 2 => b.dz 2
  | 3 => b.dz 3
  | 4 => b.dq 0
  | 5 => b.dq 1
  | 6 => b.dq 2
  | 7 => b.dq 3
  | 8 => plusT (botT b.dkk) K
  | 9 => plusT (botT b.dvv) V
  | 10 => X
  | 11 => k0_pay113 (F := Ideal)

/-- The twelve stores, the last first. -/
def cols (T : Fin 12 → Tile 128 128) : List (View.Piece (Elt Ideal) S128x1536 .bf16) :=
  [⟨Rect.unit ![0, 1408] ![128, 128] inb_S128x1536_S128x128_0_1408, T 11⟩,
   ⟨Rect.unit ![0, 1280] ![128, 128] inb_S128x1536_S128x128_0_1280, T 10⟩,
   ⟨Rect.unit ![0, 1152] ![128, 128] inb_S128x1536_S128x128_0_1152, T 9⟩,
   ⟨Rect.unit ![0, 1024] ![128, 128] inb_S128x1536_S128x128_0_1024, T 8⟩,
   ⟨Rect.unit ![0, 896] ![128, 128] inb_S128x1536_S128x128_0_896, T 7⟩,
   ⟨Rect.unit ![0, 768] ![128, 128] inb_S128x1536_S128x128_0_768, T 6⟩,
   ⟨Rect.unit ![0, 640] ![128, 128] inb_S128x1536_S128x128_0_640, T 5⟩,
   ⟨Rect.unit ![0, 512] ![128, 128] inb_S128x1536_S128x128_0_512, T 4⟩,
   ⟨Rect.unit ![0, 384] ![128, 128] inb_S128x1536_S128x128_0_384, T 3⟩,
   ⟨Rect.unit ![0, 256] ![128, 128] inb_S128x1536_S128x128_0_256, T 2⟩,
   ⟨Rect.unit ![0, 128] ![128, 128] inb_S128x1536_S128x128_0_128, T 1⟩,
   ⟨Rect.unit ![0, 0] ![128, 128] inb_S128x1536_S128x128_0_0, T 0⟩]

/-- Twelve tiles side by side. -/
def outT (T : Fin 12 → Tile 128 128) : Tile 128 1536 := fun y =>
  T ⟨(y 1).val / 128, by have := (y 1).isLt; change _ < 1536 at this; omega⟩
    (ix2 (y 0) ⟨(y 1).val % 128, Nat.mod_lt _ (by norm_num)⟩)

theorem canon_cols (T : Fin 12 → Tile 128 128) (hcov : ∀ y, ∃ p ∈ cols T, y ∈ p.1.set) :
    View.canon (Val := Elt Ideal) (cols T) = outT T := by
  funext y
  refine View.canon_eq_of_allAt _ y _ (hcov y) ?_
  have key : ∀ (k : Fin 12) (off : Fin 2 → ℕ), off = ![0, 128 * k.val] →
      View.TileAt (Val := Elt Ideal) (S := S128x1536) (e := .bf16) y off ![128, 128] (T k) (outT T y) := by
    rintro k off rfl x hx
    have h0 := hx 0
    have h1 := hx 1
    have l1 := (x 1).isLt
    change (y 0).val = 0 + (x 0).val at h0
    change (y 1).val = 128 * k.val + (x 1).val at h1
    change (x 1).val < 128 at l1
    unfold outT
    have hk : (⟨(y 1).val / 128, by have := (y 1).isLt; change _ < 1536 at this; omega⟩ : Fin 12) = k :=
      Fin.ext (by show (y 1).val / 128 = _; omega)
    rw [hk]
    congr 1
    funext a
    fin_cases a
    · exact Fin.ext (by show (x 0).val = (y 0).val; omega)
    · exact Fin.ext (by show (x 1).val = (y 1).val % 128; omega)
  unfold cols
  exact View.allAt_cons_unit _ _ _ _ _ (key 11 _ rfl) <| View.allAt_cons_unit _ _ _ _ _ (key 10 _ rfl) <|
    View.allAt_cons_unit _ _ _ _ _ (key 9 _ rfl) <| View.allAt_cons_unit _ _ _ _ _ (key 8 _ rfl) <|
    View.allAt_cons_unit _ _ _ _ _ (key 7 _ rfl) <| View.allAt_cons_unit _ _ _ _ _ (key 6 _ rfl) <|
    View.allAt_cons_unit _ _ _ _ _ (key 5 _ rfl) <| View.allAt_cons_unit _ _ _ _ _ (key 4 _ rfl) <|
    View.allAt_cons_unit _ _ _ _ _ (key 3 _ rfl) <| View.allAt_cons_unit _ _ _ _ _ (key 2 _ rfl) <|
    View.allAt_cons_unit _ _ _ _ _ (key 1 _ rfl) <| View.allAt_cons_unit _ _ _ _ _ (key 0 _ rfl) (View.allAt_nil _ _)

end Cert.Attn
end
end
-- ==== Proof.RunA.lean ====
module

public import proofs.«01_k».proof.Proof.Own.FrameOuts
public import proofs.«01_k».proof.Proof.Columns

/-! # What a grid point of case A stores -/

@[expose] public section
noncomputable section
namespace Cert.Attn
open Idealize.ShloMosaic Cert.KernelIdeal Cert.KernelIdeal.Gen Idealize.SL.Sem
open Idealize.ShloMosaic.TcCoe

variable (c : Dev nD) (i : grid0.Coords)
  (arg2 : Memref sig .tc .vmem S128x512 .f32) (harg2 : arg2.IsWhole) (arg3 : Memref sig .tc .vmem S128x512 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S128x128 .f32) (harg7 : arg7.IsWhole)
  (arg8 : Memref sig .tc .vmem S128x512 .f32) (harg8 : arg8.IsWhole) (arg9 : Memref sig .tc .vmem S128x512 .f32) (harg9 : arg9.IsWhole)
  (arg10 : Memref sig .tc .vmem S128x128 .f32) (harg10 : arg10.IsWhole) (arg11 : Memref sig .tc .vmem S1x128 .f32) (harg11 : arg11.IsWhole)
  (arg12 : Memref sig .tc .vmem S128x128 .f32) (harg12 : arg12.IsWhole) (arg14 : Memref sig .tc .vmem S128x1536 .bf16) (harg14 : arg14.IsWhole)
  (arg15 : Memref sig .tc .vmem S1x128 .f32) (harg15 : arg15.IsWhole) (arg16 : Memref sig .tc .vmem S128x128 .f32) (harg16 : arg16.IsWhole)
  (arg17 : Memref sig .tc .vmem S128x128 .f32) (harg17 : arg17.IsWhole) (arg18 : Memref sig .tc .vmem S1x128 .f32) (harg18 : arg18.IsWhole)
  (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S128x512 .f32) (x7 : Vec Ideal S128x512 .f32) (x8 : Vec Ideal S128x128 .f32) (x9 : Vec Ideal S1x128 .f32) (x10 : Vec Ideal S128x128 .f32)
  (xs0 xs1 : Vec Ideal S128x128 .f32) (xs2 : Vec Ideal S1x128 .f32)

theorem runA_11 (hc0 : cond0_0 i) (hc1 : cond0_1 i) (hc2 : ¬cond0_2 i) :
    (kernelRun0_A (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).1
      = cols (tiles (blockOps i x0 x1 x2 x3 x4 x5 x6 x7 x8 x9) zeroT zeroT (full x10)) := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runA_s0 (hc0 : cond0_0 i) (hc1 : cond0_1 i) (hc2 : ¬cond0_2 i) :
    (kernelRun0_A (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.1
      = [⟨Rect.unit ![0, 0] ![128, 128] inb_S128x128_S128x128_0_0, topT (blockOps i x0 x1 x2 x3 x4 x5 x6 x7 x8 x9).dkk⟩, ⟨Rect.unit ![0, 0] ![128, 128] inb_S128x128_S128x128_0_0, zeroT⟩] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runA_s1 (hc0 : cond0_0 i) (hc1 : cond0_1 i) (hc2 : ¬cond0_2 i) :
    (kernelRun0_A (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.2.1
      = [⟨Rect.unit ![0, 0] ![128, 128] inb_S128x128_S128x128_0_0, topT (blockOps i x0 x1 x2 x3 x4 x5 x6 x7 x8 x9).dvv⟩, ⟨Rect.unit ![0, 0] ![128, 128] inb_S128x128_S128x128_0_0, zeroT⟩] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runA_s2 (hc0 : cond0_0 i) (hc1 : cond0_1 i) (hc2 : ¬cond0_2 i) :
    (kernelRun0_A (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10).2.2.2.2.1
      = [⟨Rect.unit ![0, 0] ![1, 128] inb_S1x128_S1x128_0_0, plus1 Ops.zero1 (blockOps i x0 x1 x2 x3 x4 x5 x6 x7 x8 x9).dsk⟩, ⟨Rect.unit ![0, 0] ![1, 128] inb_S1x128_S1x128_0_0, Ops.zero1⟩] := by
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

end Cert.Attn
end
end
-- ==== Proof.RunB.lean ====
module

public import proofs.«01_k».proof.Proof.Own.FrameOuts
public import proofs.«01_k».proof.Proof.Columns

/-! # What a grid point of case B stores -/

@[expose] public section
noncomputable section
namespace Cert.Attn
open Idealize.ShloMosaic Cert.KernelIdeal Cert.KernelIdeal.Gen Idealize.SL.Sem
open Idealize.ShloMosaic.TcCoe

variable (c : Dev nD) (i : grid0.Coords)
  (arg2 : Memref sig .tc .vmem S128x512 .f32) (harg2 : arg2.IsWhole) (arg3 : Memref sig .tc .vmem S128x512 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S128x128 .f32) (harg7 : arg7.IsWhole)
  (arg8 : Memref sig .tc .vmem S128x512 .f32) (harg8 : arg8.IsWhole) (arg9 : Memref sig .tc .vmem S128x512 .f32) (harg9 : arg9.IsWhole)
  (arg10 : Memref sig .tc .vmem S128x128 .f32) (harg10 : arg10.IsWhole) (arg11 : Memref sig .tc .vmem S1x128 .f32) (harg11 : arg11.IsWhole)
  (arg12 : Memref sig .tc .vmem S128x128 .f32) (harg12 : arg12.IsWhole) (arg14 : Memref sig .tc .vmem S128x1536 .bf16) (harg14 : arg14.IsWhole)
  (arg15 : Memref sig .tc .vmem S1x128 .f32) (harg15 : arg15.IsWhole) (arg16 : Memref sig .tc .vmem S128x128 .f32) (harg16 : arg16.IsWhole)
  (arg17 : Memref sig .tc .vmem S128x128 .f32) (harg17 : arg17.IsWhole) (arg18 : Memref sig .tc .vmem S1x128 .f32) (harg18 : arg18.IsWhole)
  (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S128x512 .f32) (x7 : Vec Ideal S128x512 .f32) (x8 : Vec Ideal S128x128 .f32) (x9 : Vec Ideal S1x128 .f32) (x10 : Vec Ideal S128x128 .f32)
  (xs0 xs1 : Vec Ideal S128x128 .f32) (xs2 : Vec Ideal S1x128 .f32)

theorem runB_11 (hc0 : ¬cond0_0 i) (hc1 : ¬cond0_1 i) (hc2 : ¬cond0_2 i) :
    (kernelRun0_B (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).1
      = cols (tiles (blockOps i x0 x1 x2 x3 x4 x5 x6 x7 x8 x9) (full xs0) (full xs1) (full x10)) := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runB_s0 (hc0 : ¬cond0_0 i) (hc1 : ¬cond0_1 i) (hc2 : ¬cond0_2 i) :
    (kernelRun0_B (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.1
      = [⟨Rect.unit ![0, 0] ![128, 128] inb_S128x128_S128x128_0_0, topT (blockOps i x0 x1 x2 x3 x4 x5 x6 x7 x8 x9).dkk⟩] := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runB_s1 (hc0 : ¬cond0_0 i) (hc1 : ¬cond0_1 i) (hc2 : ¬cond0_2 i) :
    (kernelRun0_B (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.1
      = [⟨Rect.unit ![0, 0] ![128, 128] inb_S128x128_S128x128_0_0, topT (blockOps i x0 x1 x2 x3 x4 x5 x6 x7 x8 x9).dvv⟩] := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runB_s2 (hc0 : ¬cond0_0 i) (hc1 : ¬cond0_1 i) (hc2 : ¬cond0_2 i) :
    (kernelRun0_B (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.2.1
      = [⟨Rect.unit ![0, 0] ![1, 128] inb_S1x128_S1x128_0_0, plus1 (full1 xs2) (blockOps i x0 x1 x2 x3 x4 x5 x6 x7 x8 x9).dsk⟩] := by
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

end Cert.Attn
end
end
-- ==== Proof.RunC.lean ====
module

public import proofs.«01_k».proof.Proof.Own.FrameOuts
public import proofs.«01_k».proof.Proof.Columns

/-! # What a grid point of case C stores -/

@[expose] public section
noncomputable section
namespace Cert.Attn
open Idealize.ShloMosaic Cert.KernelIdeal Cert.KernelIdeal.Gen Idealize.SL.Sem
open Idealize.ShloMosaic.TcCoe

variable (c : Dev nD) (i : grid0.Coords)
  (arg2 : Memref sig .tc .vmem S128x512 .f32) (harg2 : arg2.IsWhole) (arg3 : Memref sig .tc .vmem S128x512 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S128x128 .f32) (harg7 : arg7.IsWhole)
  (arg8 : Memref sig .tc .vmem S128x512 .f32) (harg8 : arg8.IsWhole) (arg9 : Memref sig .tc .vmem S128x512 .f32) (harg9 : arg9.IsWhole)
  (arg10 : Memref sig .tc .vmem S128x128 .f32) (harg10 : arg10.IsWhole) (arg11 : Memref sig .tc .vmem S1x128 .f32) (harg11 : arg11.IsWhole)
  (arg12 : Memref sig .tc .vmem S128x128 .f32) (harg12 : arg12.IsWhole) (arg14 : Memref sig .tc .vmem S128x1536 .bf16) (harg14 : arg14.IsWhole)
  (arg15 : Memref sig .tc .vmem S1x128 .f32) (harg15 : arg15.IsWhole) (arg16 : Memref sig .tc .vmem S128x128 .f32) (harg16 : arg16.IsWhole)
  (arg17 : Memref sig .tc .vmem S128x128 .f32) (harg17 : arg17.IsWhole) (arg18 : Memref sig .tc .vmem S1x128 .f32) (harg18 : arg18.IsWhole)
  (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S128x512 .f32) (x7 : Vec Ideal S128x512 .f32) (x8 : Vec Ideal S128x128 .f32) (x9 : Vec Ideal S1x128 .f32) (x10 : Vec Ideal S128x128 .f32)
  (xs0 xs1 : Vec Ideal S128x128 .f32) (xs2 : Vec Ideal S1x128 .f32)

theorem runC_11 (hc0 : ¬cond0_0 i) (hc1 : cond0_1 i) (hc2 : ¬cond0_2 i) :
    (kernelRun0_C (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).1
      = cols (tiles (blockOps i x0 x1 x2 x3 x4 x5 x6 x7 x8 x9) zeroT zeroT (full x10)) := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runC_s0 (hc0 : ¬cond0_0 i) (hc1 : cond0_1 i) (hc2 : ¬cond0_2 i) :
    (kernelRun0_C (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.1
      = [⟨Rect.unit ![0, 0] ![128, 128] inb_S128x128_S128x128_0_0, topT (blockOps i x0 x1 x2 x3 x4 x5 x6 x7 x8 x9).dkk⟩, ⟨Rect.unit ![0, 0] ![128, 128] inb_S128x128_S128x128_0_0, zeroT⟩] := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runC_s1 (hc0 : ¬cond0_0 i) (hc1 : cond0_1 i) (hc2 : ¬cond0_2 i) :
    (kernelRun0_C (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.2.1
      = [⟨Rect.unit ![0, 0] ![128, 128] inb_S128x128_S128x128_0_0, topT (blockOps i x0 x1 x2 x3 x4 x5 x6 x7 x8 x9).dvv⟩, ⟨Rect.unit ![0, 0] ![128, 128] inb_S128x128_S128x128_0_0, zeroT⟩] := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runC_s2 (hc0 : ¬cond0_0 i) (hc1 : cond0_1 i) (hc2 : ¬cond0_2 i) :
    (kernelRun0_C (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs2).2.2.2.2.1
      = [⟨Rect.unit ![0, 0] ![1, 128] inb_S1x128_S1x128_0_0, plus1 (full1 xs2) (blockOps i x0 x1 x2 x3 x4 x5 x6 x7 x8 x9).dsk⟩] := by
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

end Cert.Attn
end
end
-- ==== Proof.RunD.lean ====
module

public import proofs.«01_k».proof.Proof.Own.FrameOuts
public import proofs.«01_k».proof.Proof.Columns

/-! # What a grid point of case D stores -/

@[expose] public section
noncomputable section
namespace Cert.Attn
open Idealize.ShloMosaic Cert.KernelIdeal Cert.KernelIdeal.Gen Idealize.SL.Sem
open Idealize.ShloMosaic.TcCoe

variable (c : Dev nD) (i : grid0.Coords)
  (arg2 : Memref sig .tc .vmem S128x512 .f32) (harg2 : arg2.IsWhole) (arg3 : Memref sig .tc .vmem S128x512 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S128x128 .f32) (harg7 : arg7.IsWhole)
  (arg8 : Memref sig .tc .vmem S128x512 .f32) (harg8 : arg8.IsWhole) (arg9 : Memref sig .tc .vmem S128x512 .f32) (harg9 : arg9.IsWhole)
  (arg10 : Memref sig .tc .vmem S128x128 .f32) (harg10 : arg10.IsWhole) (arg11 : Memref sig .tc .vmem S1x128 .f32) (harg11 : arg11.IsWhole)
  (arg12 : Memref sig .tc .vmem S128x128 .f32) (harg12 : arg12.IsWhole) (arg14 : Memref sig .tc .vmem S128x1536 .bf16) (harg14 : arg14.IsWhole)
  (arg15 : Memref sig .tc .vmem S1x128 .f32) (harg15 : arg15.IsWhole) (arg16 : Memref sig .tc .vmem S128x128 .f32) (harg16 : arg16.IsWhole)
  (arg17 : Memref sig .tc .vmem S128x128 .f32) (harg17 : arg17.IsWhole) (arg18 : Memref sig .tc .vmem S1x128 .f32) (harg18 : arg18.IsWhole)
  (x0 : Vec Ideal S128x512 .f32) (x1 : Vec Ideal S128x512 .f32) (x2 : Vec Ideal S128x128 .f32) (x3 : Vec Ideal S128x128 .f32) (x4 : Vec Ideal S128x128 .f32) (x5 : Vec Ideal S128x128 .f32) (x6 : Vec Ideal S128x512 .f32) (x7 : Vec Ideal S128x512 .f32) (x8 : Vec Ideal S128x128 .f32) (x9 : Vec Ideal S1x128 .f32) (x10 : Vec Ideal S128x128 .f32)
  (xs0 xs1 : Vec Ideal S128x128 .f32) (xs2 : Vec Ideal S1x128 .f32)

theorem runD_11 (hc0 : ¬cond0_0 i) (hc1 : ¬cond0_1 i) (hc2 : cond0_2 i) :
    (kernelRun0_D (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).1
      = cols (tiles (blockOps i x0 x1 x2 x3 x4 x5 x6 x7 x8 x9) (full xs0) (full xs1) (full x10)) := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runD_s0 (hc0 : ¬cond0_0 i) (hc1 : ¬cond0_1 i) (hc2 : cond0_2 i) :
    (kernelRun0_D (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.1
      = [⟨Rect.unit ![0, 0] ![128, 128] inb_S128x128_S128x128_0_0, topT (blockOps i x0 x1 x2 x3 x4 x5 x6 x7 x8 x9).dkk⟩] := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runD_s1 (hc0 : ¬cond0_0 i) (hc1 : ¬cond0_1 i) (hc2 : cond0_2 i) :
    (kernelRun0_D (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.1
      = [⟨Rect.unit ![0, 0] ![128, 128] inb_S128x128_S128x128_0_0, topT (blockOps i x0 x1 x2 x3 x4 x5 x6 x7 x8 x9).dvv⟩] := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runD_s2 (hc0 : ¬cond0_0 i) (hc1 : ¬cond0_1 i) (hc2 : cond0_2 i) :
    (kernelRun0_D (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.2.2.2.1
      = [⟨Rect.unit ![0, 0] ![1, 128] inb_S1x128_S1x128_0_0, plus1 (full1 xs2) (blockOps i x0 x1 x2 x3 x4 x5 x6 x7 x8 x9).dsk⟩] := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

theorem runD_12 (hc0 : ¬cond0_0 i) (hc1 : ¬cond0_1 i) (hc2 : cond0_2 i) :
    (kernelRun0_D (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 hc0 hc1 hc2 x0 x1 x2 x3 x4 x5 x6 x7 x8 x9 x10 xs0 xs1 xs2).2.1
      = [⟨Rect.unit ![0, 0] ![1, 128] inb_S1x128_S1x128_0_0, plus1 (full1 xs2) (blockOps i x0 x1 x2 x3 x4 x5 x6 x7 x8 x9).dsk⟩] := by
  unfold kernelRun0_D
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg16.read_unread, harg17.read_unread, harg18.read_unread]
  simp only [again, again1, pay2, pay3, pay5, pay6, pay7, pay8, pay10, pay22, pay36, pay48, pay11, pay23, pay40, pay50, pay12, pay51, pay14, pay15, pay16, pay25, pay26, pay27, pay41, pay52, pay42, pay43, pay55, pay56, pay17, pay32, pay44, pay57, pay19, pay33, pay45, pay58, pay20, pay34, pay46, pay59, pay21, pay35, pay47, pay60, pay62, pay63, pay70, pay71, pay77, pay78, pay82, pay83, pay64, pay72, pay79, pay84, pay69, pay76, pay81, pay87, pay61, pay88, pay89, pay94, pay102, pay105, pay106, pay95, pay103, pay107, pay109, pay96, pay104, pay108, pay110, pay111, pay112, pay114, pay115, pay116, pay1]
  rfl

end Cert.Attn
end
end
-- ==== Proof.Points.lean ====
module

public import proofs.«01_k».proof.Proof.Own.FrameRun
public import proofs.«01_k».proof.Proof.RunA
public import proofs.«01_k».proof.Proof.RunB
public import proofs.«01_k».proof.Proof.RunC
public import proofs.«01_k».proof.Proof.RunD

/-! # What every grid point leaves

The windows and the scratch after a point, for all points at once: the block's own carry does not depend on
what the point before left, and only the columns of the keys and of the values take up the carry. -/

@[expose] public section
noncomputable section
namespace Cert.Attn
open Idealize.ShloMosaic Cert.KernelIdeal Cert.KernelIdeal.Gen Idealize.SL.Sem
open Idealize.ShloMosaic.TcCoe

theorem of_cols {v : View sig .tc .vmem S128x1536 .bf16} {L : List (View.Piece (Elt Ideal) S128x1536 .bf16)}
    {T : Fin 12 → Tile 128 128} (h : L = cols T) (hc : ∀ y, ∃ p ∈ L, y ∈ p.1.set) :
    v.read (Elt Ideal) (v.writes (Elt Ideal) v.junk L) = outT T := by
  subst h
  rw [View.read_writes_eq_canon _ _ _ hc, canon_cols T hc]

theorem of_one {v : View sig .tc .vmem S128x128 .f32} {L L' : List (View.Piece (Elt Ideal) S128x128 .f32)} {w : Tile 128 128}
    (h : L = ⟨Rect.unit ![0, 0] ![128, 128] inb_S128x128_S128x128_0_0, w⟩ :: L') (hc : ∀ y, ∃ p ∈ L, y ∈ p.1.set) :
    v.read (Elt Ideal) (v.writes (Elt Ideal) v.junk L) = w := by
  subst h
  rw [View.read_writes_eq_canon _ _ _ hc]
  exact View.canon_cons_unit_zero (Val := Elt Ideal) (S := S128x128) (e := .f32) (off := ![0, 0]) zeros inb_S128x128_S128x128_0_0 w L'

theorem of_one1 {v : View sig .tc .vmem S1x128 .f32} {L L' : List (View.Piece (Elt Ideal) S1x128 .f32)} {w : Tile 1 128}
    (h : L = ⟨Rect.unit ![0, 0] ![1, 128] inb_S1x128_S1x128_0_0, w⟩ :: L') (hc : ∀ y, ∃ p ∈ L, y ∈ p.1.set) :
    v.read (Elt Ideal) (v.writes (Elt Ideal) v.junk L) = w := by
  subst h
  rw [View.read_writes_eq_canon _ _ _ hc]
  exact View.canon_cons_unit_zero (Val := Elt Ideal) (S := S1x128) (e := .f32) (off := ![0, 0]) zeros inb_S1x128_S1x128_0_0 w L'

variable (m : (ℓ : Loc nD τ sig) → Buf (Elt Ideal) ℓ) (c : Dev nD) (t : Fin cfg0.N)

/-- What the block at point `t` works on. -/
def opsAt : Ops := blockOps (grid0.coords t) (iblk m c 0 t) (iblk m c 1 t) (iblk m c 2 t) (iblk m c 3 t) (iblk m c 4 t)
  (iblk m c 5 t) (iblk m c 6 t) (iblk m c 7 t) (iblk m c 8 t) (iblk m c 9 t)

theorem afterA_out (h0 : t.val % 32 = 0) (h1 : t.val % 16 = 0) (h2 : ¬t.val % 32 = 31) :
    (outsAt0 m c t.val t.isLt).1 = outT (tiles (opsAt m c t) zeroT zeroT (full (iblk m c 10 t))) := by
  rw [outsAt0_A m c t h0 h1 h2]
  dsimp only
  unfold out0_A_11
  exact of_cols (runA_11 ..) (fun y => cover0_A_11 (y := y) ..)
theorem afterA_0 (h0 : t.val % 32 = 0) (h1 : t.val % 16 = 0) (h2 : ¬t.val % 32 = 31) :
    (outsAt0 m c t.val t.isLt).2.2.1 = topT (opsAt m c t).dkk := by
  rw [outsAt0_A m c t h0 h1 h2]
  dsimp only
  unfold sout0_A_0
  exact of_one (runA_s0 ..) (fun y => scover0_A_0 (y := y) ..)
theorem afterA_1 (h0 : t.val % 32 = 0) (h1 : t.val % 16 = 0) (h2 : ¬t.val % 32 = 31) :
    (outsAt0 m c t.val t.isLt).2.2.2.1 = topT (opsAt m c t).dvv := by
  rw [outsAt0_A m c t h0 h1 h2]
  dsimp only
  unfold sout0_A_1
  exact of_one (runA_s1 ..) (fun y => scover0_A_1 (y := y) ..)
theorem afterA_2 (h0 : t.val % 32 = 0) (h1 : t.val % 16 = 0) (h2 : ¬t.val % 32 = 31) :
    (outsAt0 m c t.val t.isLt).2.2.2.2 = plus1 Ops.zero1 (opsAt m c t).dsk := by
  rw [outsAt0_A m c t h0 h1 h2]
  dsimp only
  unfold sout0_A_2
  exact of_one1 (runA_s2 ..) (fun y => scover0_A_2 (y := y) ..)

theorem afterB_out (h0 : ¬t.val % 32 = 0) (h1 : ¬t.val % 16 = 0) (h2 : ¬t.val % 32 = 31) :
    (outsAt0 m c t.val t.isLt).1 = outT (tiles (opsAt m c t) (full (outsAt0 m c (t.val - 1) (Nat.lt_of_le_of_lt (Nat.sub_le _ _) t.isLt)).2.2.1) (full (outsAt0 m c (t.val - 1) (Nat.lt_of_le_of_lt (Nat.sub_le _ _) t.isLt)).2.2.2.1) (full (iblk m c 10 t))) := by
  rw [outsAt0_B m c t h0 h1 h2]
  dsimp only
  unfold out0_B_11
  exact of_cols (runB_11 ..) (fun y => cover0_B_11 (y := y) ..)
theorem afterB_0 (h0 : ¬t.val % 32 = 0) (h1 : ¬t.val % 16 = 0) (h2 : ¬t.val % 32 = 31) :
    (outsAt0 m c t.val t.isLt).2.2.1 = topT (opsAt m c t).dkk := by
  rw [outsAt0_B m c t h0 h1 h2]
  dsimp only
  unfold sout0_B_0
  exact of_one (runB_s0 ..) (fun y => scover0_B_0 (y := y) ..)
theorem afterB_1 (h0 : ¬t.val % 32 = 0) (h1 : ¬t.val % 16 = 0) (h2 : ¬t.val % 32 = 31) :
    (outsAt0 m c t.val t.isLt).2.2.2.1 = topT (opsAt m c t).dvv := by
  rw [outsAt0_B m c t h0 h1 h2]
  dsimp only
  unfold sout0_B_1
  exact of_one (runB_s1 ..) (fun y => scover0_B_1 (y := y) ..)
theorem afterB_2 (h0 : ¬t.val % 32 = 0) (h1 : ¬t.val % 16 = 0) (h2 : ¬t.val % 32 = 31) :
    (outsAt0 m c t.val t.isLt).2.2.2.2 = plus1 (full1 (outsAt0 m c (t.val - 1) (Nat.lt_of_le_of_lt (Nat.sub_le _ _) t.isLt)).2.2.2.2) (opsAt m c t).dsk := by
  rw [outsAt0_B m c t h0 h1 h2]
  dsimp only
  unfold sout0_B_2
  exact of_one1 (runB_s2 ..) (fun y => scover0_B_2 (y := y) ..)

theorem afterC_out (h0 : ¬t.val % 32 = 0) (h1 : t.val % 16 = 0) (h2 : ¬t.val % 32 = 31) :
    (outsAt0 m c t.val t.isLt).1 = outT (tiles (opsAt m c t) zeroT zeroT (full (iblk m c 10 t))) := by
  rw [outsAt0_C m c t h0 h1 h2]
  dsimp only
  unfold out0_C_11
  exact of_cols (runC_11 ..) (fun y => cover0_C_11 (y := y) ..)
theorem afterC_0 (h0 : ¬t.val % 32 = 0) (h1 : t.val % 16 = 0) (h2 : ¬t.val % 32 = 31) :
    (outsAt0 m c t.val t.isLt).2.2.1 = topT (opsAt m c t).dkk := by
  rw [outsAt0_C m c t h0 h1 h2]
  dsimp only
  unfold sout0_C_0
  exact of_one (runC_s0 ..) (fun y => scover0_C_0 (y := y) ..)
theorem afterC_1 (h0 : ¬t.val % 32 = 0) (h1 : t.val % 16 = 0) (h2 : ¬t.val % 32 = 31) :
    (outsAt0 m c t.val t.isLt).2.2.2.1 = topT (opsAt m c t).dvv := by
  rw [outsAt0_C m c t h0 h1 h2]
  dsimp only
  unfold sout0_C_1
  exact of_one (runC_s1 ..) (fun y => scover0_C_1 (y := y) ..)
theorem afterC_2 (h0 : ¬t.val % 32 = 0) (h1 : t.val % 16 = 0) (h2 : ¬t.val % 32 = 31) :
    (outsAt0 m c t.val t.isLt).2.2.2.2 = plus1 (full1 (outsAt0 m c (t.val - 1) (Nat.lt_of_le_of_lt (Nat.sub_le _ _) t.isLt)).2.2.2.2) (opsAt m c t).dsk := by
  rw [outsAt0_C m c t h0 h1 h2]
  dsimp only
  unfold sout0_C_2
  exact of_one1 (runC_s2 ..) (fun y => scover0_C_2 (y := y) ..)

theorem afterD_out (h0 : ¬t.val % 32 = 0) (h1 : ¬t.val % 16 = 0) (h2 : t.val % 32 = 31) :
    (outsAt0 m c t.val t.isLt).1 = outT (tiles (opsAt m c t) (full (outsAt0 m c (t.val - 1) (Nat.lt_of_le_of_lt (Nat.sub_le _ _) t.isLt)).2.2.1) (full (outsAt0 m c (t.val - 1) (Nat.lt_of_le_of_lt (Nat.sub_le _ _) t.isLt)).2.2.2.1) (full (iblk m c 10 t))) := by
  rw [outsAt0_D m c t h0 h1 h2]
  dsimp only
  unfold out0_D_11
  exact of_cols (runD_11 ..) (fun y => cover0_D_11 (y := y) ..)
theorem afterD_0 (h0 : ¬t.val % 32 = 0) (h1 : ¬t.val % 16 = 0) (h2 : t.val % 32 = 31) :
    (outsAt0 m c t.val t.isLt).2.2.1 = topT (opsAt m c t).dkk := by
  rw [outsAt0_D m c t h0 h1 h2]
  dsimp only
  unfold sout0_D_0
  exact of_one (runD_s0 ..) (fun y => scover0_D_0 (y := y) ..)
theorem afterD_1 (h0 : ¬t.val % 32 = 0) (h1 : ¬t.val % 16 = 0) (h2 : t.val % 32 = 31) :
    (outsAt0 m c t.val t.isLt).2.2.2.1 = topT (opsAt m c t).dvv := by
  rw [outsAt0_D m c t h0 h1 h2]
  dsimp only
  unfold sout0_D_1
  exact of_one (runD_s1 ..) (fun y => scover0_D_1 (y := y) ..)
theorem afterD_2 (h0 : ¬t.val % 32 = 0) (h1 : ¬t.val % 16 = 0) (h2 : t.val % 32 = 31) :
    (outsAt0 m c t.val t.isLt).2.2.2.2 = plus1 (full1 (outsAt0 m c (t.val - 1) (Nat.lt_of_le_of_lt (Nat.sub_le _ _) t.isLt)).2.2.2.2) (opsAt m c t).dsk := by
  rw [outsAt0_D m c t h0 h1 h2]
  dsimp only
  unfold sout0_D_2
  exact of_one1 (runD_s2 ..) (fun y => scover0_D_2 (y := y) ..)
theorem afterD_12 (h0 : ¬t.val % 32 = 0) (h1 : ¬t.val % 16 = 0) (h2 : t.val % 32 = 31) :
    (outsAt0 m c t.val t.isLt).2.1 = plus1 (full1 (outsAt0 m c (t.val - 1) (Nat.lt_of_le_of_lt (Nat.sub_le _ _) t.isLt)).2.2.2.2) (opsAt m c t).dsk := by
  rw [outsAt0_D m c t h0 h1 h2]
  dsimp only
  unfold out0_D_12
  exact of_one1 (runD_12 ..) (fun y => cover0_D_12 (y := y) ..)

end Cert.Attn
end
end
-- ==== Proof.Host.lean ====
module

public import proofs.«01_k».proof.Proof.Points
public import proofs.«01_k».proof.Proof.Gen.ReferenceIdeal.Read
public import Idealize.ShloMosaic.Lib.StableHlo.RunRead

/-! # What the host prepares

The three arrays the host computes for the launch, in the reference's own stages. -/

@[expose] public section
noncomputable section
namespace Cert.Attn
open Idealize.ShloMosaic Cert.KernelIdeal Cert.KernelIdeal.Gen Idealize.SL.Sem
open Idealize.ShloMosaic.TcCoe
open Idealize.ShloMosaic.StableHlo

variable (m : (ℓ : Loc nD τ sig) → Buf (Elt Ideal) ℓ) (c : Dev nD)

def cat8 (a : (⟨S4096x8, .f32⟩ : BufTy).Contents (Elt Ideal)) (b : (⟨S4096x120, .f32⟩ : BufTy).Contents (Elt Ideal)) :
    (⟨S4096x128, .f32⟩ : BufTy).Contents (Elt Ideal) :=
  concatenate S4096x128 1 [⟨S4096x8, a⟩, ⟨S4096x120, b⟩] concatenates_S4096x8_S4096x120_S4096x128_d1
theorem cat8_eq (a : (⟨S4096x8, .f32⟩ : BufTy).Contents (Elt Ideal)) (b : (⟨S4096x120, .f32⟩ : BufTy).Contents (Elt Ideal)) :
    concatenate S4096x128 1 [⟨S4096x8, a⟩, ⟨S4096x120, b⟩] concatenates_S4096x8_S4096x120_S4096x128_d1 = cat8 a b := by unfold cat8; rfl

/-- A log-sum-exp array with the heads as lanes, padded with zeros. -/
def lanes8 (x : (⟨S2x16x2x4x128x1, .f32⟩ : BufTy).Contents (Elt Ideal)) : (⟨S4096x128, .f32⟩ : BufTy).Contents (Elt Ideal) :=
  cat8 (shapeCast S4096x8 (transpose S2x16x128x2x4 [0, 1, 4, 2, 3]
      (shapeCast S2x16x2x4x128 x shapeCasts_S2x16x2x4x128x1_S2x16x2x4x128) transposes_S2x16x2x4x128_S2x16x128x2x4_0_1_4_2_3) shapeCasts_S2x16x128x2x4_S4096x8)
    (broadcastInDim S4096x120 ![] bcast_S_S4096x120 (constant (F := Ideal) S_ .f32 0x00000000#32))

/-- Eight sinks as lanes, padded with zeros. -/
def lanes1 (x : (⟨S8, .f32⟩ : BufTy).Contents (Elt Ideal)) : (⟨S1x128, .f32⟩ : BufTy).Contents (Elt Ideal) :=
  shapeCast S1x128 (concatenate S128 0 [⟨S8, x⟩, ⟨S120, broadcastInDim S120 ![] bcast_S_S120 (constant (F := Ideal) S_ .f32 0x00000000#32)⟩]
    concatenates_S8_S120_S128_d0) shapeCasts_S128_S1x128

set_option maxRecDepth 20000 in
theorem host82 : V m c main_v82 = shapeCast S4096x512 (Cert.ReferenceIdeal.Read.val_main_v111 (F := Ideal) (m ((c : Thread nD τ).loc main_arg1)) (m ((c : Thread nD τ).loc main_arg2))) shapeCasts_S2x2048x512_S4096x512 := by
  unfold V
  simp only [hostOps0, hostOps0_1, hostOps0_2, List.flatten_cons, List.flatten_nil, List.append_nil, List.cons_append, List.nil_append]
  after_reads_simp
  rfl

set_option maxRecDepth 20000 in
theorem host75 : V m c main_v75 = Cert.ReferenceIdeal.Read.val_main_v84 (F := Ideal) (m ((c : Thread nD τ).loc main_arg1)) (m ((c : Thread nD τ).loc main_arg2)) := by
  unfold V
  simp only [hostOps0, hostOps0_1, hostOps0_2, List.flatten_cons, List.flatten_nil, List.append_nil, List.cons_append, List.nil_append]
  after_reads_simp
  rfl

set_option maxRecDepth 20000 in
set_option maxHeartbeats 4000000 in
theorem host87' : V m c main_v87 = lanes8 (V m c main_v75) := by
  unfold V lanes8
  simp only [hostOps0, hostOps0_1, hostOps0_2, List.flatten_cons, List.flatten_nil, List.append_nil, List.cons_append, List.nil_append]
  after_reads_simp
  rw [cat8_eq]
  after_reads_simp
  rfl

theorem host87 : V m c main_v87 = lanes8 (Cert.ReferenceIdeal.Read.val_main_v84 (F := Ideal) (m ((c : Thread nD τ).loc main_arg1)) (m ((c : Thread nD τ).loc main_arg2))) := by
  rw [host87', host75]

set_option maxRecDepth 20000 in
theorem host90 : V m c main_v90 = lanes1 (m ((c : Thread nD τ).loc main_arg2)) := by
  unfold V
  simp only [hostOps0, hostOps0_1, hostOps0_2, List.flatten_cons, List.flatten_nil, List.append_nil, List.cons_append, List.nil_append]
  after_reads_simp
  rfl

set_option maxRecDepth 20000 in
theorem host91 : V m c main_v91_0 = m ((c : Thread nD τ).loc main_arg4) := by
  unfold V
  simp only [hostOps0, hostOps0_1, hostOps0_2, List.flatten_cons, List.flatten_nil, List.append_nil, List.cons_append, List.nil_append]
  after_reads_simp
  rfl

end Cert.Attn
end
end
-- ==== Proof.Local.lean ====
module

public import proofs.«01_k».proof.Proof.Block

/-! # One block over the real numbers

`Blk` is what a block reads, as real numbers; its functions are the gradients written head by head.  `OpsIs b β` says
that the tiles of `b` hold the numbers of `β`, and the lemmas that the tiles computed from `b` hold the gradients of `β`. -/

@[expose] public section
noncomputable section
namespace Cert.Attn
open Idealize.ShloMosaic Cert.KernelIdeal Cert.KernelIdeal.Gen Idealize.SL.Sem
open Finset (range)

/-- A block of 128 queries (eight heads of 64 columns side by side) and the 256 keys and values before it (two groups). -/
structure Blk where
  Q : ℕ → ℕ → ℝ
  Z : ℕ → ℕ → ℝ
  O : ℕ → ℕ → ℝ
  Y : ℕ → ℕ → ℝ
  K : ℕ → ℕ → ℝ
  V : ℕ → ℕ → ℝ
  L : ℕ → ℕ → ℝ
  S : ℕ → ℝ
  n : ℕ

namespace Blk
variable (β : Blk)

/-- The gradient of the attention's output: the incoming one with the gate on it. -/
def go (w c : ℕ) : ℝ := β.Y w c * (β.Z w c * logi (β.Z w c))
/-- The gradient of the gate's input. -/
def dz (w c : ℕ) : ℝ := β.Y w c * β.O w c * (logi (β.Z w c) * (1 + β.Z w c * (1 - logi (β.Z w c))))
/-- The score of query `w` and key `t` in head `h`. -/
def sc (h w t : ℕ) : ℝ := (∑ d ∈ range 64, β.Q w (64 * h + d) * β.K t (64 * (h / 4) + d)) * (1 / 8)
/-- The weight. -/
def pr (h w t : ℕ) : ℝ := if Band β.n w t then Real.exp (β.sc h w t - β.L w h) else 0
/-- The weight's gradient. -/
def dp (h w t : ℕ) : ℝ := ∑ d ∈ range 64, β.go w (64 * h + d) * β.V t (64 * (h / 4) + d)
def del (h w : ℕ) : ℝ := ∑ d ∈ range 64, β.go w (64 * h + d) * β.O w (64 * h + d)
/-- The score's gradient. -/
def ds (h w t : ℕ) : ℝ := β.pr h w t * (β.dp h w t - β.del h w)
def dq (h w d : ℕ) : ℝ := (∑ t ∈ range 256, β.ds h w t * β.K t (64 * (h / 4) + d)) * (1 / 8)
/-- One head's part of the gradient of key `t`, of value `t`. -/
def dk (h t d : ℕ) : ℝ := (∑ w ∈ range 128, β.ds h w t * β.Q w (64 * h + d)) * (1 / 8)
def dv (h t d : ℕ) : ℝ := ∑ w ∈ range 128, β.pr h w t * β.go w (64 * h + d)
/-- A group's four heads together. -/
def dkk (g t d : ℕ) : ℝ := ∑ h ∈ range 4, β.dk (4 * g + h) t d
def dvv (g t d : ℕ) : ℝ := ∑ h ∈ range 4, β.dv (4 * g + h) t d
/-- The block's part of the gradient of head `h`'s sink. -/
def dsk (h : ℕ) : ℝ := -∑ w ∈ range 128, Real.exp (β.S h - β.L w h) * β.del h w
end Blk

structure OpsIs (b : Ops) (β : Blk) : Prop where
  q : ∀ j : Fin 4, Is (b.q j) (fun r l => β.Q r (128 * j.val + l))
  z : ∀ j : Fin 4, Is (b.z j) (fun r l => β.Z r (128 * j.val + l))
  o : ∀ j : Fin 4, Is (b.o j) (fun r l => β.O r (128 * j.val + l))
  dy : ∀ j : Fin 4, Is (b.dy j) (fun r l => β.Y r (128 * j.val + l))
  k : Is b.k β.K
  v : Is b.v β.V
  l : Is b.l β.L
  s : Is b.s (fun _ l => β.S l)
  m : ∀ i : S256x256.Idx, b.m i = if Band β.n ((i 0).val % 128) (i 1).val then 1#1 else 0#1

theorem stackP_is (j : Fin 4) {x : Tile 128 128} {X : ℕ → ℕ → ℝ} (h : Is x (fun r l => X r (128 * j.val + l))) :
    Is (stackP j x) (fun r l => if l / 64 = j.val / 2 then X (r % 128) (64 * (2 * j.val + r / 128) + l % 64) else 0) := by
  have hj := j.isLt
  unfold stackP
  split_ifs with hlt
  · refine (stack0_is h).congr fun r l hr hl => ?_
    by_cases h64 : l < 64
    · rw [if_pos h64, if_pos (by omega)]
      unfold two
      split_ifs with h128
      · show X r (128 * j.val + _) = X _ _
        congr 1 <;> omega
      · show X (r - 128) (128 * j.val + _) = X _ _
        congr 1 <;> omega
    · rw [if_neg h64, if_neg (by omega)]
  · refine (stack1_is h).congr fun r l hr hl => ?_
    by_cases h64 : l < 64
    · rw [if_pos h64, if_neg (by omega)]
    · rw [if_neg h64, if_pos (by omega)]
      unfold two
      split_ifs with h128
      · show X r (128 * j.val + _) = X _ _
        congr 1 <;> omega
      · show X (r - 128) (128 * j.val + _) = X _ _
        congr 1 <;> omega

theorem flatP_is (j : Fin 4) {y : Tile 256 128} {Y : ℕ → ℕ → ℝ} (h : Is y Y) :
    Is (flatP j y) (fun r c => Y (128 * (c / 64) + r) (64 * (j.val / 2) + c % 64)) := by
  have hj := j.isLt
  unfold flatP
  split_ifs with hlt
  · refine (flat0_is h).congr fun r l hr hl => ?_
    split_ifs with h64 <;> congr 1 <;> omega
  · refine (flat1_is h).congr fun r l hr hl => ?_
    split_ifs with h64 <;> congr 1 <;> omega

/-- A sum over the lanes of one group only. -/
theorem sum_group (g : ℕ) (hg : g ≤ 1) (A B : ℕ → ℝ) :
    ∑ l ∈ range 128, (if l / 64 = g then A (l % 64) else 0) * B l = ∑ d ∈ range 64, A d * B (64 * g + d) := by
  rw [show (128 : ℕ) = 64 + 64 from rfl, Finset.sum_range_add]
  rcases Nat.le_one_iff_eq_zero_or_eq_one.1 hg with rfl | rfl
  · rw [Finset.sum_congr (s₂ := range 64) (g := fun d => A d * B (64 * 0 + d)) rfl fun d hd => ?_,
      Finset.sum_eq_zero (s := range 64) (f := fun x => (if (64 + x) / 64 = 0 then A ((64 + x) % 64) else 0) * B (64 + x)) fun d hd => ?_, add_zero]
    · rw [if_neg (by omega), zero_mul]
    · have := Finset.mem_range.1 hd
      rw [if_pos (by omega), Nat.mod_eq_of_lt this, Nat.mul_zero, Nat.zero_add]
  · rw [Finset.sum_eq_zero (s := range 64) (f := fun x => (if x / 64 = 1 then A (x % 64) else 0) * B x) fun d hd => ?_, zero_add]
    · refine Finset.sum_congr rfl fun d hd => ?_
      have := Finset.mem_range.1 hd
      rw [if_pos (by omega), show (64 + d) % 64 = d by omega, Nat.mul_one]
    · have := Finset.mem_range.1 hd
      rw [if_neg (by omega), zero_mul]

/-- A sum over 256 rows is one over the two heads and the 128 rows of each. -/
theorem sum_rows (f : ℕ → ℕ → ℝ) :
    ∑ r ∈ range 256, f (r / 128) (r % 128) = (∑ w ∈ range 128, f 0 w) + ∑ w ∈ range 128, f 1 w := by
  rw [show (256 : ℕ) = 128 + 128 from rfl, Finset.sum_range_add]
  refine congrArg₂ (· + ·) ?_ ?_
  · refine Finset.sum_congr rfl fun w hw => ?_
    have := Finset.mem_range.1 hw
    rw [show w / 128 = 0 by omega, Nat.mod_eq_of_lt this]
  · refine Finset.sum_congr rfl fun w hw => ?_
    have := Finset.mem_range.1 hw
    rw [show (128 + w) / 128 = 1 by omega, show (128 + w) % 128 = w by omega]

namespace OpsIs
variable {b : Ops} {β : Blk} (hb : OpsIs b β)
include hb

theorem q2_is (j : Fin 4) : Is (b.q2 j) (fun r l => if l / 64 = j.val / 2 then β.Q (r % 128) (64 * (2 * j.val + r / 128) + l % 64) else 0) :=
  stackP_is j (hb.q j)

theorem do2_is (j : Fin 4) : Is (b.do2 j) (fun r l => if l / 64 = j.val / 2 then β.go (r % 128) (64 * (2 * j.val + r / 128) + l % 64) else 0) :=
  stackP_is (X := β.go) j (gateT_is (hb.z j) (hb.dy j))

theorem delta_is (j : Fin 4) : Is (b.delta j) (fun r _ => β.del (2 * j.val + r / 128) (r % 128)) := by
  have hj := j.isLt
  refine (rowSumT_is ((hb.do2_is j).mul (stackP_is j (hb.o j)))).congr fun r _ _ _ => ?_
  refine (Finset.sum_congr rfl fun l hl => ?_).trans (sum_group (j.val / 2) (by omega)
    (fun d => β.go (r % 128) (64 * (2 * j.val + r / 128) + d)) (fun l => β.O (r % 128) (64 * (2 * j.val + r / 128) + l % 64))) |>.trans ?_
  · split_ifs <;> simp
  · refine Finset.sum_congr rfl fun d hd => ?_
    have := Finset.mem_range.1 hd
    rw [show (64 * (j.val / 2) + d) % 64 = d by omega]

theorem lse_is (j : Fin 4) : Is (b.lse j) (fun r _ => β.L (r % 128) (2 * j.val + r / 128)) := by
  have hj := j.isLt
  refine (pick2T_is hb.l (2 * j.val) (2 * j.val + 1) (by omega) (by omega)).congr fun r _ hr _ => ?_
  split_ifs with h
  · rw [show r / 128 = 0 by omega, Nat.mod_eq_of_lt h, Nat.add_zero]
  · rw [show r / 128 = 1 by omega, show r % 128 = r - 128 by omega]

theorem score_is (j : Fin 4) : Is (prodNT (b.q2 j) b.k)
    (fun r t => ∑ d ∈ range 64, β.Q (r % 128) (64 * (2 * j.val + r / 128) + d) * β.K t (64 * ((2 * j.val + r / 128) / 4) + d)) := by
  have hj := j.isLt
  refine (prodNT_is (hb.q2_is j) hb.k).congr fun r t hr _ => ?_
  refine (sum_group (j.val / 2) (by omega) (fun d => β.Q (r % 128) (64 * (2 * j.val + r / 128) + d)) (fun l => β.K t l)).trans ?_
  rw [show (2 * j.val + r / 128) / 4 = j.val / 2 by omega]

theorem dp_is (j : Fin 4) : Is (prodNT (b.do2 j) b.v) (fun r t => β.dp (2 * j.val + r / 128) (r % 128) t) := by
  have hj := j.isLt
  refine (prodNT_is (hb.do2_is j) hb.v).congr fun r t hr _ => ?_
  refine (sum_group (j.val / 2) (by omega) (fun d => β.go (r % 128) (64 * (2 * j.val + r / 128) + d)) (fun l => β.V t l)).trans ?_
  unfold Blk.dp
  rw [show (2 * j.val + r / 128) / 4 = j.val / 2 by omega]

theorem pr_is (j : Fin 4) : Is (b.pr j) (fun r t => β.pr (2 * j.val + r / 128) (r % 128) t) :=
  weightT_is (M := fun r t => Band β.n (r % 128) t) hb.m (hb.score_is j) (hb.lse_is j)

theorem ds_is (j : Fin 4) : Is (b.ds j) (fun r t => β.ds (2 * j.val + r / 128) (r % 128) t) :=
  slopeT_is (hb.pr_is j) (hb.dp_is j) (hb.delta_is j)

theorem dz_is (j : Fin 4) : Is (b.dz j) (fun r l => β.dz r (128 * j.val + l)) :=
  dgateT_is (hb.z j) (hb.o j) (hb.dy j)

theorem dq_is (j : Fin 4) : Is (b.dq j) (fun r c => β.dq (2 * j.val + c / 64) r (c % 64)) := by
  have hj := j.isLt
  refine (flatP_is j (eighthT_is (prodNN_is (hb.ds_is j) hb.k))).congr fun r c hr hc => ?_
  unfold Blk.dq
  rw [show (128 * (c / 64) + r) / 128 = c / 64 by omega, show (128 * (c / 64) + r) % 128 = r by omega,
    show (2 * j.val + c / 64) / 4 = j.val / 2 by omega]

/-- A product over the rows of a pair, in the lanes of its group. -/
theorem pair_is (j : Fin 4) {p : Tile 256 256} {x : Tile 256 128} {P : ℕ → ℕ → ℕ → ℝ} {X : ℕ → ℕ → ℝ}
    (hp : Is p (fun r t => P (2 * j.val + r / 128) (r % 128) t))
    (hx : Is x (fun r l => if l / 64 = j.val / 2 then X (r % 128) (64 * (2 * j.val + r / 128) + l % 64) else 0)) :
    Is (prodTN p x) (fun t l => if l / 64 = j.val / 2 then
      (∑ w ∈ range 128, P (2 * j.val) w t * X w (64 * (2 * j.val) + l % 64)) +
        ∑ w ∈ range 128, P (2 * j.val + 1) w t * X w (64 * (2 * j.val + 1) + l % 64) else 0) := by
  refine (prodTN_is hp hx).congr fun t l _ _ => ?_
  split_ifs with h
  · exact sum_rows (fun e w => P (2 * j.val + e) w t * X w (64 * (2 * j.val + e) + l % 64))
  · simp

theorem dk1_is (j : Fin 4) : Is (b.dk1 j) (fun t l => if l / 64 = j.val / 2 then β.dk (2 * j.val) t (l % 64) + β.dk (2 * j.val + 1) t (l % 64) else 0) := by
  refine (eighthT_is (hb.pair_is j (hb.ds_is j) (hb.q2_is j))).congr fun t l _ _ => ?_
  unfold Blk.dk
  split_ifs
  · ring
  · simp

theorem dv1_is (j : Fin 4) : Is (b.dv1 j) (fun t l => if l / 64 = j.val / 2 then β.dv (2 * j.val) t (l % 64) + β.dv (2 * j.val + 1) t (l % 64) else 0) :=
  hb.pair_is j (hb.pr_is j) (hb.do2_is j)

theorem dkk_is : Is b.dkk (fun t l => β.dkk (l / 64) t (l % 64)) := by
  refine ((((((Is.const (c := Scalar.ofBits (F := Ideal) .f32 0x00000000#32) zeroW).add (hb.dk1_is 0)).add (hb.dk1_is 1)).add
    (hb.dk1_is 2)).add (hb.dk1_is 3))).congr fun t l _ hl => ?_
  unfold Blk.dkk
  simp only [Finset.sum_range_succ, Finset.sum_range_zero]
  rcases (by omega : l / 64 = 0 ∨ l / 64 = 1) with h | h <;> simp [h] <;> ring

theorem dvv_is : Is b.dvv (fun t l => β.dvv (l / 64) t (l % 64)) := by
  refine ((((((Is.const (c := Scalar.ofBits (F := Ideal) .f32 0x00000000#32) zeroW).add (hb.dv1_is 0)).add (hb.dv1_is 1)).add
    (hb.dv1_is 2)).add (hb.dv1_is 3))).congr fun t l _ hl => ?_
  unfold Blk.dvv
  simp only [Finset.sum_range_succ, Finset.sum_range_zero]
  rcases (by omega : l / 64 = 0 ∨ l / 64 = 1) with h | h <;> simp [h] <;> ring

theorem snk_is (j : Fin 4) : Is (b.snk j) (fun r _ => Real.exp (β.S (2 * j.val + r / 128) - β.L (r % 128) (2 * j.val + r / 128)) * β.del (2 * j.val + r / 128) (r % 128)) := by
  have hj := j.isLt
  refine sinkT_is (S := fun r _ => β.S (2 * j.val + r / 128)) ?_ (hb.lse_is j) (hb.delta_is j)
  refine (spread2T_is hb.s (2 * j.val) (2 * j.val + 1) (by omega) (by omega)).congr fun r _ hr _ => ?_
  split_ifs with h
  · rw [show r / 128 = 0 by omega, Nat.add_zero]
  · rw [show r / 128 = 1 by omega]

theorem take_is (j : Fin 4) {acc : Tile 1 128} {A : ℕ → ℕ → ℝ} (ha : Is acc A) :
    Is (b.take j acc) (fun r l => A r l + (if l = 2 * j.val then β.dsk (2 * j.val) else 0)
      + (if l = 2 * j.val + 1 then β.dsk (2 * j.val + 1) else 0)) := by
  have hj := j.isLt
  refine (takeT_is (takeT_is ha (top_is (hb.snk_is j) slices_S256x1_o0_0_S128x1) (2 * j.val) (by omega))
    (bot_is (hb.snk_is j) slices_S256x1_o128_0_S128x1) (2 * j.val + 1) (by omega)).congr fun r l _ _ => ?_
  have e0 : (∑ w ∈ range 128, Real.exp (β.S (2 * j.val + w / 128) - β.L (w % 128) (2 * j.val + w / 128)) * β.del (2 * j.val + w / 128) (w % 128))
      = -β.dsk (2 * j.val) := by
    unfold Blk.dsk
    rw [neg_neg]
    refine Finset.sum_congr rfl fun w hw => ?_
    have := Finset.mem_range.1 hw
    rw [show w / 128 = 0 by omega, Nat.mod_eq_of_lt this, Nat.add_zero]
  have e1 : (∑ w ∈ range 128, Real.exp (β.S (2 * j.val + (128 + w) / 128) - β.L ((128 + w) % 128) (2 * j.val + (128 + w) / 128)) * β.del (2 * j.val + (128 + w) / 128) ((128 + w) % 128))
      = -β.dsk (2 * j.val + 1) := by
    unfold Blk.dsk
    rw [neg_neg]
    refine Finset.sum_congr rfl fun w hw => ?_
    have := Finset.mem_range.1 hw
    rw [show (128 + w) / 128 = 1 by omega, show (128 + w) % 128 = w by omega]
  rw [e0, e1]
  split_ifs <;> ring

theorem dsk_is : Is b.dsk (fun _ l => if l < 8 then β.dsk l else 0) := by
  refine (hb.take_is 3 (hb.take_is 2 (hb.take_is 1 (hb.take_is 0
    (Is.const (c := Scalar.ofBits (F := Ideal) .f32 0x00000000#32) zeroW))))).congr fun _ l _ _ => ?_
  by_cases h8 : l < 8
  · rw [if_pos h8]
    interval_cases l <;> simp
  · rw [if_neg h8]
    have h0 : l ≠ 0 := by omega
    have h1 : l ≠ 1 := by omega
    have h2 : l ≠ 2 := by omega
    have h3 : l ≠ 3 := by omega
    have h4 : l ≠ 4 := by omega
    have h5 : l ≠ 5 := by omega
    have h6 : l ≠ 6 := by omega
    have h7 : l ≠ 7 := by omega
    simp [h0, h1, h2, h3, h4, h5, h6, h7]

end OpsIs
end Cert.Attn
end
end
-- ==== Proof.RefIn.lean ====
module

public import proofs.«01_k».proof.Proof.Local
public import proofs.«01_k».proof.Proof.Gen.ReferenceIdeal.Read
public import Idealize.ShloMosaic.Lib.Pointwise.Reshape

/-! # The reference's inputs

Queries, keys, values, gate and incoming gradient as the reference cuts them out of its arguments. -/

@[expose] public section
noncomputable section
namespace Cert.Attn
open Idealize.ShloMosaic Cert.ReferenceIdeal Cert.ReferenceIdeal.Gen Cert.ReferenceIdeal.Read Idealize.SL.Sem
open Idealize.ShloMosaic.TcCoe
open Finset (range)

/-- Row `w` of block `n` in batch `b`. -/
def row (b n w : ℕ) : ℕ := 2048 * b + 128 * n + w

/-- The real numbers the arguments hold where they are used. -/
structure Data where
  P : ℕ → ℕ → ℝ
  D : ℕ → ℕ → ℝ
  S : ℕ → ℝ

abbrev Arr0 := (⟨S4096x2048, .f32⟩ : BufTy).Contents (Elt Ideal)
abbrev Arr1 := (⟨S4096x5632, .f32⟩ : BufTy).Contents (Elt Ideal)
abbrev Arr2 := (⟨S8, .f32⟩ : BufTy).Contents (Elt Ideal)

structure Holds (x0 : Arr0) (x1 : Arr1) (x2 : Arr2) (δ : Data) : Prop where
  p : ∀ i : S4096x5632.Idx, (i 1).val < 1280 → x1 i = ((δ.P (i 0).val (i 1).val : ℝ) : EReal)
  d : ∀ i : S4096x2048.Idx, 1024 ≤ (i 1).val → (i 1).val < 1536 → x0 i = ((δ.D (i 0).val (i 1).val : ℝ) : EReal)
  s : ∀ i : S8.Idx, x2 i = ((δ.S (i 0).val : ℝ) : EReal)

/-- Keys (`off` 1024) or values (`off` 1152) of a block: 128 rows of the block before it (zeros before the first), then its own. -/
def Data.kv (δ : Data) (off b n t c : ℕ) : ℝ :=
  if t < 128 then (if n = 0 then 0 else δ.P (row b (n - 1) t) (off + c)) else δ.P (row b n (t - 128)) (off + c)

/-- Block `n` of batch `b`, for a given log-sum-exp and a given output. -/
def Data.blk (δ : Data) (L O : ℕ → ℕ → ℝ) (b n : ℕ) : Blk where
  Q w c := δ.P (row b n w) (512 + c)
  Z w c := δ.P (row b n w) c
  O w c := O (row b n w) c
  Y w c := δ.D (row b n w) (1024 + c)
  K t c := δ.kv 1024 b n t c
  V t c := δ.kv 1152 b n t c
  L w h := L (row b n w) h
  S h := δ.S h
  n := n

theorem real_congr {a b : ℝ} (h : a = b) : ((a : ℝ) : EReal) = ((b : ℝ) : EReal) := congrArg _ h

variable {x0 : Arr0} {x1 : Arr1} {x2 : Arr2} {δ : Data} (h : Holds x0 x1 x2 δ)
include h

theorem r1 (i : S2x2048x512.Idx) :
    val_main_v1 (F := Ideal) x1 i = ((δ.P (2048 * (i 0).val + (i 1).val) (i 2).val : ℝ) : EReal) := by
  have h0 : (i 0).val < 2 := (i 0).isLt
  have h1 : (i 1).val < 2048 := (i 1).isLt
  have h2 : (i 2).val < 512 := (i 2).isLt
  unfold val_main_v1
  refine (shapeCast_apply _ _ i ((fun a => match a with | ⟨0, _⟩ => ⟨2048 * (i 0).val + (i 1).val, by have h0 : (i 0).val < 2 := (i 0).isLt; have h1 : (i 1).val < 2048 := (i 1).isLt; have h2 : (i 2).val < 512 := (i 2).isLt; show 2048 * (i 0).val + (i 1).val < 4096; omega⟩ | ⟨1, _⟩ => ⟨(i 2).val, by have h0 : (i 0).val < 2 := (i 0).isLt; have h1 : (i 1).val < 2048 := (i 1).isLt; have h2 : (i 2).val < 512 := (i 2).isLt; show (i 2).val < 512; omega⟩) : S4096x512.Idx)
    (by rw [Shape.rowMajor_val_two, Shape.rowMajor_val_three]; have h0 : (i 0).val < 2 := (i 0).isLt; have h1 : (i 1).val < 2048 := (i 1).isLt; have h2 : (i 2).val < 512 := (i 2).isLt; show (2048 * (i 0).val + (i 1).val) * 512 + ((i 2).val) = (((i 0).val) * 2048 + ((i 1).val)) * 512 + ((i 2).val); omega)).trans ?_
  exact (val_main_v0_apply ..).trans (h.p _ (by show (i 2).val < 1280; omega))

theorem r9 (i : S2x2048x512.Idx) :
    val_main_v9 (F := Ideal) x0 i = ((δ.D (2048 * (i 0).val + (i 1).val) (1024 + (i 2).val) : ℝ) : EReal) := by
  have h0 : (i 0).val < 2 := (i 0).isLt
  have h1 : (i 1).val < 2048 := (i 1).isLt
  have h2 : (i 2).val < 512 := (i 2).isLt
  unfold val_main_v9
  refine (shapeCast_apply _ _ i ((fun a => match a with | ⟨0, _⟩ => ⟨2048 * (i 0).val + (i 1).val, by have h0 : (i 0).val < 2 := (i 0).isLt; have h1 : (i 1).val < 2048 := (i 1).isLt; have h2 : (i 2).val < 512 := (i 2).isLt; show 2048 * (i 0).val + (i 1).val < 4096; omega⟩ | ⟨1, _⟩ => ⟨(i 2).val, by have h0 : (i 0).val < 2 := (i 0).isLt; have h1 : (i 1).val < 2048 := (i 1).isLt; have h2 : (i 2).val < 512 := (i 2).isLt; show (i 2).val < 512; omega⟩) : S4096x512.Idx)
    (by rw [Shape.rowMajor_val_two, Shape.rowMajor_val_three]; have h0 : (i 0).val < 2 := (i 0).isLt; have h1 : (i 1).val < 2048 := (i 1).isLt; have h2 : (i 2).val < 512 := (i 2).isLt; show (2048 * (i 0).val + (i 1).val) * 512 + ((i 2).val) = (((i 0).val) * 2048 + ((i 1).val)) * 512 + ((i 2).val); omega)).trans ?_
  exact (val_main_v8_apply ..).trans (h.d _ (by show 1024 ≤ 1024 + (i 2).val; omega) (by show 1024 + (i 2).val < 1536; omega))

theorem r3 (i : S2x2048x2x4x64.Idx) :
    val_main_v3 (F := Ideal) x1 i = ((δ.P (2048 * (i 0).val + (i 1).val) (512 + (256 * (i 2).val + 64 * (i 3).val + (i 4).val)) : ℝ) : EReal) := by
  have h0 : (i 0).val < 2 := (i 0).isLt
  have h1 : (i 1).val < 2048 := (i 1).isLt
  have h2 : (i 2).val < 2 := (i 2).isLt
  have h3 : (i 3).val < 4 := (i 3).isLt
  have h4 : (i 4).val < 64 := (i 4).isLt
  unfold val_main_v3
  refine (shapeCast_apply _ _ i ((fun a => match a with | ⟨0, _⟩ => ⟨2048 * (i 0).val + (i 1).val, by have h0 : (i 0).val < 2 := (i 0).isLt; have h1 : (i 1).val < 2048 := (i 1).isLt; have h2 : (i 2).val < 2 := (i 2).isLt; have h3 : (i 3).val < 4 := (i 3).isLt; have h4 : (i 4).val < 64 := (i 4).isLt; show 2048 * (i 0).val + (i 1).val < 4096; omega⟩ | ⟨1, _⟩ => ⟨256 * (i 2).val + 64 * (i 3).val + (i 4).val, by have h0 : (i 0).val < 2 := (i 0).isLt; have h1 : (i 1).val < 2048 := (i 1).isLt; have h2 : (i 2).val < 2 := (i 2).isLt; have h3 : (i 3).val < 4 := (i 3).isLt; have h4 : (i 4).val < 64 := (i 4).isLt; show 256 * (i 2).val + 64 * (i 3).val + (i 4).val < 512; omega⟩) : S4096x512.Idx)
    (by rw [Shape.rowMajor_val_two, Shape.rowMajor_val_five]; have h0 : (i 0).val < 2 := (i 0).isLt; have h1 : (i 1).val < 2048 := (i 1).isLt; have h2 : (i 2).val < 2 := (i 2).isLt; have h3 : (i 3).val < 4 := (i 3).isLt; have h4 : (i 4).val < 64 := (i 4).isLt; show (2048 * (i 0).val + (i 1).val) * 512 + (256 * (i 2).val + 64 * (i 3).val + (i 4).val) = (((((i 0).val) * 2048 + ((i 1).val)) * 2 + ((i 2).val)) * 4 + ((i 3).val)) * 64 + ((i 4).val); omega)).trans ?_
  exact (val_main_v2_apply ..).trans (h.p _ (by show 512 + (256 * (i 2).val + 64 * (i 3).val + (i 4).val) < 1280; omega))

theorem r5 (i : S2x2048x2x64.Idx) :
    val_main_v5 (F := Ideal) x1 i = ((δ.P (2048 * (i 0).val + (i 1).val) (1024 + (64 * (i 2).val + (i 3).val)) : ℝ) : EReal) := by
  have h0 : (i 0).val < 2 := (i 0).isLt
  have h1 : (i 1).val < 2048 := (i 1).isLt
  have h2 : (i 2).val < 2 := (i 2).isLt
  have h3 : (i 3).val < 64 := (i 3).isLt
  unfold val_main_v5
  refine (shapeCast_apply _ _ i ((fun a => match a with | ⟨0, _⟩ => ⟨2048 * (i 0).val + (i 1).val, by have h0 : (i 0).val < 2 := (i 0).isLt; have h1 : (i 1).val < 2048 := (i 1).isLt; have h2 : (i 2).val < 2 := (i 2).isLt; have h3 : (i 3).val < 64 := (i 3).isLt; show 2048 * (i 0).val + (i 1).val < 4096; omega⟩ | ⟨1, _⟩ => ⟨64 * (i 2).val + (i 3).val, by have h0 : (i 0).val < 2 := (i 0).isLt; have h1 : (i 1).val < 2048 := (i 1).isLt; have h2 : (i 2).val < 2 := (i 2).isLt; have h3 : (i 3).val < 64 := (i 3).isLt; show 64 * (i 2).val + (i 3).val < 128; omega⟩) : S4096x128.Idx)
    (by rw [Shape.rowMajor_val_two, Shape.rowMajor_val_four]; have h0 : (i 0).val < 2 := (i 0).isLt; have h1 : (i 1).val < 2048 := (i 1).isLt; have h2 : (i 2).val < 2 := (i 2).isLt; have h3 : (i 3).val < 64 := (i 3).isLt; show (2048 * (i 0).val + (i 1).val) * 128 + (64 * (i 2).val + (i 3).val) = ((((i 0).val) * 2048 + ((i 1).val)) * 2 + ((i 2).val)) * 64 + ((i 3).val); omega)).trans ?_
  exact (val_main_v4_apply ..).trans (h.p _ (by show 1024 + (64 * (i 2).val + (i 3).val) < 1280; omega))

theorem r7 (i : S2x2048x2x64.Idx) :
    val_main_v7 (F := Ideal) x1 i = ((δ.P (2048 * (i 0).val + (i 1).val) (1152 + (64 * (i 2).val + (i 3).val)) : ℝ) : EReal) := by
  have h0 : (i 0).val < 2 := (i 0).isLt
  have h1 : (i 1).val < 2048 := (i 1).isLt
  have h2 : (i 2).val < 2 := (i 2).isLt
  have h3 : (i 3).val < 64 := (i 3).isLt
  unfold val_main_v7
  refine (shapeCast_apply _ _ i ((fun a => match a with | ⟨0, _⟩ => ⟨2048 * (i 0).val + (i 1).val, by have h0 : (i 0).val < 2 := (i 0).isLt; have h1 : (i 1).val < 2048 := (i 1).isLt; have h2 : (i 2).val < 2 := (i 2).isLt; have h3 : (i 3).val < 64 := (i 3).isLt; show 2048 * (i 0).val + (i 1).val < 4096; omega⟩ | ⟨1, _⟩ => ⟨64 * (i 2).val + (i 3).val, by have h0 : (i 0).val < 2 := (i 0).isLt; have h1 : (i 1).val < 2048 := (i 1).isLt; have h2 : (i 2).val < 2 := (i 2).isLt; have h3 : (i 3).val < 64 := (i 3).isLt; show 64 * (i 2).val + (i 3).val < 128; omega⟩) : S4096x128.Idx)
    (by rw [Shape.rowMajor_val_two, Shape.rowMajor_val_four]; have h0 : (i 0).val < 2 := (i 0).isLt; have h1 : (i 1).val < 2048 := (i 1).isLt; have h2 : (i 2).val < 2 := (i 2).isLt; have h3 : (i 3).val < 64 := (i 3).isLt; show (2048 * (i 0).val + (i 1).val) * 128 + (64 * (i 2).val + (i 3).val) = ((((i 0).val) * 2048 + ((i 1).val)) * 2 + ((i 2).val)) * 64 + ((i 3).val); omega)).trans ?_
  exact (val_main_v6_apply ..).trans (h.p _ (by show 1152 + (64 * (i 2).val + (i 3).val) < 1280; omega))

theorem r10 (i : S2x16x128x2x4x64.Idx) :
    val_main_v10 (F := Ideal) x1 i = ((δ.P (row (i 0).val (i 1).val (i 2).val) (512 + (64 * (4 * (i 3).val + (i 4).val) + (i 5).val)) : ℝ) : EReal) := by
  have h0 : (i 0).val < 2 := (i 0).isLt
  have h1 : (i 1).val < 16 := (i 1).isLt
  have h2 : (i 2).val < 128 := (i 2).isLt
  have h3 : (i 3).val < 2 := (i 3).isLt
  have h4 : (i 4).val < 4 := (i 4).isLt
  have h5 : (i 5).val < 64 := (i 5).isLt
  unfold val_main_v10
  refine (shapeCast_apply _ _ i ((fun a => match a with | ⟨0, _⟩ => ⟨(i 0).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; have h5 : (i 5).val < 64 := (i 5).isLt; show (i 0).val < 2; omega⟩ | ⟨1, _⟩ => ⟨128 * (i 1).val + (i 2).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; have h5 : (i 5).val < 64 := (i 5).isLt; show 128 * (i 1).val + (i 2).val < 2048; omega⟩ | ⟨2, _⟩ => ⟨(i 3).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; have h5 : (i 5).val < 64 := (i 5).isLt; show (i 3).val < 2; omega⟩ | ⟨3, _⟩ => ⟨(i 4).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; have h5 : (i 5).val < 64 := (i 5).isLt; show (i 4).val < 4; omega⟩ | ⟨4, _⟩ => ⟨(i 5).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; have h5 : (i 5).val < 64 := (i 5).isLt; show (i 5).val < 64; omega⟩) : S2x2048x2x4x64.Idx)
    (by rw [Shape.rowMajor_val_five, rowMajor_val6 _ 1048576 65536 512 256 64 rfl rfl rfl rfl rfl]; have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; have h5 : (i 5).val < 64 := (i 5).isLt; show (((((i 0).val) * 2048 + (128 * (i 1).val + (i 2).val)) * 2 + ((i 3).val)) * 4 + ((i 4).val)) * 64 + ((i 5).val) = ((i 0).val) * 1048576 + ((i 1).val) * 65536 + ((i 2).val) * 512 + ((i 3).val) * 256 + ((i 4).val) * 64 + ((i 5).val); omega)).trans ?_
  refine (r3 h _).trans (real_congr ?_)
  show δ.P (2048 * (i 0).val + (128 * (i 1).val + (i 2).val)) (512 + (256 * (i 3).val + 64 * (i 4).val + (i 5).val)) = _
  unfold row; congr 1 <;> omega

theorem r11 (i : S2x16x128x2x64.Idx) :
    val_main_v11 (F := Ideal) x1 i = ((δ.P (row (i 0).val (i 1).val (i 2).val) (1024 + (64 * (i 3).val + (i 4).val)) : ℝ) : EReal) := by
  have h0 : (i 0).val < 2 := (i 0).isLt
  have h1 : (i 1).val < 16 := (i 1).isLt
  have h2 : (i 2).val < 128 := (i 2).isLt
  have h3 : (i 3).val < 2 := (i 3).isLt
  have h4 : (i 4).val < 64 := (i 4).isLt
  unfold val_main_v11
  refine (shapeCast_apply _ _ i ((fun a => match a with | ⟨0, _⟩ => ⟨(i 0).val, by have h0 : (i 0).val < 2 := (i 0).isLt; have h1 : (i 1).val < 16 := (i 1).isLt; have h2 : (i 2).val < 128 := (i 2).isLt; have h3 : (i 3).val < 2 := (i 3).isLt; have h4 : (i 4).val < 64 := (i 4).isLt; show (i 0).val < 2; omega⟩ | ⟨1, _⟩ => ⟨128 * (i 1).val + (i 2).val, by have h0 : (i 0).val < 2 := (i 0).isLt; have h1 : (i 1).val < 16 := (i 1).isLt; have h2 : (i 2).val < 128 := (i 2).isLt; have h3 : (i 3).val < 2 := (i 3).isLt; have h4 : (i 4).val < 64 := (i 4).isLt; show 128 * (i 1).val + (i 2).val < 2048; omega⟩ | ⟨2, _⟩ => ⟨(i 3).val, by have h0 : (i 0).val < 2 := (i 0).isLt; have h1 : (i 1).val < 16 := (i 1).isLt; have h2 : (i 2).val < 128 := (i 2).isLt; have h3 : (i 3).val < 2 := (i 3).isLt; have h4 : (i 4).val < 64 := (i 4).isLt; show (i 3).val < 2; omega⟩ | ⟨3, _⟩ => ⟨(i 4).val, by have h0 : (i 0).val < 2 := (i 0).isLt; have h1 : (i 1).val < 16 := (i 1).isLt; have h2 : (i 2).val < 128 := (i 2).isLt; have h3 : (i 3).val < 2 := (i 3).isLt; have h4 : (i 4).val < 64 := (i 4).isLt; show (i 4).val < 64; omega⟩) : S2x2048x2x64.Idx)
    (by rw [Shape.rowMajor_val_four, Shape.rowMajor_val_five]; have h0 : (i 0).val < 2 := (i 0).isLt; have h1 : (i 1).val < 16 := (i 1).isLt; have h2 : (i 2).val < 128 := (i 2).isLt; have h3 : (i 3).val < 2 := (i 3).isLt; have h4 : (i 4).val < 64 := (i 4).isLt; show ((((i 0).val) * 2048 + (128 * (i 1).val + (i 2).val)) * 2 + ((i 3).val)) * 64 + ((i 4).val) = (((((i 0).val) * 16 + ((i 1).val)) * 128 + ((i 2).val)) * 2 + ((i 3).val)) * 64 + ((i 4).val); omega)).trans ?_
  refine (r5 h _).trans (real_congr ?_)
  show δ.P (2048 * (i 0).val + (128 * (i 1).val + (i 2).val)) (1024 + (64 * (i 3).val + (i 4).val)) = _
  unfold row; congr 1; omega

theorem r12 (i : S2x16x128x2x64.Idx) :
    val_main_v12 (F := Ideal) x1 i = ((δ.P (row (i 0).val (i 1).val (i 2).val) (1152 + (64 * (i 3).val + (i 4).val)) : ℝ) : EReal) := by
  have h0 : (i 0).val < 2 := (i 0).isLt
  have h1 : (i 1).val < 16 := (i 1).isLt
  have h2 : (i 2).val < 128 := (i 2).isLt
  have h3 : (i 3).val < 2 := (i 3).isLt
  have h4 : (i 4).val < 64 := (i 4).isLt
  unfold val_main_v12
  refine (shapeCast_apply _ _ i ((fun a => match a with | ⟨0, _⟩ => ⟨(i 0).val, by have h0 : (i 0).val < 2 := (i 0).isLt; have h1 : (i 1).val < 16 := (i 1).isLt; have h2 : (i 2).val < 128 := (i 2).isLt; have h3 : (i 3).val < 2 := (i 3).isLt; have h4 : (i 4).val < 64 := (i 4).isLt; show (i 0).val < 2; omega⟩ | ⟨1, _⟩ => ⟨128 * (i 1).val + (i 2).val, by have h0 : (i 0).val < 2 := (i 0).isLt; have h1 : (i 1).val < 16 := (i 1).isLt; have h2 : (i 2).val < 128 := (i 2).isLt; have h3 : (i 3).val < 2 := (i 3).isLt; have h4 : (i 4).val < 64 := (i 4).isLt; show 128 * (i 1).val + (i 2).val < 2048; omega⟩ | ⟨2, _⟩ => ⟨(i 3).val, by have h0 : (i 0).val < 2 := (i 0).isLt; have h1 : (i 1).val < 16 := (i 1).isLt; have h2 : (i 2).val < 128 := (i 2).isLt; have h3 : (i 3).val < 2 := (i 3).isLt; have h4 : (i 4).val < 64 := (i 4).isLt; show (i 3).val < 2; omega⟩ | ⟨3, _⟩ => ⟨(i 4).val, by have h0 : (i 0).val < 2 := (i 0).isLt; have h1 : (i 1).val < 16 := (i 1).isLt; have h2 : (i 2).val < 128 := (i 2).isLt; have h3 : (i 3).val < 2 := (i 3).isLt; have h4 : (i 4).val < 64 := (i 4).isLt; show (i 4).val < 64; omega⟩) : S2x2048x2x64.Idx)
    (by rw [Shape.rowMajor_val_four, Shape.rowMajor_val_five]; have h0 : (i 0).val < 2 := (i 0).isLt; have h1 : (i 1).val < 16 := (i 1).isLt; have h2 : (i 2).val < 128 := (i 2).isLt; have h3 : (i 3).val < 2 := (i 3).isLt; have h4 : (i 4).val < 64 := (i 4).isLt; show ((((i 0).val) * 2048 + (128 * (i 1).val + (i 2).val)) * 2 + ((i 3).val)) * 64 + ((i 4).val) = (((((i 0).val) * 16 + ((i 1).val)) * 128 + ((i 2).val)) * 2 + ((i 3).val)) * 64 + ((i 4).val); omega)).trans ?_
  refine (r7 h _).trans (real_congr ?_)
  show δ.P (2048 * (i 0).val + (128 * (i 1).val + (i 2).val)) (1152 + (64 * (i 3).val + (i 4).val)) = _
  unfold row; congr 1; omega

theorem r15 (i : S2x16x128x2x64.Idx) : val_main_v15 (F := Ideal) x1 i
    = (((if (i 1).val = 0 then 0 else δ.P (row (i 0).val ((i 1).val - 1) (i 2).val) (1024 + (64 * (i 3).val + (i 4).val)) : ℝ) : ℝ) : EReal) := by
  have h0 : (i 0).val < 2 := (i 0).isLt
  have h1 : (i 1).val < 16 := (i 1).isLt
  have h2 : (i 2).val < 128 := (i 2).isLt
  have h3 : (i 3).val < 2 := (i 3).isLt
  have h4 : (i 4).val < 64 := (i 4).isLt
  unfold val_main_v15
  by_cases hz : (i 1).val = 0
  · rw [if_pos hz]
    refine (concatenate_pair_apply_left (t := S2x16x128x2x64) (s₁ := S2x1x128x2x64) (s₂ := S2x15x128x2x64) 1 _ _ _ i rfl ((fun a => match a with | ⟨0, _⟩ => i 0 | ⟨1, _⟩ => ⟨0, Nat.one_pos⟩ | ⟨2, _⟩ => i 2 | ⟨3, _⟩ => i 3 | ⟨4, _⟩ => i 4) : S2x1x128x2x64.Idx) (fun b => match b with
      | ⟨0, _⟩ => rfl | ⟨1, _⟩ => hz.symm | ⟨2, _⟩ => rfl | ⟨3, _⟩ => rfl | ⟨4, _⟩ => rfl)).trans ?_
    exact (val_main_v13_apply _).trans zeroW
  · rw [if_neg hz]
    refine (concatenate_pair_apply_right (t := S2x16x128x2x64) (s₁ := S2x1x128x2x64) (s₂ := S2x15x128x2x64) 1 _ _ _ i rfl rfl ((fun a => match a with | ⟨0, _⟩ => i 0 | ⟨1, _⟩ => ⟨(i 1).val - 1, by show (i 1).val - 1 < 15; omega⟩ | ⟨2, _⟩ => i 2 | ⟨3, _⟩ => i 3 | ⟨4, _⟩ => i 4) : S2x15x128x2x64.Idx) (fun b => match b with
      | ⟨0, _⟩ => fun _ => rfl | ⟨1, _⟩ => fun hb => absurd rfl hb | ⟨2, _⟩ => fun _ => rfl | ⟨3, _⟩ => fun _ => rfl | ⟨4, _⟩ => fun _ => rfl) (by show (i 1).val - 1 + 1 = (i 1).val; omega)).trans ?_
    exact (val_main_v14_apply ..).trans (r11 h _)

theorem r17 (i : S2x16x256x2x64.Idx) : val_main_v17 (F := Ideal) x1 i
    = ((δ.kv 1024 (i 0).val (i 1).val (i 2).val (64 * (i 3).val + (i 4).val) : ℝ) : EReal) := by
  have h0 : (i 0).val < 2 := (i 0).isLt
  have h1 : (i 1).val < 16 := (i 1).isLt
  have h2 : (i 2).val < 256 := (i 2).isLt
  have h3 : (i 3).val < 2 := (i 3).isLt
  have h4 : (i 4).val < 64 := (i 4).isLt
  unfold val_main_v17 Data.kv
  by_cases hz : (i 2).val < 128
  · rw [if_pos hz]
    exact (concatenate_pair_apply_left (t := S2x16x256x2x64) (s₁ := S2x16x128x2x64) (s₂ := S2x16x128x2x64) 2 _ _ _ i rfl ((fun a => match a with | ⟨0, _⟩ => i 0 | ⟨1, _⟩ => i 1 | ⟨2, _⟩ => ⟨(i 2).val, hz⟩ | ⟨3, _⟩ => i 3 | ⟨4, _⟩ => i 4) : S2x16x128x2x64.Idx) (fun b => match b with
      | ⟨0, _⟩ => rfl | ⟨1, _⟩ => rfl | ⟨2, _⟩ => rfl | ⟨3, _⟩ => rfl | ⟨4, _⟩ => rfl)).trans (r15 h _)
  · rw [if_neg hz]
    exact (concatenate_pair_apply_right (t := S2x16x256x2x64) (s₁ := S2x16x128x2x64) (s₂ := S2x16x128x2x64) 2 _ _ _ i rfl rfl ((fun a => match a with | ⟨0, _⟩ => i 0 | ⟨1, _⟩ => i 1 | ⟨2, _⟩ => ⟨(i 2).val - 128, by show (i 2).val - 128 < 128; omega⟩ | ⟨3, _⟩ => i 3 | ⟨4, _⟩ => i 4) : S2x16x128x2x64.Idx) (fun b => match b with
      | ⟨0, _⟩ => fun _ => rfl | ⟨1, _⟩ => fun _ => rfl | ⟨2, _⟩ => fun hb => absurd rfl hb | ⟨3, _⟩ => fun _ => rfl | ⟨4, _⟩ => fun _ => rfl) (by show (i 2).val - 128 + 128 = (i 2).val; omega)).trans (r11 h _)

theorem r19 (i : S2x16x128x2x64.Idx) : val_main_v19 (F := Ideal) x1 i
    = (((if (i 1).val = 0 then 0 else δ.P (row (i 0).val ((i 1).val - 1) (i 2).val) (1152 + (64 * (i 3).val + (i 4).val)) : ℝ) : ℝ) : EReal) := by
  have h0 : (i 0).val < 2 := (i 0).isLt
  have h1 : (i 1).val < 16 := (i 1).isLt
  have h2 : (i 2).val < 128 := (i 2).isLt
  have h3 : (i 3).val < 2 := (i 3).isLt
  have h4 : (i 4).val < 64 := (i 4).isLt
  unfold val_main_v19
  by_cases hz : (i 1).val = 0
  · rw [if_pos hz]
    refine (concatenate_pair_apply_left (t := S2x16x128x2x64) (s₁ := S2x1x128x2x64) (s₂ := S2x15x128x2x64) 1 _ _ _ i rfl ((fun a => match a with | ⟨0, _⟩ => i 0 | ⟨1, _⟩ => ⟨0, Nat.one_pos⟩ | ⟨2, _⟩ => i 2 | ⟨3, _⟩ => i 3 | ⟨4, _⟩ => i 4) : S2x1x128x2x64.Idx) (fun b => match b with
      | ⟨0, _⟩ => rfl | ⟨1, _⟩ => hz.symm | ⟨2, _⟩ => rfl | ⟨3, _⟩ => rfl | ⟨4, _⟩ => rfl)).trans ?_
    exact (val_main_v13_apply _).trans zeroW
  · rw [if_neg hz]
    refine (concatenate_pair_apply_right (t := S2x16x128x2x64) (s₁ := S2x1x128x2x64) (s₂ := S2x15x128x2x64) 1 _ _ _ i rfl rfl ((fun a => match a with | ⟨0, _⟩ => i 0 | ⟨1, _⟩ => ⟨(i 1).val - 1, by show (i 1).val - 1 < 15; omega⟩ | ⟨2, _⟩ => i 2 | ⟨3, _⟩ => i 3 | ⟨4, _⟩ => i 4) : S2x15x128x2x64.Idx) (fun b => match b with
      | ⟨0, _⟩ => fun _ => rfl | ⟨1, _⟩ => fun hb => absurd rfl hb | ⟨2, _⟩ => fun _ => rfl | ⟨3, _⟩ => fun _ => rfl | ⟨4, _⟩ => fun _ => rfl) (by show (i 1).val - 1 + 1 = (i 1).val; omega)).trans ?_
    exact (val_main_v18_apply ..).trans (r12 h _)

theorem r21 (i : S2x16x256x2x64.Idx) : val_main_v21 (F := Ideal) x1 i
    = ((δ.kv 1152 (i 0).val (i 1).val (i 2).val (64 * (i 3).val + (i 4).val) : ℝ) : EReal) := by
  have h0 : (i 0).val < 2 := (i 0).isLt
  have h1 : (i 1).val < 16 := (i 1).isLt
  have h2 : (i 2).val < 256 := (i 2).isLt
  have h3 : (i 3).val < 2 := (i 3).isLt
  have h4 : (i 4).val < 64 := (i 4).isLt
  unfold val_main_v21 Data.kv
  by_cases hz : (i 2).val < 128
  · rw [if_pos hz]
    exact (concatenate_pair_apply_left (t := S2x16x256x2x64) (s₁ := S2x16x128x2x64) (s₂ := S2x16x128x2x64) 2 _ _ _ i rfl ((fun a => match a with | ⟨0, _⟩ => i 0 | ⟨1, _⟩ => i 1 | ⟨2, _⟩ => ⟨(i 2).val, hz⟩ | ⟨3, _⟩ => i 3 | ⟨4, _⟩ => i 4) : S2x16x128x2x64.Idx) (fun b => match b with
      | ⟨0, _⟩ => rfl | ⟨1, _⟩ => rfl | ⟨2, _⟩ => rfl | ⟨3, _⟩ => rfl | ⟨4, _⟩ => rfl)).trans (r19 h _)
  · rw [if_neg hz]
    exact (concatenate_pair_apply_right (t := S2x16x256x2x64) (s₁ := S2x16x128x2x64) (s₂ := S2x16x128x2x64) 2 _ _ _ i rfl rfl ((fun a => match a with | ⟨0, _⟩ => i 0 | ⟨1, _⟩ => i 1 | ⟨2, _⟩ => ⟨(i 2).val - 128, by show (i 2).val - 128 < 128; omega⟩ | ⟨3, _⟩ => i 3 | ⟨4, _⟩ => i 4) : S2x16x128x2x64.Idx) (fun b => match b with
      | ⟨0, _⟩ => fun _ => rfl | ⟨1, _⟩ => fun _ => rfl | ⟨2, _⟩ => fun hb => absurd rfl hb | ⟨3, _⟩ => fun _ => rfl | ⟨4, _⟩ => fun _ => rfl) (by show (i 2).val - 128 + 128 = (i 2).val; omega)).trans (r12 h _)

/-- The scores. -/
theorem r25 (L O : ℕ → ℕ → ℝ) (i : S2x16x2x4x128x256.Idx) : val_main_v25 (F := Ideal) x1 i
    = (((δ.blk L O (i 0).val (i 1).val).sc (4 * (i 2).val + (i 3).val) (i 4).val (i 5).val : ℝ) : EReal) := by
  have h0 : (i 0).val < 2 := (i 0).isLt
  have h1 : (i 1).val < 16 := (i 1).isLt
  have h2 : (i 2).val < 2 := (i 2).isLt
  have h3 : (i 3).val < 4 := (i 3).isLt
  have h4 : (i 4).val < 128 := (i 4).isLt
  have h5 : (i 5).val < 256 := (i 5).isLt
  have e : val_main_v23 (F := Ideal) x1 i = (((∑ d ∈ range 64, δ.kv 1024 (i 0).val (i 1).val (i 5).val (64 * (i 2).val + d)
      * δ.P (row (i 0).val (i 1).val (i 4).val) (512 + (64 * (4 * (i 2).val + (i 3).val) + d))) : ℝ) : EReal) := by
    refine (val_main_v23_apply ..).trans ((val_main_v22_apply ..).trans ?_)
    refine Eq.trans (Finset.sum_congr rfl fun k _ => ?_) (sum_fin_coe (n := 64) (fun d => δ.kv 1024 (i 0).val (i 1).val (i 5).val (64 * (i 2).val + d)
      * δ.P (row (i 0).val (i 1).val (i 4).val) (512 + (64 * (4 * (i 2).val + (i 3).val) + d))))
    rw [r17 h, r10 h, ← EReal.coe_mul]
  have c : val_main_v24 (F := Ideal) i = (((1 : ℝ) / 8 : ℝ) : EReal) := (val_main_v24_apply _).trans ofBits_eighth
  refine (val_main_v25_apply ..).trans ?_
  show val_main_v23 (F := Ideal) x1 i * val_main_v24 (F := Ideal) i = _
  rw [e, c, ← EReal.coe_mul]
  refine real_congr ?_
  unfold Blk.sc
  congr 1
  refine Finset.sum_congr rfl fun d _ => ?_
  rw [mul_comm, show (4 * (i 2).val + (i 3).val) / 4 = (i 2).val by omega]
  rfl

omit h in
theorem gt_word (n : Fin 16) : IntOp.cmpi .sgt (BitVec.ofNat 32 n.val) 0#32 = IntOp.xori (IntOp.cmpi .eq (BitVec.ofNat 32 (15 - n.val)) 15#32) 1#1 := by
  revert n; decide

omit h in
/-- The mask. -/
theorem r54 (i : S1x16x1x1x128x256.Idx) : val_main_v54 (F := Ideal) i = if Band (i 1).val (i 4).val (i 5).val then 1#1 else 0#1 := by
  have h1 : (i 1).val < 16 := (i 1).isLt
  have h4 : (i 4).val < 128 := (i 4).isLt
  have h5 : (i 5).val < 256 := (i 5).isLt
  have e := band_word (15 - (i 1).val) (i 4).val (i 5).val (by omega) h4 h5
  rw [← gt_word ⟨(i 1).val, h1⟩, show 15 - (15 - (i 1).val) = (i 1).val by omega] at e
  refine Eq.trans ?_ e
  simp only [val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_c_apply, val_main_c_3_apply, val_main_c_4_apply, val_main_c_5_apply, val_main_c_6_apply]

end Cert.Attn
end
end
-- ==== Proof.RefSoft.lean ====
module

public import proofs.«01_k».proof.Proof.RefIn

/-! # The reference's softmax

Every row's maximum, sum of exponentials and log-sum-exp are real numbers, and the weights are those of `Blk`. -/

@[expose] public section
noncomputable section
namespace Cert.Attn
open Idealize.ShloMosaic Cert.ReferenceIdeal Cert.ReferenceIdeal.Gen Cert.ReferenceIdeal.Read Idealize.SL.Sem
open Idealize.ShloMosaic.TcCoe
open Finset (range)

theorem ofBits_bot : Ideal.ofBits .f32 0xFF800000#32 = ⊥ := by
  simp [Ideal.ofBits, Ideal.ieee]
theorem ofBits_top : Ideal.ofBits .f32 0x7F800000#32 = ⊤ := by
  simp [Ideal.ofBits, Ideal.ieee]

/-- The larger of finitely many numbers below the top, one of them above the bottom, is a real number. -/
theorem fold_real {n : ℕ} (f : Fin n → EReal) (h1 : ∀ k, f k ≠ ⊤) (h2 : ∃ k, f k ≠ ⊥) :
    ∃ r : ℝ, (Finset.univ : Finset (Fin n)).fold max ⊥ f = (r : EReal) := by
  have a : (Finset.univ : Finset (Fin n)).fold max ⊥ f < ⊤ :=
    Finset.fold_max_lt _ |>.2 ⟨bot_lt_top, fun k _ => lt_top_iff_ne_top.2 (h1 k)⟩
  have b : ⊥ < (Finset.univ : Finset (Fin n)).fold max ⊥ f := by
    obtain ⟨k, hk⟩ := h2
    exact Finset.lt_fold_max _ |>.2 (Or.inr ⟨k, Finset.mem_univ _, bot_lt_iff_ne_bot.2 hk⟩)
  exact ⟨_, (EReal.coe_toReal a.ne b.ne').symm⟩

theorem coe_max' (a b : ℝ) : max (a : EReal) (b : EReal) = ((max a b : ℝ) : EReal) := by
  rcases le_total a b with hab | hab
  · rw [max_eq_right hab, max_eq_right (EReal.coe_le_coe_iff.2 hab)]
  · rw [max_eq_left hab, max_eq_left (EReal.coe_le_coe_iff.2 hab)]

/-- The index of a row and a head in the log-sum-exp. -/
def at6 (r h : ℕ) : S2x16x2x4x128x1.Idx := fun a => match a with
  | ⟨0, _⟩ => ⟨r / 2048 % 2, Nat.mod_lt _ (by decide)⟩
  | ⟨1, _⟩ => ⟨r / 128 % 16, Nat.mod_lt _ (by decide)⟩
  | ⟨2, _⟩ => ⟨h / 4 % 2, Nat.mod_lt _ (by decide)⟩
  | ⟨3, _⟩ => ⟨h % 4, Nat.mod_lt _ (by decide)⟩
  | ⟨4, _⟩ => ⟨r % 128, Nat.mod_lt _ (by decide)⟩
  | ⟨5, _⟩ => ⟨0, Nat.one_pos⟩

theorem at6_eq (i : S2x16x2x4x128x1.Idx) : at6 (row (i 0).val (i 1).val (i 4).val) (4 * (i 2).val + (i 3).val) = i := by
  have h0 : (i 0).val < 2 := (i 0).isLt
  have h1 : (i 1).val < 16 := (i 1).isLt
  have h2 : (i 2).val < 2 := (i 2).isLt
  have h3 : (i 3).val < 4 := (i 3).isLt
  have h4 : (i 4).val < 128 := (i 4).isLt
  have h5 : (i 5).val < 1 := (i 5).isLt
  funext a
  unfold row
  apply Fin.ext
  match a with
  | ⟨0, _⟩ => show (2048 * (i 0).val + 128 * (i 1).val + (i 4).val) / 2048 % 2 = (i 0).val; omega
  | ⟨1, _⟩ => show (2048 * (i 0).val + 128 * (i 1).val + (i 4).val) / 128 % 16 = (i 1).val; omega
  | ⟨2, _⟩ => show (4 * (i 2).val + (i 3).val) / 4 % 2 = (i 2).val; omega
  | ⟨3, _⟩ => show (4 * (i 2).val + (i 3).val) % 4 = (i 3).val; omega
  | ⟨4, _⟩ => show (2048 * (i 0).val + 128 * (i 1).val + (i 4).val) % 128 = (i 4).val; omega
  | ⟨5, _⟩ => show 0 = (i 5).val; omega

/-- The log-sum-exp of a row and a head, as a number. -/
@[irreducible] def lseOf (x1 : Arr1) (x2 : Arr2) (r h : ℕ) : ℝ := (val_main_v84 (F := Ideal) x1 x2 (at6 r h)).toReal

/-- The attention's output. -/
@[irreducible] def outOf (x1 : Arr1) (x2 : Arr2) (δ : Data) (r c : ℕ) : ℝ :=
  ∑ t ∈ range 256, δ.kv 1152 (r / 2048) (r / 128 % 16) t (64 * (c / 64 / 4) + c % 64)
    * (δ.blk (lseOf x1 x2) (fun _ _ => 0) (r / 2048) (r / 128 % 16)).pr (c / 64) (r % 128) t

/-- The reference's block. -/
def Data.at (δ : Data) (x1 : Arr1) (x2 : Arr2) (b n : ℕ) : Blk := δ.blk (lseOf x1 x2) (outOf x1 x2 δ) b n

variable {x0 : Arr0} {x1 : Arr1} {x2 : Arr2} {δ : Data} (h : Holds x0 x1 x2 δ)

theorem r55_1 (i : S2x16x2x4x128x256.Idx) : val_main_v55_1 (F := Ideal) i = if Band (i 1).val (i 4).val (i 5).val then 1#1 else 0#1 :=
  (val_main_v55_1_apply _).trans (r54 _)

include h in
/-- The masked scores. -/
theorem r55 (i : S2x16x2x4x128x256.Idx) : val_main_v55_0 (F := Ideal) x1 i
    = if Band (i 1).val (i 4).val (i 5).val then (((δ.blk (fun _ _ => 0) (fun _ _ => 0) (i 0).val (i 1).val).sc (4 * (i 2).val + (i 3).val) (i 4).val (i 5).val : ℝ) : EReal) else ⊥ := by
  refine (val_main_v55_0_apply ..).trans ?_
  rw [r55_1, r25 h (fun _ _ => 0) (fun _ _ => 0)]
  have e : val_main_call0_v2 (F := Ideal) i = ⊥ := (val_main_call0_v2_apply _).trans ofBits_bot
  rw [e]
  split_ifs <;> rfl

include h in
theorem max58 (i : S2x16x2x4x128.Idx) : ∃ M : ℝ, val_main_v58 (F := Ideal) x1 i = (M : EReal) := by
  unfold val_main_v58
  rw [Host.reduce_eq_fold_single FloatOps.maximumf _ _ reducesTo_S2x16x2x4x128x256_S2x16x2x4x128_d5 (by decide) h_S_]
  have e : val_main_cst_8 (F := Ideal) (Shape.Idx.first h_S_) = ⊥ := ofBits_bot
  rw [e]
  have h4 : (i 4).val < 128 := (i 4).isLt
  refine fold_real (n := 256) _ (fun k => ?_) ⟨⟨(i 4).val + 128, by omega⟩, ?_⟩
  · show val_main_v55_0 (F := Ideal) x1 _ ≠ ⊤
    rw [r55 h]
    split_ifs
    · exact EReal.coe_ne_top _
    · exact bot_ne_top
  · show val_main_v55_0 (F := Ideal) x1 _ ≠ ⊥
    rw [r55 h, if_pos]
    · exact EReal.coe_ne_bot _
    · show Band (i 1).val (i 4).val ((i 4).val + 128)
      unfold Band
      omega

/-- The exponentials, given the row's maximum. -/
def expAt (δ : Data) (M : ℝ) (b n h w t : ℕ) : ℝ :=
  if Band n w t then Real.exp ((δ.blk (fun _ _ => 0) (fun _ _ => 0) b n).sc h w t - M) else 0

include h in
theorem r67 (i : S2x16x2x4x128x256.Idx) (M : ℝ) (hM : val_main_v58 (F := Ideal) x1 (idx_main_v64 (idx_main_v65 i)) = (M : EReal)) :
    val_main_v67 (F := Ideal) x1 i = ((expAt δ M (i 0).val (i 1).val (4 * (i 2).val + (i 3).val) (i 4).val (i 5).val : ℝ) : EReal) := by
  have e : val_main_v65 (F := Ideal) x1 i = (M : EReal) := (val_main_v65_apply ..).trans ((val_main_v64_apply ..).trans hM)
  rw [val_main_v67_apply, val_main_v66_apply, e, r55 h]
  unfold expAt
  split_ifs
  · rfl
  · rfl

include h in
theorem sum68 (i : S2x16x2x4x128.Idx) (M : ℝ) (hM : val_main_v58 (F := Ideal) x1 i = (M : EReal)) :
    ∃ S : ℝ, 0 < S ∧ val_main_v68 (F := Ideal) x1 i = (S : EReal) := by
  have h4 : (i 4).val < 128 := (i 4).isLt
  have hpos : ∀ t, 0 ≤ expAt δ M (i 0).val (i 1).val (4 * (i 2).val + (i 3).val) (i 4).val t := by
    intro t; unfold expAt; split_ifs
    · exact (Real.exp_pos _).le
    · exact le_rfl
  refine ⟨∑ t ∈ range 256, expAt δ M (i 0).val (i 1).val (4 * (i 2).val + (i 3).val) (i 4).val t, ?_, ?_⟩
  · refine Finset.sum_pos' (fun t _ => hpos t) ⟨(i 4).val + 128, Finset.mem_range.2 (by omega), ?_⟩
    unfold expAt
    rw [if_pos (by unfold Band; omega)]
    exact Real.exp_pos _
  · refine (val_main_v68_apply ..).trans ?_
    have e : val_main_cst_10 (F := Ideal) (Shape.Idx.first h_S_) = 0 := Ideal.ofBits_zero_f32
    rw [e, zero_add]
    refine Eq.trans (Finset.sum_congr rfl fun k _ => ?_) (sum_fin_coe (n := 256) (fun t => expAt δ M (i 0).val (i 1).val (4 * (i 2).val + (i 3).val) (i 4).val t))
    have hi : idx_main_v64 (idx_main_v65 (idx_main_v68 i k)) = i := funext fun a => match a with
      | ⟨0, _⟩ => rfl | ⟨1, _⟩ => rfl | ⟨2, _⟩ => rfl | ⟨3, _⟩ => rfl | ⟨4, _⟩ => rfl
    exact r67 h _ M (by rw [hi]; exact hM)

include h in
/-- The log-sum-exp over the keys alone, given the row's maximum and sum. -/
theorem r71 (i : S2x16x2x4x128x1.Idx) (M S : ℝ) (hS : 0 < S) (hM : val_main_v58 (F := Ideal) x1 (idx_main_v64 i) = (M : EReal))
    (hS' : val_main_v68 (F := Ideal) x1 (idx_main_v69 i) = (S : EReal)) : val_main_v71 (F := Ideal) x1 i = ((M + Real.log S : ℝ) : EReal) := by
  rw [val_main_v71_apply, val_main_v64_apply, hM, val_main_v70_apply, val_main_v69_apply, hS']
  show (M : EReal) + (if S ≤ 0 then ⊥ else ((Real.log S : ℝ) : EReal)) = _
  rw [if_neg (not_le.2 hS), ← EReal.coe_add]

include h in
/-- The sink of a head. -/
theorem r57 (i : S1x1x2x4x1x1.Idx) : val_main_v57 (F := Ideal) x2 i = ((δ.S (4 * (i 2).val + (i 3).val) : ℝ) : EReal) := by
  refine (val_main_v57_apply ..).trans ((val_main_v56_apply ..).trans ((h.s _).trans (real_congr ?_)))
  show δ.S ((i 2).val * 4 + (i 3).val) = _
  rw [mul_comm]

include h in
/-- The log-sum-exp with the sink is a real number. -/
theorem real84 (i : S2x16x2x4x128x1.Idx) : ∃ l : ℝ, val_main_v84 (F := Ideal) x1 x2 i = (l : EReal) := by
  obtain ⟨M, hM⟩ := max58 h (idx_main_v64 i)
  obtain ⟨S, hS, hS'⟩ := sum68 h _ M hM
  have e := r71 h i M S hS hM hS'
  have k : val_main_v74 (F := Ideal) x2 i = ((δ.S (4 * (i 2).val + (i 3).val) : ℝ) : EReal) := (val_main_v74_apply ..).trans (r57 h _)
  have k' : val_main_v72 (F := Ideal) x2 i = ((δ.S (4 * (i 2).val + (i 3).val) : ℝ) : EReal) := (val_main_v72_apply ..).trans (r57 h _)
  generalize M + Real.log S = L at e
  generalize δ.S (4 * (i 2).val + (i 3).val) = s at k k'
  have e75 : val_main_v75 (F := Ideal) x1 x2 i = ((L - s : ℝ) : EReal) := by
    rw [val_main_v75_apply, e, k]
    show (L : EReal) - (s : EReal) = _
    rw [← EReal.coe_sub]
  have e76 : val_main_v76 (F := Ideal) x1 x2 i = 0#1 := by
    rw [val_main_v76_apply, e75]
    show Ideal.cmp .une _ _ = _
    simp [Ideal.cmp]
  have e79 : val_main_v79 (F := Ideal) x1 x2 i = ((max (L - s) (-(L - s)) : ℝ) : EReal) := by
    rw [val_main_v79_apply, e75]
    show max ((L - s : ℝ) : EReal) (-((L - s : ℝ) : EReal)) = _
    rw [← EReal.coe_neg, coe_max']
  have e82 : val_main_v82 (F := Ideal) x1 x2 i = ((Real.log (1 + Real.exp (-max (L - s) (-(L - s)))) : ℝ) : EReal) := by
    rw [val_main_v82_apply, val_main_v81_apply, val_main_v80_apply, e79]
    generalize max (L - s) (-(L - s)) = u
    show Ideal.log (1 + Ideal.exp (-(u : EReal))) = _
    rw [← EReal.coe_neg]
    show Ideal.log (((1 : ℝ) : EReal) + ((Real.exp (-u) : ℝ) : EReal)) = _
    rw [← EReal.coe_add]
    show (if (1 + Real.exp (-u)) ≤ 0 then ⊥ else _) = _
    rw [if_neg (by have := Real.exp_pos (-u); linarith)]
  have e73 : val_main_v73 (F := Ideal) x1 x2 i = ((max L s : ℝ) : EReal) := by
    rw [val_main_v73_apply, e, k']
    exact (coe_max' L s)
  refine ⟨max L s + Real.log (1 + Real.exp (-max (L - s) (-(L - s)))), ?_⟩
  refine (val_main_v84_apply ..).trans ?_
  rw [e76, val_main_v83_apply, e73, e82]
  generalize max L s = u
  generalize Real.log _ = v
  show (u : EReal) + (v : EReal) = _
  rw [← EReal.coe_add]

include h in
theorem r84 (i : S2x16x2x4x128x1.Idx) : val_main_v84 (F := Ideal) x1 x2 i
    = ((lseOf x1 x2 (row (i 0).val (i 1).val (i 4).val) (4 * (i 2).val + (i 3).val) : ℝ) : EReal) := by
  unfold lseOf
  rw [at6_eq]
  obtain ⟨l, hl⟩ := real84 h i
  rw [hl]; rfl

include h in
/-- The weights. -/
theorem r108 (O : ℕ → ℕ → ℝ) (i : S2x16x2x4x128x256.Idx) : val_main_v108 (F := Ideal) x1 x2 i
    = (((δ.blk (lseOf x1 x2) O (i 0).val (i 1).val).pr (4 * (i 2).val + (i 3).val) (i 4).val (i 5).val : ℝ) : EReal) := by
  rw [val_main_v108_apply, val_main_v107_apply, val_main_v106_apply, r84 h, r55 h]
  generalize lseOf x1 x2 = L
  unfold Blk.pr
  show Ideal.exp ((if Band (i 1).val (i 4).val (i 5).val then _ else ⊥) - _) = (((if Band (i 1).val (i 4).val (i 5).val then Real.exp ((δ.blk (fun _ _ => 0) (fun _ _ => 0) (i 0).val (i 1).val).sc (4 * (i 2).val + (i 3).val) (i 4).val (i 5).val - L (row (i 0).val (i 1).val (i 4).val) (4 * (i 2).val + (i 3).val)) else 0 : ℝ) : ℝ) : EReal)
  have e : ∀ l : ℝ, Ideal.exp (((if Band (i 1).val (i 4).val (i 5).val then (((δ.blk (fun _ _ => 0) (fun _ _ => 0) (i 0).val (i 1).val).sc (4 * (i 2).val + (i 3).val) (i 4).val (i 5).val : ℝ) : EReal) else ⊥)) - (l : EReal))
      = (((if Band (i 1).val (i 4).val (i 5).val then Real.exp ((δ.blk (fun _ _ => 0) (fun _ _ => 0) (i 0).val (i 1).val).sc (4 * (i 2).val + (i 3).val) (i 4).val (i 5).val - l) else 0 : ℝ) : ℝ) : EReal) := by
    intro l
    split_ifs
    · rfl
    · rfl
  exact e _

end Cert.Attn
end
end
-- ==== Proof.RefGate.lean ====
module

public import proofs.«01_k».proof.Proof.RefSoft

/-! # The reference's output and gate

The attention's output, the gate and the two gradients behind it. -/

@[expose] public section
noncomputable section
namespace Cert.Attn
open Idealize.ShloMosaic Cert.ReferenceIdeal Cert.ReferenceIdeal.Gen Cert.ReferenceIdeal.Read Idealize.SL.Sem
open Idealize.ShloMosaic.TcCoe
open Finset (range)

variable {x0 : Arr0} {x1 : Arr1} {x2 : Arr2} {δ : Data} (h : Holds x0 x1 x2 δ)
include h

/-- The output, head by head. -/
theorem r109 (i : S2x16x2x64x4x128.Idx) : val_main_v109 (F := Ideal) x1 x2 i
    = (((∑ t ∈ range 256, δ.kv 1152 (i 0).val (i 1).val t (64 * (i 2).val + (i 3).val)
      * (δ.blk (lseOf x1 x2) (fun _ _ => 0) (i 0).val (i 1).val).pr (4 * (i 2).val + (i 4).val) (i 5).val t) : ℝ) : EReal) := by
  rw [val_main_v109_apply]
  refine Eq.trans (Finset.sum_congr rfl fun k _ => ?_) (sum_fin_coe (n := 256) (fun t => δ.kv 1152 (i 0).val (i 1).val t (64 * (i 2).val + (i 3).val)
      * (δ.blk (lseOf x1 x2) (fun _ _ => 0) (i 0).val (i 1).val).pr (4 * (i 2).val + (i 4).val) (i 5).val t))
  rw [r21 h, r108 h (fun _ _ => 0), ← EReal.coe_mul]

/-- The output, row by row. -/
theorem r111 (i : S2x2048x512.Idx) : val_main_v111 (F := Ideal) x1 x2 i
    = ((outOf x1 x2 δ (2048 * (i 0).val + (i 1).val) (i 2).val : ℝ) : EReal) := by
  have h0 : (i 0).val < 2 := (i 0).isLt
  have h1 : (i 1).val < 2048 := (i 1).isLt
  have h2 : (i 2).val < 512 := (i 2).isLt
  unfold val_main_v111
  refine (shapeCast_apply _ _ i ((fun a => match a with | ⟨0, _⟩ => ⟨(i 0).val, by have h0 : (i 0).val < 2 := (i 0).isLt; have h1 : (i 1).val < 2048 := (i 1).isLt; have h2 : (i 2).val < 512 := (i 2).isLt; show (i 0).val < 2; omega⟩ | ⟨1, _⟩ => ⟨(i 1).val / 128, by have h0 : (i 0).val < 2 := (i 0).isLt; have h1 : (i 1).val < 2048 := (i 1).isLt; have h2 : (i 2).val < 512 := (i 2).isLt; show (i 1).val / 128 < 16; omega⟩ | ⟨2, _⟩ => ⟨(i 1).val % 128, by have h0 : (i 0).val < 2 := (i 0).isLt; have h1 : (i 1).val < 2048 := (i 1).isLt; have h2 : (i 2).val < 512 := (i 2).isLt; show (i 1).val % 128 < 128; omega⟩ | ⟨3, _⟩ => ⟨(i 2).val / 256, by have h0 : (i 0).val < 2 := (i 0).isLt; have h1 : (i 1).val < 2048 := (i 1).isLt; have h2 : (i 2).val < 512 := (i 2).isLt; show (i 2).val / 256 < 2; omega⟩ | ⟨4, _⟩ => ⟨(i 2).val / 64 % 4, by have h0 : (i 0).val < 2 := (i 0).isLt; have h1 : (i 1).val < 2048 := (i 1).isLt; have h2 : (i 2).val < 512 := (i 2).isLt; show (i 2).val / 64 % 4 < 4; omega⟩ | ⟨5, _⟩ => ⟨(i 2).val % 64, by have h0 : (i 0).val < 2 := (i 0).isLt; have h1 : (i 1).val < 2048 := (i 1).isLt; have h2 : (i 2).val < 512 := (i 2).isLt; show (i 2).val % 64 < 64; omega⟩) : S2x16x128x2x4x64.Idx)
    (by rw [rowMajor_val6 _ 1048576 65536 512 256 64 rfl rfl rfl rfl rfl, Shape.rowMajor_val_three]; have h0 : (i 0).val < 2 := (i 0).isLt; have h1 : (i 1).val < 2048 := (i 1).isLt; have h2 : (i 2).val < 512 := (i 2).isLt; show ((i 0).val) * 1048576 + ((i 1).val / 128) * 65536 + ((i 1).val % 128) * 512 + ((i 2).val / 256) * 256 + ((i 2).val / 64 % 4) * 64 + ((i 2).val % 64) = (((i 0).val) * 2048 + ((i 1).val)) * 512 + ((i 2).val); omega)).trans ?_
  rw [val_main_v110_apply, r109 h]
  refine real_congr ?_
  unfold outOf
  generalize lseOf x1 x2 = L
  rw [show (2048 * (i 0).val + (i 1).val) / 2048 = (i 0).val by omega, show (2048 * (i 0).val + (i 1).val) / 128 % 16 = (i 1).val / 128 by omega,
    show (2048 * (i 0).val + (i 1).val) % 128 = (i 1).val % 128 by omega, show (i 2).val / 64 / 4 = (i 2).val / 256 by omega]
  show (∑ t ∈ range 256, δ.kv 1152 (i 0).val ((i 1).val / 128) t (64 * ((i 2).val / 256) + (i 2).val % 64)
      * (δ.blk L (fun _ _ => 0) (i 0).val ((i 1).val / 128)).pr (4 * ((i 2).val / 256) + (i 2).val / 64 % 4) ((i 1).val % 128) t) = _
  rw [show 4 * ((i 2).val / 256) + (i 2).val / 64 % 4 = (i 2).val / 64 by omega]

omit h in
theorem one_bits : Ideal.ofBits .f32 0x3F800000#32 = ((1 : ℝ) : EReal) := oneW

theorem r112_2 (i : S2x2048x512.Idx) : val_main_v112_2 (F := Ideal) x1 i = ((logi (δ.P (2048 * (i 0).val + (i 1).val) (i 2).val) : ℝ) : EReal) := by
  rw [val_main_v112_2_apply, val_main_call1_v4_apply, val_main_call1_cst_0_apply, val_main_call1_v3_apply, val_main_call1_v2_apply,
    val_main_call1_cst_apply, val_main_call1_v1_apply, val_main_call1_v0_apply, r1 h]
  generalize (δ.P (2048 * (i 0).val + (i 1).val) (i 2).val) = z
  show Ideal.div (Ideal.ofBits .f32 0x3F800000#32) (Ideal.ofBits .f32 0x3F800000#32 + Ideal.exp (-(z : EReal))) = _
  rw [one_bits, ← EReal.coe_neg]
  show Ideal.div ((1 : ℝ) : EReal) (((1 : ℝ) : EReal) + ((Real.exp (-z) : ℝ) : EReal)) = _
  rw [← EReal.coe_add, div_real _ _ (by positivity)]
  unfold logi
  rw [zero_sub]

theorem r112_1 (i : S2x2048x512.Idx) : val_main_v112_1 (F := Ideal) x1 i = ((logi (δ.P (2048 * (i 0).val + (i 1).val) (i 2).val) * (1 - logi (δ.P (2048 * (i 0).val + (i 1).val) (i 2).val)) : ℝ) : EReal) := by
  rw [val_main_v112_1_apply, val_main_call1_v7_apply, val_main_call1_v6_apply, val_main_call1_cst_1_apply, r112_2 h]
  generalize logi (δ.P (2048 * (i 0).val + (i 1).val) (i 2).val) = z
  show (z : EReal) * (Ideal.ofBits .f32 0x3F800000#32 - (z : EReal)) = _
  rw [one_bits, ← EReal.coe_sub, ← EReal.coe_mul]

theorem r112_0 (i : S2x2048x512.Idx) : val_main_v112_0 (F := Ideal) x1 i = (((δ.P (2048 * (i 0).val + (i 1).val) (i 2).val) * logi (δ.P (2048 * (i 0).val + (i 1).val) (i 2).val) : ℝ) : EReal) := by
  rw [val_main_v112_0_apply, r112_2 h, r1 h]
  exact (EReal.coe_mul _ _).symm

theorem r115 (i : S2x2048x512.Idx) : val_main_v115 (F := Ideal) x0 x1 i = (((δ.D (2048 * (i 0).val + (i 1).val) (1024 + (i 2).val)) * ((δ.P (2048 * (i 0).val + (i 1).val) (i 2).val) * logi (δ.P (2048 * (i 0).val + (i 1).val) (i 2).val)) : ℝ) : EReal) := by
  rw [val_main_v115_apply, r112_0 h, r9 h]
  exact (EReal.coe_mul _ _).symm

/-- The gradient of the gate's input. -/
theorem r116 (i : S2x2048x512.Idx) : val_main_v116 (F := Ideal) x0 x1 x2 i
    = (((δ.D (2048 * (i 0).val + (i 1).val) (1024 + (i 2).val)) * (outOf x1 x2 δ (2048 * (i 0).val + (i 1).val) (i 2).val) * (logi (δ.P (2048 * (i 0).val + (i 1).val) (i 2).val) * (1 + (δ.P (2048 * (i 0).val + (i 1).val) (i 2).val) * (1 - logi (δ.P (2048 * (i 0).val + (i 1).val) (i 2).val)))) : ℝ) : EReal) := by
  rw [val_main_v116_apply, val_main_call2_v1_apply, val_main_call2_v2_apply, val_main_call2_v0_apply, val_main_v114_apply, r112_1 h,
    r112_2 h, r111 h, r9 h, r1 h]
  generalize logi (δ.P (2048 * (i 0).val + (i 1).val) (i 2).val) = s
  generalize (δ.P (2048 * (i 0).val + (i 1).val) (i 2).val) = z
  generalize (δ.D (2048 * (i 0).val + (i 1).val) (1024 + (i 2).val)) = d
  generalize (outOf x1 x2 δ (2048 * (i 0).val + (i 1).val) (i 2).val) = o
  show (o : EReal) * (d : EReal) * (s : EReal) + (z : EReal) * ((o : EReal) * (d : EReal)) * ((s * (1 - s) : ℝ) : EReal) = _
  rw [← EReal.coe_mul, ← EReal.coe_mul, ← EReal.coe_mul, ← EReal.coe_mul, ← EReal.coe_add]
  refine real_congr ?_
  ring

theorem r117 (O : ℕ → ℕ → ℝ) (i : S2x16x128x2x4x64.Idx) : val_main_v117 (F := Ideal) x0 x1 i
    = (((δ.blk (lseOf x1 x2) O (i 0).val (i 1).val).go (i 2).val (64 * (4 * (i 3).val + (i 4).val) + (i 5).val) : ℝ) : EReal) := by
  have h0 : (i 0).val < 2 := (i 0).isLt
  have h1 : (i 1).val < 16 := (i 1).isLt
  have h2 : (i 2).val < 128 := (i 2).isLt
  have h3 : (i 3).val < 2 := (i 3).isLt
  have h4 : (i 4).val < 4 := (i 4).isLt
  have h5 : (i 5).val < 64 := (i 5).isLt
  unfold val_main_v117
  refine (shapeCast_apply _ _ i ((fun a => match a with | ⟨0, _⟩ => ⟨(i 0).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; have h5 : (i 5).val < 64 := (i 5).isLt; show (i 0).val < 2; omega⟩ | ⟨1, _⟩ => ⟨128 * (i 1).val + (i 2).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; have h5 : (i 5).val < 64 := (i 5).isLt; show 128 * (i 1).val + (i 2).val < 2048; omega⟩ | ⟨2, _⟩ => ⟨64 * (4 * (i 3).val + (i 4).val) + (i 5).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; have h5 : (i 5).val < 64 := (i 5).isLt; show 64 * (4 * (i 3).val + (i 4).val) + (i 5).val < 512; omega⟩) : S2x2048x512.Idx)
    (by rw [Shape.rowMajor_val_three, rowMajor_val6 _ 1048576 65536 512 256 64 rfl rfl rfl rfl rfl]; have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; have h5 : (i 5).val < 64 := (i 5).isLt; show (((i 0).val) * 2048 + (128 * (i 1).val + (i 2).val)) * 512 + (64 * (4 * (i 3).val + (i 4).val) + (i 5).val) = ((i 0).val) * 1048576 + ((i 1).val) * 65536 + ((i 2).val) * 512 + ((i 3).val) * 256 + ((i 4).val) * 64 + ((i 5).val); omega)).trans ?_
  refine (r115 h _).trans (real_congr ?_)
  show δ.D (2048 * (i 0).val + (128 * (i 1).val + (i 2).val)) (1024 + (64 * (4 * (i 3).val + (i 4).val) + (i 5).val))
    * (δ.P (2048 * (i 0).val + (128 * (i 1).val + (i 2).val)) (64 * (4 * (i 3).val + (i 4).val) + (i 5).val)
      * logi (δ.P (2048 * (i 0).val + (128 * (i 1).val + (i 2).val)) (64 * (4 * (i 3).val + (i 4).val) + (i 5).val))) = _
  rw [← Nat.add_assoc]
  rfl

theorem r118 (O : ℕ → ℕ → ℝ) (i : S2x16x2x64x4x128.Idx) : val_main_v118 (F := Ideal) x0 x1 i
    = (((δ.blk (lseOf x1 x2) O (i 0).val (i 1).val).go (i 5).val (64 * (4 * (i 2).val + (i 4).val) + (i 3).val) : ℝ) : EReal) := by
  rw [val_main_v118_apply, r117 h O]

end Cert.Attn
end
end
-- ==== Proof.Lanes.lean ====
module

public import proofs.«01_k».proof.Proof.Host
public import proofs.«01_k».proof.Proof.RefGate

/-! # The host arrays, entry by entry -/

@[expose] public section
noncomputable section
namespace Cert.Attn
open Idealize.ShloMosaic Cert.KernelIdeal Cert.KernelIdeal.Gen Idealize.SL.Sem
open Idealize.ShloMosaic.TcCoe

theorem lanesA (x : S2x16x128x2x4.Idx → EReal) (i : S4096x8.Idx) : shapeCast S4096x8 x shapeCasts_S2x16x128x2x4_S4096x8 i
    = x ((fun a => match a with | ⟨0, _⟩ => ⟨(i 0).val / 2048, by have h0 : (i 0).val < 4096 := (i 0).isLt; have h1 : (i 1).val < 8 := (i 1).isLt; show (i 0).val / 2048 < 2; omega⟩ | ⟨1, _⟩ => ⟨(i 0).val / 128 % 16, by have h0 : (i 0).val < 4096 := (i 0).isLt; have h1 : (i 1).val < 8 := (i 1).isLt; show (i 0).val / 128 % 16 < 16; omega⟩ | ⟨2, _⟩ => ⟨(i 0).val % 128, by have h0 : (i 0).val < 4096 := (i 0).isLt; have h1 : (i 1).val < 8 := (i 1).isLt; show (i 0).val % 128 < 128; omega⟩ | ⟨3, _⟩ => ⟨(i 1).val / 4, by have h0 : (i 0).val < 4096 := (i 0).isLt; have h1 : (i 1).val < 8 := (i 1).isLt; show (i 1).val / 4 < 2; omega⟩ | ⟨4, _⟩ => ⟨(i 1).val % 4, by have h0 : (i 0).val < 4096 := (i 0).isLt; have h1 : (i 1).val < 8 := (i 1).isLt; show (i 1).val % 4 < 4; omega⟩) : S2x16x128x2x4.Idx) :=
  shapeCast_apply x _ i ((fun a => match a with | ⟨0, _⟩ => ⟨(i 0).val / 2048, by have h0 : (i 0).val < 4096 := (i 0).isLt; have h1 : (i 1).val < 8 := (i 1).isLt; show (i 0).val / 2048 < 2; omega⟩ | ⟨1, _⟩ => ⟨(i 0).val / 128 % 16, by have h0 : (i 0).val < 4096 := (i 0).isLt; have h1 : (i 1).val < 8 := (i 1).isLt; show (i 0).val / 128 % 16 < 16; omega⟩ | ⟨2, _⟩ => ⟨(i 0).val % 128, by have h0 : (i 0).val < 4096 := (i 0).isLt; have h1 : (i 1).val < 8 := (i 1).isLt; show (i 0).val % 128 < 128; omega⟩ | ⟨3, _⟩ => ⟨(i 1).val / 4, by have h0 : (i 0).val < 4096 := (i 0).isLt; have h1 : (i 1).val < 8 := (i 1).isLt; show (i 1).val / 4 < 2; omega⟩ | ⟨4, _⟩ => ⟨(i 1).val % 4, by have h0 : (i 0).val < 4096 := (i 0).isLt; have h1 : (i 1).val < 8 := (i 1).isLt; show (i 1).val % 4 < 4; omega⟩) : S2x16x128x2x4.Idx)
    (by rw [Shape.rowMajor_val_five, Shape.rowMajor_val_two]; have h0 : (i 0).val < 4096 := (i 0).isLt; have h1 : (i 1).val < 8 := (i 1).isLt; show (((((i 0).val / 2048) * 16 + ((i 0).val / 128 % 16)) * 128 + ((i 0).val % 128)) * 2 + ((i 1).val / 4)) * 4 + ((i 1).val % 4) = ((i 0).val) * 8 + ((i 1).val); omega)

theorem lanesB (x : S2x16x2x4x128.Idx → EReal) (i : S2x16x128x2x4.Idx) :
    transpose S2x16x128x2x4 [0, 1, 4, 2, 3] x transposes_S2x16x2x4x128_S2x16x128x2x4_0_1_4_2_3 i
    = x ((fun a => match a with | ⟨0, _⟩ => ⟨(i 0).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; show (i 0).val < 2; omega⟩ | ⟨1, _⟩ => ⟨(i 1).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; show (i 1).val < 16; omega⟩ | ⟨2, _⟩ => ⟨(i 3).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; show (i 3).val < 2; omega⟩ | ⟨3, _⟩ => ⟨(i 4).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; show (i 4).val < 4; omega⟩ | ⟨4, _⟩ => ⟨(i 2).val, by have h0 : (i 0).val < 2 := (i 0).isLt; have h1 : (i 1).val < 16 := (i 1).isLt; have h2 : (i 2).val < 128 := (i 2).isLt; have h3 : (i 3).val < 2 := (i 3).isLt; have h4 : (i 4).val < 4 := (i 4).isLt; show (i 2).val < 128; omega⟩) : S2x16x2x4x128.Idx) :=
  transpose_apply [0, 1, 4, 2, 3] x transposes_S2x16x2x4x128_S2x16x128x2x4_0_1_4_2_3 i _ fun b => by
    match b with
    | ⟨0, _⟩ => rfl
    | ⟨1, _⟩ => rfl
    | ⟨2, _⟩ => rfl
    | ⟨3, _⟩ => rfl
    | ⟨4, _⟩ => rfl

theorem lanesC (x : S2x16x2x4x128x1.Idx → EReal) (i : S2x16x2x4x128.Idx) :
    shapeCast S2x16x2x4x128 x shapeCasts_S2x16x2x4x128x1_S2x16x2x4x128 i
    = x ((fun a => match a with | ⟨0, _⟩ => ⟨(i 0).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show (i 0).val < 2; omega⟩ | ⟨1, _⟩ => ⟨(i 1).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show (i 1).val < 16; omega⟩ | ⟨2, _⟩ => ⟨(i 2).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show (i 2).val < 2; omega⟩ | ⟨3, _⟩ => ⟨(i 3).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show (i 3).val < 4; omega⟩ | ⟨4, _⟩ => ⟨(i 4).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show (i 4).val < 128; omega⟩ | ⟨5, _⟩ => ⟨0, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show 0 < 1; omega⟩) : S2x16x2x4x128x1.Idx) :=
  shapeCast_apply x _ i ((fun a => match a with | ⟨0, _⟩ => ⟨(i 0).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show (i 0).val < 2; omega⟩ | ⟨1, _⟩ => ⟨(i 1).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show (i 1).val < 16; omega⟩ | ⟨2, _⟩ => ⟨(i 2).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show (i 2).val < 2; omega⟩ | ⟨3, _⟩ => ⟨(i 3).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show (i 3).val < 4; omega⟩ | ⟨4, _⟩ => ⟨(i 4).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show (i 4).val < 128; omega⟩ | ⟨5, _⟩ => ⟨0, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show 0 < 1; omega⟩) : S2x16x2x4x128x1.Idx)
    (by rw [rowMajor_val6 _ 16384 1024 512 128 1 rfl rfl rfl rfl rfl, Shape.rowMajor_val_five]; have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; show ((i 0).val) * 16384 + ((i 1).val) * 1024 + ((i 2).val) * 512 + ((i 3).val) * 128 + ((i 4).val) * 1 + (0) = (((((i 0).val) * 16 + ((i 1).val)) * 2 + ((i 2).val)) * 4 + ((i 3).val)) * 128 + ((i 4).val); omega)

theorem zeros_is (i : S4096x120.Idx) : (broadcastInDim S4096x120 ![] bcast_S_S4096x120 (constant (F := Ideal) S_ .f32 0x00000000#32) : S4096x120.Idx → EReal) i = ((0 : ℝ) : EReal) := by
  show Ideal.ofBits .f32 0x00000000#32 = _
  rw [Ideal.ofBits_zero_f32]; rfl
theorem zeros1_is (i : S120.Idx) : (broadcastInDim S120 ![] bcast_S_S120 (constant (F := Ideal) S_ .f32 0x00000000#32) : S120.Idx → EReal) i = ((0 : ℝ) : EReal) := by
  show Ideal.ofBits .f32 0x00000000#32 = _
  rw [Ideal.ofBits_zero_f32]; rfl

variable {x0 : Arr0} {x1 : Arr1} {x2 : Arr2} {δ : Data} (h : Holds x0 x1 x2 δ)
include h

theorem lanes8_is (i : S4096x128.Idx) : lanes8 (Cert.ReferenceIdeal.Read.val_main_v84 (F := Ideal) x1 x2) i
    = (((if (i 1).val < 8 then lseOf x1 x2 (i 0).val (i 1).val else 0 : ℝ)) : EReal) := by
  have h0 : (i 0).val < 4096 := (i 0).isLt
  have h1 : (i 1).val < 128 := (i 1).isLt
  unfold lanes8 cat8
  by_cases c : (i 1).val < 8
  · rw [if_pos c]
    refine (concatenate_pair_apply_left (t := S4096x128) (s₁ := S4096x8) (s₂ := S4096x120) 1 _ _ concatenates_S4096x8_S4096x120_S4096x128_d1 i rfl
      ((fun a => match a with | ⟨0, _⟩ => i 0 | ⟨1, _⟩ => ⟨(i 1).val, c⟩) : S4096x8.Idx) ?_).trans ?_
    · intro b
      match b with
      | ⟨0, _⟩ => rfl
      | ⟨1, _⟩ => rfl
    · refine (lanesA _ _).trans ((lanesB _ _).trans ((lanesC _ _).trans ((r84 h _).trans (real_congr ?_))))
      show lseOf x1 x2 (row ((i 0).val / 2048) ((i 0).val / 128 % 16) ((i 0).val % 128)) (4 * ((i 1).val / 4) + (i 1).val % 4) = _
      congr 1
      · unfold row; omega
      · omega
  · rw [if_neg c]
    refine (concatenate_pair_apply_right (t := S4096x128) (s₁ := S4096x8) (s₂ := S4096x120) 1 _ _ concatenates_S4096x8_S4096x120_S4096x128_d1 i rfl rfl
      ((fun a => match a with | ⟨0, _⟩ => i 0 | ⟨1, _⟩ => ⟨(i 1).val - 8, by show (i 1).val - 8 < 120; omega⟩) : S4096x120.Idx) ?_ ?_).trans (zeros_is _)
    · intro b hb
      match b, hb with
      | ⟨0, _⟩, _ => rfl
      | ⟨1, _⟩, hb => exact absurd rfl hb
    · show (i 1).val - 8 + 8 = (i 1).val
      omega

theorem lanes1_is (i : S1x128.Idx) : lanes1 x2 i = (((if (i 1).val < 8 then δ.S (i 1).val else 0 : ℝ)) : EReal) := by
  have h0 : (i 0).val < 1 := (i 0).isLt
  have h1 : (i 1).val < 128 := (i 1).isLt
  unfold lanes1
  refine (shapeCast_apply _ shapeCasts_S128_S1x128 i ((fun a => match a with | ⟨0, _⟩ => ⟨(i 1).val, h1⟩) : S128.Idx) ?_).trans ?_
  · rw [Shape.rowMajor_val_one, Shape.rowMajor_val_two]
    show (i 1).val = (i 0).val * 128 + (i 1).val
    omega
  by_cases c : (i 1).val < 8
  · rw [if_pos c]
    refine (concatenate_pair_apply_left (t := S128) (s₁ := S8) (s₂ := S120) 0 _ _ concatenates_S8_S120_S128_d0 _ rfl
      ((fun a => match a with | ⟨0, _⟩ => ⟨(i 1).val, c⟩) : S8.Idx) ?_).trans ?_
    · intro b
      match b with
      | ⟨0, _⟩ => rfl
    · exact h.s _
  · rw [if_neg c]
    refine (concatenate_pair_apply_right (t := S128) (s₁ := S8) (s₂ := S120) 0 _ _ concatenates_S8_S120_S128_d0 _ rfl rfl
      ((fun a => match a with | ⟨0, _⟩ => ⟨(i 1).val - 8, by show (i 1).val - 8 < 120; omega⟩) : S120.Idx) ?_ ?_).trans (zeros1_is _)
    · intro b hb
      match b, hb with
      | ⟨0, _⟩, hb => exact absurd rfl hb
    · show (i 1).val - 8 + 8 = (i 1).val
      omega

theorem out_is (i : S4096x512.Idx) : shapeCast S4096x512 (Cert.ReferenceIdeal.Read.val_main_v111 (F := Ideal) x1 x2) shapeCasts_S2x2048x512_S4096x512 i
    = ((outOf x1 x2 δ (i 0).val (i 1).val : ℝ) : EReal) := by
  refine (shapeCast_apply _ _ i ((fun a => match a with | ⟨0, _⟩ => ⟨(i 0).val / 2048, by have h0 : (i 0).val < 4096 := (i 0).isLt; have h1 : (i 1).val < 512 := (i 1).isLt; show (i 0).val / 2048 < 2; omega⟩ | ⟨1, _⟩ => ⟨(i 0).val % 2048, by have h0 : (i 0).val < 4096 := (i 0).isLt; have h1 : (i 1).val < 512 := (i 1).isLt; show (i 0).val % 2048 < 2048; omega⟩ | ⟨2, _⟩ => ⟨(i 1).val, by have h0 : (i 0).val < 4096 := (i 0).isLt; have h1 : (i 1).val < 512 := (i 1).isLt; show (i 1).val < 512; omega⟩) : S2x2048x512.Idx)
    (by rw [Shape.rowMajor_val_three, Shape.rowMajor_val_two]; have h0 : (i 0).val < 4096 := (i 0).isLt; have h1 : (i 1).val < 512 := (i 1).isLt; show (((i 0).val / 2048) * 2048 + ((i 0).val % 2048)) * 512 + ((i 1).val) = ((i 0).val) * 512 + ((i 1).val); omega)).trans ((r111 h _).trans (real_congr ?_))
  show outOf x1 x2 δ (2048 * ((i 0).val / 2048) + (i 0).val % 2048) (i 1).val = _
  rw [Nat.div_add_mod]

end Cert.Attn
end
end
-- ==== Proof.Reads.lean ====
module

public import proofs.«01_k».proof.Proof.Points

/-! # What the windows of a grid point show

Point `t` works on block `here t` of 128 rows (a batch's blocks are visited from the last to the first), and on the
keys and values of the block before it. -/

@[expose] public section
noncomputable section
namespace Cert.Attn
open Idealize.ShloMosaic Cert.KernelIdeal Cert.KernelIdeal.Gen Idealize.SL.Sem
open Idealize.ShloMosaic.TcCoe
open Idealize.ShloMosaic.ValueIdx (idx2_lt0 idx2_lt1)

/-- The block of rows point `t` works on. -/
def here (t : ℕ) : ℕ := 16 * (t / 16) + (15 - t % 16)
/-- The block before it in its batch (itself, for the first of a batch). -/
def prev (t : ℕ) : ℕ := 16 * (t / 16) + (15 - t % 16 - 1)

theorem index0 : ∀ t : Fin cfg0.N, win0_0.index t 0 = here t.val ∧ win0_0.index t 1 = 2 :=
  (by decide +kernel : ∀ t : Fin grid0.N, win0_0.index t 0 = here t.val ∧ win0_0.index t 1 = 2)
theorem index1 : ∀ t : Fin cfg0.N, win0_1.index t 0 = here t.val ∧ win0_1.index t 1 = 1 :=
  (by decide +kernel : ∀ t : Fin grid0.N, win0_1.index t 0 = here t.val ∧ win0_1.index t 1 = 1)
theorem index2 : ∀ t : Fin cfg0.N, win0_2.index t 0 = here t.val ∧ win0_2.index t 1 = 8 :=
  (by decide +kernel : ∀ t : Fin grid0.N, win0_2.index t 0 = here t.val ∧ win0_2.index t 1 = 8)
theorem index3 : ∀ t : Fin cfg0.N, win0_3.index t 0 = prev t.val ∧ win0_3.index t 1 = 8 :=
  (by decide +kernel : ∀ t : Fin grid0.N, win0_3.index t 0 = prev t.val ∧ win0_3.index t 1 = 8)
theorem index4 : ∀ t : Fin cfg0.N, win0_4.index t 0 = here t.val ∧ win0_4.index t 1 = 9 :=
  (by decide +kernel : ∀ t : Fin grid0.N, win0_4.index t 0 = here t.val ∧ win0_4.index t 1 = 9)
theorem index5 : ∀ t : Fin cfg0.N, win0_5.index t 0 = prev t.val ∧ win0_5.index t 1 = 9 :=
  (by decide +kernel : ∀ t : Fin grid0.N, win0_5.index t 0 = prev t.val ∧ win0_5.index t 1 = 9)
theorem index6 : ∀ t : Fin cfg0.N, win0_6.index t 0 = here t.val ∧ win0_6.index t 1 = 0 :=
  (by decide +kernel : ∀ t : Fin grid0.N, win0_6.index t 0 = here t.val ∧ win0_6.index t 1 = 0)
theorem index7 : ∀ t : Fin cfg0.N, win0_7.index t 0 = here t.val ∧ win0_7.index t 1 = 0 :=
  (by decide +kernel : ∀ t : Fin grid0.N, win0_7.index t 0 = here t.val ∧ win0_7.index t 1 = 0)
theorem index8 : ∀ t : Fin cfg0.N, win0_8.index t 0 = here t.val ∧ win0_8.index t 1 = 0 :=
  (by decide +kernel : ∀ t : Fin grid0.N, win0_8.index t 0 = here t.val ∧ win0_8.index t 1 = 0)
theorem index10 : ∀ t : Fin cfg0.N, win0_10.index t 0 = here t.val ∧ win0_10.index t 1 = 0 :=
  (by decide +kernel : ∀ t : Fin grid0.N, win0_10.index t 0 = here t.val ∧ win0_10.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index11 : ∀ t : Fin cfg0.N, win0_11.index t 0 = here t.val ∧ win0_11.index t 1 = 0 :=
  (by decide +kernel : ∀ t : Fin grid0.N, win0_11.index t 0 = here t.val ∧ win0_11.index t 1 = 0)
theorem index12 : ∀ t : Fin cfg0.N, win0_12.index t 0 = 0 ∧ win0_12.index t 1 = 0 :=
  (by decide +kernel : ∀ t : Fin grid0.N, win0_12.index t 0 = 0 ∧ win0_12.index t 1 = 0)
theorem batch : ∀ t : Fin cfg0.N, (grid0.coords t 1).val = t.val % 16 :=
  (by decide +kernel : ∀ t : Fin grid0.N, (grid0.coords t 1).val = t.val % 16)

theorem here_lt (t : Fin cfg0.N) : here t.val < 32 := by
  have h := lt_of_lt_of_eq t.isLt (show cfg0.N = 32 from N_0)
  unfold here; omega
theorem prev_lt (t : Fin cfg0.N) : prev t.val < 32 := by
  have h := lt_of_lt_of_eq t.isLt (show cfg0.N = 32 from N_0)
  unfold prev; omega

variable (m : (ℓ : Loc nD τ sig) → Buf (Elt Ideal) ℓ) (c : Dev nD) (t : Fin cfg0.N)

theorem read0 (j : (⟨2, ![128, 512]⟩ : Shape).Idx) (i : (⟨2, ![4096, 2048]⟩ : Shape).Idx)
    (h0 : (i 0).val = 128 * here t.val + (j 0).val) (h1 : (i 1).val = 1024 + (j 1).val) :
    (iblk m c 0 t : Tile 128 512) j = (V m c main_arg0 : Tile 4096 2048) i := by
  unfold iblk
  rw [View.read_apply]
  show (V m c main_arg0 : Tile 4096 2048) _ = _
  congr 1
  funext a
  apply Fin.ext
  match a with
  | ⟨0, _⟩ => show win0_0.index t 0 * 128 + 1 * (j 0).val = (i 0).val; rw [(index0 t).1, h0]; omega
  | ⟨1, _⟩ => show win0_0.index t 1 * 512 + 1 * (j 1).val = (i 1).val; rw [(index0 t).2, h1]; omega
theorem read1 (j : (⟨2, ![128, 512]⟩ : Shape).Idx) (i : (⟨2, ![4096, 5632]⟩ : Shape).Idx)
    (h0 : (i 0).val = 128 * here t.val + (j 0).val) (h1 : (i 1).val = 512 + (j 1).val) :
    (iblk m c 1 t : Tile 128 512) j = (V m c main_arg1 : Tile 4096 5632) i := by
  unfold iblk
  rw [View.read_apply]
  show (V m c main_arg1 : Tile 4096 5632) _ = _
  congr 1
  funext a
  apply Fin.ext
  match a with
  | ⟨0, _⟩ => show win0_1.index t 0 * 128 + 1 * (j 0).val = (i 0).val; rw [(index1 t).1, h0]; omega
  | ⟨1, _⟩ => show win0_1.index t 1 * 512 + 1 * (j 1).val = (i 1).val; rw [(index1 t).2, h1]; omega
theorem read2 (j : (⟨2, ![128, 128]⟩ : Shape).Idx) (i : (⟨2, ![4096, 5632]⟩ : Shape).Idx)
    (h0 : (i 0).val = 128 * here t.val + (j 0).val) (h1 : (i 1).val = 1024 + (j 1).val) :
    (iblk m c 2 t : Tile 128 128) j = (V m c main_arg1 : Tile 4096 5632) i := by
  unfold iblk
  rw [View.read_apply]
  show (V m c main_arg1 : Tile 4096 5632) _ = _
  congr 1
  funext a
  apply Fin.ext
  match a with
  | ⟨0, _⟩ => show win0_2.index t 0 * 128 + 1 * (j 0).val = (i 0).val; rw [(index2 t).1, h0]; omega
  | ⟨1, _⟩ => show win0_2.index t 1 * 128 + 1 * (j 1).val = (i 1).val; rw [(index2 t).2, h1]; omega
theorem read3 (j : (⟨2, ![128, 128]⟩ : Shape).Idx) (i : (⟨2, ![4096, 5632]⟩ : Shape).Idx)
    (h0 : (i 0).val = 128 * prev t.val + (j 0).val) (h1 : (i 1).val = 1024 + (j 1).val) :
    (iblk m c 3 t : Tile 128 128) j = (V m c main_arg1 : Tile 4096 5632) i := by
  unfold iblk
  rw [View.read_apply]
  show (V m c main_arg1 : Tile 4096 5632) _ = _
  congr 1
  funext a
  apply Fin.ext
  match a with
  | ⟨0, _⟩ => show win0_3.index t 0 * 128 + 1 * (j 0).val = (i 0).val; rw [(index3 t).1, h0]; omega
  | ⟨1, _⟩ => show win0_3.index t 1 * 128 + 1 * (j 1).val = (i 1).val; rw [(index3 t).2, h1]; omega
theorem read4 (j : (⟨2, ![128, 128]⟩ : Shape).Idx) (i : (⟨2, ![4096, 5632]⟩ : Shape).Idx)
    (h0 : (i 0).val = 128 * here t.val + (j 0).val) (h1 : (i 1).val = 1152 + (j 1).val) :
    (iblk m c 4 t : Tile 128 128) j = (V m c main_arg1 : Tile 4096 5632) i := by
  unfold iblk
  rw [View.read_apply]
  show (V m c main_arg1 : Tile 4096 5632) _ = _
  congr 1
  funext a
  apply Fin.ext
  match a with
  | ⟨0, _⟩ => show win0_4.index t 0 * 128 + 1 * (j 0).val = (i 0).val; rw [(index4 t).1, h0]; omega
  | ⟨1, _⟩ => show win0_4.index t 1 * 128 + 1 * (j 1).val = (i 1).val; rw [(index4 t).2, h1]; omega
theorem read5 (j : (⟨2, ![128, 128]⟩ : Shape).Idx) (i : (⟨2, ![4096, 5632]⟩ : Shape).Idx)
    (h0 : (i 0).val = 128 * prev t.val + (j 0).val) (h1 : (i 1).val = 1152 + (j 1).val) :
    (iblk m c 5 t : Tile 128 128) j = (V m c main_arg1 : Tile 4096 5632) i := by
  unfold iblk
  rw [View.read_apply]
  show (V m c main_arg1 : Tile 4096 5632) _ = _
  congr 1
  funext a
  apply Fin.ext
  match a with
  | ⟨0, _⟩ => show win0_5.index t 0 * 128 + 1 * (j 0).val = (i 0).val; rw [(index5 t).1, h0]; omega
  | ⟨1, _⟩ => show win0_5.index t 1 * 128 + 1 * (j 1).val = (i 1).val; rw [(index5 t).2, h1]; omega
theorem read6 (j : (⟨2, ![128, 512]⟩ : Shape).Idx) (i : (⟨2, ![4096, 5632]⟩ : Shape).Idx)
    (h0 : (i 0).val = 128 * here t.val + (j 0).val) (h1 : (i 1).val = 0 + (j 1).val) :
    (iblk m c 6 t : Tile 128 512) j = (V m c main_arg1 : Tile 4096 5632) i := by
  unfold iblk
  rw [View.read_apply]
  show (V m c main_arg1 : Tile 4096 5632) _ = _
  congr 1
  funext a
  apply Fin.ext
  match a with
  | ⟨0, _⟩ => show win0_6.index t 0 * 128 + 1 * (j 0).val = (i 0).val; rw [(index6 t).1, h0]; omega
  | ⟨1, _⟩ => show win0_6.index t 1 * 512 + 1 * (j 1).val = (i 1).val; rw [(index6 t).2, h1]; omega
theorem read7 (j : (⟨2, ![128, 512]⟩ : Shape).Idx) (i : (⟨2, ![4096, 512]⟩ : Shape).Idx)
    (h0 : (i 0).val = 128 * here t.val + (j 0).val) (h1 : (i 1).val = 0 + (j 1).val) :
    (iblk m c 7 t : Tile 128 512) j = (V m c main_v82 : Tile 4096 512) i := by
  unfold iblk
  rw [View.read_apply]
  show (V m c main_v82 : Tile 4096 512) _ = _
  congr 1
  funext a
  apply Fin.ext
  match a with
  | ⟨0, _⟩ => show win0_7.index t 0 * 128 + 1 * (j 0).val = (i 0).val; rw [(index7 t).1, h0]; omega
  | ⟨1, _⟩ => show win0_7.index t 1 * 512 + 1 * (j 1).val = (i 1).val; rw [(index7 t).2, h1]; omega
theorem read8 (j : (⟨2, ![128, 128]⟩ : Shape).Idx) (i : (⟨2, ![4096, 128]⟩ : Shape).Idx)
    (h0 : (i 0).val = 128 * here t.val + (j 0).val) (h1 : (i 1).val = 0 + (j 1).val) :
    (iblk m c 8 t : Tile 128 128) j = (V m c main_v87 : Tile 4096 128) i := by
  unfold iblk
  rw [View.read_apply]
  show (V m c main_v87 : Tile 4096 128) _ = _
  congr 1
  funext a
  apply Fin.ext
  match a with
  | ⟨0, _⟩ => show win0_8.index t 0 * 128 + 1 * (j 0).val = (i 0).val; rw [(index8 t).1, h0]; omega
  | ⟨1, _⟩ => show win0_8.index t 1 * 128 + 1 * (j 1).val = (i 1).val; rw [(index8 t).2, h1]; omega
theorem read10 (j : (⟨2, ![128, 128]⟩ : Shape).Idx) (i : (⟨2, ![4096, 128]⟩ : Shape).Idx)
    (h0 : (i 0).val = 128 * here t.val + (j 0).val) (h1 : (i 1).val = 0 + (j 1).val) :
    (iblk m c 10 t : Tile 128 128) j = (V m c main_arg3 : Tile 4096 128) i := by
  unfold iblk
  rw [View.read_apply]
  show (V m c main_arg3 : Tile 4096 128) _ = _
  congr 1
  funext a
  apply Fin.ext
  match a with
  | ⟨0, _⟩ => show win0_10.index t 0 * 128 + 1 * (j 0).val = (i 0).val; rw [(index10 t).1, h0]; omega
  | ⟨1, _⟩ => show win0_10.index t 1 * 128 + 1 * (j 1).val = (i 1).val; rw [(index10 t).2, h1]; omega
theorem read9 (j : (⟨2, ![1, 128]⟩ : Shape).Idx) :
    (iblk m c 9 t : Tile 1 128) j = (V m c main_v90 : Tile 1 128) j := by
  unfold iblk
  rw [View.read_apply]
  show (V m c main_v90 : Tile 1 128) _ = _
  congr 1
  funext a
  apply Fin.ext
  match a with
  | ⟨0, _⟩ => show win0_9.index t 0 * 1 + 1 * (j 0).val = (j 0).val; rw [(index9 t).1]; omega
  | ⟨1, _⟩ => show win0_9.index t 1 * 128 + 1 * (j 1).val = (j 1).val; rw [(index9 t).2]; omega

end Cert.Attn
end
end
-- ==== Proof.BlkCongr.lean ====
module

public import proofs.«01_k».proof.Proof.Local

/-! # Two blocks with the same gradients

Keys and values that the mask hides do not matter, nor do lanes past the eighth head. -/

@[expose] public section
noncomputable section
namespace Cert.Attn
open Finset (range)

/-- `β` and `γ` read the same numbers wherever a query of the block can see them. -/
structure Same (β γ : Blk) : Prop where
  n : β.n = γ.n
  q : β.Q = γ.Q
  z : β.Z = γ.Z
  o : β.O = γ.O
  y : β.Y = γ.Y
  k : ∀ t c, β.n ≠ 0 ∨ 128 ≤ t → β.K t c = γ.K t c
  v : ∀ t c, β.n ≠ 0 ∨ 128 ≤ t → β.V t c = γ.V t c
  l : ∀ w h, h < 8 → β.L w h = γ.L w h
  s : ∀ h, h < 8 → β.S h = γ.S h

namespace Same
variable {β γ : Blk} (e : Same β γ)
include e

theorem go (w c : ℕ) : β.go w c = γ.go w c := by unfold Blk.go; rw [e.y, e.z]
theorem dz (w c : ℕ) : β.dz w c = γ.dz w c := by unfold Blk.dz; rw [e.y, e.z, e.o]
theorem del (h w : ℕ) : β.del h w = γ.del h w := by
  unfold Blk.del; exact Finset.sum_congr rfl fun d _ => by rw [e.go, e.o]
theorem pr (h w t : ℕ) (hh : h < 8) : β.pr h w t = γ.pr h w t := by
  unfold Blk.pr
  rw [← e.n]
  by_cases hb : Band β.n w t
  · rw [if_pos hb, if_pos hb, e.l w h hh]
    unfold Blk.sc
    rw [e.q]
    have : ∀ d, β.K t (64 * (h / 4) + d) = γ.K t (64 * (h / 4) + d) := fun d => e.k t _ hb.2.2
    simp only [this]
  · rw [if_neg hb, if_neg hb]
theorem off (h w t : ℕ) (ht : ¬(β.n ≠ 0 ∨ 128 ≤ t)) : γ.pr h w t = 0 := by
  unfold Blk.pr
  exact if_neg fun hb => ht (by rw [e.n]; exact hb.2.2)
theorem ds (h w t : ℕ) (hh : h < 8) : β.ds h w t = γ.ds h w t := by
  unfold Blk.ds
  rw [e.pr h w t hh]
  by_cases ht : β.n ≠ 0 ∨ 128 ≤ t
  · unfold Blk.dp
    rw [e.del]
    have : ∀ d, β.V t (64 * (h / 4) + d) = γ.V t (64 * (h / 4) + d) := fun d => e.v t _ ht
    simp only [this, e.go]
  · rw [e.off h w t ht, zero_mul, zero_mul]
theorem dq (h w d : ℕ) (hh : h < 8) : β.dq h w d = γ.dq h w d := by
  unfold Blk.dq
  congr 1
  refine Finset.sum_congr rfl fun t _ => ?_
  rw [e.ds h w t hh]
  by_cases ht : β.n ≠ 0 ∨ 128 ≤ t
  · rw [e.k t _ ht]
  · have : γ.ds h w t = 0 := by unfold Blk.ds; rw [e.off h w t ht, zero_mul]
    rw [this, zero_mul, zero_mul]
theorem dkk (g t d : ℕ) (hg : g < 2) : β.dkk g t d = γ.dkk g t d := by
  unfold Blk.dkk
  refine Finset.sum_congr rfl fun h hh => ?_
  have := Finset.mem_range.1 hh
  unfold Blk.dk
  rw [e.q]
  congr 1
  exact Finset.sum_congr rfl fun w _ => by rw [e.ds _ w t (by omega)]
theorem dvv (g t d : ℕ) (hg : g < 2) : β.dvv g t d = γ.dvv g t d := by
  unfold Blk.dvv
  refine Finset.sum_congr rfl fun h hh => ?_
  have := Finset.mem_range.1 hh
  unfold Blk.dv
  exact Finset.sum_congr rfl fun w _ => by rw [e.pr _ w t (by omega), e.go]
theorem dsk (h : ℕ) (hh : h < 8) : β.dsk h = γ.dsk h := by
  unfold Blk.dsk
  rw [e.s h hh]
  congr 1
  exact Finset.sum_congr rfl fun w _ => by rw [e.l w h hh, e.del]
end Same

end Cert.Attn
end
end
-- ==== Proof.Seen.lean ====
module

public import proofs.«01_k».proof.Proof.Lanes
public import proofs.«01_k».proof.Proof.Reads
public import proofs.«01_k».proof.Proof.BlkCongr

/-! # The block a grid point sees

The tiles at a point hold the numbers of the reference's block, except where no query can see: before a batch's first
block the point has that block once more, not zeros, and lanes past the eighth head hold zero. -/

@[expose] public section
noncomputable section
namespace Cert.Attn
open Idealize.ShloMosaic Cert.KernelIdeal Cert.KernelIdeal.Gen Idealize.SL.Sem
open Idealize.ShloMosaic.TcCoe
open Idealize.ShloMosaic.ValueIdx (idx2_lt0 idx2_lt1)

/-- Keys or values as a point reads them: the rows of the block before, then its own. -/
def Data.near (δ : Data) (off b n t c : ℕ) : ℝ :=
  if t < 128 then δ.P (row b (n - 1) t) (off + c) else δ.P (row b n (t - 128)) (off + c)

/-- The block as a point sees it. -/
def Data.seen (δ : Data) (x1 : Arr1) (x2 : Arr2) (b n : ℕ) : Blk where
  Q w c := δ.P (row b n w) (512 + c)
  Z w c := δ.P (row b n w) c
  O w c := outOf x1 x2 δ (row b n w) c
  Y w c := δ.D (row b n w) (1024 + c)
  K t c := δ.near 1024 b n t c
  V t c := δ.near 1152 b n t c
  L w h := if h < 8 then lseOf x1 x2 (row b n w) h else 0
  S h := if h < 8 then δ.S h else 0
  n := n

theorem seen_same (δ : Data) (x1 : Arr1) (x2 : Arr2) (b n : ℕ) : Same (δ.seen x1 x2 b n) (δ.at x1 x2 b n) where
  n := rfl
  q := rfl
  z := rfl
  o := rfl
  y := rfl
  k t c ht := by
    show δ.near 1024 b n t c = δ.kv 1024 b n t c
    have ht : n ≠ 0 ∨ 128 ≤ t := ht
    unfold Data.near Data.kv
    by_cases h : t < 128
    · rw [if_pos h, if_pos h, if_neg (by omega)]
    · rw [if_neg h, if_neg h]
  v t c ht := by
    show δ.near 1152 b n t c = δ.kv 1152 b n t c
    have ht : n ≠ 0 ∨ 128 ≤ t := ht
    unfold Data.near Data.kv
    by_cases h : t < 128
    · rw [if_pos h, if_pos h, if_neg (by omega)]
    · rw [if_neg h, if_neg h]
  l w h hh := if_pos hh
  s h hh := if_pos hh

theorem quarters_apply (x : Tile 128 512) (j : Fin 4) (y : (⟨2, ![128, 128]⟩ : Shape).Idx) (k : (⟨2, ![128, 512]⟩ : Shape).Idx)
    (h0 : (k 0).val = (y 0).val) (h1 : (k 1).val = 128 * j.val + (y 1).val) : quarters x j y = x k := by
  match j, h1 with
  | 0, h1 =>
    refine View.ld_unit_apply_of (Val := Elt Ideal) (e := .f32) x _ _ _ y k fun a => ?_
    match a with
    | ⟨0, _⟩ => show (k 0).val = 0 + (y 0).val; omega
    | ⟨1, _⟩ => show (k 1).val = 0 + (y 1).val; simp at h1; omega
  | 1, h1 =>
    refine View.ld_unit_apply_of (Val := Elt Ideal) (e := .f32) x _ _ _ y k fun a => ?_
    match a with
    | ⟨0, _⟩ => show (k 0).val = 0 + (y 0).val; omega
    | ⟨1, _⟩ => show (k 1).val = 128 + (y 1).val; simp at h1; omega
  | 2, h1 =>
    refine View.ld_unit_apply_of (Val := Elt Ideal) (e := .f32) x _ _ _ y k fun a => ?_
    match a with
    | ⟨0, _⟩ => show (k 0).val = 0 + (y 0).val; omega
    | ⟨1, _⟩ => show (k 1).val = 256 + (y 1).val; simp at h1; omega
  | 3, h1 =>
    refine View.ld_unit_apply_of (Val := Elt Ideal) (e := .f32) x _ _ _ y k fun a => ?_
    match a with
    | ⟨0, _⟩ => show (k 0).val = 0 + (y 0).val; omega
    | ⟨1, _⟩ => show (k 1).val = 384 + (y 1).val; simp at h1; omega

variable (m : (ℓ : Loc nD τ sig) → Buf (Elt Ideal) ℓ) (c : Dev nD) (t : Fin cfg0.N) {δ : Data}
  (h : Holds (m ((c : Thread nD τ).loc main_arg0)) (m ((c : Thread nD τ).loc main_arg1)) (m ((c : Thread nD τ).loc main_arg2)) δ)

theorem row_here (w : ℕ) : 128 * here t.val + w = row (t.val / 16) (15 - t.val % 16) w := by unfold here row; omega
theorem row_prev (w : ℕ) : 128 * prev t.val + w = row (t.val / 16) (15 - t.val % 16 - 1) w := by unfold prev row; omega

include h

/-- The first argument's columns from 1024. -/
theorem in0 (j : Fin 4) : Is (quarters (iblk m c 0 t) j) (fun r l => δ.D (row (t.val / 16) (15 - t.val % 16) r) (1024 + (128 * j.val + l))) := fun i => by
  have h0 := idx2_lt0 i
  have h1 := idx2_lt1 i
  have hj := j.isLt
  have hl := here_lt t
  rw [quarters_apply _ j i (ValueIdx.ix2 ⟨(i 0).val, h0⟩ ⟨128 * j.val + (i 1).val, by omega⟩) rfl rfl,
    read0 m c t _ (ValueIdx.ix2 ⟨128 * here t.val + (i 0).val, by omega⟩ ⟨1024 + (128 * j.val + (i 1).val), by omega⟩) rfl rfl,
    V_main_arg0 m c]
  refine (h.d _ (by show 1024 ≤ 1024 + (128 * j.val + (i 1).val); omega) (by show 1024 + (128 * j.val + (i 1).val) < 1536; omega)).trans (real_congr ?_)
  show δ.D (128 * here t.val + (i 0).val) (1024 + (128 * j.val + (i 1).val)) = _
  rw [row_here]
theorem in1 (j : Fin 4) : Is (quarters (iblk m c 1 t) j) (fun r l => δ.P (row (t.val / 16) (15 - t.val % 16) r) (512 + (128 * j.val + l))) := fun i => by
  have h0 := idx2_lt0 i
  have h1 := idx2_lt1 i
  have hj := j.isLt
  have hl := here_lt t
  rw [quarters_apply _ j i (ValueIdx.ix2 ⟨(i 0).val, h0⟩ ⟨128 * j.val + (i 1).val, by omega⟩) rfl rfl,
    read1 m c t _ (ValueIdx.ix2 ⟨128 * here t.val + (i 0).val, by omega⟩ ⟨512 + (128 * j.val + (i 1).val), by omega⟩) rfl rfl,
    V_main_arg1 m c]
  refine (h.p _ (by show 512 + (128 * j.val + (i 1).val) < 1280; omega)).trans (real_congr ?_)
  show δ.P (128 * here t.val + (i 0).val) (512 + (128 * j.val + (i 1).val)) = _
  rw [row_here]
theorem in6 (j : Fin 4) : Is (quarters (iblk m c 6 t) j) (fun r l => δ.P (row (t.val / 16) (15 - t.val % 16) r) (128 * j.val + l)) := fun i => by
  have h0 := idx2_lt0 i
  have h1 := idx2_lt1 i
  have hj := j.isLt
  have hl := here_lt t
  rw [quarters_apply _ j i (ValueIdx.ix2 ⟨(i 0).val, h0⟩ ⟨128 * j.val + (i 1).val, by omega⟩) rfl rfl,
    read6 m c t _ (ValueIdx.ix2 ⟨128 * here t.val + (i 0).val, by omega⟩ ⟨0 + (128 * j.val + (i 1).val), by omega⟩) rfl rfl,
    V_main_arg1 m c]
  refine (h.p _ (by show 0 + (128 * j.val + (i 1).val) < 1280; omega)).trans (real_congr ?_)
  show δ.P (128 * here t.val + (i 0).val) (0 + (128 * j.val + (i 1).val)) = _
  rw [row_here, Nat.zero_add]
theorem in7 (j : Fin 4) : Is (quarters (iblk m c 7 t) j) (fun r l => outOf (m ((c : Thread nD τ).loc main_arg1)) (m ((c : Thread nD τ).loc main_arg2)) δ (row (t.val / 16) (15 - t.val % 16) r) (128 * j.val + l)) := fun i => by
  have h0 := idx2_lt0 i
  have h1 := idx2_lt1 i
  have hj := j.isLt
  have hl := here_lt t
  rw [quarters_apply _ j i (ValueIdx.ix2 ⟨(i 0).val, h0⟩ ⟨128 * j.val + (i 1).val, by omega⟩) rfl rfl,
    read7 m c t _ (ValueIdx.ix2 ⟨128 * here t.val + (i 0).val, by omega⟩ ⟨0 + (128 * j.val + (i 1).val), by omega⟩) rfl rfl,
    host82 m c]
  refine (out_is h _).trans (real_congr ?_)
  show outOf _ _ δ (128 * here t.val + (i 0).val) (0 + (128 * j.val + (i 1).val)) = _
  rw [row_here, Nat.zero_add]
theorem in2 : Is (full (iblk m c 2 t)) (fun r l => δ.P (row (t.val / 16) (15 - t.val % 16) r) (1024 + l)) := fun i => by
  have h0 := idx2_lt0 i
  have h1 := idx2_lt1 i
  have hl := here_lt t
  rw [full_eq, read2 m c t _ (ValueIdx.ix2 ⟨128 * here t.val + (i 0).val, by omega⟩ ⟨1024 + (i 1).val, by omega⟩) rfl rfl, V_main_arg1 m c]
  refine (h.p _ (by show 1024 + (i 1).val < 1280; omega)).trans (real_congr ?_)
  show δ.P (128 * here t.val + (i 0).val) (1024 + (i 1).val) = _
  rw [row_here]
theorem in3 : Is (full (iblk m c 3 t)) (fun r l => δ.P (row (t.val / 16) (15 - t.val % 16 - 1) r) (1024 + l)) := fun i => by
  have h0 := idx2_lt0 i
  have h1 := idx2_lt1 i
  have hl := prev_lt t
  rw [full_eq, read3 m c t _ (ValueIdx.ix2 ⟨128 * prev t.val + (i 0).val, by omega⟩ ⟨1024 + (i 1).val, by omega⟩) rfl rfl, V_main_arg1 m c]
  refine (h.p _ (by show 1024 + (i 1).val < 1280; omega)).trans (real_congr ?_)
  show δ.P (128 * prev t.val + (i 0).val) (1024 + (i 1).val) = _
  rw [row_prev]
theorem in4 : Is (full (iblk m c 4 t)) (fun r l => δ.P (row (t.val / 16) (15 - t.val % 16) r) (1152 + l)) := fun i => by
  have h0 := idx2_lt0 i
  have h1 := idx2_lt1 i
  have hl := here_lt t
  rw [full_eq, read4 m c t _ (ValueIdx.ix2 ⟨128 * here t.val + (i 0).val, by omega⟩ ⟨1152 + (i 1).val, by omega⟩) rfl rfl, V_main_arg1 m c]
  refine (h.p _ (by show 1152 + (i 1).val < 1280; omega)).trans (real_congr ?_)
  show δ.P (128 * here t.val + (i 0).val) (1152 + (i 1).val) = _
  rw [row_here]
theorem in5 : Is (full (iblk m c 5 t)) (fun r l => δ.P (row (t.val / 16) (15 - t.val % 16 - 1) r) (1152 + l)) := fun i => by
  have h0 := idx2_lt0 i
  have h1 := idx2_lt1 i
  have hl := prev_lt t
  rw [full_eq, read5 m c t _ (ValueIdx.ix2 ⟨128 * prev t.val + (i 0).val, by omega⟩ ⟨1152 + (i 1).val, by omega⟩) rfl rfl, V_main_arg1 m c]
  refine (h.p _ (by show 1152 + (i 1).val < 1280; omega)).trans (real_congr ?_)
  show δ.P (128 * prev t.val + (i 0).val) (1152 + (i 1).val) = _
  rw [row_prev]
theorem in8 : Is (full (iblk m c 8 t)) (fun r l => if l < 8 then lseOf (m ((c : Thread nD τ).loc main_arg1)) (m ((c : Thread nD τ).loc main_arg2)) (row (t.val / 16) (15 - t.val % 16) r) l else 0) := fun i => by
  have h0 := idx2_lt0 i
  have h1 := idx2_lt1 i
  have hl := here_lt t
  rw [full_eq, read8 m c t _ (ValueIdx.ix2 ⟨128 * here t.val + (i 0).val, by omega⟩ ⟨0 + (i 1).val, by omega⟩) rfl rfl, host87 m c]
  refine (lanes8_is h _).trans (real_congr ?_)
  show (if 0 + (i 1).val < 8 then lseOf _ _ (128 * here t.val + (i 0).val) (0 + (i 1).val) else 0) = _
  rw [row_here, Nat.zero_add]
theorem in9 : Is (full1 (iblk m c 9 t)) (fun _ l => if l < 8 then δ.S l else 0) := fun i => by
  rw [full1_eq, read9 m c t, host90 m c]
  exact lanes1_is h i

theorem keys_is : Is (aboveT (full (iblk m c 3 t)) (full (iblk m c 2 t))) (δ.near 1024 (t.val / 16) (15 - t.val % 16)) :=
  above_is (in3 m c t h) (in2 m c t h) _
theorem values_is : Is (aboveT (full (iblk m c 5 t)) (full (iblk m c 4 t))) (δ.near 1152 (t.val / 16) (15 - t.val % 16)) :=
  above_is (in5 m c t h) (in4 m c t h) _
omit h in
theorem mask_is (i : S256x256.Idx) : k0_pay9 (k0_pay4 (grid0.coords t)) i = if Band (15 - t.val % 16) ((i 0).val % 128) (i 1).val then 1#1 else 0#1 := by
  rw [mask2_bit (grid0.coords t) i, batch t]

/-- The tiles at a point hold the block it sees. -/
theorem ops_is : OpsIs (opsAt m c t) (δ.seen (m ((c : Thread nD τ).loc main_arg1)) (m ((c : Thread nD τ).loc main_arg2)) (t.val / 16) (15 - t.val % 16)) := by
  unfold opsAt blockOps Data.seen
  refine ⟨?_, ?_, ?_, ?_, ?_, ?_, ?_, ?_, ?_⟩ <;> dsimp only
  · exact in1 m c t h
  · exact in6 m c t h
  · exact in7 m c t h
  · exact in0 m c t h
  · exact keys_is m c t h
  · exact values_is m c t h
  · exact in8 m c t h
  · exact in9 m c t h
  · exact mask_is t

end Cert.Attn
end
end
-- ==== Proof.RefWeights.lean ====
module

public import proofs.«01_k».proof.Proof.RefGate

/-! # The reference's gradient of the weights

The weights' gradients and their weighted sum over a row. -/

@[expose] public section
noncomputable section
namespace Cert.Attn
open Idealize.ShloMosaic Cert.ReferenceIdeal Cert.ReferenceIdeal.Gen Cert.ReferenceIdeal.Read Idealize.SL.Sem
open Idealize.ShloMosaic.TcCoe
open Finset (range)

theorem swap_sums (G : ℕ → ℝ) (V : ℕ → ℕ → ℝ) (p : ℕ → ℝ) :
    ∑ t ∈ range 256, (∑ d ∈ range 64, G d * V t d) * p t = ∑ d ∈ range 64, G d * ∑ t ∈ range 256, V t d * p t := by
  simp only [Finset.sum_mul, Finset.mul_sum]
  rw [Finset.sum_comm]
  exact Finset.sum_congr rfl fun d _ => Finset.sum_congr rfl fun t _ => mul_assoc _ _ _

/-- The weights' gradients, weighted, sum to the row's inner product of output and gradient. -/
theorem sum_dp_pr (δ : Data) (x1 : Arr1) (x2 : Arr2) (b n h w : ℕ) (hn : n < 16) (hh : h < 8) (hw : w < 128) :
    ∑ t ∈ range 256, (δ.at x1 x2 b n).dp h w t * (δ.at x1 x2 b n).pr h w t = (δ.at x1 x2 b n).del h w := by
  unfold Blk.dp Blk.del
  rw [swap_sums]
  refine Finset.sum_congr rfl fun d hd => ?_
  have hd' := Finset.mem_range.1 hd
  congr 1
  have e : (δ.at x1 x2 b n).O w (64 * h + d) = outOf x1 x2 δ (row b n w) (64 * h + d) := rfl
  rw [e]
  unfold outOf Data.at
  generalize lseOf x1 x2 = L
  generalize outOf x1 x2 δ = O
  unfold row
  rw [show (2048 * b + 128 * n + w) / 2048 = b by omega, show (2048 * b + 128 * n + w) / 128 % 16 = n by omega,
    show (2048 * b + 128 * n + w) % 128 = w by omega, show (64 * h + d) / 64 = h by omega, show (64 * h + d) % 64 = d by omega]
  rfl

theorem select_zero {α : Type} (a b : α) : Scalar.select 0#1 a b = b := rfl
theorem select_one {α : Type} (a b : α) : Scalar.select 1#1 a b = a := rfl

theorem not_top (x : ℝ) : Ideal.cmp .oeq (x : EReal) ⊤ = 0#1 := by
  simp [Ideal.cmp]

variable {x0 : Arr0} {x1 : Arr1} {x2 : Arr2} {δ : Data} (h : Holds x0 x1 x2 δ)
include h

/-- The weights' gradients. -/
theorem r119 (O : ℕ → ℕ → ℝ) (i : S2x16x2x4x128x256.Idx) : val_main_v119 (F := Ideal) x0 x1 i
    = (((δ.blk (lseOf x1 x2) O (i 0).val (i 1).val).dp (4 * (i 2).val + (i 3).val) (i 4).val (i 5).val : ℝ) : EReal) := by
  have h3 : (i 3).val < 4 := (i 3).isLt
  rw [val_main_v119_apply]
  refine Eq.trans (Finset.sum_congr rfl fun k _ => ?_) (sum_fin_coe (n := 64) (fun d => (δ.blk (lseOf x1 x2) O (i 0).val (i 1).val).go (i 4).val (64 * (4 * (i 2).val + (i 3).val) + d)
      * (δ.blk (lseOf x1 x2) O (i 0).val (i 1).val).V (i 5).val (64 * ((4 * (i 2).val + (i 3).val) / 4) + d)))
  rw [r118 h O, r21 h, ← EReal.coe_mul]
  generalize lseOf x1 x2 = L
  refine real_congr ?_
  rw [show (4 * (i 2).val + (i 3).val) / 4 = (i 2).val by omega]
  rfl

theorem r122 (i : S2x16x2x4x128x256.Idx) : val_main_v122 (F := Ideal) x0 x1 x2 i
    = (((δ.at x1 x2 (i 0).val (i 1).val).dp (4 * (i 2).val + (i 3).val) (i 4).val (i 5).val
      * (δ.at x1 x2 (i 0).val (i 1).val).pr (4 * (i 2).val + (i 3).val) (i 4).val (i 5).val : ℝ) : EReal) := by
  rw [val_main_v122_apply, r119 h (outOf x1 x2 δ), r108 h (outOf x1 x2 δ)]
  exact (EReal.coe_mul _ _).symm

theorem r123 (i : S2x16x2x4x128x256.Idx) : val_main_v123 (F := Ideal) x0 x1 x2 i
    = ((-((δ.at x1 x2 (i 0).val (i 1).val).dp (4 * (i 2).val + (i 3).val) (i 4).val (i 5).val
      * (δ.at x1 x2 (i 0).val (i 1).val).pr (4 * (i 2).val + (i 3).val) (i 4).val (i 5).val) : ℝ) : EReal) := by
  rw [val_main_v123_apply, r122 h]
  exact (EReal.coe_neg _).symm

theorem r124 (i : S2x16x2x4x128.Idx) : val_main_v124 (F := Ideal) x0 x1 x2 i
    = ((-(δ.at x1 x2 (i 0).val (i 1).val).del (4 * (i 2).val + (i 3).val) (i 4).val : ℝ) : EReal) := by
  have h1 : (i 1).val < 16 := (i 1).isLt
  have h2 : (i 2).val < 2 := (i 2).isLt
  have h3 : (i 3).val < 4 := (i 3).isLt
  have h4 : (i 4).val < 128 := (i 4).isLt
  rw [val_main_v124_apply]
  have e : val_main_cst_19 (F := Ideal) (Shape.Idx.first h_S_) = 0 := Ideal.ofBits_zero_f32
  rw [e, zero_add]
  refine Eq.trans (Finset.sum_congr rfl fun k _ => r123 h _) ?_
  refine (sum_fin_coe (n := 256) (fun t => -((δ.at x1 x2 (i 0).val (i 1).val).dp (4 * (i 2).val + (i 3).val) (i 4).val t
      * (δ.at x1 x2 (i 0).val (i 1).val).pr (4 * (i 2).val + (i 3).val) (i 4).val t))).trans (real_congr ?_)
  rw [Finset.sum_neg_distrib, sum_dp_pr _ _ _ _ _ _ _ h1 (by omega) h4]

end Cert.Attn
end
end
-- ==== Proof.RefSink.lean ====
module

public import proofs.«01_k».proof.Proof.RefWeights

/-! # The reference's sink

The row's inner product with the softmax's weights, and the sink's gradient row by row. -/

@[expose] public section
noncomputable section
namespace Cert.Attn
open Idealize.ShloMosaic Cert.ReferenceIdeal Cert.ReferenceIdeal.Gen Cert.ReferenceIdeal.Read Idealize.SL.Sem
open Idealize.ShloMosaic.TcCoe
open Finset (range)

variable {x0 : Arr0} {x1 : Arr1} {x2 : Arr2} {δ : Data} (h : Holds x0 x1 x2 δ)
include h

theorem r125 (i : S2x16x2x4x128x1.Idx) : val_main_v125 (F := Ideal) x0 x1 x2 i
    = ((-(δ.at x1 x2 (i 0).val (i 1).val).del (4 * (i 2).val + (i 3).val) (i 4).val : ℝ) : EReal) := by
  unfold val_main_v125
  refine (shapeCast_apply _ _ i ((fun a => match a with | ⟨0, _⟩ => ⟨(i 0).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; have h5 : (i 5).val < 1 := (i 5).isLt; show (i 0).val < 2; omega⟩ | ⟨1, _⟩ => ⟨(i 1).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; have h5 : (i 5).val < 1 := (i 5).isLt; show (i 1).val < 16; omega⟩ | ⟨2, _⟩ => ⟨(i 2).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; have h5 : (i 5).val < 1 := (i 5).isLt; show (i 2).val < 2; omega⟩ | ⟨3, _⟩ => ⟨(i 3).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; have h5 : (i 5).val < 1 := (i 5).isLt; show (i 3).val < 4; omega⟩ | ⟨4, _⟩ => ⟨(i 4).val, by have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; have h5 : (i 5).val < 1 := (i 5).isLt; show (i 4).val < 128; omega⟩) : S2x16x2x4x128.Idx)
    (by rw [Shape.rowMajor_val_five, rowMajor_val6 _ 16384 1024 512 128 1 rfl rfl rfl rfl rfl]; have h0 : (i 0).val < 2 := (i 0).isLt; have h1 : (i 1).val < 16 := (i 1).isLt; have h2 : (i 2).val < 2 := (i 2).isLt; have h3 : (i 3).val < 4 := (i 3).isLt; have h4 : (i 4).val < 128 := (i 4).isLt; have h5 : (i 5).val < 1 := (i 5).isLt; show (((((i 0).val) * 16 + ((i 1).val)) * 2 + ((i 2).val)) * 4 + ((i 3).val)) * 128 + ((i 4).val) = ((i 0).val) * 16384 + ((i 1).val) * 1024 + ((i 2).val) * 512 + ((i 3).val) * 128 + ((i 4).val) * 1 + ((i 5).val); omega)).trans ?_
  exact r124 h _

/-- The weight of the keys in the sum with the sink, given the row's maximum and sum. -/
theorem r94 (i : S2x16x2x4x128x1.Idx) (M S : ℝ) (e : val_main_v71 (F := Ideal) x1 i = ((M + Real.log S : ℝ) : EReal)) :
    val_main_v94 (F := Ideal) x1 x2 i = ((Real.exp (M + Real.log S - lseOf x1 x2 (row (i 0).val (i 1).val (i 4).val) (4 * (i 2).val + (i 3).val)) : ℝ) : EReal) := by
  have e1 : val_main_v88 (F := Ideal) x1 i = ((M + Real.log S : ℝ) : EReal) := by
    rw [val_main_v88_apply, val_main_v86_apply, val_main_v85_apply, val_main_cst_11_apply, e]
    generalize M + Real.log S = u
    have k : FloatOps.cmpf (F := Ideal) .oeq ((u : ℝ) : EReal) (FloatOps.ofBits (F := Ideal) .f32 0x7F800000#32) = 0#1 := by
      show Ideal.cmp .oeq (u : EReal) (Ideal.ofBits .f32 0x7F800000#32) = _
      rw [ofBits_top, not_top]
    rw [k]
    exact select_zero _ _
  have e2 : val_main_v92 (F := Ideal) x1 x2 i = ((lseOf x1 x2 (row (i 0).val (i 1).val (i 4).val) (4 * (i 2).val + (i 3).val) : ℝ) : EReal) := by
    rw [val_main_v92_apply, val_main_v90_apply, val_main_v89_apply, val_main_cst_13_apply, r84 h]
    generalize lseOf x1 x2 (row (i 0).val (i 1).val (i 4).val) (4 * (i 2).val + (i 3).val) = u
    have k : FloatOps.cmpf (F := Ideal) .oeq ((u : ℝ) : EReal) (FloatOps.ofBits (F := Ideal) .f32 0x7F800000#32) = 0#1 := by
      show Ideal.cmp .oeq (u : EReal) (Ideal.ofBits .f32 0x7F800000#32) = _
      rw [ofBits_top, not_top]
    rw [k]
    exact select_zero _ _
  rw [val_main_v94_apply, val_main_v93_apply, e1, e2]
  generalize lseOf x1 x2 (row (i 0).val (i 1).val (i 4).val) (4 * (i 2).val + (i 3).val) = u
  generalize M + Real.log S = v
  show Ideal.exp ((v : EReal) - (u : EReal)) = _
  rw [← EReal.coe_sub]
  rfl

/-- The sink's weight. -/
theorem r105 (i : S2x16x2x4x128x1.Idx) : val_main_v105 (F := Ideal) x1 x2 i
    = ((Real.exp (δ.S (4 * (i 2).val + (i 3).val) - lseOf x1 x2 (row (i 0).val (i 1).val (i 4).val) (4 * (i 2).val + (i 3).val)) : ℝ) : EReal) := by
  have e1 : val_main_v103 (F := Ideal) x2 i = ((δ.S (4 * (i 2).val + (i 3).val) : ℝ) : EReal) := by
    rw [val_main_v103_apply, val_main_v98_apply, val_main_v96_apply, val_main_v95_apply, val_main_cst_15_apply, r57 h]
    have w : ((idx_main_v103 i) 2).val = (i 2).val := rfl
    have w' : ((idx_main_v103 i) 3).val = (i 3).val := rfl
    rw [w, w']
    generalize δ.S (4 * (i 2).val + (i 3).val) = u
    have k : FloatOps.cmpf (F := Ideal) .oeq ((u : ℝ) : EReal) (FloatOps.ofBits (F := Ideal) .f32 0x7F800000#32) = 0#1 := by
      show Ideal.cmp .oeq (u : EReal) (Ideal.ofBits .f32 0x7F800000#32) = _
      rw [ofBits_top, not_top]
    rw [k]
    exact select_zero _ _
  have e2 : val_main_v102 (F := Ideal) x1 x2 i = ((lseOf x1 x2 (row (i 0).val (i 1).val (i 4).val) (4 * (i 2).val + (i 3).val) : ℝ) : EReal) := by
    rw [val_main_v102_apply, val_main_v100_apply, val_main_v99_apply, val_main_cst_17_apply, r84 h]
    generalize lseOf x1 x2 (row (i 0).val (i 1).val (i 4).val) (4 * (i 2).val + (i 3).val) = u
    have k : FloatOps.cmpf (F := Ideal) .oeq ((u : ℝ) : EReal) (FloatOps.ofBits (F := Ideal) .f32 0x7F800000#32) = 0#1 := by
      show Ideal.cmp .oeq (u : EReal) (Ideal.ofBits .f32 0x7F800000#32) = _
      rw [ofBits_top, not_top]
    rw [k]
    exact select_zero _ _
  rw [val_main_v105_apply, val_main_v104_apply, e1, e2]
  generalize lseOf x1 x2 (row (i 0).val (i 1).val (i 4).val) (4 * (i 2).val + (i 3).val) = u
  generalize δ.S (4 * (i 2).val + (i 3).val) = v
  show Ideal.exp ((v : EReal) - (u : EReal)) = _
  rw [← EReal.coe_sub]
  rfl

/-- The sink's gradient, row by row. -/
theorem r126 (i : S2x16x2x4x128x1.Idx) : val_main_v126 (F := Ideal) x0 x1 x2 i
    = ((-(Real.exp (δ.S (4 * (i 2).val + (i 3).val) - lseOf x1 x2 (row (i 0).val (i 1).val (i 4).val) (4 * (i 2).val + (i 3).val))
      * (δ.at x1 x2 (i 0).val (i 1).val).del (4 * (i 2).val + (i 3).val) (i 4).val) : ℝ) : EReal) := by
  rw [val_main_v126_apply, r125 h, r105 h]
  refine (EReal.coe_mul _ _).symm.trans (real_congr ?_)
  ring

end Cert.Attn
end
end
-- ==== Proof.RefScore.lean ====
module

public import proofs.«01_k».proof.Proof.RefSink

/-! # The reference's gradient of the scores

Behind the weights, the softmax's own gradient and the sink's share of it. -/

@[expose] public section
noncomputable section
namespace Cert.Attn
open Idealize.ShloMosaic Cert.ReferenceIdeal Cert.ReferenceIdeal.Gen Cert.ReferenceIdeal.Read Idealize.SL.Sem
open Idealize.ShloMosaic.TcCoe
open Finset (range)

variable {x0 : Arr0} {x1 : Arr1} {x2 : Arr2} {δ : Data} (h : Holds x0 x1 x2 δ)
include h

omit h in
/-- The weights do not depend on the output. -/
theorem pr_of (δ : Data) (L O : ℕ → ℕ → ℝ) (b n h w t : ℕ) : (δ.blk L O b n).pr h w t
    = if Band n w t then Real.exp ((δ.blk (fun _ _ => 0) (fun _ _ => 0) b n).sc h w t - L (row b n w) h) else 0 := rfl

omit h in
/-- The maximum and the sum cancel. -/
theorem exp_cancel (M S l s : ℝ) (hS : 0 < S) : Real.exp (M + Real.log S - l) / S * Real.exp (s - M) = Real.exp (s - l) := by
  have e : Real.exp (M + Real.log S - l) = Real.exp (M - l) * S := by
    rw [show M + Real.log S - l = (M - l) + Real.log S by ring, Real.exp_add, Real.exp_log hS]
  rw [e, mul_div_assoc, div_self hS.ne', mul_one, ← Real.exp_add]
  congr 1
  ring

theorem r130 (i : S2x16x2x4x128x1.Idx) (M S : ℝ) (hS : 0 < S) (hM : val_main_v58 (F := Ideal) x1 (idx_main_v64 i) = (M : EReal))
    (hS' : val_main_v68 (F := Ideal) x1 (idx_main_v69 i) = (S : EReal)) : val_main_v130 (F := Ideal) x0 x1 x2 i
    = ((-(δ.at x1 x2 (i 0).val (i 1).val).del (4 * (i 2).val + (i 3).val) (i 4).val
      * Real.exp (M + Real.log S - lseOf x1 x2 (row (i 0).val (i 1).val (i 4).val) (4 * (i 2).val + (i 3).val)) / S : ℝ) : EReal) := by
  rw [val_main_v130_apply, val_main_v129_apply, val_main_v69_apply, hS', r125 h, r94 h i M S (r71 h i M S hS hM hS')]
  generalize (δ.at x1 x2 (i 0).val (i 1).val).del (4 * (i 2).val + (i 3).val) (i 4).val = a
  generalize Real.exp (M + Real.log S - lseOf x1 x2 (row (i 0).val (i 1).val (i 4).val) (4 * (i 2).val + (i 3).val)) = b
  show Ideal.div (((-a : ℝ) : EReal) * (b : EReal)) (S : EReal) = _
  rw [← EReal.coe_mul, div_real _ _ hS.ne']

/-- The softmax's own gradient. -/
theorem r133 (i : S2x16x2x4x128x256.Idx) : val_main_v133 (F := Ideal) x0 x1 x2 i
    = ((-(δ.at x1 x2 (i 0).val (i 1).val).del (4 * (i 2).val + (i 3).val) (i 4).val
      * (δ.at x1 x2 (i 0).val (i 1).val).pr (4 * (i 2).val + (i 3).val) (i 4).val (i 5).val : ℝ) : EReal) := by
  obtain ⟨M, hM⟩ := max58 h (idx_main_v132 i)
  obtain ⟨S, hS, hS'⟩ := sum68 h _ M hM
  have q1 : idx_main_v64 (idx_main_v65 i) = idx_main_v132 i := by
    refine funext fun a => Fin.ext ?_
    match a with
    | ⟨0, _⟩ => rfl
    | ⟨1, _⟩ => rfl
    | ⟨2, _⟩ => rfl
    | ⟨3, _⟩ => rfl
    | ⟨4, _⟩ => rfl
  have q2 : ∀ k : Fin 1, idx_main_v64 (idx_main_v131 (idx_main_v132 i) k) = idx_main_v132 i := by
    refine fun k => funext fun a => Fin.ext ?_
    match a with
    | ⟨0, _⟩ => rfl
    | ⟨1, _⟩ => rfl
    | ⟨2, _⟩ => rfl
    | ⟨3, _⟩ => rfl
    | ⟨4, _⟩ => rfl
  have q3 : ∀ k : Fin 1, idx_main_v69 (idx_main_v131 (idx_main_v132 i) k) = idx_main_v132 i := by
    refine fun k => funext fun a => Fin.ext ?_
    match a with
    | ⟨0, _⟩ => rfl
    | ⟨1, _⟩ => rfl
    | ⟨2, _⟩ => rfl
    | ⟨3, _⟩ => rfl
    | ⟨4, _⟩ => rfl
  have e1 : val_main_v132 (F := Ideal) x0 x1 x2 i = ((-(δ.at x1 x2 (i 0).val (i 1).val).del (4 * (i 2).val + (i 3).val) (i 4).val
      * Real.exp (M + Real.log S - lseOf x1 x2 (row (i 0).val (i 1).val (i 4).val) (4 * (i 2).val + (i 3).val)) / S : ℝ) : EReal) := by
    rw [val_main_v132_apply, val_main_v131_apply]
    have e : val_main_cst_21 (F := Ideal) (Shape.Idx.first h_S_) = 0 := Ideal.ofBits_zero_f32
    rw [e, zero_add, Fin.sum_univ_one, r130 h _ M S hS (by rw [q2]; exact hM) (by rw [q3]; exact hS')]
  rw [val_main_v133_apply, e1, r67 h i M (by rw [q1]; exact hM)]
  refine (EReal.coe_mul _ _).symm.trans (real_congr ?_)
  unfold Data.at
  generalize outOf x1 x2 δ = O
  generalize lseOf x1 x2 = L
  generalize (δ.blk L O (i 0).val (i 1).val).del (4 * (i 2).val + (i 3).val) (i 4).val = a
  unfold expAt
  rw [pr_of]
  generalize (δ.blk (fun _ _ => 0) (fun _ _ => 0) (i 0).val (i 1).val).sc (4 * (i 2).val + (i 3).val) (i 4).val (i 5).val = s
  generalize L (row (i 0).val (i 1).val (i 4).val) (4 * (i 2).val + (i 3).val) = l
  split_ifs
  · rw [mul_div_assoc, mul_assoc, exp_cancel _ _ _ _ hS]
  · rw [mul_zero, mul_zero]

/-- The gradient of the scores. -/
theorem r137 (i : S2x16x2x4x128x256.Idx) : val_main_v137 (F := Ideal) x0 x1 x2 i
    = (((δ.at x1 x2 (i 0).val (i 1).val).ds (4 * (i 2).val + (i 3).val) (i 4).val (i 5).val : ℝ) : EReal) := by
  have e : val_main_v134 (F := Ideal) x0 x1 x2 i
      = (((δ.at x1 x2 (i 0).val (i 1).val).ds (4 * (i 2).val + (i 3).val) (i 4).val (i 5).val : ℝ) : EReal) := by
    rw [val_main_v134_apply, r122 h, r133 h]
    refine (EReal.coe_add _ _).symm.trans (real_congr ?_)
    unfold Blk.ds
    ring
  have z : val_main_call3_v0 (F := Ideal) i = ((0 : ℝ) : EReal) := (val_main_call3_v0_apply _).trans zeroW
  rw [val_main_v137_apply, r55_1, e, z]
  have k : (δ.at x1 x2 (i 0).val (i 1).val).ds (4 * (i 2).val + (i 3).val) (i 4).val (i 5).val
      = if Band (i 1).val (i 4).val (i 5).val then (δ.at x1 x2 (i 0).val (i 1).val).ds (4 * (i 2).val + (i 3).val) (i 4).val (i 5).val else 0 := by
    split_ifs with hB
    · rfl
    · unfold Blk.ds Blk.pr
      rw [if_neg (show ¬Band (δ.at x1 x2 (i 0).val (i 1).val).n (i 4).val (i 5).val from hB), zero_mul]
  generalize (δ.at x1 x2 (i 0).val (i 1).val).ds (4 * (i 2).val + (i 3).val) (i 4).val (i 5).val = a at k ⊢
  by_cases hB : Band (i 1).val (i 4).val (i 5).val
  · rw [if_pos hB]; exact select_one _ _
  · rw [if_neg hB] at k ⊢
    rw [k]; exact select_zero _ _

theorem r139 (i : S2x16x2x4x128x256.Idx) : val_main_v139 (F := Ideal) x0 x1 x2 i
    = (((δ.at x1 x2 (i 0).val (i 1).val).ds (4 * (i 2).val + (i 3).val) (i 4).val (i 5).val * (1 / 8) : ℝ) : EReal) := by
  have c : val_main_v138 (F := Ideal) i = (((1 : ℝ) / 8 : ℝ) : EReal) := (val_main_v138_apply _).trans ofBits_eighth
  rw [val_main_v139_apply, r137 h, c]
  exact (EReal.coe_mul _ _).symm

end Cert.Attn
end
end
-- ==== Proof.RefDots.lean ====
module

public import proofs.«01_k».proof.Proof.Gen.ReferenceIdeal.Read
public import proofs.«01_k».proof.Proof.Finite
public import Idealize.ShloMosaic.Lib.TwoAxisContraction
public import Idealize.ShloMosaic.Lib.IdealHost

/-! # Sums over several axes

The reference's two products that sum over a query and a head, and its two sums over everything but the head, as sums over
one coordinate at a time. -/

@[expose] public section
noncomputable section
namespace Cert.Attn
open Idealize.ShloMosaic Cert.ReferenceIdeal Cert.ReferenceIdeal.Gen Cert.ReferenceIdeal.Read Idealize.SL.Sem
open Idealize.ShloMosaic.TcCoe
open Idealize.ShloMosaic.ValueIdx (contrEquiv2 contrEquiv2_symm_val0 contrEquiv2_symm_val1 sum_contr2)

abbrev lidx120 (i : S2x16x2x64x256.Idx) (a : Fin 4) (b : Fin 128) : S2x16x2x64x4x128.Idx := fun k => match k with
  | ⟨0, _⟩ => i 0 | ⟨1, _⟩ => i 1 | ⟨2, _⟩ => i 2 | ⟨3, _⟩ => i 3 | ⟨4, _⟩ => a | ⟨5, _⟩ => b
abbrev ridx120 (i : S2x16x2x64x256.Idx) (a : Fin 4) (b : Fin 128) : S2x16x2x4x128x256.Idx := fun k => match k with
  | ⟨0, _⟩ => i 0 | ⟨1, _⟩ => i 1 | ⟨2, _⟩ => i 2 | ⟨3, _⟩ => a | ⟨4, _⟩ => b | ⟨5, _⟩ => i 4

theorem v120_apply (x0 : (⟨S4096x2048, .f32⟩ : BufTy).Contents (Elt Ideal)) (x1 : (⟨S4096x5632, .f32⟩ : BufTy).Contents (Elt Ideal)) (x2 : (⟨S8, .f32⟩ : BufTy).Contents (Elt Ideal)) (i : S2x16x2x64x256.Idx) :
    val_main_v120 (F := Ideal) x0 x1 x2 i
      = ∑ a : Fin 4, ∑ b : Fin 128, val_main_v118 (F := Ideal) x0 x1 (lidx120 i a b) * val_main_v108 (F := Ideal) x1 x2 (ridx120 i a b) := by
  unfold val_main_v120
  generalize val_main_v118 (F := Ideal) x0 x1 = u
  generalize val_main_v108 (F := Ideal) x1 x2 = v
  simp only [Host.dotGeneral]
  rw [Ideal.dotGeneral_apply, sum_contr2 _ 4 128 rfl rfl rfl]
  refine Finset.sum_congr rfl fun a _ => Finset.sum_congr rfl fun b _ => ?_
  have h0 := contrEquiv2_symm_val0 dot_S2x16x2x64x4x128_S2x16x2x4x128x256_S2x16x2x64x256_45_34_3_5_012_012 4 128 rfl rfl rfl (a, b)
  have h1 := contrEquiv2_symm_val1 dot_S2x16x2x64x4x128_S2x16x2x4x128x256_S2x16x2x64x256_45_34_3_5_012_012 4 128 rfl rfl rfl (a, b)
  congr 1
  · refine congrArg u (funext fun k => Fin.ext ?_)
    match k with
    | ⟨0, _⟩ => rfl
    | ⟨1, _⟩ => rfl
    | ⟨2, _⟩ => rfl
    | ⟨3, _⟩ => rfl
    | ⟨4, _⟩ => exact h0
    | ⟨5, _⟩ => exact h1
  · refine congrArg v (funext fun k => Fin.ext ?_)
    match k with
    | ⟨0, _⟩ => rfl
    | ⟨1, _⟩ => rfl
    | ⟨2, _⟩ => rfl
    | ⟨3, _⟩ => exact h0
    | ⟨4, _⟩ => exact h1
    | ⟨5, _⟩ => rfl

abbrev lidx143 (i : S2x16x2x256x64.Idx) (a : Fin 128) (b : Fin 4) : S2x16x2x256x128x4.Idx := fun k => match k with
  | ⟨0, _⟩ => i 0 | ⟨1, _⟩ => i 1 | ⟨2, _⟩ => i 2 | ⟨3, _⟩ => i 3 | ⟨4, _⟩ => a | ⟨5, _⟩ => b
abbrev ridx143 (i : S2x16x2x256x64.Idx) (a : Fin 128) (b : Fin 4) : S2x16x128x2x4x64.Idx := fun k => match k with
  | ⟨0, _⟩ => i 0 | ⟨1, _⟩ => i 1 | ⟨2, _⟩ => a | ⟨3, _⟩ => i 2 | ⟨4, _⟩ => b | ⟨5, _⟩ => i 4

theorem v143_apply (x0 : (⟨S4096x2048, .f32⟩ : BufTy).Contents (Elt Ideal)) (x1 : (⟨S4096x5632, .f32⟩ : BufTy).Contents (Elt Ideal)) (x2 : (⟨S8, .f32⟩ : BufTy).Contents (Elt Ideal)) (i : S2x16x2x256x64.Idx) :
    val_main_v143 (F := Ideal) x0 x1 x2 i
      = ∑ a : Fin 128, ∑ b : Fin 4, val_main_v140 (F := Ideal) x0 x1 x2 (lidx143 i a b) * val_main_v10 (F := Ideal) x1 (ridx143 i a b) := by
  unfold val_main_v143
  generalize val_main_v140 (F := Ideal) x0 x1 x2 = u
  generalize val_main_v10 (F := Ideal) x1 = v
  simp only [Host.dotGeneral]
  rw [Ideal.dotGeneral_apply, sum_contr2 _ 128 4 rfl rfl rfl]
  refine Finset.sum_congr rfl fun a _ => Finset.sum_congr rfl fun b _ => ?_
  have h0 := contrEquiv2_symm_val0 dot_S2x16x2x256x128x4_S2x16x128x2x4x64_S2x16x2x256x64_45_24_3_5_012_013 128 4 rfl rfl rfl (a, b)
  have h1 := contrEquiv2_symm_val1 dot_S2x16x2x256x128x4_S2x16x128x2x4x64_S2x16x2x256x64_45_24_3_5_012_013 128 4 rfl rfl rfl (a, b)
  congr 1
  · refine congrArg u (funext fun k => Fin.ext ?_)
    match k with
    | ⟨0, _⟩ => rfl
    | ⟨1, _⟩ => rfl
    | ⟨2, _⟩ => rfl
    | ⟨3, _⟩ => rfl
    | ⟨4, _⟩ => exact h0
    | ⟨5, _⟩ => exact h1
  · refine congrArg v (funext fun k => Fin.ext ?_)
    match k with
    | ⟨0, _⟩ => rfl
    | ⟨1, _⟩ => rfl
    | ⟨2, _⟩ => exact h0
    | ⟨3, _⟩ => rfl
    | ⟨4, _⟩ => exact h1
    | ⟨5, _⟩ => rfl

abbrev idx127 (j : S2x4x1.Idx) (b : Fin 2) (n : Fin 16) (w : Fin 128) : S2x16x2x4x128x1.Idx := fun k => match k with
  | ⟨0, _⟩ => b | ⟨1, _⟩ => n | ⟨2, _⟩ => j 0 | ⟨3, _⟩ => j 1 | ⟨4, _⟩ => w | ⟨5, _⟩ => j 2

theorem v127_apply (x0 : (⟨S4096x2048, .f32⟩ : BufTy).Contents (Elt Ideal)) (x1 : (⟨S4096x5632, .f32⟩ : BufTy).Contents (Elt Ideal)) (x2 : (⟨S8, .f32⟩ : BufTy).Contents (Elt Ideal)) (j : S2x4x1.Idx) :
    val_main_v127 (F := Ideal) x0 x1 x2 j
      = ∑ b : Fin 2, ∑ n : Fin 16, ∑ w : Fin 128, val_main_v126 (F := Ideal) x0 x1 x2 (idx127 j b n w) := by
  unfold val_main_v127
  generalize val_main_v126 (F := Ideal) x0 x1 x2 = u
  rw [ValueIdx.hostReduceAdd_apply]
  have e : val_main_cst_20 (F := Ideal) (Shape.Idx.first h_S_) = 0 := Ideal.ofBits_zero_f32
  rw [e]
  unfold Ideal.hostReduceAdd
  rw [zero_add, ← Fintype.sum_prod_type', ← Fintype.sum_prod_type']
  refine Finset.sum_bij' (fun i _ => (((i 0 : Fin 2), (i 1 : Fin 16)), (i 4 : Fin 128))) (fun p _ => idx127 j p.1.1 p.1.2 p.2)
    (fun _ _ => Finset.mem_univ _) (fun p _ => ?_) (fun i hi => ?_) (fun p _ => rfl) (fun i hi => ?_)
  · refine Finset.mem_filter.2 ⟨Finset.mem_univ _, funext fun k => Fin.ext ?_⟩
    match k with
    | ⟨0, _⟩ => rfl
    | ⟨1, _⟩ => rfl
    | ⟨2, _⟩ => rfl
  · have hi := (Finset.mem_filter.1 hi).2
    subst hi
    refine funext fun k => Fin.ext ?_
    match k with
    | ⟨0, _⟩ => rfl
    | ⟨1, _⟩ => rfl
    | ⟨2, _⟩ => rfl
    | ⟨3, _⟩ => rfl
    | ⟨4, _⟩ => rfl
    | ⟨5, _⟩ => rfl
  · have hi := (Finset.mem_filter.1 hi).2
    subst hi
    refine congrArg u (funext fun k => Fin.ext ?_)
    match k with
    | ⟨0, _⟩ => rfl
    | ⟨1, _⟩ => rfl
    | ⟨2, _⟩ => rfl
    | ⟨3, _⟩ => rfl
    | ⟨4, _⟩ => rfl
    | ⟨5, _⟩ => rfl

abbrev idx135 (j : S2x4.Idx) : S1x1x2x4x1x1.Idx := fun k => match k with
  | ⟨0, _⟩ => ⟨0, Nat.one_pos⟩ | ⟨1, _⟩ => ⟨0, Nat.one_pos⟩ | ⟨2, _⟩ => j 0 | ⟨3, _⟩ => j 1 | ⟨4, _⟩ => ⟨0, Nat.one_pos⟩ | ⟨5, _⟩ => ⟨0, Nat.one_pos⟩

theorem fibre135 (j : S2x4.Idx) :
    Finset.univ.filter (fun i => reducesTo_S1x1x2x4x1x1_S2x4_d0_1_4_5.drop i = j) = {idx135 j} := by
  refine Finset.ext fun i => Iff.trans Finset.mem_filter (Iff.trans ?_ Finset.mem_singleton.symm)
  refine ⟨fun hi => ?_, fun hi => ⟨Finset.mem_univ _, ?_⟩⟩
  · have hi := hi.2
    refine funext fun k => Fin.ext ?_
    have a2 : (i 2).val = (j 0).val := congrArg (fun y : S2x4.Idx => (y 0).val) hi
    have a3 : (i 3).val = (j 1).val := congrArg (fun y : S2x4.Idx => (y 1).val) hi
    match k with
    | ⟨0, _⟩ => have h : (i 0).val < 1 := (i 0).isLt; show (i 0).val = 0; omega
    | ⟨1, _⟩ => have h : (i 1).val < 1 := (i 1).isLt; show (i 1).val = 0; omega
    | ⟨2, _⟩ => exact a2
    | ⟨3, _⟩ => exact a3
    | ⟨4, _⟩ => have h : (i 4).val < 1 := (i 4).isLt; show (i 4).val = 0; omega
    | ⟨5, _⟩ => have h : (i 5).val < 1 := (i 5).isLt; show (i 5).val = 0; omega
  · rw [hi]
    refine funext fun k => Fin.ext ?_
    match k with
    | ⟨0, _⟩ => rfl
    | ⟨1, _⟩ => rfl

theorem v135_apply (x0 : (⟨S4096x2048, .f32⟩ : BufTy).Contents (Elt Ideal)) (x1 : (⟨S4096x5632, .f32⟩ : BufTy).Contents (Elt Ideal)) (x2 : (⟨S8, .f32⟩ : BufTy).Contents (Elt Ideal)) (j : S2x4.Idx) :
    val_main_v135 (F := Ideal) x0 x1 x2 j = val_main_v128 (F := Ideal) x0 x1 x2 (idx135 j) := by
  unfold val_main_v135
  generalize val_main_v128 (F := Ideal) x0 x1 x2 = u
  rw [ValueIdx.hostReduceAdd_apply]
  have e : val_main_cst_22 (F := Ideal) (Shape.Idx.first h_S_) = 0 := Ideal.ofBits_zero_f32
  rw [e]
  unfold Ideal.hostReduceAdd
  rw [zero_add, fibre135, Finset.sum_singleton]

end Cert.Attn
end
end
-- ==== Proof.RefGrad.lean ====
module

public import proofs.«01_k».proof.Proof.RefScore
public import proofs.«01_k».proof.Proof.RefDots

/-! # The reference's gradients of queries, keys and values -/

@[expose] public section
noncomputable section
namespace Cert.Attn
open Idealize.ShloMosaic Cert.ReferenceIdeal Cert.ReferenceIdeal.Gen Cert.ReferenceIdeal.Read Idealize.SL.Sem
open Idealize.ShloMosaic.TcCoe
open Finset (range)

variable {x0 : Arr0} {x1 : Arr1} {x2 : Arr2} {δ : Data} (h : Holds x0 x1 x2 δ)
include h

theorem r140 (i : S2x16x2x256x128x4.Idx) : val_main_v140 (F := Ideal) x0 x1 x2 i
    = (((δ.at x1 x2 (i 0).val (i 1).val).ds (4 * (i 2).val + (i 5).val) (i 4).val (i 3).val * (1 / 8) : ℝ) : EReal) := by
  rw [val_main_v140_apply, r139 h]

/-- The gradient of the queries. -/
theorem r141 (i : S2x16x2x128x4x64.Idx) : val_main_v141 (F := Ideal) x0 x1 x2 i
    = (((δ.at x1 x2 (i 0).val (i 1).val).dq (4 * (i 2).val + (i 4).val) (i 3).val (i 5).val : ℝ) : EReal) := by
  have h4 : (i 4).val < 4 := (i 4).isLt
  rw [val_main_v141_apply]
  refine (Finset.sum_congr rfl fun k _ => ?_).trans ((sum_fin_coe (n := 256) (fun t => (δ.at x1 x2 (i 0).val (i 1).val).ds (4 * (i 2).val + (i 4).val) (i 3).val t * (1 / 8)
      * δ.kv 1024 (i 0).val (i 1).val t (64 * (i 2).val + (i 5).val))).trans (real_congr ?_))
  · rw [r140 h, r17 h, ← EReal.coe_mul]
  · unfold Blk.dq
    rw [Finset.sum_mul, show (4 * (i 2).val + (i 4).val) / 4 = (i 2).val by omega]
    exact Finset.sum_congr rfl fun t _ => mul_right_comm _ _ _

theorem r142 (i : S2x16x128x2x4x64.Idx) : val_main_v142 (F := Ideal) x0 x1 x2 i
    = (((δ.at x1 x2 (i 0).val (i 1).val).dq (4 * (i 3).val + (i 4).val) (i 2).val (i 5).val : ℝ) : EReal) := by
  rw [val_main_v142_apply, r141 h]

/-- The gradient of the keys a block reads. -/
theorem r143 (i : S2x16x2x256x64.Idx) : val_main_v143 (F := Ideal) x0 x1 x2 i
    = (((δ.at x1 x2 (i 0).val (i 1).val).dkk (i 2).val (i 3).val (i 4).val : ℝ) : EReal) := by
  rw [v143_apply]
  have e : ∀ a : Fin 128, ∀ b : Fin 4, val_main_v140 (F := Ideal) x0 x1 x2 (lidx143 i a b) * val_main_v10 (F := Ideal) x1 (ridx143 i a b)
      = (((δ.at x1 x2 (i 0).val (i 1).val).ds (4 * (i 2).val + b.val) a.val (i 3).val * (1 / 8)
        * δ.P (row (i 0).val (i 1).val a.val) (512 + (64 * (4 * (i 2).val + b.val) + (i 4).val)) : ℝ) : EReal) := by
    intro a b
    rw [r140 h, r10 h, ← EReal.coe_mul]
  refine (Finset.sum_congr rfl fun a _ => (Finset.sum_congr rfl fun b _ => e a b).trans (sum_fin_coe (n := 4) (fun b => (δ.at x1 x2 (i 0).val (i 1).val).ds (4 * (i 2).val + b) a.val (i 3).val * (1 / 8)
        * δ.P (row (i 0).val (i 1).val a.val) (512 + (64 * (4 * (i 2).val + b) + (i 4).val))))).trans
    ((sum_fin_coe (n := 128) (fun a => ∑ b ∈ range 4, (δ.at x1 x2 (i 0).val (i 1).val).ds (4 * (i 2).val + b) a (i 3).val * (1 / 8)
        * δ.P (row (i 0).val (i 1).val a) (512 + (64 * (4 * (i 2).val + b) + (i 4).val)))).trans (real_congr ?_))
  unfold Blk.dkk Blk.dk
  rw [Finset.sum_comm]
  refine Finset.sum_congr rfl fun b _ => ?_
  rw [Finset.sum_mul]
  exact Finset.sum_congr rfl fun t _ => mul_right_comm _ _ _

theorem r144 (i : S2x16x256x2x64.Idx) : val_main_v144 (F := Ideal) x0 x1 x2 i
    = (((δ.at x1 x2 (i 0).val (i 1).val).dkk (i 3).val (i 2).val (i 4).val : ℝ) : EReal) := by
  rw [val_main_v144_apply, r143 h]

/-- The gradient of the values a block reads. -/
theorem r120 (i : S2x16x2x64x256.Idx) : val_main_v120 (F := Ideal) x0 x1 x2 i
    = (((δ.at x1 x2 (i 0).val (i 1).val).dvv (i 2).val (i 4).val (i 3).val : ℝ) : EReal) := by
  rw [v120_apply]
  have e : ∀ a : Fin 4, ∀ b : Fin 128, val_main_v118 (F := Ideal) x0 x1 (lidx120 i a b) * val_main_v108 (F := Ideal) x1 x2 (ridx120 i a b)
      = (((δ.at x1 x2 (i 0).val (i 1).val).pr (4 * (i 2).val + a.val) b.val (i 4).val
        * (δ.at x1 x2 (i 0).val (i 1).val).go b.val (64 * (4 * (i 2).val + a.val) + (i 3).val) : ℝ) : EReal) := by
    intro a b
    rw [r118 h (outOf x1 x2 δ), r108 h (outOf x1 x2 δ), mul_comm, ← EReal.coe_mul]
    rfl
  refine (Finset.sum_congr rfl fun a _ => (Finset.sum_congr rfl fun b _ => e a b).trans (sum_fin_coe (n := 128) (fun b => (δ.at x1 x2 (i 0).val (i 1).val).pr (4 * (i 2).val + a.val) b (i 4).val
        * (δ.at x1 x2 (i 0).val (i 1).val).go b (64 * (4 * (i 2).val + a.val) + (i 3).val)))).trans
    ((sum_fin_coe (n := 4) (fun a => ∑ b ∈ range 128, (δ.at x1 x2 (i 0).val (i 1).val).pr (4 * (i 2).val + a) b (i 4).val
        * (δ.at x1 x2 (i 0).val (i 1).val).go b (64 * (4 * (i 2).val + a) + (i 3).val))).trans (real_congr ?_))
  rfl

theorem r121 (i : S2x16x256x2x64.Idx) : val_main_v121 (F := Ideal) x0 x1 x2 i
    = (((δ.at x1 x2 (i 0).val (i 1).val).dvv (i 3).val (i 2).val (i 4).val : ℝ) : EReal) := by
  rw [val_main_v121_apply, r120 h]

end Cert.Attn
end
end
-- ==== Proof.RefOut.lean ====
module

public import proofs.«01_k».proof.Proof.RefGrad
public import Idealize.ShloMosaic.Lib.KernelVsHost

/-! # The reference's first result

Its columns: the gradients of gate, queries, keys and values, the columns passed through, and zeros. -/

@[expose] public section
noncomputable section
namespace Cert.Attn
open Idealize.ShloMosaic Cert.ReferenceIdeal Cert.ReferenceIdeal.Gen Cert.ReferenceIdeal.Read Idealize.SL.Sem
open Idealize.ShloMosaic.TcCoe
open Finset (range)

/-- The block of a row. -/
def Data.of (δ : Data) (x1 : Arr1) (x2 : Arr2) (r : ℕ) : Blk := δ.at x1 x2 (r / 2048) (r / 128 % 16)

/-- A key's gradient: what its own block gives, and what the block after it gives. -/
def Data.gk (δ : Data) (x1 : Arr1) (x2 : Arr2) (b n w g d : ℕ) : ℝ :=
  (δ.at x1 x2 b n).dkk g (128 + w) d + if n < 15 then (δ.at x1 x2 b (1 + n)).dkk g w d else 0
/-- A value's. -/
def Data.gv (δ : Data) (x1 : Arr1) (x2 : Arr2) (b n w g d : ℕ) : ℝ :=
  (δ.at x1 x2 b n).dvv g (128 + w) d + if n < 15 then (δ.at x1 x2 b (1 + n)).dvv g w d else 0

theorem pair_if {p : Prop} [Decidable p] (a b : ℝ) : (if p then (a : EReal) else (b : EReal)) = ((if p then a else b : ℝ) : EReal) := by
  split_ifs <;> rfl

/-- Six arrays side by side. -/
theorem six {α : Type} (a b : S4096x512.Idx → α) (k v e z : S4096x128.Idx → α)
    (hc : Shape.Concatenates [S4096x512, S4096x512, S4096x128, S4096x128, S4096x128, S4096x128] S4096x1536 1) (i : S4096x1536.Idx) :
    concatenate S4096x1536 1 [⟨S4096x512, a⟩, ⟨S4096x512, b⟩, ⟨S4096x128, k⟩, ⟨S4096x128, v⟩, ⟨S4096x128, e⟩, ⟨S4096x128, z⟩] hc i
    = if hc : (i 1).val < 512 then a ((fun q => match q with | ⟨0, _⟩ => i 0 | ⟨1, _⟩ => ⟨(i 1).val, by have h1 : (i 1).val < 1536 := (i 1).isLt; show (i 1).val < 512; omega⟩) : S4096x512.Idx)
      else if hc : (i 1).val < 1024 then b ((fun q => match q with | ⟨0, _⟩ => i 0 | ⟨1, _⟩ => ⟨(i 1).val - 512, by have h1 : (i 1).val < 1536 := (i 1).isLt; show (i 1).val - 512 < 512; omega⟩) : S4096x512.Idx)
      else if hc : (i 1).val < 1152 then k ((fun q => match q with | ⟨0, _⟩ => i 0 | ⟨1, _⟩ => ⟨(i 1).val - 1024, by have h1 : (i 1).val < 1536 := (i 1).isLt; show (i 1).val - 1024 < 128; omega⟩) : S4096x128.Idx)
      else if hc : (i 1).val < 1280 then v ((fun q => match q with | ⟨0, _⟩ => i 0 | ⟨1, _⟩ => ⟨(i 1).val - 1152, by have h1 : (i 1).val < 1536 := (i 1).isLt; show (i 1).val - 1152 < 128; omega⟩) : S4096x128.Idx)
      else if hc : (i 1).val < 1408 then e ((fun q => match q with | ⟨0, _⟩ => i 0 | ⟨1, _⟩ => ⟨(i 1).val - 1280, by have h1 : (i 1).val < 1536 := (i 1).isLt; show (i 1).val - 1280 < 128; omega⟩) : S4096x128.Idx)
      else z ((fun q => match q with | ⟨0, _⟩ => i 0 | ⟨1, _⟩ => ⟨(i 1).val - 1408, by have h1 : (i 1).val < 1536 := (i 1).isLt; show (i 1).val - 1408 < 128; omega⟩) : S4096x128.Idx) := by
  have h1 : (i 1).val < 1536 := (i 1).isLt
  by_cases c0 : (i 1).val < 512
  · rw [dif_pos c0]
    exact concatenate_apply_piece (t := S4096x1536) 1 [⟨S4096x512, a⟩, ⟨S4096x512, b⟩, ⟨S4096x128, k⟩, ⟨S4096x128, v⟩, ⟨S4096x128, e⟩, ⟨S4096x128, z⟩] hc i 0 (by simp) S4096x512 a rfl rfl 0 rfl ((fun q => match q with | ⟨0, _⟩ => i 0 | ⟨1, _⟩ => ⟨(i 1).val, by have h1 : (i 1).val < 1536 := (i 1).isLt; show (i 1).val < 512; omega⟩) : S4096x512.Idx) (fun b => match b with | ⟨0, _⟩ => fun _ => rfl | ⟨1, _⟩ => fun hb => absurd rfl hb) (by show 0 + ((i 1).val) = (i 1).val; omega)
  rw [dif_neg c0]
  by_cases c1 : (i 1).val < 1024
  · rw [dif_pos c1]
    exact concatenate_apply_piece (t := S4096x1536) 1 [⟨S4096x512, a⟩, ⟨S4096x512, b⟩, ⟨S4096x128, k⟩, ⟨S4096x128, v⟩, ⟨S4096x128, e⟩, ⟨S4096x128, z⟩] hc i 1 (by simp) S4096x512 b rfl rfl 512 rfl ((fun q => match q with | ⟨0, _⟩ => i 0 | ⟨1, _⟩ => ⟨(i 1).val - 512, by have h1 : (i 1).val < 1536 := (i 1).isLt; show (i 1).val - 512 < 512; omega⟩) : S4096x512.Idx) (fun b => match b with | ⟨0, _⟩ => fun _ => rfl | ⟨1, _⟩ => fun hb => absurd rfl hb) (by show 512 + ((i 1).val - 512) = (i 1).val; omega)
  rw [dif_neg c1]
  by_cases c2 : (i 1).val < 1152
  · rw [dif_pos c2]
    exact concatenate_apply_piece (t := S4096x1536) 1 [⟨S4096x512, a⟩, ⟨S4096x512, b⟩, ⟨S4096x128, k⟩, ⟨S4096x128, v⟩, ⟨S4096x128, e⟩, ⟨S4096x128, z⟩] hc i 2 (by simp) S4096x128 k rfl rfl 1024 rfl ((fun q => match q with | ⟨0, _⟩ => i 0 | ⟨1, _⟩ => ⟨(i 1).val - 1024, by have h1 : (i 1).val < 1536 := (i 1).isLt; show (i 1).val - 1024 < 128; omega⟩) : S4096x128.Idx) (fun b => match b with | ⟨0, _⟩ => fun _ => rfl | ⟨1, _⟩ => fun hb => absurd rfl hb) (by show 1024 + ((i 1).val - 1024) = (i 1).val; omega)
  rw [dif_neg c2]
  by_cases c3 : (i 1).val < 1280
  · rw [dif_pos c3]
    exact concatenate_apply_piece (t := S4096x1536) 1 [⟨S4096x512, a⟩, ⟨S4096x512, b⟩, ⟨S4096x128, k⟩, ⟨S4096x128, v⟩, ⟨S4096x128, e⟩, ⟨S4096x128, z⟩] hc i 3 (by simp) S4096x128 v rfl rfl 1152 rfl ((fun q => match q with | ⟨0, _⟩ => i 0 | ⟨1, _⟩ => ⟨(i 1).val - 1152, by have h1 : (i 1).val < 1536 := (i 1).isLt; show (i 1).val - 1152 < 128; omega⟩) : S4096x128.Idx) (fun b => match b with | ⟨0, _⟩ => fun _ => rfl | ⟨1, _⟩ => fun hb => absurd rfl hb) (by show 1152 + ((i 1).val - 1152) = (i 1).val; omega)
  rw [dif_neg c3]
  by_cases c4 : (i 1).val < 1408
  · rw [dif_pos c4]
    exact concatenate_apply_piece (t := S4096x1536) 1 [⟨S4096x512, a⟩, ⟨S4096x512, b⟩, ⟨S4096x128, k⟩, ⟨S4096x128, v⟩, ⟨S4096x128, e⟩, ⟨S4096x128, z⟩] hc i 4 (by simp) S4096x128 e rfl rfl 1280 rfl ((fun q => match q with | ⟨0, _⟩ => i 0 | ⟨1, _⟩ => ⟨(i 1).val - 1280, by have h1 : (i 1).val < 1536 := (i 1).isLt; show (i 1).val - 1280 < 128; omega⟩) : S4096x128.Idx) (fun b => match b with | ⟨0, _⟩ => fun _ => rfl | ⟨1, _⟩ => fun hb => absurd rfl hb) (by show 1280 + ((i 1).val - 1280) = (i 1).val; omega)
  rw [dif_neg c4]
  exact concatenate_apply_piece (t := S4096x1536) 1 [⟨S4096x512, a⟩, ⟨S4096x512, b⟩, ⟨S4096x128, k⟩, ⟨S4096x128, v⟩, ⟨S4096x128, e⟩, ⟨S4096x128, z⟩] hc i 5 (by simp) S4096x128 z rfl rfl 1408 rfl ((fun q => match q with | ⟨0, _⟩ => i 0 | ⟨1, _⟩ => ⟨(i 1).val - 1408, by have h1 : (i 1).val < 1536 := (i 1).isLt; show (i 1).val - 1408 < 128; omega⟩) : S4096x128.Idx) (fun b => match b with | ⟨0, _⟩ => fun _ => rfl | ⟨1, _⟩ => fun hb => absurd rfl hb) (by show 1408 + ((i 1).val - 1408) = (i 1).val; omega)

variable {x0 : Arr0} {x1 : Arr1} {x2 : Arr2} {δ : Data} (h : Holds x0 x1 x2 δ)
include h

theorem r155 (i : S2x16x128x2x64.Idx) : val_main_v155 (F := Ideal) x0 x1 x2 i
    = (((if (i 1).val < 15 then (δ.at x1 x2 (i 0).val (1 + (i 1).val)).dkk (i 3).val (i 2).val (i 4).val else 0 : ℝ) : ℝ) : EReal) := by
  have h1 : (i 1).val < 16 := (i 1).isLt
  unfold val_main_v155
  by_cases c : (i 1).val < 15
  · rw [if_pos c]
    refine (pad_apply_of_inside _ _ _ _ _ pads_S2x15x128x2x64_S2x16x128x2x64_000_010_000_000_000 h_S_ i ((fun a => match a with | ⟨0, _⟩ => i 0 | ⟨1, _⟩ => ⟨(i 1).val, c⟩ | ⟨2, _⟩ => i 2 | ⟨3, _⟩ => i 3 | ⟨4, _⟩ => i 4) : S2x15x128x2x64.Idx) (fun a => ?_)).trans ?_
    · match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
      | ⟨4, _⟩ => show (i 4).val = 0 + (i 4).val * (0 + 1); omega
    · rw [val_main_v154_apply, val_main_v151_apply]
      exact r144 h _
  · rw [if_neg c]
    refine (pad_apply_of_not_inside _ _ _ _ _ pads_S2x15x128x2x64_S2x16x128x2x64_000_010_000_000_000 h_S_ i 1 (fun hh => c ?_)).trans zeroW
    have := hh.2.2
    have e : ((i 1).val - 0) / (0 + 1) < 15 := this
    omega

theorem r156 (i : S2x16x128x2x64.Idx) : val_main_v156 (F := Ideal) x0 x1 x2 i
    = ((δ.gk x1 x2 (i 0).val (i 1).val (i 2).val (i 3).val (i 4).val : ℝ) : EReal) := by
  rw [val_main_v156_apply, val_main_v152_apply, r144 h, r155 h]
  exact (EReal.coe_add _ _).symm

theorem r158 (i : S2x2048x2x64.Idx) : val_main_v158 (F := Ideal) x0 x1 x2 i
    = ((δ.gk x1 x2 (i 0).val ((i 1).val / 128) ((i 1).val % 128) (i 2).val (i 3).val : ℝ) : EReal) := by
  unfold val_main_v158
  refine (shapeCast_apply _ _ i ((fun a => match a with | ⟨0, _⟩ => ⟨(i 0).val, by have h0 : (i 0).val < 2 := (i 0).isLt; have h1 : (i 1).val < 2048 := (i 1).isLt; have h2 : (i 2).val < 2 := (i 2).isLt; have h3 : (i 3).val < 64 := (i 3).isLt; show (i 0).val < 2; omega⟩ | ⟨1, _⟩ => ⟨(i 1).val / 128, by have h0 : (i 0).val < 2 := (i 0).isLt; have h1 : (i 1).val < 2048 := (i 1).isLt; have h2 : (i 2).val < 2 := (i 2).isLt; have h3 : (i 3).val < 64 := (i 3).isLt; show (i 1).val / 128 < 16; omega⟩ | ⟨2, _⟩ => ⟨(i 1).val % 128, by have h0 : (i 0).val < 2 := (i 0).isLt; have h1 : (i 1).val < 2048 := (i 1).isLt; have h2 : (i 2).val < 2 := (i 2).isLt; have h3 : (i 3).val < 64 := (i 3).isLt; show (i 1).val % 128 < 128; omega⟩ | ⟨3, _⟩ => ⟨(i 2).val, by have h0 : (i 0).val < 2 := (i 0).isLt; have h1 : (i 1).val < 2048 := (i 1).isLt; have h2 : (i 2).val < 2 := (i 2).isLt; have h3 : (i 3).val < 64 := (i 3).isLt; show (i 2).val < 2; omega⟩ | ⟨4, _⟩ => ⟨(i 3).val, by have h0 : (i 0).val < 2 := (i 0).isLt; have h1 : (i 1).val < 2048 := (i 1).isLt; have h2 : (i 2).val < 2 := (i 2).isLt; have h3 : (i 3).val < 64 := (i 3).isLt; show (i 3).val < 64; omega⟩) : S2x16x128x2x64.Idx)
    (by rw [Shape.rowMajor_val_five, Shape.rowMajor_val_four]; have h0 : (i 0).val < 2 := (i 0).isLt; have h1 : (i 1).val < 2048 := (i 1).isLt; have h2 : (i 2).val < 2 := (i 2).isLt; have h3 : (i 3).val < 64 := (i 3).isLt; show (((((i 0).val) * 16 + ((i 1).val / 128)) * 128 + ((i 1).val % 128)) * 2 + ((i 2).val)) * 64 + ((i 3).val) = ((((i 0).val) * 2048 + ((i 1).val)) * 2 + ((i 2).val)) * 64 + ((i 3).val); omega)).trans ?_
  exact r156 h _

/-- The gradient of the keys. -/
theorem r162 (i : S4096x128.Idx) : val_main_v162 (F := Ideal) x0 x1 x2 i
    = ((δ.gk x1 x2 ((i 0).val / 2048) ((i 0).val / 128 % 16) ((i 0).val % 128) ((i 1).val / 64) ((i 1).val % 64) : ℝ) : EReal) := by
  have h0 : (i 0).val < 4096 := (i 0).isLt
  unfold val_main_v162
  refine (shapeCast_apply _ _ i ((fun a => match a with | ⟨0, _⟩ => ⟨(i 0).val / 2048, by have h0 : (i 0).val < 4096 := (i 0).isLt; have h1 : (i 1).val < 128 := (i 1).isLt; show (i 0).val / 2048 < 2; omega⟩ | ⟨1, _⟩ => ⟨(i 0).val % 2048, by have h0 : (i 0).val < 4096 := (i 0).isLt; have h1 : (i 1).val < 128 := (i 1).isLt; show (i 0).val % 2048 < 2048; omega⟩ | ⟨2, _⟩ => ⟨(i 1).val / 64, by have h0 : (i 0).val < 4096 := (i 0).isLt; have h1 : (i 1).val < 128 := (i 1).isLt; show (i 1).val / 64 < 2; omega⟩ | ⟨3, _⟩ => ⟨(i 1).val % 64, by have h0 : (i 0).val < 4096 := (i 0).isLt; have h1 : (i 1).val < 128 := (i 1).isLt; show (i 1).val % 64 < 64; omega⟩) : S2x2048x2x64.Idx)
    (by rw [Shape.rowMajor_val_four, Shape.rowMajor_val_two]; have h0 : (i 0).val < 4096 := (i 0).isLt; have h1 : (i 1).val < 128 := (i 1).isLt; show ((((i 0).val / 2048) * 2048 + ((i 0).val % 2048)) * 2 + ((i 1).val / 64)) * 64 + ((i 1).val % 64) = ((i 0).val) * 128 + ((i 1).val); omega)).trans ?_
  refine (r158 h _).trans (real_congr ?_)
  show δ.gk x1 x2 ((i 0).val / 2048) ((i 0).val % 2048 / 128) ((i 0).val % 2048 % 128) ((i 1).val / 64) ((i 1).val % 64) = _
  rw [show (i 0).val % 2048 / 128 = (i 0).val / 128 % 16 by omega, show (i 0).val % 2048 % 128 = (i 0).val % 128 by omega]

theorem r149 (i : S2x16x128x2x64.Idx) : val_main_v149 (F := Ideal) x0 x1 x2 i
    = (((if (i 1).val < 15 then (δ.at x1 x2 (i 0).val (1 + (i 1).val)).dvv (i 3).val (i 2).val (i 4).val else 0 : ℝ) : ℝ) : EReal) := by
  have h1 : (i 1).val < 16 := (i 1).isLt
  unfold val_main_v149
  by_cases c : (i 1).val < 15
  · rw [if_pos c]
    refine (pad_apply_of_inside _ _ _ _ _ pads_S2x15x128x2x64_S2x16x128x2x64_000_010_000_000_000 h_S_ i ((fun a => match a with | ⟨0, _⟩ => i 0 | ⟨1, _⟩ => ⟨(i 1).val, c⟩ | ⟨2, _⟩ => i 2 | ⟨3, _⟩ => i 3 | ⟨4, _⟩ => i 4) : S2x15x128x2x64.Idx) (fun a => ?_)).trans ?_
    · match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
      | ⟨4, _⟩ => show (i 4).val = 0 + (i 4).val * (0 + 1); omega
    · rw [val_main_v148_apply, val_main_v145_apply]
      exact r121 h _
  · rw [if_neg c]
    refine (pad_apply_of_not_inside _ _ _ _ _ pads_S2x15x128x2x64_S2x16x128x2x64_000_010_000_000_000 h_S_ i 1 (fun hh => c ?_)).trans zeroW
    have := hh.2.2
    have e : ((i 1).val - 0) / (0 + 1) < 15 := this
    omega

theorem r150 (i : S2x16x128x2x64.Idx) : val_main_v150 (F := Ideal) x0 x1 x2 i
    = ((δ.gv x1 x2 (i 0).val (i 1).val (i 2).val (i 3).val (i 4).val : ℝ) : EReal) := by
  rw [val_main_v150_apply, val_main_v146_apply, r121 h, r149 h]
  exact (EReal.coe_add _ _).symm

theorem r157 (i : S2x2048x2x64.Idx) : val_main_v157 (F := Ideal) x0 x1 x2 i
    = ((δ.gv x1 x2 (i 0).val ((i 1).val / 128) ((i 1).val % 128) (i 2).val (i 3).val : ℝ) : EReal) := by
  unfold val_main_v157
  refine (shapeCast_apply _ _ i ((fun a => match a with | ⟨0, _⟩ => ⟨(i 0).val, by have h0 : (i 0).val < 2 := (i 0).isLt; have h1 : (i 1).val < 2048 := (i 1).isLt; have h2 : (i 2).val < 2 := (i 2).isLt; have h3 : (i 3).val < 64 := (i 3).isLt; show (i 0).val < 2; omega⟩ | ⟨1, _⟩ => ⟨(i 1).val / 128, by have h0 : (i 0).val < 2 := (i 0).isLt; have h1 : (i 1).val < 2048 := (i 1).isLt; have h2 : (i 2).val < 2 := (i 2).isLt; have h3 : (i 3).val < 64 := (i 3).isLt; show (i 1).val / 128 < 16; omega⟩ | ⟨2, _⟩ => ⟨(i 1).val % 128, by have h0 : (i 0).val < 2 := (i 0).isLt; have h1 : (i 1).val < 2048 := (i 1).isLt; have h2 : (i 2).val < 2 := (i 2).isLt; have h3 : (i 3).val < 64 := (i 3).isLt; show (i 1).val % 128 < 128; omega⟩ | ⟨3, _⟩ => ⟨(i 2).val, by have h0 : (i 0).val < 2 := (i 0).isLt; have h1 : (i 1).val < 2048 := (i 1).isLt; have h2 : (i 2).val < 2 := (i 2).isLt; have h3 : (i 3).val < 64 := (i 3).isLt; show (i 2).val < 2; omega⟩ | ⟨4, _⟩ => ⟨(i 3).val, by have h0 : (i 0).val < 2 := (i 0).isLt; have h1 : (i 1).val < 2048 := (i 1).isLt; have h2 : (i 2).val < 2 := (i 2).isLt; have h3 : (i 3).val < 64 := (i 3).isLt; show (i 3).val < 64; omega⟩) : S2x16x128x2x64.Idx)
    (by rw [Shape.rowMajor_val_five, Shape.rowMajor_val_four]; have h0 : (i 0).val < 2 := (i 0).isLt; have h1 : (i 1).val < 2048 := (i 1).isLt; have h2 : (i 2).val < 2 := (i 2).isLt; have h3 : (i 3).val < 64 := (i 3).isLt; show (((((i 0).val) * 16 + ((i 1).val / 128)) * 128 + ((i 1).val % 128)) * 2 + ((i 2).val)) * 64 + ((i 3).val) = ((((i 0).val) * 2048 + ((i 1).val)) * 2 + ((i 2).val)) * 64 + ((i 3).val); omega)).trans ?_
  exact r150 h _

/-- The gradient of the values. -/
theorem r163 (i : S4096x128.Idx) : val_main_v163 (F := Ideal) x0 x1 x2 i
    = ((δ.gv x1 x2 ((i 0).val / 2048) ((i 0).val / 128 % 16) ((i 0).val % 128) ((i 1).val / 64) ((i 1).val % 64) : ℝ) : EReal) := by
  have h0 : (i 0).val < 4096 := (i 0).isLt
  unfold val_main_v163
  refine (shapeCast_apply _ _ i ((fun a => match a with | ⟨0, _⟩ => ⟨(i 0).val / 2048, by have h0 : (i 0).val < 4096 := (i 0).isLt; have h1 : (i 1).val < 128 := (i 1).isLt; show (i 0).val / 2048 < 2; omega⟩ | ⟨1, _⟩ => ⟨(i 0).val % 2048, by have h0 : (i 0).val < 4096 := (i 0).isLt; have h1 : (i 1).val < 128 := (i 1).isLt; show (i 0).val % 2048 < 2048; omega⟩ | ⟨2, _⟩ => ⟨(i 1).val / 64, by have h0 : (i 0).val < 4096 := (i 0).isLt; have h1 : (i 1).val < 128 := (i 1).isLt; show (i 1).val / 64 < 2; omega⟩ | ⟨3, _⟩ => ⟨(i 1).val % 64, by have h0 : (i 0).val < 4096 := (i 0).isLt; have h1 : (i 1).val < 128 := (i 1).isLt; show (i 1).val % 64 < 64; omega⟩) : S2x2048x2x64.Idx)
    (by rw [Shape.rowMajor_val_four, Shape.rowMajor_val_two]; have h0 : (i 0).val < 4096 := (i 0).isLt; have h1 : (i 1).val < 128 := (i 1).isLt; show ((((i 0).val / 2048) * 2048 + ((i 0).val % 2048)) * 2 + ((i 1).val / 64)) * 64 + ((i 1).val % 64) = ((i 0).val) * 128 + ((i 1).val); omega)).trans ?_
  refine (r157 h _).trans (real_congr ?_)
  show δ.gv x1 x2 ((i 0).val / 2048) ((i 0).val % 2048 / 128) ((i 0).val % 2048 % 128) ((i 1).val / 64) ((i 1).val % 64) = _
  rw [show (i 0).val % 2048 / 128 = (i 0).val / 128 % 16 by omega, show (i 0).val % 2048 % 128 = (i 0).val % 128 by omega]

theorem r159 (i : S2x2048x2x4x64.Idx) : val_main_v159 (F := Ideal) x0 x1 x2 i
    = (((δ.at x1 x2 (i 0).val ((i 1).val / 128)).dq (4 * (i 2).val + (i 3).val) ((i 1).val % 128) (i 4).val : ℝ) : EReal) := by
  unfold val_main_v159
  refine (shapeCast_apply _ _ i ((fun a => match a with | ⟨0, _⟩ => ⟨(i 0).val, by have h0 : (i 0).val < 2 := (i 0).isLt; have h1 : (i 1).val < 2048 := (i 1).isLt; have h2 : (i 2).val < 2 := (i 2).isLt; have h3 : (i 3).val < 4 := (i 3).isLt; have h4 : (i 4).val < 64 := (i 4).isLt; show (i 0).val < 2; omega⟩ | ⟨1, _⟩ => ⟨(i 1).val / 128, by have h0 : (i 0).val < 2 := (i 0).isLt; have h1 : (i 1).val < 2048 := (i 1).isLt; have h2 : (i 2).val < 2 := (i 2).isLt; have h3 : (i 3).val < 4 := (i 3).isLt; have h4 : (i 4).val < 64 := (i 4).isLt; show (i 1).val / 128 < 16; omega⟩ | ⟨2, _⟩ => ⟨(i 1).val % 128, by have h0 : (i 0).val < 2 := (i 0).isLt; have h1 : (i 1).val < 2048 := (i 1).isLt; have h2 : (i 2).val < 2 := (i 2).isLt; have h3 : (i 3).val < 4 := (i 3).isLt; have h4 : (i 4).val < 64 := (i 4).isLt; show (i 1).val % 128 < 128; omega⟩ | ⟨3, _⟩ => ⟨(i 2).val, by have h0 : (i 0).val < 2 := (i 0).isLt; have h1 : (i 1).val < 2048 := (i 1).isLt; have h2 : (i 2).val < 2 := (i 2).isLt; have h3 : (i 3).val < 4 := (i 3).isLt; have h4 : (i 4).val < 64 := (i 4).isLt; show (i 2).val < 2; omega⟩ | ⟨4, _⟩ => ⟨(i 3).val, by have h0 : (i 0).val < 2 := (i 0).isLt; have h1 : (i 1).val < 2048 := (i 1).isLt; have h2 : (i 2).val < 2 := (i 2).isLt; have h3 : (i 3).val < 4 := (i 3).isLt; have h4 : (i 4).val < 64 := (i 4).isLt; show (i 3).val < 4; omega⟩ | ⟨5, _⟩ => ⟨(i 4).val, by have h0 : (i 0).val < 2 := (i 0).isLt; have h1 : (i 1).val < 2048 := (i 1).isLt; have h2 : (i 2).val < 2 := (i 2).isLt; have h3 : (i 3).val < 4 := (i 3).isLt; have h4 : (i 4).val < 64 := (i 4).isLt; show (i 4).val < 64; omega⟩) : S2x16x128x2x4x64.Idx)
    (by rw [rowMajor_val6 _ 1048576 65536 512 256 64 rfl rfl rfl rfl rfl, Shape.rowMajor_val_five]; have h0 : (i 0).val < 2 := (i 0).isLt; have h1 : (i 1).val < 2048 := (i 1).isLt; have h2 : (i 2).val < 2 := (i 2).isLt; have h3 : (i 3).val < 4 := (i 3).isLt; have h4 : (i 4).val < 64 := (i 4).isLt; show ((i 0).val) * 1048576 + ((i 1).val / 128) * 65536 + ((i 1).val % 128) * 512 + ((i 2).val) * 256 + ((i 3).val) * 64 + ((i 4).val) = (((((i 0).val) * 2048 + ((i 1).val)) * 2 + ((i 2).val)) * 4 + ((i 3).val)) * 64 + ((i 4).val); omega)).trans ?_
  exact r142 h _

theorem r161 (i : S4096x512.Idx) : val_main_v161 (F := Ideal) x0 x1 x2 i
    = (((δ.of x1 x2 (i 0).val).dq ((i 1).val / 64) ((i 0).val % 128) ((i 1).val % 64) : ℝ) : EReal) := by
  have h0 : (i 0).val < 4096 := (i 0).isLt
  have h1 : (i 1).val < 512 := (i 1).isLt
  unfold val_main_v161
  refine (shapeCast_apply _ _ i ((fun a => match a with | ⟨0, _⟩ => ⟨(i 0).val / 2048, by have h0 : (i 0).val < 4096 := (i 0).isLt; have h1 : (i 1).val < 512 := (i 1).isLt; show (i 0).val / 2048 < 2; omega⟩ | ⟨1, _⟩ => ⟨(i 0).val % 2048, by have h0 : (i 0).val < 4096 := (i 0).isLt; have h1 : (i 1).val < 512 := (i 1).isLt; show (i 0).val % 2048 < 2048; omega⟩ | ⟨2, _⟩ => ⟨(i 1).val / 256, by have h0 : (i 0).val < 4096 := (i 0).isLt; have h1 : (i 1).val < 512 := (i 1).isLt; show (i 1).val / 256 < 2; omega⟩ | ⟨3, _⟩ => ⟨(i 1).val / 64 % 4, by have h0 : (i 0).val < 4096 := (i 0).isLt; have h1 : (i 1).val < 512 := (i 1).isLt; show (i 1).val / 64 % 4 < 4; omega⟩ | ⟨4, _⟩ => ⟨(i 1).val % 64, by have h0 : (i 0).val < 4096 := (i 0).isLt; have h1 : (i 1).val < 512 := (i 1).isLt; show (i 1).val % 64 < 64; omega⟩) : S2x2048x2x4x64.Idx)
    (by rw [Shape.rowMajor_val_five, Shape.rowMajor_val_two]; have h0 : (i 0).val < 4096 := (i 0).isLt; have h1 : (i 1).val < 512 := (i 1).isLt; show (((((i 0).val / 2048) * 2048 + ((i 0).val % 2048)) * 2 + ((i 1).val / 256)) * 4 + ((i 1).val / 64 % 4)) * 64 + ((i 1).val % 64) = ((i 0).val) * 512 + ((i 1).val); omega)).trans ?_
  refine (r159 h _).trans (real_congr ?_)
  show (δ.at x1 x2 ((i 0).val / 2048) ((i 0).val % 2048 / 128)).dq (4 * ((i 1).val / 256) + (i 1).val / 64 % 4) ((i 0).val % 2048 % 128) ((i 1).val % 64) = _
  unfold Data.of
  rw [show (i 0).val % 2048 / 128 = (i 0).val / 128 % 16 by omega, show 4 * ((i 1).val / 256) + (i 1).val / 64 % 4 = (i 1).val / 64 by omega,
    show (i 0).val % 2048 % 128 = (i 0).val % 128 by omega]

theorem r160 (i : S4096x512.Idx) : val_main_v160 (F := Ideal) x0 x1 x2 i
    = (((δ.of x1 x2 (i 0).val).dz ((i 0).val % 128) (i 1).val : ℝ) : EReal) := by
  have h0 : (i 0).val < 4096 := (i 0).isLt
  have h1 : (i 1).val < 512 := (i 1).isLt
  unfold val_main_v160
  refine (shapeCast_apply _ _ i ((fun a => match a with | ⟨0, _⟩ => ⟨(i 0).val / 2048, by have h0 : (i 0).val < 4096 := (i 0).isLt; have h1 : (i 1).val < 512 := (i 1).isLt; show (i 0).val / 2048 < 2; omega⟩ | ⟨1, _⟩ => ⟨(i 0).val % 2048, by have h0 : (i 0).val < 4096 := (i 0).isLt; have h1 : (i 1).val < 512 := (i 1).isLt; show (i 0).val % 2048 < 2048; omega⟩ | ⟨2, _⟩ => ⟨(i 1).val, by have h0 : (i 0).val < 4096 := (i 0).isLt; have h1 : (i 1).val < 512 := (i 1).isLt; show (i 1).val < 512; omega⟩) : S2x2048x512.Idx)
    (by rw [Shape.rowMajor_val_three, Shape.rowMajor_val_two]; have h0 : (i 0).val < 4096 := (i 0).isLt; have h1 : (i 1).val < 512 := (i 1).isLt; show (((i 0).val / 2048) * 2048 + ((i 0).val % 2048)) * 512 + ((i 1).val) = ((i 0).val) * 512 + ((i 1).val); omega)).trans ?_
  refine (r116 h _).trans (real_congr ?_)
  have e : 2048 * ((i 0).val / 2048) + (i 0).val % 2048 = row ((i 0).val / 2048) ((i 0).val / 128 % 16) ((i 0).val % 128) := by unfold row; omega
  show (δ.D (2048 * ((i 0).val / 2048) + (i 0).val % 2048) (1024 + (i 1).val)) * (outOf x1 x2 δ (2048 * ((i 0).val / 2048) + (i 0).val % 2048) (i 1).val)
    * (logi (δ.P (2048 * ((i 0).val / 2048) + (i 0).val % 2048) (i 1).val) * (1 + (δ.P (2048 * ((i 0).val / 2048) + (i 0).val % 2048) (i 1).val)
      * (1 - logi (δ.P (2048 * ((i 0).val / 2048) + (i 0).val % 2048) (i 1).val)))) = _
  rw [e]
  rfl

/-- The first result's first 1536 columns. -/
def Data.cols (δ : Data) (x1 : Arr1) (x2 : Arr2) (r c : ℕ) : ℝ :=
  if c < 512 then (δ.of x1 x2 r).dz (r % 128) c
  else if c < 1024 then (δ.of x1 x2 r).dq ((c - 512) / 64) (r % 128) ((c - 512) % 64)
  else if c < 1152 then δ.gk x1 x2 (r / 2048) (r / 128 % 16) (r % 128) ((c - 1024) / 64) ((c - 1024) % 64)
  else if c < 1280 then δ.gv x1 x2 (r / 2048) (r / 128 % 16) (r % 128) ((c - 1152) / 64) ((c - 1152) % 64)
  else 0

theorem r165 (x3 : (⟨S4096x128, .f32⟩ : BufTy).Contents (Elt Ideal)) (i : S4096x1536.Idx) : val_main_v165 (F := Ideal) x0 x1 x2 x3 i
    = if hc : 1280 ≤ (i 1).val ∧ (i 1).val < 1408 then x3 ((fun a => match a with | ⟨0, _⟩ => i 0 | ⟨1, _⟩ => ⟨(i 1).val - 1280, by show (i 1).val - 1280 < 128; omega⟩) : S4096x128.Idx)
      else ((δ.cols x1 x2 (i 0).val (i 1).val : ℝ) : EReal) := by
  unfold val_main_v165
  refine (six _ _ _ _ _ _ _ i).trans ?_
  unfold Data.cols
  by_cases c1 : (i 1).val < 512
  · rw [dif_pos c1, dif_neg (by omega), if_pos c1]; exact r160 h _
  rw [dif_neg c1]
  by_cases c2 : (i 1).val < 1024
  · rw [dif_pos c2, dif_neg (by omega), if_neg c1, if_pos c2]; exact r161 h _
  rw [dif_neg c2]
  by_cases c3 : (i 1).val < 1152
  · rw [dif_pos c3, dif_neg (by omega), if_neg c1, if_neg c2, if_pos c3]; exact r162 h _
  rw [dif_neg c3]
  by_cases c4 : (i 1).val < 1280
  · rw [dif_pos c4, dif_neg (by omega), if_neg c1, if_neg c2, if_neg c3, if_pos c4]; exact r163 h _
  rw [dif_neg c4]
  by_cases c5 : (i 1).val < 1408
  · rw [dif_pos c5, dif_pos ⟨by omega, c5⟩]
  rw [dif_neg c5, dif_neg (by omega), if_neg c1, if_neg c2, if_neg c3, if_neg c4]
  exact (val_main_v164_apply _).trans zeroW

/-- The reference's first result. -/
theorem r168 (x3 : (⟨S4096x128, .f32⟩ : BufTy).Contents (Elt Ideal)) (x4 : (⟨S4096x5632, .bf16⟩ : BufTy).Contents (Elt Ideal)) (i : S4096x5632.Idx) :
    val_main_v168 (F := Ideal) x0 x1 x2 x3 x4 i
    = if 1536 ≤ (i 1).val then x4 i
      else if hc : 1280 ≤ (i 1).val ∧ (i 1).val < 1408 then x3 ((fun a => match a with | ⟨0, _⟩ => i 0 | ⟨1, _⟩ => ⟨(i 1).val - 1280, by show (i 1).val - 1280 < 128; omega⟩) : S4096x128.Idx)
      else ((δ.cols x1 x2 (i 0).val (i 1).val : ℝ) : EReal) := by
  have h1 : (i 1).val < 5632 := (i 1).isLt
  unfold val_main_v168
  by_cases c : 1536 ≤ (i 1).val
  · rw [if_pos c]
    refine (concatenate_pair_apply_right (t := S4096x5632) (s₁ := S4096x1536) (s₂ := S4096x4096) 1 _ _ _ i rfl rfl
      ((fun a => match a with | ⟨0, _⟩ => i 0 | ⟨1, _⟩ => ⟨(i 1).val - 1536, by show (i 1).val - 1536 < 4096; omega⟩) : S4096x4096.Idx) (fun b => match b with
      | ⟨0, _⟩ => fun _ => rfl | ⟨1, _⟩ => fun hb => absurd rfl hb) (by show (i 1).val - 1536 + 1536 = (i 1).val; omega)).trans ?_
    refine (val_main_v167_apply ..).trans (congrArg x4 (funext fun a => Fin.ext ?_))
    match a with
    | ⟨0, _⟩ => first | rfl | (show 0 + (i 0).val = (i 0).val; omega)
    | ⟨1, _⟩ => show 1536 + ((i 1).val - 1536) = (i 1).val; omega
  · rw [if_neg c]
    refine (concatenate_pair_apply_left (t := S4096x5632) (s₁ := S4096x1536) (s₂ := S4096x4096) 1 _ _ _ i rfl
      ((fun a => match a with | ⟨0, _⟩ => i 0 | ⟨1, _⟩ => ⟨(i 1).val, by show (i 1).val < 1536; omega⟩) : S4096x1536.Idx) (fun b => match b with
      | ⟨0, _⟩ => rfl | ⟨1, _⟩ => rfl)).trans ?_
    refine (val_main_v166_apply ..).trans ?_
    exact r165 h x3 ((fun a => match a with | ⟨0, _⟩ => i 0 | ⟨1, _⟩ => ⟨(i 1).val, by show (i 1).val < 1536; omega⟩) : S4096x1536.Idx)

end Cert.Attn
end
end
-- ==== Proof.RefLast.lean ====
module

public import proofs.«01_k».proof.Proof.RefOut

/-! # The reference's second result

The gradient of the sinks: a sum over every row. -/

@[expose] public section
noncomputable section
namespace Cert.Attn
open Idealize.ShloMosaic Cert.ReferenceIdeal Cert.ReferenceIdeal.Gen Cert.ReferenceIdeal.Read Idealize.SL.Sem
open Idealize.ShloMosaic.TcCoe
open Finset (range)

/-- The gradient of the sink of head `l`: every block's part. -/
def Data.sinkG (δ : Data) (x1 : Arr1) (x2 : Arr2) (l : ℕ) : ℝ := ∑ b ∈ range 2, ∑ n ∈ range 16, (δ.at x1 x2 b n).dsk l

variable {x0 : Arr0} {x1 : Arr1} {x2 : Arr2} {δ : Data} (h : Holds x0 x1 x2 δ)
include h

theorem r127 (j : S2x4x1.Idx) : val_main_v127 (F := Ideal) x0 x1 x2 j
    = ((δ.sinkG x1 x2 (4 * (j 0).val + (j 1).val) : ℝ) : EReal) := by
  rw [v127_apply]
  have e : ∀ (b : Fin 2) (n : Fin 16) (w : Fin 128), val_main_v126 (F := Ideal) x0 x1 x2 (idx127 j b n w)
      = ((-(Real.exp (δ.S (4 * (j 0).val + (j 1).val) - lseOf x1 x2 (row b.val n.val w.val) (4 * (j 0).val + (j 1).val))
        * (δ.at x1 x2 b.val n.val).del (4 * (j 0).val + (j 1).val) w.val) : ℝ) : EReal) := fun b n w => r126 h _
  have f : ∀ (b : Fin 2) (n : Fin 16), ∑ w : Fin 128, val_main_v126 (F := Ideal) x0 x1 x2 (idx127 j b n w)
      = (((δ.at x1 x2 b.val n.val).dsk (4 * (j 0).val + (j 1).val) : ℝ) : EReal) := fun b n => by
    refine (Finset.sum_congr rfl fun w _ => e b n w).trans ((sum_fin_coe (n := 128) (fun w => -(Real.exp (δ.S (4 * (j 0).val + (j 1).val) - lseOf x1 x2 (row b.val n.val w) (4 * (j 0).val + (j 1).val))
        * (δ.at x1 x2 b.val n.val).del (4 * (j 0).val + (j 1).val) w))).trans (real_congr ?_))
    rw [Finset.sum_neg_distrib]
    rfl
  refine (Finset.sum_congr rfl fun b _ => (Finset.sum_congr rfl fun n _ => f b n).trans (sum_fin_coe (n := 16) (fun n => (δ.at x1 x2 b.val n).dsk (4 * (j 0).val + (j 1).val)))).trans
    ((sum_fin_coe (n := 2) (fun b => ∑ n ∈ range 16, (δ.at x1 x2 b n).dsk (4 * (j 0).val + (j 1).val))).trans rfl)

theorem r128 (i : S1x1x2x4x1x1.Idx) : val_main_v128 (F := Ideal) x0 x1 x2 i
    = ((δ.sinkG x1 x2 (4 * (i 2).val + (i 3).val) : ℝ) : EReal) := by
  unfold val_main_v128
  refine (shapeCast_apply _ _ i ((fun a => match a with | ⟨0, _⟩ => ⟨(i 2).val, by have h0 : (i 0).val < 1 := (i 0).isLt; have h1 : (i 1).val < 1 := (i 1).isLt; have h2 : (i 2).val < 2 := (i 2).isLt; have h3 : (i 3).val < 4 := (i 3).isLt; have h4 : (i 4).val < 1 := (i 4).isLt; have h5 : (i 5).val < 1 := (i 5).isLt; show (i 2).val < 2; omega⟩ | ⟨1, _⟩ => ⟨(i 3).val, by have h0 : (i 0).val < 1 := (i 0).isLt; have h1 : (i 1).val < 1 := (i 1).isLt; have h2 : (i 2).val < 2 := (i 2).isLt; have h3 : (i 3).val < 4 := (i 3).isLt; have h4 : (i 4).val < 1 := (i 4).isLt; have h5 : (i 5).val < 1 := (i 5).isLt; show (i 3).val < 4; omega⟩ | ⟨2, _⟩ => ⟨0, by have h0 : (i 0).val < 1 := (i 0).isLt; have h1 : (i 1).val < 1 := (i 1).isLt; have h2 : (i 2).val < 2 := (i 2).isLt; have h3 : (i 3).val < 4 := (i 3).isLt; have h4 : (i 4).val < 1 := (i 4).isLt; have h5 : (i 5).val < 1 := (i 5).isLt; show 0 < 1; omega⟩) : S2x4x1.Idx)
    (by rw [Shape.rowMajor_val_three, rowMajor_val6 _ 8 8 4 1 1 rfl rfl rfl rfl rfl]; have h0 : (i 0).val < 1 := (i 0).isLt; have h1 : (i 1).val < 1 := (i 1).isLt; have h2 : (i 2).val < 2 := (i 2).isLt; have h3 : (i 3).val < 4 := (i 3).isLt; have h4 : (i 4).val < 1 := (i 4).isLt; have h5 : (i 5).val < 1 := (i 5).isLt; show (((i 2).val) * 4 + ((i 3).val)) * 1 + (0) = ((i 0).val) * 8 + ((i 1).val) * 8 + ((i 2).val) * 4 + ((i 3).val) * 1 + ((i 4).val) * 1 + ((i 5).val); omega)).trans ?_
  exact r127 h _

theorem r136 (i : S8.Idx) : val_main_v136 (F := Ideal) x0 x1 x2 i = ((δ.sinkG x1 x2 (i 0).val : ℝ) : EReal) := by
  rw [val_main_v136_apply, v135_apply, r128 h]
  refine real_congr ?_
  show δ.sinkG x1 x2 (4 * ((i 0).val / 4) + (i 0).val % 4) = _
  rw [Nat.div_add_mod]

/-- The reference's second result. -/
theorem r171 (i : S1x128.Idx) : val_main_v171 (F := Ideal) x0 x1 x2 i
    = (((if (i 1).val < 8 then δ.sinkG x1 x2 (i 1).val else 0 : ℝ) : ℝ) : EReal) := by
  have h0 : (i 0).val < 1 := (i 0).isLt
  have h1 : (i 1).val < 128 := (i 1).isLt
  unfold val_main_v171
  refine (shapeCast_apply _ _ i ((fun a => match a with | ⟨0, _⟩ => ⟨(i 1).val, by have h0 : (i 0).val < 1 := (i 0).isLt; have h1 : (i 1).val < 128 := (i 1).isLt; show (i 1).val < 128; omega⟩) : S128.Idx)
    (by rw [Shape.rowMajor_val_one, Shape.rowMajor_val_two]; have h0 : (i 0).val < 1 := (i 0).isLt; have h1 : (i 1).val < 128 := (i 1).isLt; show (i 1).val = ((i 0).val) * 128 + ((i 1).val); omega)).trans ?_
  unfold val_main_v170
  by_cases c : (i 1).val < 8
  · rw [if_pos c]
    refine (concatenate_pair_apply_left (t := S128) (s₁ := S8) (s₂ := S120) 0 _ _ _ _ rfl
      ((fun a => match a with | ⟨0, _⟩ => ⟨(i 1).val, c⟩) : S8.Idx) (fun b => match b with | ⟨0, _⟩ => rfl)).trans ?_
    exact r136 h _
  · rw [if_neg c]
    refine (concatenate_pair_apply_right (t := S128) (s₁ := S8) (s₂ := S120) 0 _ _ _ _ rfl rfl
      ((fun a => match a with | ⟨0, _⟩ => ⟨(i 1).val - 8, by show (i 1).val - 8 < 120; omega⟩) : S120.Idx) (fun b => match b with
      | ⟨0, _⟩ => fun hb => absurd rfl hb) (by show (i 1).val - 8 + 8 = (i 1).val; omega)).trans ?_
    exact (val_main_v169_apply _).trans zeroW

end Cert.Attn
end
end
-- ==== Proof.After.lean ====
module

public import proofs.«01_k».proof.Proof.Seen
public import proofs.«01_k».proof.Proof.RefOut
public import proofs.«01_k».proof.Proof.RefLast

/-! # What a point leaves, in the reference's numbers

Columns of the block's rows, the carries for the block before, and the running sum of the sinks' gradient. -/

@[expose] public section
noncomputable section
namespace Cert.Attn
open Idealize.ShloMosaic Cert.KernelIdeal Cert.KernelIdeal.Gen Idealize.SL.Sem
open Idealize.ShloMosaic.TcCoe
open Idealize.ShloMosaic.ValueIdx (idx2_lt0 idx2_lt1)
open Finset (range)

section
variable (δ : Data) (x1 : Arr1) (x2 : Arr2) (r l : ℕ) (hl : l < 128)
include hl
theorem cols_k : δ.cols x1 x2 r (1024 + l) = δ.gk x1 x2 (r / 2048) (r / 128 % 16) (r % 128) (l / 64) (l % 64) := by
  unfold Data.cols
  rw [if_neg (by omega), if_neg (by omega), if_pos (by omega), show 1024 + l - 1024 = l by omega]
theorem cols_v : δ.cols x1 x2 r (1152 + l) = δ.gv x1 x2 (r / 2048) (r / 128 % 16) (r % 128) (l / 64) (l % 64) := by
  unfold Data.cols
  rw [if_neg (by omega), if_neg (by omega), if_neg (by omega), if_pos (by omega), show 1152 + l - 1152 = l by omega]
omit hl in
theorem cols_z : δ.cols x1 x2 r (1408 + l) = 0 := by
  unfold Data.cols
  rw [if_neg (by omega), if_neg (by omega), if_neg (by omega), if_neg (by omega)]
end

variable (m : (ℓ : Loc nD τ sig) → Buf (Elt Ideal) ℓ) (c : Dev nD)

section
variable (t : Fin cfg0.N)

theorem t_lt : t.val < 32 := lt_of_lt_of_eq t.isLt (show cfg0.N = 32 from N_0)

theorem carry_k : (outsAt0 m c t.val t.isLt).2.2.1 = topT (opsAt m c t).dkk := by
  have ht := t_lt t
  by_cases h0 : t.val % 32 = 0
  · exact afterA_0 m c t h0 (by omega) (by omega)
  by_cases h1 : t.val % 16 = 0
  · exact afterC_0 m c t h0 h1 (by omega)
  by_cases h2 : t.val % 32 = 31
  · exact afterD_0 m c t h0 h1 h2
  · exact afterB_0 m c t h0 h1 h2
theorem carry_v : (outsAt0 m c t.val t.isLt).2.2.2.1 = topT (opsAt m c t).dvv := by
  have ht := t_lt t
  by_cases h0 : t.val % 32 = 0
  · exact afterA_1 m c t h0 (by omega) (by omega)
  by_cases h1 : t.val % 16 = 0
  · exact afterC_1 m c t h0 h1 (by omega)
  by_cases h2 : t.val % 32 = 31
  · exact afterD_1 m c t h0 h1 h2
  · exact afterB_1 m c t h0 h1 h2
/-- The first point of a batch takes up no carry. -/
theorem out_first (h1 : t.val % 16 = 0) : (outsAt0 m c t.val t.isLt).1 = outT (tiles (opsAt m c t) zeroT zeroT (full (iblk m c 10 t))) := by
  have ht := t_lt t
  by_cases h0 : t.val % 32 = 0
  · exact afterA_out m c t h0 h1 (by omega)
  · exact afterC_out m c t h0 h1 (by omega)
/-- Every other point takes up the carry of the point before. -/
theorem out_next (h1 : ¬t.val % 16 = 0) (s : Fin cfg0.N) (hs : s.val = t.val - 1) :
    (outsAt0 m c t.val t.isLt).1 = outT (tiles (opsAt m c t) (topT (opsAt m c s).dkk) (topT (opsAt m c s).dvv) (full (iblk m c 10 t))) := by
  have ht := t_lt t
  obtain ⟨s, hslt⟩ := s
  have hs : s = t.val - 1 := hs
  subst hs
  rw [← carry_k m c ⟨t.val - 1, hslt⟩, ← carry_v m c ⟨t.val - 1, hslt⟩]
  have e : (outsAt0 m c t.val t.isLt).1 = outT (tiles (opsAt m c t) (full (outsAt0 m c (t.val - 1) (Nat.lt_of_le_of_lt (Nat.sub_le _ _) t.isLt)).2.2.1) (full (outsAt0 m c (t.val - 1) (Nat.lt_of_le_of_lt (Nat.sub_le _ _) t.isLt)).2.2.2.1) (full (iblk m c 10 t))) := by
    by_cases h2 : t.val % 32 = 31
    · exact afterD_out m c t (by omega) h1 h2
    · exact afterB_out m c t (by omega) h1 h2
  rw [e, full_eq (outsAt0 m c (t.val - 1) _).2.2.1, full_eq (outsAt0 m c (t.val - 1) _).2.2.2.1]
end

variable {δ : Data}
  (h : Holds (m ((c : Thread nD τ).loc main_arg0)) (m ((c : Thread nD τ).loc main_arg1)) (m ((c : Thread nD τ).loc main_arg2)) δ)
include h

/-- The tiles of a block's output hold the reference's columns. -/
theorem tiles_is (t : Fin cfg0.N) (K V X : Tile 128 128)
    (hK : Is K (fun r l => if 15 - t.val % 16 < 15 then (δ.at (m ((c : Thread nD τ).loc main_arg1)) (m ((c : Thread nD τ).loc main_arg2)) (t.val / 16) (1 + (15 - t.val % 16))).dkk (l / 64) r (l % 64) else 0))
    (hV : Is V (fun r l => if 15 - t.val % 16 < 15 then (δ.at (m ((c : Thread nD τ).loc main_arg1)) (m ((c : Thread nD τ).loc main_arg2)) (t.val / 16) (1 + (15 - t.val % 16))).dvv (l / 64) r (l % 64) else 0))
    (j : Fin 12) (hj : j.val ≠ 10) :
    Is (tiles (opsAt m c t) K V X j) (fun w l => δ.cols (m ((c : Thread nD τ).loc main_arg1)) (m ((c : Thread nD τ).loc main_arg2)) (row (t.val / 16) (15 - t.val % 16) w) (128 * j.val + l)) := by
  have ht := t_lt t
  have hb := ops_is m c t h
  have hs := seen_same δ (m ((c : Thread nD τ).loc main_arg1)) (m ((c : Thread nD τ).loc main_arg2)) (t.val / 16) (15 - t.val % 16)
  generalize m ((c : Thread nD τ).loc main_arg1) = x1 at *
  generalize m ((c : Thread nD τ).loc main_arg2) = x2 at *
  have e1 : ∀ w, w < 128 → row (t.val / 16) (15 - t.val % 16) w / 2048 = t.val / 16 := fun w hw => by unfold row; omega
  have e2 : ∀ w, w < 128 → row (t.val / 16) (15 - t.val % 16) w / 128 % 16 = 15 - t.val % 16 := fun w hw => by unfold row; omega
  have e3 : ∀ w, w < 128 → row (t.val / 16) (15 - t.val % 16) w % 128 = w := fun w hw => by unfold row; omega
  have hz : ∀ j : Fin 4, Is ((opsAt m c t).dz j) (fun w l => δ.cols x1 x2 (row (t.val / 16) (15 - t.val % 16) w) (128 * j.val + l)) := fun j =>
    (hb.dz_is j).congr fun w l hw hl => by
      have := j.isLt
      unfold Data.cols Data.of
      rw [if_pos (by omega), e1 w hw, e2 w hw, e3 w hw, hs.dz]
  have hq : ∀ j : Fin 4, Is ((opsAt m c t).dq j) (fun w l => δ.cols x1 x2 (row (t.val / 16) (15 - t.val % 16) w) (128 * (4 + j.val) + l)) := fun j =>
    (hb.dq_is j).congr fun w l hw hl => by
      have := j.isLt
      unfold Data.cols Data.of
      rw [if_neg (by omega), if_pos (by omega), e1 w hw, e2 w hw, e3 w hw, hs.dq _ _ _ (by omega)]
      congr 1 <;> omega
  match j, hj with
  | 0, _ => exact hz 0
  | 1, _ => exact hz 1
  | 2, _ => exact hz 2
  | 3, _ => exact hz 3
  | 4, _ => exact hq 0
  | 5, _ => exact hq 1
  | 6, _ => exact hq 2
  | 7, _ => exact hq 3
  | 8, _ =>
    refine ((bot_is hb.dkk_is slices_S256x128_o128_0_S128x128).add hK).congr fun w l hw hl => ?_
    show _ = δ.cols x1 x2 _ (1024 + l)
    rw [cols_k δ x1 x2 _ l hl, e1 w hw, e2 w hw, e3 w hw, hs.dkk _ _ _ (by omega)]
    rfl
  | 9, _ =>
    refine ((bot_is hb.dvv_is slices_S256x128_o128_0_S128x128).add hV).congr fun w l hw hl => ?_
    show _ = δ.cols x1 x2 _ (1152 + l)
    rw [cols_v δ x1 x2 _ l hl, e1 w hw, e2 w hw, e3 w hw, hs.dvv _ _ _ (by omega)]
    rfl
  | 10, hj => exact absurd rfl hj
  | 11, _ =>
    exact fun i => Ideal.ofBits_zero_bf16.trans (real_congr (cols_z δ x1 x2 _ (i 1).val).symm)

omit h in
theorem zeroT_is : Is zeroT (fun _ _ => 0) := fun _ => zeroW

/-- The tiles after a point. -/
theorem out_tiles (t : Fin cfg0.N) : ∃ T : Fin 12 → Tile 128 128, (outsAt0 m c t.val t.isLt).1 = outT T ∧ T 10 = full (iblk m c 10 t)
    ∧ ∀ j : Fin 12, j.val ≠ 10 → Is (T j) (fun w l => δ.cols (m ((c : Thread nD τ).loc main_arg1)) (m ((c : Thread nD τ).loc main_arg2)) (row (t.val / 16) (15 - t.val % 16) w) (128 * j.val + l)) := by
  have ht := t_lt t
  by_cases h1 : t.val % 16 = 0
  · refine ⟨_, out_first m c t h1, rfl, fun j hj => tiles_is m c h t _ _ _ ?_ ?_ j hj⟩
    · exact zeroT_is.congr fun _ _ _ _ => (if_neg (by omega)).symm
    · exact zeroT_is.congr fun _ _ _ _ => (if_neg (by omega)).symm
  · have hlt : t.val - 1 < cfg0.N := Nat.lt_of_le_of_lt (Nat.sub_le _ _) t.isLt
    have hb := ops_is m c ⟨t.val - 1, hlt⟩ h
    have hs := seen_same δ (m ((c : Thread nD τ).loc main_arg1)) (m ((c : Thread nD τ).loc main_arg2)) ((t.val - 1) / 16) (15 - (t.val - 1) % 16)
    have a1 : (t.val - 1) / 16 = t.val / 16 := by omega
    have a2 : 15 - (t.val - 1) % 16 = 1 + (15 - t.val % 16) := by omega
    refine ⟨_, out_next m c t h1 ⟨t.val - 1, hlt⟩ rfl, rfl, fun j hj => tiles_is m c h t _ _ _ ?_ ?_ j hj⟩
    · refine (top_is hb.dkk_is slices_S256x128_o0_0_S128x128).congr fun r l hr hl => ?_
      show (δ.seen _ _ ((t.val - 1) / 16) (15 - (t.val - 1) % 16)).dkk _ _ _ = _
      rw [if_pos (by omega), hs.dkk _ _ _ (by omega), a1, a2]
    · refine (top_is hb.dvv_is slices_S256x128_o0_0_S128x128).congr fun r l hr hl => ?_
      show (δ.seen _ _ ((t.val - 1) / 16) (15 - (t.val - 1) % 16)).dvv _ _ _ = _
      rw [if_pos (by omega), hs.dvv _ _ _ (by omega), a1, a2]

/-- The block's part of the sinks' gradient. -/
theorem dsk_at (t : Fin cfg0.N) : Is (opsAt m c t).dsk (fun _ l => if l < 8 then (δ.at (m ((c : Thread nD τ).loc main_arg1)) (m ((c : Thread nD τ).loc main_arg2)) (t.val / 16) (15 - t.val % 16)).dsk l else 0) :=
  (ops_is m c t h).dsk_is.congr fun _ l _ _ => by
    by_cases hl : l < 8
    · rw [if_pos hl, if_pos hl, (seen_same δ _ _ _ _).dsk l hl]
    · rw [if_neg hl, if_neg hl]

omit h in
theorem next_is {a b : Tile 1 128} {A B C : ℕ → ℝ} (ha : Is a (fun _ l => if l < 8 then A l else 0)) (hb : Is b (fun _ l => if l < 8 then B l else 0))
    (e : ∀ l, C l = A l + B l) : Is (plus1 a b) (fun _ l => if l < 8 then C l else 0) :=
  (ha.add hb).congr fun _ l _ _ => by
    by_cases hl : l < 8
    · rw [if_pos hl, if_pos hl, if_pos hl, e]
    · rw [if_neg hl, if_neg hl, if_neg hl, add_zero]

/-- The running sum after point `k`. -/
theorem sinks_is (k : ℕ) (hk : k < cfg0.N) : Is (outsAt0 m c k hk).2.2.2.2 (fun _ l => if l < 8 then
    ∑ s ∈ range (k + 1), (δ.at (m ((c : Thread nD τ).loc main_arg1)) (m ((c : Thread nD τ).loc main_arg2)) (s / 16) (15 - s % 16)).dsk l else 0) := by
  have ht : k < 32 := t_lt ⟨k, hk⟩
  induction k with
  | zero =>
    rw [show (outsAt0 m c 0 hk).2.2.2.2 = plus1 Ops.zero1 (opsAt m c ⟨0, hk⟩).dsk from afterA_2 m c ⟨0, hk⟩ rfl rfl (by norm_num)]
    refine next_is (A := fun _ => 0) (fun i => ?_) (dsk_at m c h ⟨0, hk⟩) fun l => ?_
    · exact (show Ops.zero1 i = _ from zeroW).trans (real_congr (ite_self _).symm)
    · rw [Finset.sum_range_one, zero_add]
  | succ k ih =>
    have hk' : k < cfg0.N := by omega
    have e : (outsAt0 m c (k + 1) hk).2.2.2.2 = plus1 (outsAt0 m c k hk').2.2.2.2 (opsAt m c ⟨k + 1, hk⟩).dsk := by
      rw [← full1_eq (outsAt0 m c k hk').2.2.2.2]
      by_cases h1 : (k + 1) % 16 = 0
      · exact afterC_2 m c ⟨k + 1, hk⟩ (by show ¬(k + 1) % 32 = 0; omega) h1 (by show ¬(k + 1) % 32 = 31; omega)
      by_cases h2 : (k + 1) % 32 = 31
      · exact afterD_2 m c ⟨k + 1, hk⟩ (by show ¬(k + 1) % 32 = 0; omega) h1 h2
      · exact afterB_2 m c ⟨k + 1, hk⟩ (by show ¬(k + 1) % 32 = 0; omega) h1 h2
    rw [e]
    exact next_is (ih hk' (by omega)) (dsk_at m c h ⟨k + 1, hk⟩) fun l => Finset.sum_range_succ _ _

/-- What the last point stores as the sinks' gradient. -/
theorem last_is (k : ℕ) (hk : k + 1 < cfg0.N) (e31 : k + 1 = 31) : Is (outsAt0 m c (k + 1) hk).2.1 (fun _ l => if l < 8 then
    δ.sinkG (m ((c : Thread nD τ).loc main_arg1)) (m ((c : Thread nD τ).loc main_arg2)) l else 0) := by
  have hk' : k < cfg0.N := by omega
  have e : (outsAt0 m c (k + 1) hk).2.1 = plus1 (outsAt0 m c k hk').2.2.2.2 (opsAt m c ⟨k + 1, hk⟩).dsk := by
    rw [← full1_eq (outsAt0 m c k hk').2.2.2.2]
    exact afterD_12 m c ⟨k + 1, hk⟩ (by show ¬(k + 1) % 32 = 0; omega) (by show ¬(k + 1) % 16 = 0; omega) (by show (k + 1) % 32 = 31; omega)
  rw [e]
  refine next_is (sinks_is m c h k hk') (dsk_at m c h ⟨k + 1, hk⟩) fun l => ?_
  refine Eq.trans ?_ (Finset.sum_range_succ (fun s => (δ.at (m ((c : Thread nD τ).loc main_arg1)) (m ((c : Thread nD τ).loc main_arg2)) (s / 16) (15 - s % 16)).dsk l) (k + 1))
  rw [e31]
  unfold Data.sinkG
  generalize m ((c : Thread nD τ).loc main_arg1) = x1
  generalize m ((c : Thread nD τ).loc main_arg2) = x2
  simp only [Finset.sum_range_succ, Finset.sum_range_zero, zero_add, Nat.reduceDiv, Nat.reduceMod, Nat.reduceSub, Nat.reduceAdd]
  ring

end Cert.Attn
end
end
-- ==== Proof.Own.Value.lean ====
/- What the result arrays of the idealized kernel hold after the run, taken over from the generated value module
   because it stands on the frame that FrameRun.lean takes over. -/
module

public import proofs.«01_k».proof.Proof.Own.FrameRun
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 11's array: the run's contents for that window after the body (`Gen.outsAt0`: its component 0), read through the window's block. -/
theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

/-- The index map sends distinct grid points to distinct block indices (decided over the 32 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S4096x5632.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the run's contents for that window after the body (`Gen.outsAt0`: its component 1), read through the window's block. -/
theorem flushed12 (c : Dev nD) (t : Fin cfg0.N) :
    (dats m 0 c).flushed 12 t = (cfg0.win 12).cut (grid0.coords t) ((outsAt0 m c t.val t.isLt).2.1) := by
  show (cfg0.win 12).cut (grid0.coords t) ((dats m 0 c).after 12 t) = _
  rw [after0_12]

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v91_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v91_1) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 6 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 6).trans (((dats m 0 c).arrAt_in 6 rfl _).trans ((A_eq m c 6).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 10 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 10).trans (((dats m 0 c).arrAt_in 10 rfl _).trans ((A_eq m c 10).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v91_0) = (dats m 0 c).arrAt 11 cfg0.N
      ∧ r.2.mem ((c : Thread nD τ).loc main_v91_1) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post11 m r h c,
      post12 m r h c,
      kept_main_arg0 m r h c,
      kept_main_arg1 m r h c,
      kept_main_arg2 m r h c,
      kept_main_arg3 m r h c,
      kept_main_arg4 m r h c⟩)
    (run_main m ρ)

end Cert.KernelIdeal.Value

end
-- ==== Proof.Whole.lean ====
module

public import proofs.«01_k».proof.Proof.After
public import proofs.«01_k».proof.Proof.Own.Value

/-! # The final arrays

The blocks the points write cover the first 1536 columns of the first result; the rest keeps the array passed in.  The
second result is what the last point stores. -/

@[expose] public section
noncomputable section
namespace Cert.Attn
open Idealize.ShloMosaic Cert.KernelIdeal Cert.KernelIdeal.Gen Idealize.SL.Sem
open Idealize.ShloMosaic.TcCoe
open Idealize.ShloMosaic.ValueIdx (idx2_lt0 idx2_lt1 ix2)

variable (m : (ℓ : Loc nD τ sig) → Buf (Elt Ideal) ℓ) (c : Dev nD)

/-- Every block of the first result is whole. -/
theorem moved_size : ∀ t : Fin cfg0.N, (win0_11.xblock (grid0.coords t)).size 0 = 128 ∧ (win0_11.xblock (grid0.coords t)).size 1 = 1536 :=
  (by decide +kernel : ∀ t : Fin grid0.N, (win0_11.xblock (grid0.coords t)).size 0 = 128 ∧ (win0_11.xblock (grid0.coords t)).size 1 = 1536)
/-- An index of a whole block as an index of the part that is moved. -/
def moved (t : Fin cfg0.N) (y : (⟨2, ![128, 1536]⟩ : Shape).Idx) : ((cfg0.win 11).xblock (cfg0.grid.coords t)).Idx := fun a =>
  match a with
  | ⟨0, _⟩ => ⟨(y 0).val, lt_of_lt_of_eq (idx2_lt0 y) (moved_size t).1.symm⟩
  | ⟨1, _⟩ => ⟨(y 1).val, lt_of_lt_of_eq (idx2_lt1 y) (moved_size t).2.symm⟩
theorem moved_eq (t : Fin cfg0.N) (y : (⟨2, ![128, 1536]⟩ : Shape).Idx) : ((cfg0.win 11).xinj (cfg0.grid.coords t) (moved t y) : (cfg0.win 11).block.Idx) = y := by
  refine funext fun a => Fin.ext ?_
  match a with
  | ⟨0, _⟩ => rfl
  | ⟨1, _⟩ => rfl

/-- An entry of a written column is in the block of the point that wrote its row. -/
theorem written (t : Fin cfg0.N) (y : (⟨2, ![128, 1536]⟩ : Shape).Idx) (i : S4096x5632.Idx)
    (h0 : (i 0).val = 128 * here t.val + (y 0).val) (h1 : (i 1).val = (y 1).val) :
    (dats m 0 c).arrAt 11 cfg0.N i = (outsAt0 m c t.val t.isLt).1 y := by
  have hf : (cfg0.win 11).flush t = true := flush0_11 t
  have e := congrFun (Cert.KernelIdeal.Value.blocks11 m c t hf) (moved t y)
  rw [Cert.KernelIdeal.Value.flushed11] at e
  refine Eq.trans ?_ (e.trans ?_)
  · rw [View.read_apply]
    congr 1
    funext a
    apply Fin.ext
    match a with
    | ⟨0, _⟩ => show (i 0).val = win0_11.index t 0 * 128 + 1 * (y 0).val; rw [(index11 t).1, h0]; omega
    | ⟨1, _⟩ => show (i 1).val = win0_11.index t 1 * 1536 + 1 * (y 1).val; rw [(index11 t).2, h1]; omega
  · exact congrArg (outsAt0 m c t.val t.isLt).1 (moved_eq t y)

/-- An entry past column 1536 is in no block. -/
theorem kept (i : S4096x5632.Idx) (h : 1536 ≤ (i 1).val) : (dats m 0 c).arrAt 11 cfg0.N i = m ((c : Thread nD τ).loc main_arg4) i := by
  refine (Cert.KernelIdeal.Value.entry11 m c i fun t _ hm => ?_).trans (congrFun (host91 m c) i)
  obtain ⟨y, hy⟩ := View.exists_emb_of_mem_set _ hm
  have hy1 : (y 1).val < 1536 := lt_of_lt_of_eq (y 1).isLt (moved_size t).2
  have e : (i 1).val = win0_11.index t 1 * 1536 + 1 * (y 1).val := by rw [← hy]; rfl
  rw [(index11 t).2] at e
  omega

end Cert.Attn
end
end
-- ==== Proof.Results.lean ====
module

public import proofs.«01_k».proof.Proof.Whole

/-! # The kernel's results are the reference's

Entry by entry, for arguments that hold real numbers. -/

@[expose] public section
noncomputable section
namespace Cert.Attn
open Idealize.ShloMosaic Cert.KernelIdeal Cert.KernelIdeal.Gen Idealize.SL.Sem
open Idealize.ShloMosaic.TcCoe
open Idealize.ShloMosaic.ValueIdx (idx2_lt0 idx2_lt1)

variable (m : (ℓ : Loc nD τ sig) → Buf (Elt Ideal) ℓ) (c : Dev nD) {δ : Data}

/-- The one block of the second result, as an index of the part that is moved. -/
def movedLast (t : Fin cfg0.N) (i : S1x128.Idx) : ((cfg0.win 12).xblock (cfg0.grid.coords t)).Idx := i
theorem movedLast_eq (t : Fin cfg0.N) (i : S1x128.Idx) : ((cfg0.win 12).xinj (cfg0.grid.coords t) (movedLast t i) : (cfg0.win 12).block.Idx) = i := by
  refine funext fun a => Fin.ext ?_
  match a with
  | ⟨0, _⟩ => rfl
  | ⟨1, _⟩ => rfl

/-- The second result is what the last point stores. -/
theorem last_block (t : Fin cfg0.N) (ht : t.val = 31) (i : S1x128.Idx) : (dats m 0 c).arrAt 12 cfg0.N i = (outsAt0 m c t.val t.isLt).2.1 i := by
  have hf : (cfg0.win 12).flush t = true := (flush0_12 t).2 (by omega)
  have hd : ∀ t t' : Fin cfg0.N, (cfg0.win 12).flush t = true → (cfg0.win 12).flush t' = true → t ≠ t' →
      Disjoint ((cfg0.win 12).blk t).view.set ((cfg0.win 12).blk t').view.set := fun t t' h h' hne => by
    have a := (flush0_12 t).1 h
    have b := (flush0_12 t').1 h'
    have a' := t_lt t
    have b' := t_lt t'
    exact absurd (Fin.ext (by omega)) hne
  have e := congrFun ((dats m 0 c).read_blk_arrAt_eq_flushed 12 hd cfg0.N t t.isLt hf) (movedLast t i)
  rw [Cert.KernelIdeal.Value.flushed12] at e
  refine Eq.trans ?_ (e.trans ?_)
  · rw [View.read_apply]
    congr 1
    funext a
    apply Fin.ext
    match a with
    | ⟨0, _⟩ => show (i 0).val = win0_12.index t 0 * 1 + 1 * (i 0).val; rw [(index12 _).1]; omega
    | ⟨1, _⟩ => show (i 1).val = win0_12.index t 1 * 128 + 1 * (i 1).val; rw [(index12 _).2]; omega
  · exact congrArg (outsAt0 m c t.val t.isLt).2.1 (movedLast_eq t i)

/-- A stored block, read tile by tile. -/
theorem outT_apply (T : Fin 12 → Tile 128 128) (y0 y1 : ℕ) (h0 : y0 < 128) (h1 : y1 < 1536) :
    outT T (ValueIdx.ix2 ⟨y0, h0⟩ ⟨y1, h1⟩) = T ⟨y1 / 128, by omega⟩ (ValueIdx.ix2 ⟨y0, h0⟩ ⟨y1 % 128, by omega⟩) := rfl

variable (h : Holds (m ((c : Thread nD τ).loc main_arg0)) (m ((c : Thread nD τ).loc main_arg1)) (m ((c : Thread nD τ).loc main_arg2)) δ)
include h

theorem second_result (i : S1x128.Idx) : (dats m 0 c).arrAt 12 cfg0.N i
    = Cert.ReferenceIdeal.Read.val_main_v171 (F := Ideal) (m ((c : Thread nD τ).loc main_arg0)) (m ((c : Thread nD τ).loc main_arg1)) (m ((c : Thread nD τ).loc main_arg2)) i := by
  have hk : 30 + 1 < cfg0.N := lt_of_lt_of_eq (by norm_num) (show cfg0.N = 32 from N_0).symm
  rw [last_block m c ⟨30 + 1, hk⟩ rfl i, last_is m c h 30 hk rfl i, r171 h i]

theorem first_result (i : S4096x5632.Idx) : (dats m 0 c).arrAt 11 cfg0.N i
    = Cert.ReferenceIdeal.Read.val_main_v168 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) i := by
  have h0 := idx2_lt0 i
  rw [r168 h]
  by_cases hc : 1536 ≤ (i 1).val
  · rw [if_pos hc, kept m c i hc]
  rw [if_neg hc]
  have hN : cfg0.N = 32 := N_0
  have ht : 16 * ((i 0).val / 2048) + (15 - (i 0).val / 128 % 16) < cfg0.N := by omega
  have hh : here (16 * ((i 0).val / 2048) + (15 - (i 0).val / 128 % 16)) = (i 0).val / 128 := by unfold here; omega
  obtain ⟨T, hT, hT10, hTj⟩ := out_tiles m c h ⟨16 * ((i 0).val / 2048) + (15 - (i 0).val / 128 % 16), ht⟩
  rw [written m c ⟨16 * ((i 0).val / 2048) + (15 - (i 0).val / 128 % 16), ht⟩ (ValueIdx.ix2 ⟨(i 0).val % 128, by omega⟩ ⟨(i 1).val, by omega⟩) i
    (by show (i 0).val = 128 * here (16 * ((i 0).val / 2048) + (15 - (i 0).val / 128 % 16)) + (i 0).val % 128; rw [hh]; omega) rfl, hT]
  rw [outT_apply]
  by_cases h10 : 1280 ≤ (i 1).val ∧ (i 1).val < 1408
  · rw [dif_pos h10]
    have e : (⟨(i 1).val / 128, by omega⟩ : Fin 12) = 10 := Fin.ext (by show (i 1).val / 128 = 10; omega)
    rw [e, hT10, full_eq]
    refine (read10 m c _ _ (ValueIdx.ix2 ⟨(i 0).val, h0⟩ ⟨(i 1).val - 1280, by omega⟩) ?_ ?_).trans ?_
    · show (i 0).val = 128 * here (16 * ((i 0).val / 2048) + (15 - (i 0).val / 128 % 16)) + (i 0).val % 128
      rw [hh]; omega
    · show (i 1).val - 1280 = 0 + (i 1).val % 128
      omega
    · rw [V_main_arg3 m c]
      refine congrArg _ (funext fun a => Fin.ext ?_)
      match a with
      | ⟨0, _⟩ => rfl
      | ⟨1, _⟩ => rfl
  · rw [dif_neg h10]
    refine (hTj ⟨(i 1).val / 128, by omega⟩ (by show (i 1).val / 128 ≠ 10; omega) _).trans (real_congr ?_)
    show δ.cols _ _ (row ((16 * ((i 0).val / 2048) + (15 - (i 0).val / 128 % 16)) / 16) (15 - (16 * ((i 0).val / 2048) + (15 - (i 0).val / 128 % 16)) % 16) ((i 0).val % 128))
      (128 * ((i 1).val / 128) + (i 1).val % 128) = _
    rw [Nat.div_add_mod]
    congr 1
    unfold row
    omega

end Cert.Attn
end
end
-- ==== Proof.Finiteness.lean ====
module

public import proofs.«01_k».proof.Proof.RefIn
public import proofs.«01_k».proof.Pre_finite

/-! # The precondition, read

Entries strictly between the two infinities are real numbers. -/

@[expose] public section
noncomputable section
namespace Cert.Attn
open Idealize.ShloMosaic

theorem pre_facts : Cert.Pre_finite.Facts where
  slices_S4096x2048_S4096x512_0_1024 := ⟨rfl, by decide⟩
  bcast_S_S4096x512 := ⟨by decide, by decide⟩
  slices_S4096x5632_S4096x1280_0_0 := ⟨rfl, by decide⟩
  bcast_S_S4096x1280 := ⟨by decide, by decide⟩
  bcast_S_S8 := ⟨by decide, by decide⟩

open Idealize.ShloMosaic.TcCoe

/-- An entry that compares above the word of −∞ and below the word of +∞ is a real number. -/
theorem between {x : EReal} (h : IntOp.andi (Ideal.cmp .ogt x (Ideal.ofBits .f32 0xFF800000#32))
    (Ideal.cmp .olt x (Ideal.ofBits .f32 0x7F800000#32)) = 1#1) : x = ((x.toReal : ℝ) : EReal) := by
  have e1 : Ideal.ofBits .f32 0xFF800000#32 = ⊥ := by simp [Ideal.ofBits, Ideal.ieee]
  have e2 : Ideal.ofBits .f32 0x7F800000#32 = ⊤ := by simp [Ideal.ofBits, Ideal.ieee]
  rw [e1, e2] at h
  refine (EReal.coe_toReal (fun e => ?_) (fun e => ?_)).symm
  · subst e
    exact absurd h (by simp [Ideal.cmp, IntOp.andi])
  · subst e
    exact absurd h (by simp [Ideal.cmp, IntOp.andi])

variable (x0 : Arr0) (x1 : Arr1) (x2 : Arr2)

/-- The real numbers the arguments hold (zero where an entry is infinite or there is no entry). -/
def dataOf : Data where
  P r k := if h : r < 4096 ∧ k < 5632 then (x1 (ValueIdx.ix2 ⟨r, h.1⟩ ⟨k, h.2⟩)).toReal else 0
  D r k := if h : r < 4096 ∧ k < 2048 then (x0 (ValueIdx.ix2 ⟨r, h.1⟩ ⟨k, h.2⟩)).toReal else 0
  S k := if h : k < 8 then (x2 (fun a => match a with | ⟨0, _⟩ => ⟨k, h⟩)).toReal else 0

attribute [local instance] pre_facts in
theorem holds_of (x3 : FVec Ideal ⟨2, ![4096, 128]⟩ .f32) (x4 : FVec Ideal ⟨2, ![4096, 5632]⟩ .bf16)
    (h0 : (Cert.Pre_finite.fn (F := Ideal) x0 x1 x2 x3 x4).1 = fun _ => 1#1)
    (h1 : (Cert.Pre_finite.fn (F := Ideal) x0 x1 x2 x3 x4).2.1 = fun _ => 1#1)
    (h2 : (Cert.Pre_finite.fn (F := Ideal) x0 x1 x2 x3 x4).2.2 = fun _ => 1#1) : Holds x0 x1 x2 (dataOf x0 x1 x2) where
  p i hi := by
    have hr := ValueIdx.idx2_lt0 i
    have hk := ValueIdx.idx2_lt1 i
    have e := between (x := x1 (ValueIdx.ix2 ⟨(i 0).val, hr⟩ ⟨(i 1).val, hk⟩)) (by
      refine Eq.trans ?_ (congrFun h1 (ValueIdx.ix2 ⟨(i 0).val, hr⟩ ⟨(i 1).val, hi⟩))
      refine congrArg₂ IntOp.andi (congrArg (Ideal.cmp .ogt · _) (congrArg x1 ?_)) (congrArg (Ideal.cmp .olt · _) (congrArg x1 ?_)) <;>
      · refine funext fun a => Fin.ext ?_
        match a with
        | ⟨0, _⟩ => show (i 0).val = 0 + (i 0).val; omega
        | ⟨1, _⟩ => show (i 1).val = 0 + (i 1).val; omega)
    have ei : (ValueIdx.ix2 ⟨(i 0).val, hr⟩ ⟨(i 1).val, hk⟩ : Cert.ReferenceIdeal.S4096x5632.Idx) = i := funext fun a => Fin.ext (by
      match a with
      | ⟨0, _⟩ => rfl
      | ⟨1, _⟩ => rfl)
    show _ = (((dataOf x0 x1 x2).P _ _ : ℝ) : EReal)
    unfold dataOf
    dsimp only
    rw [dif_pos ⟨hr, hk⟩, ← e, ei]
  d i hi hi' := by
    have hr := ValueIdx.idx2_lt0 i
    have hk := ValueIdx.idx2_lt1 i
    have e := between (x := x0 (ValueIdx.ix2 ⟨(i 0).val, hr⟩ ⟨(i 1).val, hk⟩)) (by
      refine Eq.trans ?_ (congrFun h0 (ValueIdx.ix2 ⟨(i 0).val, hr⟩ ⟨(i 1).val - 1024, by omega⟩))
      refine congrArg₂ IntOp.andi (congrArg (Ideal.cmp .ogt · _) (congrArg x0 ?_)) (congrArg (Ideal.cmp .olt · _) (congrArg x0 ?_)) <;>
      · refine funext fun a => Fin.ext ?_
        match a with
        | ⟨0, _⟩ => show (i 0).val = 0 + (i 0).val; omega
        | ⟨1, _⟩ => show (i 1).val = 1024 + ((i 1).val - 1024); omega)
    have ei : (ValueIdx.ix2 ⟨(i 0).val, hr⟩ ⟨(i 1).val, hk⟩ : Cert.ReferenceIdeal.S4096x2048.Idx) = i := funext fun a => Fin.ext (by
      match a with
      | ⟨0, _⟩ => rfl
      | ⟨1, _⟩ => rfl)
    show _ = (((dataOf x0 x1 x2).D _ _ : ℝ) : EReal)
    unfold dataOf
    dsimp only
    rw [dif_pos ⟨hr, hk⟩, ← e, ei]
  s i := by
    have e := between (x := x2 i) (congrFun h2 i)
    have ei : (fun a => match a with | ⟨0, _⟩ => ⟨(i 0).val, (i 0).isLt⟩ : Cert.ReferenceIdeal.S8.Idx) = i := funext fun a => Fin.ext (by
      match a with
      | ⟨0, _⟩ => rfl)
    show _ = (((dataOf x0 x1 x2).S _ : ℝ) : EReal)
    unfold dataOf
    dsimp only
    rw [dif_pos (show (i 0).val < 8 from (i 0).isLt)]
    exact e.trans (congrArg (fun j => (((x2 j).toReal : ℝ) : EReal)) ei.symm)

end Cert.Attn
end
end
-- ==== Proof.lean ====
/- The certificate.
Every claim, from the modules of `Proof/`: the runs of the programs, the rewriting of the attention's mask constant, and the
equality of each kernel's results with its reference's, for the attention where the arguments are real numbers. -/
module

public import proofs.«01_k».proof.Defs
public import proofs.«01_k».proof.Proof.Gen.Kernel
public import proofs.«01_k».proof.Proof.Own.WordRun
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ProjDx
public import proofs.«01_k».proof.Proof.Gen.ProjDx.Frame
public import proofs.«01_k».proof.Proof.Gen.ProjDxIdeal
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.ProjDxRefIdeal.Read
public import proofs.«01_k».proof.Proof.ProjDx
public import proofs.«01_k».proof.Proof.Own.ProjFrame
public import proofs.«01_k».proof.Proof.Proj
public import proofs.«01_k».proof.Proof.Gen.ProjIdeal
public import proofs.«01_k».proof.Proof.Gen.ProjIdeal.Frame
public import proofs.«01_k».proof.Proof.Gen.ProjIdeal.Points
public import proofs.«01_k».proof.Proof.Gen.ProjIdeal.Skeleton
public import proofs.«01_k».proof.Proof.Gen.Proj
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.ProjDw
public import proofs.«01_k».proof.Proof.Gen.ProjDw.Frame
public import proofs.«01_k».proof.Proof.Gen.ProjDwIdeal
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.ProjDwRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.OutDy
public import proofs.«01_k».proof.Proof.Gen.OutDy.Frame
public import proofs.«01_k».proof.Proof.Gen.OutDyIdeal
public import proofs.«01_k».proof.Proof.Gen.OutDyIdeal.Frame
public import proofs.«01_k».proof.Proof.Gen.OutDyIdeal.Value
public import proofs.«01_k».proof.Proof.Gen.OutDyRefIdeal
public import proofs.«01_k».proof.Proof.Gen.OutDyRefIdeal.Run
public import proofs.«01_k».proof.Proof.Gen.OutDyRefIdeal.Read
public import proofs.«01_k».proof.Proof.Gen.OutDw
public import proofs.«01_k».proof.Proof.Gen.OutDw.Frame
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.OutDy
public import proofs.«01_k».proof.Proof.Out
public import proofs.«01_k».proof.Proof.OutDw
public import proofs.«01_k».proof.Proof.ProjDw
public import proofs.«01_k».proof.Proof.Results
public import proofs.«01_k».proof.Proof.Finiteness
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo
open Cert.Attn (pre_facts)

theorem frame_kernel : quiescent_Kernel (hKernel := Cert.Kernel.Gen.facts) := fun m ρ _ => Cert.Kernel.Gen.frame m ρ
theorem frame_ideal : quiescent_KernelIdeal (hKernelIdeal := Cert.KernelIdeal.Gen.facts) := fun m ρ _ => Cert.KernelIdeal.Gen.frame m ρ
theorem frame_ideal_finite : quiescent_KernelIdeal_pre_finite (hKernelIdeal := Cert.KernelIdeal.Gen.facts) (hPre_finite := pre_facts) :=
  fun m ρ _ => Cert.KernelIdeal.Gen.frame m ρ
theorem frame_reference : quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem frame_reference_finite : quiescent_ReferenceIdeal_pre_finite (hReferenceIdeal := Cert.ReferenceIdeal.Gen.facts) (hPre_finite := pre_facts) :=
  fun m ρ _ => frame_reference m ρ trivial

theorem preserves : preserves_Kernel_KernelIdeal :=
  IdealRules.named_const.statement Cert.KernelIdeal.κ "mask" .f32 0xF149F2CA#32 ⊥ rfl

set_option maxHeartbeats 1000000 in
theorem algebraic : algebraic_KernelIdeal_ReferenceIdeal_pre_finite (hKernelIdeal := Cert.KernelIdeal.Gen.facts)
    (hReferenceIdeal := Cert.ReferenceIdeal.Gen.facts) (hPre_finite := pre_facts) := fun m ρ m' ρ' hp ha => by
  refine ⟨fun c => (Cert.KernelIdeal.Gen.dats m 0 c).arrAt 11 Cert.KernelIdeal.cfg0.N, fun c => (Cert.KernelIdeal.Gen.dats m 0 c).arrAt 12 Cert.KernelIdeal.cfg0.N,
    Cert.KernelIdeal.Value.run_blocks m ρ, ?_⟩
  refine (θ_run Cert.ReferenceIdeal.defs _ _).mono (fun r h c => ?_) (Cert.ReferenceIdeal.Value.run (F := Ideal) m' ρ')
  obtain ⟨e0, e1, e⟩ := h c
  obtain ⟨a0, a1, a2, a3, a4⟩ := ha c
  have hh := Cert.Attn.holds_of _ _ _ _ _ (hp c).1 (hp c).2.1 (hp c).2.2
  refine ⟨?_, ?_, e⟩
  · refine (e0.trans (Cert.ReferenceIdeal.Read.val_main_v168_eq (F := Ideal) (launchContents m' c))).trans ?_
    show Cert.ReferenceIdeal.Read.val_main_v168 (F := Ideal) (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3)) (m' ((c.tc : Thread _ _).loc Cert.ReferenceIdeal.main_arg4)) = _
    rw [a0, a1, a2, a3, a4]
    exact funext fun i => (Cert.Attn.first_result m c hh i).symm
  · refine (e1.trans (Cert.ReferenceIdeal.Read.val_main_v171_eq (F := Ideal) (launchContents m' c))).trans ?_
    show Cert.ReferenceIdeal.Read.val_main_v171 (F := Ideal) (m' ((c.tc : Thread _ _).loc Cert.ReferenceIdeal.main_arg0)) (m' ((c.tc : Thread _ _).loc Cert.ReferenceIdeal.main_arg1))
      (m' ((c.tc : Thread _ _).loc Cert.ReferenceIdeal.main_arg2)) = _
    rw [a0, a1, a2]
    exact funext fun i => (Cert.Attn.second_result m c hh i).symm

theorem frame_OutDy : quiescent_OutDy (hOutDy := Cert.OutDy.Gen.facts) := fun m ρ _ => Cert.OutDy.Gen.frame m ρ
theorem frame_OutDyIdeal : quiescent_OutDyIdeal (hOutDyIdeal := Cert.OutDyIdeal.Gen.facts) := fun m ρ _ => Cert.OutDyIdeal.Gen.frame m ρ
theorem frame_OutDyRefIdeal : quiescent_OutDyRefIdeal (hOutDyRefIdeal := Cert.OutDyRefIdeal.Gen.facts) := fun m ρ _ =>
  (θ_run Cert.OutDyRefIdeal.defs _ _).mono (fun r h => ⟨fun c => (h c).2, sem_eq_zero_of_no_sems (by decide) r.2⟩) (Cert.OutDyRefIdeal.Value.run (F := Ideal) m ρ)

set_option maxHeartbeats 1000000 in
theorem algebraic_OutDy : algebraic_OutDyIdeal_OutDyRefIdeal (hOutDyIdeal := Cert.OutDyIdeal.Gen.facts)
    (hOutDyRefIdeal := Cert.OutDyRefIdeal.Gen.facts) := fun m ρ m' ρ' _ ha => by
  refine ⟨fun c => (Cert.OutDyIdeal.Gen.dats m 0 c).arrAt 2 Cert.OutDyIdeal.cfg0.N, Cert.OutDyIdeal.Value.run_blocks m ρ, ?_⟩
  refine (θ_run Cert.OutDyRefIdeal.defs _ _).mono (fun r h c => ?_) (Cert.OutDyRefIdeal.Value.run (F := Ideal) m' ρ')
  obtain ⟨e0, e⟩ := h c
  obtain ⟨a0, a1⟩ := ha c
  refine ⟨?_, e⟩
  refine (e0.trans (Cert.OutDyRefIdeal.Read.val_main_v3_eq (F := Ideal) (m' ((c.tc : Thread _ _).loc Cert.OutDyRefIdeal.main_arg0)) (m' ((c.tc : Thread _ _).loc Cert.OutDyRefIdeal.main_arg1)))).trans ?_
  rw [a0, a1]
  exact Cert.OutDyIdeal.Math.result m c _ _ (Cert.OutDyIdeal.Gen.V_main_arg0 m c) (Cert.OutDyIdeal.Gen.V_main_arg1 m c)

theorem frame_Out : quiescent_Out (hOut := Cert.Out.Gen.facts) := fun m ρ _ => Cert.Out.Gen.frame m ρ
theorem frame_OutIdeal : quiescent_OutIdeal (hOutIdeal := Cert.OutIdeal.Gen.facts) := fun m ρ _ => Cert.OutIdeal.Gen.frame m ρ
theorem frame_OutRefIdeal : quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩) (Cert.OutRefIdeal.Value.run (F := Ideal) m ρ)

set_option maxHeartbeats 1000000 in
theorem algebraic_Out : algebraic_OutIdeal_OutRefIdeal (hOutIdeal := Cert.OutIdeal.Gen.facts)
    (hOutRefIdeal := Cert.OutRefIdeal.Gen.facts) := fun m ρ m' ρ' _ ha => by
  refine ⟨fun c => (Cert.OutIdeal.Gen.dats m 0 c).arrAt 3 Cert.OutIdeal.cfg0.N, Cert.OutIdeal.Value.run_blocks m ρ, ?_⟩
  refine (θ_run Cert.OutRefIdeal.defs _ _).mono (fun r h c => ?_) (Cert.OutRefIdeal.Value.run (F := Ideal) m' ρ')
  obtain ⟨e0, e⟩ := h c
  obtain ⟨a0, a1, a2⟩ := ha c
  refine ⟨?_, e⟩
  refine (e0.trans (Cert.OutRefIdeal.Read.val_main_v3_eq (F := Ideal) (m' ((c.tc : Thread _ _).loc Cert.OutRefIdeal.main_arg0)) (m' ((c.tc : Thread _ _).loc Cert.OutRefIdeal.main_arg1)) (m' ((c.tc : Thread _ _).loc Cert.OutRefIdeal.main_arg2)))).trans ?_
  rw [a0, a1, a2]
  exact Cert.OutIdeal.Math.result m c _ _ _ (Cert.OutIdeal.Gen.V_main_arg0 m c) (Cert.OutIdeal.Gen.V_main_arg1 m c) (Cert.OutIdeal.Gen.V_main_arg2 m c)

theorem frame_OutDw : quiescent_OutDw (hOutDw := Cert.OutDw.Gen.facts) := fun m ρ _ => Cert.OutDw.Gen.frame m ρ
theorem frame_OutDwIdeal : quiescent_OutDwIdeal (hOutDwIdeal := Cert.OutDwIdeal.Gen.facts) := fun m ρ _ => Cert.OutDwIdeal.Gen.frame m ρ
theorem frame_OutDwRefIdeal : quiescent_OutDwRefIdeal (hOutDwRefIdeal := Cert.OutDwRefIdeal.Gen.facts) := fun m ρ _ =>
  (θ_run Cert.OutDwRefIdeal.defs _ _).mono (fun r h => ⟨fun c => (h c).2, sem_eq_zero_of_no_sems (by decide) r.2⟩) (Cert.OutDwRefIdeal.Value.run (F := Ideal) m ρ)

set_option maxHeartbeats 1000000 in
theorem algebraic_OutDw : algebraic_OutDwIdeal_OutDwRefIdeal (hOutDwIdeal := Cert.OutDwIdeal.Gen.facts)
    (hOutDwRefIdeal := Cert.OutDwRefIdeal.Gen.facts) := fun m ρ m' ρ' _ ha => by
  refine ⟨fun c => (Cert.OutDwIdeal.Gen.dats m 0 c).arrAt 2 Cert.OutDwIdeal.cfg0.N, Cert.OutDwIdeal.Value.run_blocks m ρ, ?_⟩
  refine (θ_run Cert.OutDwRefIdeal.defs _ _).mono (fun r h c => ?_) (Cert.OutDwRefIdeal.Value.run (F := Ideal) m' ρ')
  obtain ⟨e0, e⟩ := h c
  obtain ⟨a0, a1⟩ := ha c
  refine ⟨?_, e⟩
  refine (e0.trans (Cert.OutDwRefIdeal.Read.val_main_v4_eq (F := Ideal) (m' ((c.tc : Thread _ _).loc Cert.OutDwRefIdeal.main_arg0)) (m' ((c.tc : Thread _ _).loc Cert.OutDwRefIdeal.main_arg1)))).trans ?_
  rw [a0, a1]
  exact Cert.OutDwIdeal.Math.result m c _ _ (Cert.OutDwIdeal.Gen.V_main_arg0 m c) (Cert.OutDwIdeal.Gen.V_main_arg1 m c)

theorem frame_ProjDw : quiescent_ProjDw (hProjDw := Cert.ProjDw.Gen.facts) := fun m ρ _ => Cert.ProjDw.Gen.frame m ρ
theorem frame_ProjDwIdeal : quiescent_ProjDwIdeal (hProjDwIdeal := Cert.ProjDwIdeal.Gen.facts) := fun m ρ _ => Cert.ProjDwIdeal.Gen.frame m ρ
theorem frame_ProjDwRefIdeal : quiescent_ProjDwRefIdeal (hProjDwRefIdeal := Cert.ProjDwRefIdeal.Gen.facts) := fun m ρ _ =>
  (θ_run Cert.ProjDwRefIdeal.defs _ _).mono (fun r h => ⟨fun c => (h c).2, sem_eq_zero_of_no_sems (by decide) r.2⟩) (Cert.ProjDwRefIdeal.Value.run (F := Ideal) m ρ)

set_option maxHeartbeats 1000000 in
theorem algebraic_ProjDw : algebraic_ProjDwIdeal_ProjDwRefIdeal (hProjDwIdeal := Cert.ProjDwIdeal.Gen.facts)
    (hProjDwRefIdeal := Cert.ProjDwRefIdeal.Gen.facts) := fun m ρ m' ρ' _ ha => by
  refine ⟨fun c => (Cert.ProjDwIdeal.Gen.dats m 0 c).arrAt 2 Cert.ProjDwIdeal.cfg0.N, Cert.ProjDwIdeal.Value.run_blocks m ρ, ?_⟩
  refine (θ_run Cert.ProjDwRefIdeal.defs _ _).mono (fun r h c => ?_) (Cert.ProjDwRefIdeal.Value.run (F := Ideal) m' ρ')
  obtain ⟨e0, e⟩ := h c
  obtain ⟨a0, a1, a2⟩ := ha c
  refine ⟨?_, e⟩
  refine (e0.trans (Cert.ProjDwRefIdeal.Read.val_main_v16_eq (F := Ideal) (m' ((c.tc : Thread _ _).loc Cert.ProjDwRefIdeal.main_arg0)) (m' ((c.tc : Thread _ _).loc Cert.ProjDwRefIdeal.main_arg1)) (m' ((c.tc : Thread _ _).loc Cert.ProjDwRefIdeal.main_arg2)))).trans ?_
  rw [a0, a1, a2]
  exact Cert.ProjDwIdeal.Math.result m c _ _ _ rfl rfl (Cert.ProjDwIdeal.Gen.V_main_arg2 m c)

theorem frame_ProjDx : quiescent_ProjDx (hProjDx := Cert.ProjDx.Gen.facts) := fun m ρ _ => Cert.ProjDx.Gen.frame m ρ
theorem frame_ProjDxIdeal : quiescent_ProjDxIdeal (hProjDxIdeal := Cert.ProjDxIdeal.Gen.facts) := fun m ρ _ => Cert.ProjDxIdeal.Gen.frame m ρ
theorem frame_ProjDxRefIdeal : quiescent_ProjDxRefIdeal (hProjDxRefIdeal := Cert.ProjDxRefIdeal.Gen.facts) := fun m ρ _ =>
  (θ_run Cert.ProjDxRefIdeal.defs _ _).mono (fun r h => ⟨fun c => (h c).2.2, sem_eq_zero_of_no_sems (by decide) r.2⟩) (Cert.ProjDxRefIdeal.Value.run (F := Ideal) m ρ)

set_option maxHeartbeats 1000000 in
theorem algebraic_ProjDx : algebraic_ProjDxIdeal_ProjDxRefIdeal (hProjDxIdeal := Cert.ProjDxIdeal.Gen.facts)
    (hProjDxRefIdeal := Cert.ProjDxRefIdeal.Gen.facts) := fun m ρ m' ρ' _ ha => by
  refine ⟨fun c => (Cert.ProjDxIdeal.Gen.dats m 0 c).arrAt 5 Cert.ProjDxIdeal.cfg0.N, fun c => (Cert.ProjDxIdeal.Gen.dats m 0 c).arrAt 6 Cert.ProjDxIdeal.cfg0.N, Cert.ProjDxIdeal.Value.run_blocks m ρ, ?_⟩
  refine (θ_run Cert.ProjDxRefIdeal.defs _ _).mono (fun r h c => ?_) (Cert.ProjDxRefIdeal.Value.run (F := Ideal) m' ρ')
  obtain ⟨e0, e1, e⟩ := h c
  obtain ⟨a0, a1, a2, a3, a4⟩ := ha c
  refine ⟨?_, ?_, e⟩
  · refine (e0.trans (Cert.ProjDxRefIdeal.Read.val_main_v38_eq (F := Ideal) m' c)).trans ?_
    rw [a0, a1, a2, a3, a4]
    exact Cert.ProjDxIdeal.Math.result0 m c _ _ _ _ _ (Cert.ProjDxIdeal.Gen.V_main_arg0 m c) (Cert.ProjDxIdeal.Gen.V_main_arg1 m c) (Cert.ProjDxIdeal.Gen.V_main_arg2 m c)
      (Cert.ProjDxIdeal.Gen.V_main_arg3 m c) (Cert.ProjDxIdeal.Gen.V_main_arg4 m c)
  · refine (e1.trans (Cert.ProjDxRefIdeal.Read.val_main_v21_eq (F := Ideal) (m' ((c.tc : Thread _ _).loc Cert.ProjDxRefIdeal.main_arg0)) (m' ((c.tc : Thread _ _).loc Cert.ProjDxRefIdeal.main_arg1)) (m' ((c.tc : Thread _ _).loc Cert.ProjDxRefIdeal.main_arg2)))).trans ?_
    rw [a0, a1, a2]
    exact Cert.ProjDxIdeal.Math.result1 m c _ _ _ (Cert.ProjDxIdeal.Gen.V_main_arg0 m c) (Cert.ProjDxIdeal.Gen.V_main_arg1 m c) (Cert.ProjDxIdeal.Gen.V_main_arg2 m c)

/-- The two programs have the same body table. -/
theorem defs_Proj {F : FTy → Type} [FloatOps F] : Cert.Proj.defs (F := F) = Cert.ProjIdeal.defs (F := F) := by
  unfold Cert.Proj.defs Cert.ProjIdeal.defs
  refine congrArg (Pipeline.defs _) ?_
  unfold Cert.Proj.defs₀ Cert.ProjIdeal.defs₀
  refine congrArg Defs.onTc ?_
  funext l x
  match l, x with
  | ⟨0, _⟩, (p, s) => rfl
theorem frame_Proj : quiescent_Proj (hProj := Cert.Proj.Gen.facts) := fun m ρ _ => by
  have h := Cert.ProjIdeal.Own.frame (F := Bits) m ρ
  rw [← defs_Proj] at h
  exact h
theorem frame_ProjIdeal : quiescent_ProjIdeal (hProjIdeal := Cert.ProjIdeal.Gen.facts) := fun m ρ _ => Cert.ProjIdeal.Own.frame m ρ
theorem frame_ProjRefIdeal : quiescent_ProjRefIdeal (hProjRefIdeal := Cert.ProjRefIdeal.Gen.facts) := fun m ρ _ =>
  (θ_run Cert.ProjRefIdeal.defs _ _).mono (fun r h => ⟨fun c => (h c).2.2, sem_eq_zero_of_no_sems (by decide) r.2⟩) (Cert.ProjRefIdeal.Value.run (F := Ideal) m ρ)

set_option maxHeartbeats 1000000 in
theorem algebraic_Proj : algebraic_ProjIdeal_ProjRefIdeal (hProjIdeal := Cert.ProjIdeal.Gen.facts)
    (hProjRefIdeal := Cert.ProjRefIdeal.Gen.facts) := fun m ρ m' ρ' _ ha => by
  refine ⟨fun c => (Cert.ProjIdeal.Own.dats m 0 c).arrAt 3 Cert.ProjIdeal.cfg0.N, fun c => (Cert.ProjIdeal.Own.dats m 0 c).arrAt 4 Cert.ProjIdeal.cfg0.N, Cert.ProjIdeal.Own.run_blocks m ρ, ?_⟩
  refine (θ_run Cert.ProjRefIdeal.defs _ _).mono (fun r h c => ?_) (Cert.ProjRefIdeal.Value.run (F := Ideal) m' ρ')
  obtain ⟨e0, e1, e⟩ := h c
  obtain ⟨a0, a1, a2⟩ := ha c
  refine ⟨?_, ?_, e⟩
  · refine (e0.trans (Cert.ProjRefIdeal.Read.val_main_v13_eq (F := Ideal) (m' ((c.tc : Thread _ _).loc Cert.ProjRefIdeal.main_arg0)) (m' ((c.tc : Thread _ _).loc Cert.ProjRefIdeal.main_arg1)) (m' ((c.tc : Thread _ _).loc Cert.ProjRefIdeal.main_arg2)))).trans ?_
    rw [a0, a1, a2]
    exact Cert.ProjIdeal.Math.result0 m _ _ _ c (Cert.ProjIdeal.Gen.V_main_arg0 m c) (Cert.ProjIdeal.Gen.V_main_arg1 m c) (Cert.ProjIdeal.Gen.V_main_arg2 m c)
  · refine (e1.trans (Cert.ProjRefIdeal.Read.val_main_v15_eq (F := Ideal) (m' ((c.tc : Thread _ _).loc Cert.ProjRefIdeal.main_arg0)) (m' ((c.tc : Thread _ _).loc Cert.ProjRefIdeal.main_arg1)))).trans ?_
    rw [a0, a1]
    exact Cert.ProjIdeal.Math.result1 m _ _ c (Cert.ProjIdeal.Gen.V_main_arg0 m c) (Cert.ProjIdeal.Gen.V_main_arg1 m c)

theorem claim : Cert.Claim := ⟨Cert.Kernel.Gen.facts, Cert.KernelIdeal.Gen.facts, Cert.ReferenceIdeal.Gen.facts, Cert.OutDy.Gen.facts, Cert.OutDyIdeal.Gen.facts, Cert.OutDyRefIdeal.Gen.facts, Cert.Out.Gen.facts, Cert.OutIdeal.Gen.facts, Cert.OutRefIdeal.Gen.facts, Cert.OutDw.Gen.facts, Cert.OutDwIdeal.Gen.facts, Cert.OutDwRefIdeal.Gen.facts, Cert.ProjDw.Gen.facts, Cert.ProjDwIdeal.Gen.facts, Cert.ProjDwRefIdeal.Gen.facts, Cert.ProjDx.Gen.facts, Cert.ProjDxIdeal.Gen.facts, Cert.ProjDxRefIdeal.Gen.facts, Cert.Proj.Gen.facts, Cert.ProjIdeal.Gen.facts, Cert.ProjRefIdeal.Gen.facts, pre_facts,
  frame_kernel, frame_ideal, frame_ideal_finite, frame_reference, frame_reference_finite,
  frame_OutDy, frame_OutDyIdeal, frame_OutDyRefIdeal, frame_Out, frame_OutIdeal, frame_OutRefIdeal, frame_OutDw, frame_OutDwIdeal, frame_OutDwRefIdeal, frame_ProjDw, frame_ProjDwIdeal, frame_ProjDwRefIdeal,
  frame_ProjDx, frame_ProjDxIdeal, frame_ProjDxRefIdeal,
  frame_Proj, frame_ProjIdeal, frame_ProjRefIdeal,
  preserves, algebraic, trivial, algebraic_OutDy, trivial, algebraic_Out, trivial, algebraic_OutDw, trivial, algebraic_ProjDw, trivial, algebraic_ProjDx, trivial, algebraic_Proj⟩

end Cert.Proof

end
